-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_v97) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_v71) = v5 c
          ∧ r.2.mem ((c.tc : Thread Cert.Reference2Ideal.nD Cert.Reference2Ideal.τ).loc Cert.Reference2Ideal.main_v49) = v6 c
          ∧ r.2.mem ((c.tc : Thread Cert.Reference2Ideal.nD Cert.Reference2Ideal.τ).loc Cert.Reference2Ideal.main_v72) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v25_0)) (v1 : (c : Dev Cert.Kernel8Ideal.nD) → Buf (Elt Ideal) ((c.tc : Thread Cert.Kernel8Ideal.nD Cert.Kernel8Ideal.τ).loc Cert.Kernel8Ideal.main_v25_1)) (v2 : (c : Dev Cert.Kernel8Ideal.nD) → Buf (Elt Ideal) ((c.tc : Thread Cert.Kernel8Ideal.nD Cert.Kernel8Ideal.τ).loc Cert.Kernel8Ideal.main_v25_2)) (v3 : (c : Dev Cert.Kernel8Ideal.nD) → Buf (Elt Ideal) ((c.tc : Thread Cert.Kernel8Ideal.nD Cert.Kernel8Ideal.τ).loc Cert.Kernel8Ideal.main_v25_3)) (v4 : (c : Dev Cert.Kernel8Ideal.nD) → Buf (Elt Ideal) ((c.tc : Thread Cert.Kernel8Ideal.nD Cert.Kernel8Ideal.τ).loc Cert.Kernel8Ideal.main_v25_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25_0) = v0 c
          ∧ r.2.mem ((c.tc : Thread Cert.Kernel8Ideal.nD Cert.Kernel8Ideal.τ).loc Cert.Kernel8Ideal.main_v25_1) = v1 c
          ∧ r.2.mem ((c.tc : Thread Cert.Kernel8Ideal.nD Cert.Kernel8Ideal.τ).loc Cert.Kernel8Ideal.main_v25_2) = v2 c
          ∧ r.2.mem ((c.tc : Thread Cert.Kernel8Ideal.nD Cert.Kernel8Ideal.τ).loc Cert.Kernel8Ideal.main_v25_3) = v3 c
          ∧ r.2.mem ((c.tc : Thread Cert.Kernel8Ideal.nD Cert.Kernel8Ideal.τ).loc Cert.Kernel8Ideal.main_v25_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v130) = v0 c
          ∧ r.2.mem ((c.tc : Thread Cert.Reference8Ideal.nD Cert.Reference8Ideal.τ).loc Cert.Reference8Ideal.main_v131) = v1 c
          ∧ r.2.mem ((c.tc : Thread Cert.Reference8Ideal.nD Cert.Reference8Ideal.τ).loc Cert.Reference8Ideal.main_v113) = v2 c
          ∧ r.2.mem ((c.tc : Thread Cert.Reference8Ideal.nD Cert.Reference8Ideal.τ).loc Cert.Reference8Ideal.main_v107) = v3 c
          ∧ r.2.mem ((c.tc : Thread Cert.Reference8Ideal.nD Cert.Reference8Ideal.τ).loc Cert.Reference8Ideal.main_v84) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)) (v3 : (c : Dev Cert.Kernel9Ideal.nD) → Buf (Elt Ideal) ((c.tc : Thread Cert.Kernel9Ideal.nD Cert.Kernel9Ideal.τ).loc Cert.Kernel9Ideal.main_v8_3)) (v4 : (c : Dev Cert.Kernel9Ideal.nD) → Buf (Elt Ideal) ((c.tc : Thread Cert.Kernel9Ideal.nD Cert.Kernel9Ideal.τ).loc Cert.Kernel9Ideal.main_v8_4)) (v5 : (c : Dev Cert.Kernel9Ideal.nD) → Buf (Elt Ideal) ((c.tc : Thread Cert.Kernel9Ideal.nD Cert.Kernel9Ideal.τ).loc Cert.Kernel9Ideal.main_v8_5)) (v6 : (c : Dev Cert.Kernel9Ideal.nD) → Buf (Elt Ideal) ((c.tc : Thread Cert.Kernel9Ideal.nD Cert.Kernel9Ideal.τ).loc Cert.Kernel9Ideal.main_v8_6)) (v7 : (c : Dev Cert.Kernel9Ideal.nD) → Buf (Elt Ideal) ((c.tc : Thread Cert.Kernel9Ideal.nD Cert.Kernel9Ideal.τ).loc Cert.Kernel9Ideal.main_v8_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_v8_3) = v3 c
          ∧ r.2.mem ((c.tc : Thread Cert.Kernel9Ideal.nD Cert.Kernel9Ideal.τ).loc Cert.Kernel9Ideal.main_v8_4) = v4 c
          ∧ r.2.mem ((c.tc : Thread Cert.Kernel9Ideal.nD Cert.Kernel9Ideal.τ).loc Cert.Kernel9Ideal.main_v8_5) = v5 c
          ∧ r.2.mem ((c.tc : Thread Cert.Kernel9Ideal.nD Cert.Kernel9Ideal.τ).loc Cert.Kernel9Ideal.main_v8_6) = v6 c
          ∧ r.2.mem ((c.tc : Thread Cert.Kernel9Ideal.nD Cert.Kernel9Ideal.τ).loc Cert.Kernel9Ideal.main_v8_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v53) = v1 c
          ∧ r.2.mem ((c.tc : Thread Cert.Reference9Ideal.nD Cert.Reference9Ideal.τ).loc Cert.Reference9Ideal.main_v54) = v2 c
          ∧ r.2.mem ((c.tc : Thread Cert.Reference9Ideal.nD Cert.Reference9Ideal.τ).loc Cert.Reference9Ideal.main_v55) = v3 c
          ∧ r.2.mem ((c.tc : Thread Cert.Reference9Ideal.nD Cert.Reference9Ideal.τ).loc Cert.Reference9Ideal.main_v56) = v4 c
          ∧ r.2.mem ((c.tc : Thread Cert.Reference9Ideal.nD Cert.Reference9Ideal.τ).loc Cert.Reference9Ideal.main_v57) = v5 c
          ∧ r.2.mem ((c.tc : Thread Cert.Reference9Ideal.nD Cert.Reference9Ideal.τ).loc Cert.Reference9Ideal.main_v18) = v6 c
          ∧ r.2.mem ((c.tc : Thread Cert.Reference9Ideal.nD Cert.Reference9Ideal.τ).loc Cert.Reference9Ideal.main_v19) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  IdealRules.named_const.Statement Cert.Kernel10Ideal.κ "cubic" .f32 0x3D372713#32 ((8943 / 200000 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v71) = v0 c
          ∧ r.2.mem ((c.tc : Thread Cert.Reference10Ideal.nD Cert.Reference10Ideal.τ).loc Cert.Reference10Ideal.main_v72) = v1 c
          ∧ r.2.mem ((c.tc : Thread Cert.Reference10Ideal.nD Cert.Reference10Ideal.τ).loc Cert.Reference10Ideal.main_v73) = v2 c
          ∧ r.2.mem ((c.tc : Thread Cert.Reference10Ideal.nD Cert.Reference10Ideal.τ).loc Cert.Reference10Ideal.main_v70) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_on_upper_half_Kernel17Ideal [hKernel17Ideal : Cert.Kernel17Ideal.Facts] [hReference17Ideal : Cert.Reference17Ideal.Facts] [hOn_upper_half_Kernel17Ideal : Cert.On_upper_half_Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          (∀ i : (⟨2, ![1024, 1152]⟩ : Shape).Idx, (Cert.On_upper_half_Kernel17Ideal.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))) i = 1#1 → r.2.mem ((c.tc : Thread Cert.Kernel17Ideal.nD Cert.Kernel17Ideal.τ).loc Cert.Kernel17Ideal.main_v0) i = v0 c i)
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          (∀ i : (⟨2, ![1024, 1152]⟩ : Shape).Idx, (Cert.On_upper_half_Kernel17Ideal.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))) i = 1#1 → r.2.mem ((c.tc : Thread Cert.Reference17Ideal.nD Cert.Reference17Ideal.τ).loc Cert.Reference17Ideal.main_v6) i = v0 c i)
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_on_upper_half_Kernel18Ideal [hKernel18Ideal : Cert.Kernel18Ideal.Facts] [hReference18Ideal : Cert.Reference18Ideal.Facts] [hOn_upper_half_Kernel18Ideal : Cert.On_upper_half_Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          (∀ i : (⟨2, ![1024, 512]⟩ : Shape).Idx, (Cert.On_upper_half_Kernel18Ideal.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))) i = 1#1 → r.2.mem ((c.tc : Thread Cert.Kernel18Ideal.nD Cert.Kernel18Ideal.τ).loc Cert.Kernel18Ideal.main_v0) i = v0 c i)
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          (∀ i : (⟨2, ![1024, 512]⟩ : Shape).Idx, (Cert.On_upper_half_Kernel18Ideal.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))) i = 1#1 → r.2.mem ((c.tc : Thread Cert.Reference18Ideal.nD Cert.Reference18Ideal.τ).loc Cert.Reference18Ideal.main_v5) i = v0 c i)
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_on_left_half_Kernel19Ideal [hKernel19Ideal : Cert.Kernel19Ideal.Facts] [hReference19Ideal : Cert.Reference19Ideal.Facts] [hOn_left_half_Kernel19Ideal : Cert.On_left_half_Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          (∀ i : (⟨2, ![256, 1024]⟩ : Shape).Idx, (Cert.On_left_half_Kernel19Ideal.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1))) i = 1#1 → r.2.mem ((c.tc : Thread Cert.Kernel19Ideal.nD Cert.Kernel19Ideal.τ).loc Cert.Kernel19Ideal.main_v0) i = v0 c i)
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          (∀ i : (⟨2, ![256, 1024]⟩ : Shape).Idx, (Cert.On_left_half_Kernel19Ideal.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1))) i = 1#1 → r.2.mem ((c.tc : Thread Cert.Reference19Ideal.nD Cert.Reference19Ideal.τ).loc Cert.Reference19Ideal.main_v5) i = v0 c i)
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_on_upper_half_Kernel20Ideal [hKernel20Ideal : Cert.Kernel20Ideal.Facts] [hReference20Ideal : Cert.Reference20Ideal.Facts] [hOn_upper_half_Kernel20Ideal : Cert.On_upper_half_Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          (∀ i : (⟨2, ![1024, 1408]⟩ : Shape).Idx, (Cert.On_upper_half_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))) i = 1#1 → r.2.mem ((c.tc : Thread Cert.Kernel20Ideal.nD Cert.Kernel20Ideal.τ).loc Cert.Kernel20Ideal.main_v0) i = v0 c i)
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          (∀ i : (⟨2, ![1024, 1408]⟩ : Shape).Idx, (Cert.On_upper_half_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))) i = 1#1 → r.2.mem ((c.tc : Thread Cert.Reference20Ideal.nD Cert.Reference20Ideal.τ).loc Cert.Reference20Ideal.main_v5) i = v0 c i)
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_on_left_half_Kernel21Ideal [hKernel21Ideal : Cert.Kernel21Ideal.Facts] [hReference21Ideal : Cert.Reference21Ideal.Facts] [hOn_left_half_Kernel21Ideal : Cert.On_left_half_Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          (∀ i : (⟨2, ![704, 1024]⟩ : Shape).Idx, (Cert.On_left_half_Kernel21Ideal.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) i = 1#1 → r.2.mem ((c.tc : Thread Cert.Kernel21Ideal.nD Cert.Kernel21Ideal.τ).loc Cert.Kernel21Ideal.main_v0) i = v0 c i)
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          (∀ i : (⟨2, ![704, 1024]⟩ : Shape).Idx, (Cert.On_left_half_Kernel21Ideal.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) i = 1#1 → r.2.mem ((c.tc : Thread Cert.Reference21Ideal.nD Cert.Reference21Ideal.τ).loc Cert.Reference21Ideal.main_v5) i = v0 c i)
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite2 : Cert.Pre_finite2.Facts) (hPre_finite8 : Cert.Pre_finite8.Facts) (hOn_upper_half_Kernel17Ideal : Cert.On_upper_half_Kernel17Ideal.Facts) (hOn_upper_half_Kernel18Ideal : Cert.On_upper_half_Kernel18Ideal.Facts) (hOn_left_half_Kernel19Ideal : Cert.On_left_half_Kernel19Ideal.Facts) (hOn_upper_half_Kernel20Ideal : Cert.On_upper_half_Kernel20Ideal.Facts) (hOn_left_half_Kernel21Ideal : Cert.On_left_half_Kernel21Ideal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_on_upper_half_Kernel17Ideal (hKernel17Ideal := hKernel17Ideal) (hReference17Ideal := hReference17Ideal) (hOn_upper_half_Kernel17Ideal := hOn_upper_half_Kernel17Ideal)
    ∧ preserves_Kernel18_Kernel18Ideal
    ∧ algebraic_Kernel18Ideal_Reference18Ideal_on_upper_half_Kernel18Ideal (hKernel18Ideal := hKernel18Ideal) (hReference18Ideal := hReference18Ideal) (hOn_upper_half_Kernel18Ideal := hOn_upper_half_Kernel18Ideal)
    ∧ preserves_Kernel19_Kernel19Ideal
    ∧ algebraic_Kernel19Ideal_Reference19Ideal_on_left_half_Kernel19Ideal (hKernel19Ideal := hKernel19Ideal) (hReference19Ideal := hReference19Ideal) (hOn_left_half_Kernel19Ideal := hOn_left_half_Kernel19Ideal)
    ∧ preserves_Kernel20_Kernel20Ideal
    ∧ algebraic_Kernel20Ideal_Reference20Ideal_on_upper_half_Kernel20Ideal (hKernel20Ideal := hKernel20Ideal) (hReference20Ideal := hReference20Ideal) (hOn_upper_half_Kernel20Ideal := hOn_upper_half_Kernel20Ideal)
    ∧ preserves_Kernel21_Kernel21Ideal
    ∧ algebraic_Kernel21Ideal_Reference21Ideal_on_left_half_Kernel21Ideal (hKernel21Ideal := hKernel21Ideal) (hReference21Ideal := hReference21Ideal) (hOn_left_half_Kernel21Ideal := hOn_left_half_Kernel21Ideal)
-- ==== On_left_half_Kernel19Ideal.lean ====
abbrev S7x256x512 : Shape := ⟨3, ![7, 256, 512]⟩
abbrev S1024x1024 : Shape := ⟨2, ![1024, 1024]⟩
abbrev S256x1024 : Shape := ⟨2, ![256, 1024]⟩
abbrev S_ : Shape := ⟨0, ![]⟩

class Facts : Prop where
  bcast_S_S256x1024 : S_.BroadcastsInDim S256x1024 (![] : Fin 0 → Fin S256x1024.rank)

variable [Facts]

def fn {F : FTy → Type} [FloatOps F] (main_arg0 : FVec F S7x256x512 .bf16) (main_arg1 : FVec F S1024x1024 .f32) : IVec S256x1024 1 :=
  let main_v0 : IVec S256x1024 32 := iotaInDim S256x1024 32 1
  let main_c : IVec S_ 32 := constantI S_ 32 512#32
  let main_v1 : IVec S256x1024 32 := broadcastInDim S256x1024 ![] bcast_S_S256x1024 main_c
  let main_v2 : IVec S256x1024 1 := cmpi .slt main_v0 main_v1
  main_v2
-- ==== On_left_half_Kernel21Ideal.lean ====
abbrev S7x704x512 : Shape := ⟨3, ![7, 704, 512]⟩
abbrev S2816x1024 : Shape := ⟨2, ![2816, 1024]⟩
abbrev S704x1024 : Shape := ⟨2, ![704, 1024]⟩
abbrev S_ : Shape := ⟨0, ![]⟩

class Facts : Prop where
  bcast_S_S704x1024 : S_.BroadcastsInDim S704x1024 (![] : Fin 0 → Fin S704x1024.rank)

variable [Facts]

def fn {F : FTy → Type} [FloatOps F] (main_arg0 : FVec F S7x704x512 .bf16) (main_arg1 : FVec F S2816x1024 .f32) : IVec S704x1024 1 :=
  let main_v0 : IVec S704x1024 32 := iotaInDim S704x1024 32 1
  let main_c : IVec S_ 32 := constantI S_ 32 512#32
  let main_v1 : IVec S704x1024 32 := broadcastInDim S704x1024 ![] bcast_S_S704x1024 main_c
  let main_v2 : IVec S704x1024 1 := cmpi .slt main_v0 main_v1
  main_v2
-- ==== On_upper_half_Kernel17Ideal.lean ====
abbrev S3x512x1152 : Shape := ⟨3, ![3, 512, 1152]⟩
abbrev S512x4608 : Shape := ⟨2, ![512, 4608]⟩
abbrev S1024x1152 : Shape := ⟨2, ![1024, 1152]⟩
abbrev S_ : Shape := ⟨0, ![]⟩

class Facts : Prop where
  bcast_S_S1024x1152 : S_.BroadcastsInDim S1024x1152 (![] : Fin 0 → Fin S1024x1152.rank)

variable [Facts]

def fn {F : FTy → Type} [FloatOps F] (main_arg0 : FVec F S3x512x1152 .bf16) (main_arg1 : FVec F S512x4608 .bf16) : IVec S1024x1152 1 :=
  let main_v0 : IVec S1024x1152 32 := iotaInDim S1024x1152 32 0
  let main_c : IVec S_ 32 := constantI S_ 32 512#32
  let main_v1 : IVec S1024x1152 32 := broadcastInDim S1024x1152 ![] bcast_S_S1024x1152 main_c
  let main_v2 : IVec S1024x1152 1 := cmpi .slt main_v0 main_v1
  main_v2
-- ==== On_upper_half_Kernel18Ideal.lean ====
abbrev S7x512x512 : Shape := ⟨3, ![7, 512, 512]⟩
abbrev S1024x2048 : Shape := ⟨2, ![1024, 2048]⟩
abbrev S1024x512 : Shape := ⟨2, ![1024, 512]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S7x512x512 .bf16) (main_arg1 : FVec F S1024x2048 .f32) : IVec S1024x512 1 :=
  let main_v0 : IVec S1024x512 32 := iotaInDim S1024x512 32 0
  let main_c : IVec S_ 32 := constantI S_ 32 512#32
  let main_v1 : IVec S1024x512 32 := broadcastInDim S1024x512 ![] bcast_S_S1024x512 main_c
  let main_v2 : IVec S1024x512 1 := cmpi .slt main_v0 main_v1
  main_v2
-- ==== On_upper_half_Kernel20Ideal.lean ====
abbrev S7x512x1408 : Shape := ⟨3, ![7, 512, 1408]⟩
abbrev S1024x5632 : Shape := ⟨2, ![1024, 5632]⟩
abbrev S1024x1408 : Shape := ⟨2, ![1024, 1408]⟩
abbrev S_ : Shape := ⟨0, ![]⟩

class Facts : Prop where
  bcast_S_S1024x1408 : S_.BroadcastsInDim S1024x1408 (![] : Fin 0 → Fin S1024x1408.rank)

variable [Facts]

def fn {F : FTy → Type} [FloatOps F] (main_arg0 : FVec F S7x512x1408 .bf16) (main_arg1 : FVec F S1024x5632 .f32) : IVec S1024x1408 1 :=
  let main_v0 : IVec S1024x1408 32 := iotaInDim S1024x1408 32 0
  let main_c : IVec S_ 32 := constantI S_ 32 512#32
  let main_v1 : IVec S1024x1408 32 := broadcastInDim S1024x1408 ![] bcast_S_S1024x1408 main_c
  let main_v2 : IVec S1024x1408 1 := cmpi .slt main_v0 main_v1
  main_v2
-- ==== Pre_finite.lean ====
abbrev S8448x1024 : Shape := ⟨2, ![8448, 1024]⟩
abbrev S8448x2048 : Shape := ⟨2, ![8448, 2048]⟩
abbrev S1024x2048 : Shape := ⟨2, ![1024, 2048]⟩
abbrev S1024x1024 : Shape := ⟨2, ![1024, 1024]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x2048 : S_.BroadcastsInDim S8448x2048 (![] : Fin 0 → Fin S8448x2048.rank)
  reducesTo_S8448x2048_S_d0_1 : S8448x2048.ReducesTo [0, 1] S_
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v31 : IVec S_ 1) (main_v32 : FVec F S1x1024 .f32) (main_v33 : FVec F S1x1024 .f32) : IVec S_ 1 :=
  let main_v34 : IVec S1x1024 1 := cmpf .olt main_v32 main_v33
  let main_c_12 : IVec S_ 1 := constantI S_ 1 1#1
  let main_v35 : IVec S_ 1 := (fun x v => Host.reduce IntOp.andi x v reducesTo_S1x1024_S_d0_1 h_S_) main_v34 main_c_12
  let main_v36 : IVec S_ 1 := andi main_v31 main_v35
  let main_v37 : FVec F S1x1024 .f32 := Host.absf main_arg7
  let main_cst_13 : FVec F S_ .f32 := constant S_ .f32 0x7F800000#32
  let main_v38 : FVec F S1x1024 .f32 := broadcastInDim S1x1024 ![] bcast_S_S1x1024 main_cst_13
  let main_v39 : IVec S1x1024 1 := cmpf .olt main_v37 main_v38
  let main_c_14 : IVec S_ 1 := constantI S_ 1 1#1
  let main_v40 : IVec S_ 1 := (fun x v => Host.reduce IntOp.andi x v reducesTo_S1x1024_S_d0_1 h_S_) main_v39 main_c_14
  let main_v41 : IVec S_ 1 := andi main_v36 main_v40
  main_v41

def fn_part1 {F : FTy → Type} [FloatOps F] (main_arg4 : FVec F S1024x2048 .bf16) (main_arg5 : FVec F S1024x1024 .bf16) (main_arg6 : FVec F S1x1024 .f32) (main_arg7 : FVec F S1x1024 .f32) (main_v14 : IVec S_ 1) (main_v15 : FVec F S8448x2048 .f32) (main_cst_5 : FVec F S_ .f32) : IVec S_ 1 :=
  let main_v16 : FVec F S8448x2048 .f32 := broadcastInDim S8448x2048 ![] bcast_S_S8448x2048 main_cst_5
  let main_v17 : IVec S8448x2048 1 := cmpf .olt main_v15 main_v16
  let main_c_6 : IVec S_ 1 := constantI S_ 1 1#1
  let main_v18 : IVec S_ 1 := (fun x v => Host.reduce IntOp.andi x v reducesTo_S8448x2048_S_d0_1 h_S_) main_v17 main_c_6
  let main_v19 : IVec S_ 1 := andi main_v14 main_v18
  let main_v20 : FVec F S1024x2048 .f32 := (extf .f32 · bitsLt_bf16_f32) main_arg4
  let main_v21 : FVec F S1024x2048 .f32 := Host.absf main_v20
  let main_cst_7 : FVec F S_ .f32 := constant S_ .f32 0x7F800000#32
  let main_v22 : FVec F S1024x2048 .f32 := broadcastInDim S1024x2048 ![] bcast_S_S1024x2048 main_cst_7
  let main_v23 : IVec S1024x2048 1 := cmpf .olt main_v21 main_v22
  let main_c_8 : IVec S_ 1 := constantI S_ 1 1#1
  let main_v24 : IVec S_ 1 := (fun x v => Host.reduce IntOp.andi x v reducesTo_S1024x2048_S_d0_1 h_S_) main_v23 main_c_8
  let main_v25 : IVec S_ 1 := andi main_v19 main_v24
  let main_v26 : FVec F S1024x1024 .f32 := (extf .f32 · bitsLt_bf16_f32) main_arg5
  let main_v27 : FVec F S1024x1024 .f32 := Host.absf main_v26
  let main_cst_9 : FVec F S_ .f32 := constant S_ .f32 0x7F800000#32
  let main_v28 : FVec F S1024x1024 .f32 := broadcastInDim S1024x1024 ![] bcast_S_S1024x1024 main_cst_9
  let main_v29 : IVec S1024x1024 1 := cmpf .olt main_v27 main_v28
  let main_c_10 : IVec S_ 1 := constantI S_ 1 1#1
  let main_v30 : IVec S_ 1 := (fun x v => Host.reduce IntOp.andi x v reducesTo_S1024x1024_S_d0_1 h_S_) main_v29 main_c_10
  let main_v31 : IVec S_ 1 := andi main_v25 main_v30
  let main_v32 : FVec F S1x1024 .f32 := Host.absf main_arg6
  let main_cst_11 : FVec F S_ .f32 := constant S_ .f32 0x7F800000#32
  let main_v33 : FVec F S1x1024 .f32 := broadcastInDim S1x1024 ![] bcast_S_S1x1024 main_cst_11
  fn_part2 (F := F) main_arg7 main_v31 main_v32 main_v33

def fn {F : FTy → Type} [FloatOps F] (main_arg0 : FVec F S8448x1024 .f32) (main_arg1 : FVec F S8448x1024 .f32) (main_arg2 : FVec F S8448x1024 .f32) (main_arg3 : FVec F S8448x2048 .f32) (main_arg4 : FVec F S1024x2048 .bf16) (main_arg5 : FVec F S1024x1024 .bf16) (main_arg6 : FVec F S1x1024 .f32) (main_arg7 : FVec F S1x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8448x1024 .f32 := Host.absf main_arg1
  let main_cst_1 : FVec F S_ .f32 := constant S_ .f32 0x7F800000#32
  let main_v6 : FVec F S8448x1024 .f32 := broadcastInDim S8448x1024 ![] bcast_S_S8448x1024 main_cst_1
  let main_v7 : IVec S8448x1024 1 := cmpf .olt main_v5 main_v6
  let main_c_2 : IVec S_ 1 := constantI S_ 1 1#1
  let main_v8 : IVec S_ 1 := (fun x v => Host.reduce IntOp.andi x v reducesTo_S8448x1024_S_d0_1 h_S_) main_v7 main_c_2
  let main_v9 : IVec S_ 1 := andi main_v4 main_v8
  let main_v10 : FVec F S8448x1024 .f32 := Host.absf main_arg2
  let main_cst_3 : FVec F S_ .f32 := constant S_ .f32 0x7F800000#32
  let main_v11 : FVec F S8448x1024 .f32 := broadcastInDim S8448x1024 ![] bcast_S_S8448x1024 main_cst_3
  let main_v12 : IVec S8448x1024 1 := cmpf .olt main_v10 main_v11
  let main_c_4 : IVec S_ 1 := constantI S_ 1 1#1
  let main_v13 : IVec S_ 1 := (fun x v => Host.reduce IntOp.andi x v reducesTo_S8448x1024_S_d0_1 h_S_) main_v12 main_c_4
  let main_v14 : IVec S_ 1 := andi main_v9 main_v13
  let main_v15 : FVec F S8448x2048 .f32 := Host.absf main_arg3
  let main_cst_5 : FVec F S_ .f32 := constant S_ .f32 0x7F800000#32
  fn_part1 (F := F) main_arg4 main_arg5 main_arg6 main_arg7 main_v14 main_v15 main_cst_5
-- ==== Pre_finite2.lean ====
abbrev S8448x1024 : Shape := ⟨2, ![8448, 1024]⟩
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S2816x1024 .f32) : IVec S_ 1 :=
  let main_v17 : FVec F S2816x1024 .f32 := Host.absf main_v16
  let main_cst_5 : FVec F S_ .f32 := constant S_ .f32 0x7F800000#32
  let main_v18 : FVec F S2816x1024 .f32 := broadcastInDim S2816x1024 ![] bcast_S_S2816x1024 main_cst_5
  let main_v19 : IVec S2816x1024 1 := cmpf .olt main_v17 main_v18
  let main_c_6 : IVec S_ 1 := constantI S_ 1 1#1
  let main_v20 : IVec S_ 1 := (fun x v => Host.reduce IntOp.andi x v reducesTo_S2816x1024_S_d0_1 h_S_) main_v19 main_c_6
  let main_v21 : IVec S_ 1 := andi main_v15 main_v20
  let main_v22 : FVec F S1x1024 .f32 := Host.absf main_arg4
  let main_cst_7 : FVec F S_ .f32 := constant S_ .f32 0x7F800000#32
  let main_v23 : FVec F S1x1024 .f32 := broadcastInDim S1x1024 ![] bcast_S_S1x1024 main_cst_7
  let main_v24 : IVec S1x1024 1 := cmpf .olt main_v22 main_v23
  let main_c_8 : IVec S_ 1 := constantI S_ 1 1#1
  let main_v25 : IVec S_ 1 := (fun x v => Host.reduce IntOp.andi x v reducesTo_S1x1024_S_d0_1 h_S_) main_v24 main_c_8
  let main_v26 : IVec S_ 1 := andi main_v21 main_v25
  main_v26

def fn {F : FTy → Type} [FloatOps F] (main_arg0 : FVec F S8448x1024 .f32) (main_arg1 : FVec F S8192x1024 .f32) (main_arg2 : FVec F S1024x5632 .bf16) (main_arg3 : FVec F S2816x1024 .bf16) (main_arg4 : FVec F S1x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S1024x5632 .f32 := (extf .f32 · bitsLt_bf16_f32) main_arg2
  let main_v11 : FVec F S1024x5632 .f32 := Host.absf main_v10
  let main_cst_3 : FVec F S_ .f32 := constant S_ .f32 0x7F800000#32
  let main_v12 : FVec F S1024x5632 .f32 := broadcastInDim S1024x5632 ![] bcast_S_S1024x5632 main_cst_3
  let main_v13 : IVec S1024x5632 1 := cmpf .olt main_v11 main_v12
  let main_c_4 : IVec S_ 1 := constantI S_ 1 1#1
  let main_v14 : IVec S_ 1 := (fun x v => Host.reduce IntOp.andi x v reducesTo_S1024x5632_S_d0_1 h_S_) main_v13 main_c_4
  let main_v15 : IVec S_ 1 := andi main_v9 main_v14
  let main_v16 : FVec F S2816x1024 .f32 := (extf .f32 · bitsLt_bf16_f32) main_arg3
  fn_part1 (F := F) main_arg4 main_v15 main_v16
-- ==== Pre_finite8.lean ====
abbrev S8448x1024 : Shape := ⟨2, ![8448, 1024]⟩
abbrev S8448x256 : Shape := ⟨2, ![8448, 256]⟩
abbrev S8448x2048 : Shape := ⟨2, ![8448, 2048]⟩
abbrev S8192x1024 : Shape := ⟨2, ![8192, 1024]⟩
abbrev S256x1024 : Shape := ⟨2, ![256, 1024]⟩
abbrev S1024x4608 : Shape := ⟨2, ![1024, 4608]⟩
abbrev S1x1024 : Shape := ⟨2, ![1, 1024]⟩
abbrev S1x256 : Shape := ⟨2, ![1, 256]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_
  bitsLt_bf16_f32 : FTy.bits .bf16 < FTy.bits .f32
  bcast_S_S8448x2048 : S_.BroadcastsInDim S8448x2048 (![] : Fin 0 → Fin S8448x2048.rank)
  reducesTo_S8448x2048_S_d0_1 : S8448x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x4608 : S_.BroadcastsInDim S1024x4608 (![] : Fin 0 → Fin S1024x4608.rank)
  reducesTo_S1024x4608_S_d0_1 : S1024x4608.ReducesTo [0, 1] S_
  bcast_S_S1x1024 : S_.BroadcastsInDim S1x1024 (![] : Fin 0 → Fin S1x1024.rank)
  reducesTo_S1x1024_S_d0_1 : S1x1024.ReducesTo [0, 1] S_
  bcast_S_S1x256 : S_.BroadcastsInDim S1x256 (![] : Fin 0 → Fin S1x256.rank)
  reducesTo_S1x256_S_d0_1 : S1x256.ReducesTo [0, 1] S_

variable [Facts]

def fn_part3 {F : FTy → Type} [FloatOps F] (main_arg10 : FVec F S1x1024 .f32) (main_arg11 : FVec F S1x256 .f32) (main_v47 : IVec S_ 1) (main_v50 : IVec S1x1024 1) (main_c_18 : IVec S_ 1) : IVec S_ 1 :=
  let main_v51 : IVec S_ 1 := (fun x v => Host.reduce IntOp.andi x v reducesTo_S1x1024_S_d0_1 h_S_) main_v50 main_c_18
  let main_v52 : IVec S_ 1 := andi main_v47 main_v51
  let main_v53 : FVec F S1x1024 .f32 := Host.absf main_arg10
  let main_cst_19 : FVec F S_ .f32 := constant S_ .f32 0x7F800000#32
  let main_v54 : FVec F S1x1024 .f32 := broadcastInDim S1x1024 ![] bcast_S_S1x1024 main_cst_19
  let main_v55 : IVec S1x1024 1 := cmpf .olt main_v53 main_v54
  let main_c_20 : IVec S_ 1 := constantI S_ 1 1#1
  let main_v56 : IVec S_ 1 := (fun x v => Host.reduce IntOp.andi x v reducesTo_S1x1024_S_d0_1 h_S_) main_v55 main_c_20
  let main_v57 : IVec S_ 1 := andi main_v52 main_v56
  let main_v58 : FVec F S1x256 .f32 := Host.absf main_arg11
  let main_cst_21 : FVec F S_ .f32 := constant S_ .f32 0x7F800000#32
  let main_v59 : FVec F S1x256 .f32 := broadcastInDim S1x256 ![] bcast_S_S1x256 main_cst_21
  let main_v60 : IVec S1x256 1 := cmpf .olt main_v58 main_v59
  let main_c_22 : IVec S_ 1 := constantI S_ 1 1#1
  let main_v61 : IVec S_ 1 := (fun x v => Host.reduce IntOp.andi x v reducesTo_S1x256_S_d0_1 h_S_) main_v60 main_c_22
  let main_v62 : IVec S_ 1 := andi main_v57 main_v61
  main_v62

def fn_part2 {F : FTy → Type} [FloatOps F] (main_arg7 : FVec F S8448x1024 .f32) (main_arg8 : FVec F S1024x4608 .bf16) (main_arg9 : FVec F S1x1024 .f32) (main_arg10 : FVec F S1x1024 .f32) (main_arg11 : FVec F S1x256 .f32) (main_v31 : IVec S_ 1) (main_v32 : FVec F S256x1024 .f32) (main_v33 : FVec F S256x1024 .f32) : IVec S_ 1 :=
  let main_v34 : IVec S256x1024 1 := cmpf .olt main_v32 main_v33
  let main_c_12 : IVec S_ 1 := constantI S_ 1 1#1
  let main_v35 : IVec S_ 1 := (fun x v => Host.reduce IntOp.andi x v reducesTo_S256x1024_S_d0_1 h_S_) main_v34 main_c_12
  let main_v36 : IVec S_ 1 := andi main_v31 main_v35
  let main_v37 : FVec F S8448x1024 .f32 := Host.absf main_arg7
  let main_cst_13 : FVec F S_ .f32 := constant S_ .f32 0x7F800000#32
  let main_v38 : FVec F S8448x1024 .f32 := broadcastInDim S8448x1024 ![] bcast_S_S8448x1024 main_cst_13
  let main_v39 : IVec S8448x1024 1 := cmpf .olt main_v37 main_v38
  let main_c_14 : IVec S_ 1 := constantI S_ 1 1#1
  let main_v40 : IVec S_ 1 := (fun x v => Host.reduce IntOp.andi x v reducesTo_S8448x1024_S_d0_1 h_S_) main_v39 main_c_14
  let main_v41 : IVec S_ 1 := andi main_v36 main_v40
  let main_v42 : FVec F S1024x4608 .f32 := (extf .f32 · bitsLt_bf16_f32) main_arg8
  let main_v43 : FVec F S1024x4608 .f32 := Host.absf main_v42
  let main_cst_15 : FVec F S_ .f32 := constant S_ .f32 0x7F800000#32
  let main_v44 : FVec F S1024x4608 .f32 := broadcastInDim S1024x4608 ![] bcast_S_S1024x4608 main_cst_15
  let main_v45 : IVec S1024x4608 1 := cmpf .olt main_v43 main_v44
  let main_c_16 : IVec S_ 1 := constantI S_ 1 1#1
  let main_v46 : IVec S_ 1 := (fun x v => Host.reduce IntOp.andi x v reducesTo_S1024x4608_S_d0_1 h_S_) main_v45 main_c_16
  let main_v47 : IVec S_ 1 := andi main_v41 main_v46
  let main_v48 : FVec F S1x1024 .f32 := Host.absf main_arg9
  let main_cst_17 : FVec F S_ .f32 := constant S_ .f32 0x7F800000#32
  let main_v49 : FVec F S1x1024 .f32 := broadcastInDim S1x1024 ![] bcast_S_S1x1024 main_cst_17
  let main_v50 : IVec S1x1024 1 := cmpf .olt main_v48 main_v49
  let main_c_18 : IVec S_ 1 := constantI S_ 1 1#1
  fn_part3 (F := F) main_arg10 main_arg11 main_v47 main_v50 main_c_18

def fn_part1 {F : FTy → Type} [FloatOps F] (main_arg4 : FVec F S8448x2048 .bf16) (main_arg5 : FVec F S8192x1024 .f32) (main_arg6 : FVec F S256x1024 .f32) (main_arg7 : FVec F S8448x1024 .f32) (main_arg8 : FVec F S1024x4608 .bf16) (main_arg9 : FVec F S1x1024 .f32) (main_arg10 : FVec F S1x1024 .f32) (main_arg11 : FVec F S1x256 .f32) (main_v14 : IVec S_ 1) (main_v16 : FVec F S8448x1024 .f32) : IVec S_ 1 :=
  let main_cst_5 : FVec F S_ .f32 := constant S_ .f32 0x7F800000#32
  let main_v17 : FVec F S8448x1024 .f32 := broadcastInDim S8448x1024 ![] bcast_S_S8448x1024 main_cst_5
  let main_v18 : IVec S8448x1024 1 := cmpf .olt main_v16 main_v17
  let main_c_6 : IVec S_ 1 := constantI S_ 1 1#1
  let main_v19 : IVec S_ 1 := (fun x v => Host.reduce IntOp.andi x v reducesTo_S8448x1024_S_d0_1 h_S_) main_v18 main_c_6
  let main_v20 : IVec S_ 1 := andi main_v14 main_v19
  let main_v21 : FVec F S8448x2048 .f32 := (extf .f32 · bitsLt_bf16_f32) main_arg4
  let main_v22 : FVec F S8448x2048 .f32 := Host.absf main_v21
  let main_cst_7 : FVec F S_ .f32 := constant S_ .f32 0x7F800000#32
  let main_v23 : FVec F S8448x2048 .f32 := broadcastInDim S8448x2048 ![] bcast_S_S8448x2048 main_cst_7
  let main_v24 : IVec S8448x2048 1 := cmpf .olt main_v22 main_v23
  let main_c_8 : IVec S_ 1 := constantI S_ 1 1#1
  let main_v25 : IVec S_ 1 := (fun x v => Host.reduce IntOp.andi x v reducesTo_S8448x2048_S_d0_1 h_S_) main_v24 main_c_8
  let main_v26 : IVec S_ 1 := andi main_v20 main_v25
  let main_v27 : FVec F S8192x1024 .f32 := Host.absf main_arg5
  let main_cst_9 : FVec F S_ .f32 := constant S_ .f32 0x7F800000#32
  let main_v28 : FVec F S8192x1024 .f32 := broadcastInDim S8192x1024 ![] bcast_S_S8192x1024 main_cst_9
  let main_v29 : IVec S8192x1024 1 := cmpf .olt main_v27 main_v28
  let main_c_10 : IVec S_ 1 := constantI S_ 1 1#1
  let main_v30 : IVec S_ 1 := (fun x v => Host.reduce IntOp.andi x v reducesTo_S8192x1024_S_d0_1 h_S_) main_v29 main_c_10
  let main_v31 : IVec S_ 1 := andi main_v26 main_v30
  let main_v32 : FVec F S256x1024 .f32 := Host.absf main_arg6
  let main_cst_11 : FVec F S_ .f32 := constant S_ .f32 0x7F800000#32
  let main_v33 : FVec F S256x1024 .f32 := broadcastInDim S256x1024 ![] bcast_S_S256x1024 main_cst_11
  fn_part2 (F := F) main_arg7 main_arg8 main_arg9 main_arg10 main_arg11 main_v31 main_v32 main_v33

def fn {F : FTy → Type} [FloatOps F] (main_arg0 : FVec F S8448x1024 .f32) (main_arg1 : FVec F S8448x256 .f32) (main_arg2 : FVec F S8448x256 .f32) (main_arg3 : FVec F S8448x1024 .bf16) (main_arg4 : FVec F S8448x2048 .bf16) (main_arg5 : FVec F S8192x1024 .f32) (main_arg6 : FVec F S256x1024 .f32) (main_arg7 : FVec F S8448x1024 .f32) (main_arg8 : FVec F S1024x4608 .bf16) (main_arg9 : FVec F S1x1024 .f32) (main_arg10 : FVec F S1x1024 .f32) (main_arg11 : FVec F S1x256 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S8448x256 .f32 := Host.absf main_arg1
  let main_cst_1 : FVec F S_ .f32 := constant S_ .f32 0x7F800000#32
  let main_v6 : FVec F S8448x256 .f32 := broadcastInDim S8448x256 ![] bcast_S_S8448x256 main_cst_1
  let main_v7 : IVec S8448x256 1 := cmpf .olt main_v5 main_v6
  let main_c_2 : IVec S_ 1 := constantI S_ 1 1#1
  let main_v8 : IVec S_ 1 := (fun x v => Host.reduce IntOp.andi x v reducesTo_S8448x256_S_d0_1 h_S_) main_v7 main_c_2
  let main_v9 : IVec S_ 1 := andi main_v4 main_v8
  let main_v10 : FVec F S8448x256 .f32 := Host.absf main_arg2
  let main_cst_3 : FVec F S_ .f32 := constant S_ .f32 0x7F800000#32
  let main_v11 : FVec F S8448x256 .f32 := broadcastInDim S8448x256 ![] bcast_S_S8448x256 main_cst_3
  let main_v12 : IVec S8448x256 1 := cmpf .olt main_v10 main_v11
  let main_c_4 : IVec S_ 1 := constantI S_ 1 1#1
  let main_v13 : IVec S_ 1 := (fun x v => Host.reduce IntOp.andi x v reducesTo_S8448x256_S_d0_1 h_S_) main_v12 main_c_4
  let main_v14 : IVec S_ 1 := andi main_v9 main_v13
  let main_v15 : FVec F S8448x1024 .f32 := (extf .f32 · bitsLt_bf16_f32) main_arg3
  let main_v16 : FVec F S8448x1024 .f32 := Host.absf main_v15
  fn_part1 (F := F) main_arg4 main_arg5 main_arg6 main_arg7 main_arg8 main_arg9 main_arg10 main_arg11 main_v14 main_v16
-- ==== Kernel.lean ====
abbrev S8448x1024 : Shape := ⟨2, ![8448, 1024]⟩
abbrev S8448x2048 : Shape := ⟨2, ![8448, 2048]⟩
abbrev S1024x2048 : Shape := ⟨2, ![1024, 2048]⟩
abbrev S1024x1024 : Shape := ⟨2, ![1024, 1024]⟩
abbrev S1x1024 : Shape := ⟨2, ![1, 1024]⟩
abbrev S_ : Shape := ⟨0, ![]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 38
  | .vmem => 24
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x2048, .f32⟩
  | .hbm, ⟨4, _⟩ => ⟨S1024x2048, .bf16⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S1024x2048, .f32⟩
  | .hbm, ⟨29, _⟩ => ⟨S8448x2048, .f32⟩
  | .hbm, ⟨30, _⟩ => ⟨S8448x1024, .bf16⟩
  | .hbm, ⟨31, _⟩ => ⟨S8448x2048, .bf16⟩
  | .hbm, ⟨32, _⟩ => ⟨S8448x1024, .f32⟩
  | .hbm, ⟨33, _⟩ => ⟨S8448x1024, .bf16⟩
  | .hbm, ⟨34, _⟩ => ⟨S8448x2048, .bf16⟩
  | .hbm, ⟨35, _⟩ => ⟨S8448x2048, .bf16⟩
  | .hbm, ⟨36, _⟩ => ⟨S1x1024, .f32⟩
  | .hbm, ⟨37, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1024x2048, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x1024, .f32⟩
  | .local _ .vmem, ⟨23, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S8448x1024 : Shape := ⟨2, ![8448, 1024]⟩
abbrev S8448x2048 : Shape := ⟨2, ![8448, 2048]⟩
abbrev S1024x2048 : Shape := ⟨2, ![1024, 2048]⟩
abbrev S1024x1024 : Shape := ⟨2, ![1024, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 205
  | .vmem => 0
  | .smem => 0
  | _ => 0

abbrev hbmTy0_0 (i : Nat) : BufTy := match i % 128 with
  | 0 => ⟨S8448x1024, .f32⟩
  | 1 => ⟨S8448x1024, .f32⟩
  | 2 => ⟨S8448x1024, .f32⟩
  | 3 => ⟨S8448x2048, .f32⟩
  | 4 => ⟨S1024x2048, .bf16⟩
  | 5 => ⟨S1024x1024, .bf16⟩
  | 6 => ⟨S1x1024, .f32⟩
  | 7 => ⟨S1x1024, .f32⟩
  | 8 => ⟨S_, .f32⟩
  | 9 => ⟨S8448x1024, .f32⟩
  | 10 => ⟨S8448x1024, .f32⟩
  | 11 => ⟨S8448x1024, .f32⟩
  | 12 => ⟨S8448x1024, .f32⟩
  | 13 => ⟨S8448x1024, .f32⟩
  | 14 => ⟨S_, .f32⟩
  | 15 => ⟨S8448x1024, .f32⟩
  | 16 => ⟨S8448x1024, .f32⟩
  | 17 => ⟨S_, .f32⟩
  | 18 => ⟨S8448x1024, .f32⟩
  | 19 => ⟨S8448x1024, .f32⟩
  | 20 => ⟨S_, .f32⟩
  | 21 => ⟨S8448x1024, .f32⟩
  | 22 => ⟨S8448x1024, .f32⟩
  | 23 => ⟨S8448x1024, .f32⟩
  | 24 => ⟨S_, .f32⟩
  | 25 => ⟨S8448x1024, .f32⟩
  | 26 => ⟨S8448x1024, .f32⟩
  | 27 => ⟨S8448x1024, .f32⟩
  | 28 => ⟨S_, .f32⟩
  | 29 => ⟨S8448x1024, .f32⟩
  | 30 => ⟨S8448x1024, .f32⟩
  | 31 => ⟨S_, .f32⟩
  | 32 => ⟨S8448x1024, .f32⟩
  | 33 => ⟨S8448x1024, .f32⟩
  | 34 => ⟨S8448x1024, .f32⟩
  | 35 => ⟨S_, .f32⟩
  | 36 => ⟨S8448x1024, .f32⟩
  | 37 => ⟨S8448x1024, .f32⟩
  | 38 => ⟨S8448x1024, .f32⟩
  | 39 => ⟨S1024x2048, .f32⟩
  | 40 => ⟨S8448x2048, .f32⟩
  | 41 => ⟨S8448x1024, .f32⟩
  | 42 => ⟨S8448x1024, .f32⟩
  | 43 => ⟨S8448x1024, .f32⟩
  | 44 => ⟨S8448x1024, .f32⟩
  | 45 => ⟨S_, .f32⟩
  | 46 => ⟨S8448x1024, .f32⟩
  | 47 => ⟨S8448x1024, .f32⟩
  | 48 => ⟨S_, .f32⟩
  | 49 => ⟨S8448x1024, .f32⟩
  | 50 => ⟨S8448x1024, .f32⟩
  | 51 => ⟨S_, .f32⟩
  | 52 => ⟨S8448x1024, .f32⟩
  | 53 => ⟨S8448x1024, .f32⟩
  | 54 => ⟨S8448x1024, .f32⟩
  | 55 => ⟨S8448x1024, .f32⟩
  | 56 => ⟨S8448x1024, .f32⟩
  | 57 => ⟨S8448x1024, .f32⟩
  | 58 => ⟨S8448x1024, .f32⟩
  | 59 => ⟨S8448x1024, .f32⟩
  | 60 => ⟨S_, .f32⟩
  | 61 => ⟨S8448x1024, .f32⟩
  | 62 => ⟨S8448x1024, .f32⟩
  | 63 => ⟨S_, .f32⟩
  | 64 => ⟨S8448x1024, .f32⟩
  | 65 => ⟨S8448x1024, .f32⟩
  | 66 => ⟨S_, .f32⟩
  | 67 => ⟨S8448x1024, .f32⟩
  | 68 => ⟨S8448x1024, .f32⟩
  | 69 => ⟨S8448x1024, .f32⟩
  | 70 => ⟨S8448x1024, .f32⟩
  | 71 => ⟨S_, .f32⟩
  | 72 => ⟨S8448, .f32⟩
  | 73 => ⟨S8448x1, .f32⟩
  | 74 => ⟨S_, .f32⟩
  | 75 => ⟨S8448x1, .f32⟩
  | 76 => ⟨S8448x1, .f32⟩
  | 77 => ⟨S_, .f32⟩
  | 78 => ⟨S8448x1, .f32⟩
  | 79 => ⟨S8448x1, .f32⟩
  | 80 => ⟨S8448x1, .f32⟩
  | 81 => ⟨S8448x1, .f32⟩
  | 82 => ⟨S_, .f32⟩
  | 83 => ⟨S8448x1, .f32⟩
  | 84 => ⟨S8448x1, .f32⟩
  | 85 => ⟨S8448x1024, .f32⟩
  | 86 => ⟨S8448x1024, .f32⟩
  | 87 => ⟨S8448x1024, .f32⟩
  | 88 => ⟨S8448x1024, .f32⟩
  | 89 => ⟨S8448x1024, .f32⟩
  | 90 => ⟨S8448x1024, .f32⟩
  | 91 => ⟨S8448x1024, .f32⟩
  | 92 => ⟨S_, .f32⟩
  | 93 => ⟨S8448x1024, .f32⟩
  | 94 => ⟨S8448x1024, .f32⟩
  | 95 => ⟨S_, .f32⟩
  | 96 => ⟨S8448x1024, .f32⟩
  | 97 => ⟨S8448x1024, .f32⟩
  | 98 => ⟨S_, .f32⟩
  | 99 => ⟨S8448x1024, .f32⟩
  | 100 => ⟨S8448x1024, .f32⟩
  | 101 => ⟨S8448x1024, .f32⟩
  | 102 => ⟨S8448x1024, .f32⟩
  | 103 => ⟨S_, .f32⟩
  | 104 => ⟨S8448, .f32⟩
  | 105 => ⟨S8448x1, .f32⟩
  | 106 => ⟨S_, .f32⟩
  | 107 => ⟨S8448x1, .f32⟩
  | 108 => ⟨S8448x1, .f32⟩
  | 109 => ⟨S_, .f32⟩
  | 110 => ⟨S8448x1, .f32⟩
  | 111 => ⟨S8448x1, .f32⟩
  | 112 => ⟨S8448x1, .f32⟩
  | 113 => ⟨S8448x1, .f32⟩
  | 114 => ⟨S_, .f32⟩
  | 115 => ⟨S8448x1, .f32⟩
  | 116 => ⟨S8448x1, .f32⟩
  | 117 => ⟨S8448x1024, .f32⟩
  | 118 => ⟨S8448x1024, .f32⟩
  | 119 => ⟨S8448x1024, .f32⟩
  | 120 => ⟨S8448x1024, .f32⟩
  | 121 => ⟨S8448x1024, .f32⟩
  | 122 => ⟨S8448x1024, .f32⟩
  | 123 => ⟨S1024x1024, .f32⟩
  | 124 => ⟨S8448x1024, .f32⟩
  | 125 => ⟨S8448x1024, .f32⟩
  | 126 => ⟨S8448x1024, .f32⟩
  | 127 => ⟨S8448x1024, .f32⟩
  | _ => ⟨S8448x1024, .f32⟩

abbrev hbmTy0_1 (i : Nat) : BufTy := match i % 128 with
  | 0 => ⟨S8448x1024, .f32⟩
  | 1 => ⟨S_, .f32⟩
  | 2 => ⟨S1024, .f32⟩
  | 3 => ⟨S1x1024, .f32⟩
  | 4 => ⟨S8448x1024, .f32⟩
  | 5 => ⟨S8448x1024, .f32⟩
  | 6 => ⟨S8448x1024, .f32⟩
  | 7 => ⟨S_, .f32⟩
  | 8 => ⟨S8448, .f32⟩
  | 9 => ⟨S8448x1, .f32⟩
  | 10 => ⟨S8448x1024, .f32⟩
  | 11 => ⟨S8448x1024, .f32⟩
  | 12 => ⟨S8448x1, .f32⟩
  | 13 => ⟨S_, .f32⟩
  | 14 => ⟨S8448x1, .f32⟩
  | 15 => ⟨S8448x1, .f32⟩
  | 16 => ⟨S_, .f32⟩
  | 17 => ⟨S8448, .f32⟩
  | 18 => ⟨S8448x1024, .f32⟩
  | 19 => ⟨S8448x1024, .f32⟩
  | 20 => ⟨S8448x1024, .f32⟩
  | 21 => ⟨S8448x1024, .f32⟩
  | 22 => ⟨S8448x1024, .f32⟩
  | 23 => ⟨S8448x1024, .f32⟩
  | 24 => ⟨S8448x1024, .f32⟩
  | 25 => ⟨S8448x1024, .f32⟩
  | 26 => ⟨S8448x1024, .f32⟩
  | 27 => ⟨S_, .f32⟩
  | 28 => ⟨S1024, .f32⟩
  | 29 => ⟨S1x1024, .f32⟩
  | 30 => ⟨S8448x1024, .f32⟩
  | 31 => ⟨S8448x1024, .f32⟩
  | 32 => ⟨S8448x1024, .f32⟩
  | 33 => ⟨S_, .f32⟩
  | 34 => ⟨S8448, .f32⟩
  | 35 => ⟨S8448x1, .f32⟩
  | 36 => ⟨S8448x1024, .f32⟩
  | 37 => ⟨S8448x1024, .f32⟩
  | 38 => ⟨S8448x1, .f32⟩
  | 39 => ⟨S_, .f32⟩
  | 40 => ⟨S8448x1, .f32⟩
  | 41 => ⟨S8448x1, .f32⟩
  | 42 => ⟨S_, .f32⟩
  | 43 => ⟨S8448, .f32⟩
  | 44 => ⟨S8448x1024, .f32⟩
  | 45 => ⟨S8448x1024, .f32⟩
  | 46 => ⟨S8448x1024, .f32⟩
  | 47 => ⟨S8448x1024, .f32⟩
  | 48 => ⟨S8448x1024, .f32⟩
  | 49 => ⟨S8448x1024, .f32⟩
  | 50 => ⟨S8448x2048, .f32⟩
  | 51 => ⟨S8448x1024, .f32⟩
  | 52 => ⟨S8448x1024, .f32⟩
  | 53 => ⟨S8448x1024, .f32⟩
  | 54 => ⟨S8448x2048, .f32⟩
  | 55 => ⟨S8448x1024, .f32⟩
  | 56 => ⟨S8448x1024, .f32⟩
  | 57 => ⟨S8448x1024, .f32⟩
  | 58 => ⟨S8448x1024, .f32⟩
  | 59 => ⟨S_, .f32⟩
  | 60 => ⟨S8448x1024, .f32⟩
  | 61 => ⟨S8448x1024, .f32⟩
  | 62 => ⟨S_, .f32⟩
  | 63 => ⟨S8448x1024, .f32⟩
  | 64 => ⟨S8448x1024, .f32⟩
  | 65 => ⟨S_, .f32⟩
  | 66 => ⟨S8448x1024, .f32⟩
  | 67 => ⟨S8448x1024, .f32⟩
  | 68 => ⟨S8448x1024, .f32⟩
  | 69 => ⟨S8448x1024, .f32⟩
  | 70 => ⟨S_, .f32⟩
  | 71 => ⟨S8448x1024, .f32⟩
  | 72 => ⟨S8448x1024, .f32⟩
  | 73 => ⟨S8448x1024, .f32⟩
  | 74 => ⟨S8448x1024, .bf16⟩
  | 75 => ⟨S8448x2048, .bf16⟩
  | 76 => ⟨S8448x2048, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_cst_21 : Ref sig .tc := ⟨.hbm, 106, rfl⟩
abbrev main_v76 : Ref sig .tc := ⟨.hbm, 107, rfl⟩
abbrev main_v77 : Ref sig .tc := ⟨.hbm, 108, rfl⟩
abbrev main_cst_22 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_24 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_25 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_26 : Ref sig .tc := ⟨.hbm, 141, rfl⟩
abbrev main_v106 : Ref sig .tc := ⟨.hbm, 142, rfl⟩
abbrev main_v107 : Ref sig .tc := ⟨.hbm, 143, rfl⟩
abbrev main_cst_27 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_28 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_29 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_30 : Ref sig .tc := ⟨.hbm, 167, rfl⟩
abbrev main_v128 : Ref sig .tc := ⟨.hbm, 168, rfl⟩
abbrev main_v129 : Ref sig .tc := ⟨.hbm, 169, rfl⟩
abbrev main_cst_31 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_32 : Ref sig .tc := ⟨.hbm, 187, rfl⟩
abbrev main_v146 : Ref sig .tc := ⟨.hbm, 188, rfl⟩
abbrev main_v147 : Ref sig .tc := ⟨.hbm, 189, rfl⟩
abbrev main_cst_33 : Ref sig .tc := ⟨.hbm, 190, rfl⟩
abbrev main_v148 : Ref sig .tc := ⟨.hbm, 191, rfl⟩
abbrev main_v149 : Ref sig .tc := ⟨.hbm, 192, rfl⟩
abbrev main_cst_34 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_35 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩

abbrev nD : Nat := 1
abbrev τ : Topo := Topo.v7x

variable {F : FTy → Type} [FloatOps F]
-- ==== Kernel2.lean ====
abbrev S8448x1024 : Shape := ⟨2, ![8448, 1024]⟩
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S8448x5632 : Shape := ⟨2, ![8448, 5632]⟩
abbrev S8448x2816 : Shape := ⟨2, ![8448, 2816]⟩
abbrev S1x1 : Shape := ⟨2, ![1, 1]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩
abbrev S1 : Shape := ⟨1, ![1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S8448x1024, .bf16⟩
  | .hbm, ⟨6, _⟩ => ⟨S8448x5632, .bf16⟩
  | .hbm, ⟨7, _⟩ => ⟨S8448x2816, .bf16⟩
  | .hbm, ⟨8, _⟩ => ⟨S8448x1024, .bf16⟩
  | .hbm, ⟨9, _⟩ => ⟨S8448x1024, .f32⟩
  | .hbm, ⟨10, _⟩ => ⟨S8448x1024, .bf16⟩
  | .hbm, ⟨11, _⟩ => ⟨S1x1024, .f32⟩
  | .hbm, ⟨12, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1, .f32⟩
  | .local _ .vmem, ⟨21, _⟩ => ⟨S256x2816, .f32⟩
  | .local _ .vmem, ⟨22, _⟩ => ⟨S256x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8448x1024 : Shape := ⟨2, ![8448, 1024]⟩
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩
abbrev S8192 : Shape := ⟨1, ![8192]⟩
abbrev S1024 : Shape := ⟨1, ![1024]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S1024x5632, .f32⟩
  | .hbm, ⟨25, _⟩ => ⟨S8448x5632, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S_, .f32⟩
  | .hbm, ⟨31, _⟩ => ⟨S8448x2816, .f32⟩
  | .hbm, ⟨32, _⟩ => ⟨S8448x2816, .f32⟩
  | .hbm, ⟨33, _⟩ => ⟨S_, .f32⟩
  | .hbm, ⟨34, _⟩ => ⟨S8448x2816, .f32⟩
  | .hbm, ⟨35, _⟩ => ⟨S8448x2816, .f32⟩
  | .hbm, ⟨36, _⟩ => ⟨S_, .f32⟩
  | .hbm, ⟨37, _⟩ => ⟨S8448x2816, .f32⟩
  | .hbm, ⟨38, _⟩ => ⟨S8448x2816, .f32⟩
  | .hbm, ⟨39, _⟩ => ⟨S8448x2816, .f32⟩
  | .hbm, ⟨40, _⟩ => ⟨S8448x2816, .f32⟩
  | .hbm, ⟨41, _⟩ => ⟨S8448x2816, .f32⟩
  | .hbm, ⟨42, _⟩ => ⟨S2816x1024, .f32⟩
  | .hbm, ⟨43, _⟩ => ⟨S8448x1024, .f32⟩
  | .hbm, ⟨44, _⟩ => ⟨S8448x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8448x1024, .f32⟩
  | .hbm, ⟨71, _⟩ => ⟨S8448x2816, .f32⟩
  | .hbm, ⟨72, _⟩ => ⟨S8448x2816, .f32⟩
  | .hbm, ⟨73, _⟩ => ⟨S8448x2816, .f32⟩
  | .hbm, ⟨74, _⟩ => ⟨S8448x2816, .f32⟩
  | .hbm, ⟨75, _⟩ => ⟨S8448x2816, .f32⟩
  | .hbm, ⟨76, _⟩ => ⟨S8448x2816, .f32⟩
  | .hbm, ⟨77, _⟩ => ⟨S8448x2816, .f32⟩
  | .hbm, ⟨78, _⟩ => ⟨S8448x5632, .f32⟩
  | .hbm, ⟨79, _⟩ => ⟨S8448x1024, .f32⟩
  | .hbm, ⟨80, _⟩ => ⟨S8448x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8448x1024, .f32⟩
  | .hbm, ⟨85, _⟩ => ⟨S8448x1024, .f32⟩
  | .hbm, ⟨86, _⟩ => ⟨S8448x1024, .f32⟩
  | .hbm, ⟨87, _⟩ => ⟨S_, .f32⟩
  | .hbm, ⟨88, _⟩ => ⟨S8448, .f32⟩
  | .hbm, ⟨89, _⟩ => ⟨S8448x1, .f32⟩
  | .hbm, ⟨90, _⟩ => ⟨S8448x1024, .f32⟩
  | .hbm, ⟨91, _⟩ => ⟨S8448x1024, .f32⟩
  | .hbm, ⟨92, _⟩ => ⟨S8448x1, .f32⟩
  | .hbm, ⟨93, _⟩ => ⟨S_, .f32⟩
  | .hbm, ⟨94, _⟩ => ⟨S8448x1, .f32⟩
  | .hbm, ⟨95, _⟩ => ⟨S8448x1, .f32⟩
  | .hbm, ⟨96, _⟩ => ⟨S_, .f32⟩
  | .hbm, ⟨97, _⟩ => ⟨S8448, .f32⟩
  | .hbm, ⟨98, _⟩ => ⟨S8448x1024, .f32⟩
  | .hbm, ⟨99, _⟩ => ⟨S8448x1024, .f32⟩
  | .hbm, ⟨100, _⟩ => ⟨S8448x1024, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S8448x1024, .bf16⟩
  | .hbm, ⟨105, _⟩ => ⟨S8448x5632, .bf16⟩
  | .hbm, ⟨106, _⟩ => ⟨S8448x2816, .bf16⟩
  | .hbm, ⟨107, _⟩ => ⟨S8448x1024, .bf16⟩
  | .hbm, ⟨108, _⟩ => ⟨S8448x1024, .bf16⟩
  | .hbm, ⟨109, _⟩ => ⟨S1x1, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_cst_9 : Ref sig .tc := ⟨.hbm, 61, rfl⟩
abbrev main_v34 : Ref sig .tc := ⟨.hbm, 62, rfl⟩
abbrev main_v35 : Ref sig .tc := ⟨.hbm, 63, rfl⟩
abbrev main_cst_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]
-- ==== Kernel3.lean ====
abbrev S8448x1024 : Shape := ⟨2, ![8448, 1024]⟩
abbrev S8448x5632 : Shape := ⟨2, ![8448, 5632]⟩
abbrev S1024x5632 : Shape := ⟨2, ![1024, 5632]⟩
abbrev S2112x1024 : Shape := ⟨2, ![2112, 1024]⟩
abbrev S2112x1408 : Shape := ⟨2, ![2112, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .f32⟩
  | .hbm, ⟨3, _⟩ => ⟨S1024x5632, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1408, .bf16⟩
  | .local _ .vmem, ⟨3, _⟩ => ⟨S2112x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8448x1024 : Shape := ⟨2, ![8448, 1024]⟩
abbrev S8448x5632 : Shape := ⟨2, ![8448, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S8448x1024, .f32⟩
  | .hbm, ⟨3, _⟩ => ⟨S8448x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8448x2816 : Shape := ⟨2, ![8448, 2816]⟩
abbrev S8448x1024 : Shape := ⟨2, ![8448, 1024]⟩
abbrev S2816x1024 : Shape := ⟨2, ![2816, 1024]⟩
abbrev S768x2816 : Shape := ⟨2, ![768, 2816]⟩
abbrev S768x512 : Shape := ⟨2, ![768, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .hbm, ⟨3, _⟩ => ⟨S2816x1024, .bf16⟩
  | .local _ .vmem, ⟨0, _⟩ => ⟨S768x2816, .bf16⟩
  | .local _ .vmem, ⟨1, _⟩ => ⟨S768x2816, .bf16⟩
  | .local _ .vmem, ⟨2, _⟩ => ⟨S768x512, .bf16⟩
  | .local _ .vmem, ⟨3, _⟩ => ⟨S768x512, .bf16⟩
  | .local _ .vmem, ⟨4, _⟩ => ⟨S2816x512, .f32⟩
  | .local _ .vmem, ⟨5, _⟩ => ⟨S2816x512, .f32⟩
  | .local _ .vmem, ⟨6, _⟩ => ⟨S2816x512, .bf16⟩
  | .local _ .vmem, ⟨7, _⟩ => ⟨S2816x512, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v10 : BitVec 1 := Scalar.cmpi .eq arg1 c10_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8448x2816 : Shape := ⟨2, ![8448, 2816]⟩
abbrev S8448x1024 : Shape := ⟨2, ![8448, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S8448x2816, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8448x1024 : Shape := ⟨2, ![8448, 1024]⟩
abbrev S8448x2048 : Shape := ⟨2, ![8448, 2048]⟩
abbrev S1024x2048 : Shape := ⟨2, ![1024, 2048]⟩
abbrev S2112x1024 : Shape := ⟨2, ![2112, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S1024x2048, .f32⟩
  | .hbm, ⟨3, _⟩ => ⟨S1024x2048, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S8448x1024 : Shape := ⟨2, ![8448, 1024]⟩
abbrev S8448x2048 : Shape := ⟨2, ![8448, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S8448x1024, .f32⟩
  | .hbm, ⟨3, _⟩ => ⟨S8448x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8448x1024 : Shape := ⟨2, ![8448, 1024]⟩
abbrev S1024x1024 : Shape := ⟨2, ![1024, 1024]⟩
abbrev S2112x1024 : Shape := ⟨2, ![2112, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .hbm, ⟨3, _⟩ => ⟨S1024x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .f32⟩
  | .local _ .vmem, ⟨5, _⟩ => ⟨S1024x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference6Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8448x1024 : Shape := ⟨2, ![8448, 1024]⟩
abbrev S8448x4608 : Shape := ⟨2, ![8448, 4608]⟩
abbrev S1024x4608 : Shape := ⟨2, ![1024, 4608]⟩
abbrev S2112x1024 : Shape := ⟨2, ![2112, 1024]⟩
abbrev S2112x1536 : Shape := ⟨2, ![2112, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x4608, .bf16⟩
  | .hbm, ⟨2, _⟩ => ⟨S1024x4608, .f32⟩
  | .local _ .vmem, ⟨0, _⟩ => ⟨S2112x1024, .bf16⟩
  | .local _ .vmem, ⟨1, _⟩ => ⟨S2112x1024, .bf16⟩
  | .local _ .vmem, ⟨2, _⟩ => ⟨S2112x1536, .bf16⟩
  | .local _ .vmem, ⟨3, _⟩ => ⟨S2112x1536, .bf16⟩
  | .local _ .vmem, ⟨4, _⟩ => ⟨S1024x1536, .f32⟩
  | .local _ .vmem, ⟨5, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8448x1024 : Shape := ⟨2, ![8448, 1024]⟩
abbrev S8448x4608 : Shape := ⟨2, ![8448, 4608]⟩
abbrev S4608x1024 : Shape := ⟨2, ![4608, 1024]⟩
abbrev S1024x4608 : Shape := ⟨2, ![1024, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4608, .bf16⟩
  | .hbm, ⟨2, _⟩ => ⟨S8448x1024, .f32⟩
  | .hbm, ⟨3, _⟩ => ⟨S8448x4608, .f32⟩
  | .hbm, ⟨4, _⟩ => ⟨S4608x1024, .f32⟩
  | .hbm, ⟨5, _⟩ => ⟨S1024x4608, .f32⟩
  | .hbm, ⟨6, _⟩ => ⟨S1024x4608, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8448x1024 : Shape := ⟨2, ![8448, 1024]⟩
abbrev S8448x256 : Shape := ⟨2, ![8448, 256]⟩
abbrev S8448x2048 : Shape := ⟨2, ![8448, 2048]⟩
abbrev S8192x1024 : Shape := ⟨2, ![8192, 1024]⟩
abbrev S256x1024 : Shape := ⟨2, ![256, 1024]⟩
abbrev S1024x4608 : Shape := ⟨2, ![1024, 4608]⟩
abbrev S1x1024 : Shape := ⟨2, ![1, 1024]⟩
abbrev S1x256 : Shape := ⟨2, ![1, 256]⟩
abbrev S_ : Shape := ⟨0, ![]⟩
abbrev S8448 : Shape := ⟨1, ![8448]⟩
abbrev S8448x1 : Shape := ⟨2, ![8448, 1]⟩
abbrev S8448x4608 : Shape := ⟨2, ![8448, 4608]⟩
abbrev S256 : Shape := ⟨1, ![256]⟩
abbrev S256x1 : Shape := ⟨2, ![256, 1]⟩
abbrev S256x256 : Shape := ⟨2, ![256, 256]⟩
abbrev S256x2048 : Shape := ⟨2, ![256, 2048]⟩
abbrev S256x4608 : Shape := ⟨2, ![256, 4608]⟩
abbrev S1024 : Shape := ⟨1, ![1024]⟩

abbrev nBuf : Space → Nat
  | .hbm => 62
  | .vmem => 31
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x1024, .bf16⟩
  | .hbm, ⟨4, _⟩ => ⟨S8448x2048, .bf16⟩
  | .hbm, ⟨5, _⟩ => ⟨S8192x1024, .f32⟩
  | .hbm, ⟨6, _⟩ => ⟨S256x1024, .f32⟩
  | .hbm, ⟨7, _⟩ => ⟨S8448x1024, .f32⟩
  | .hbm, ⟨8, _⟩ => ⟨S1024x4608, .bf16⟩
  | .hbm, ⟨9, _⟩ => ⟨S1x1024, .f32⟩
  | .hbm, ⟨10, _⟩ => ⟨S1x1024, .f32⟩
  | .hbm, ⟨11, _⟩ => ⟨S1x256, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S1024x4608, .f32⟩
  | .hbm, ⟨29, _⟩ => ⟨S8448x4608, .f32⟩
  | .hbm, ⟨30, _⟩ => ⟨S256, .i32⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256x1, .i32⟩
  | .hbm, ⟨50, _⟩ => ⟨S1x256, .i32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S256x256, .bf16⟩
  | .hbm, ⟨55, _⟩ => ⟨S8448x1024, .f32⟩
  | .hbm, ⟨56, _⟩ => ⟨S8448x256, .f32⟩
  | .hbm, ⟨57, _⟩ => ⟨S8448x4608, .bf16⟩
  | .hbm, ⟨58, _⟩ => ⟨S8448x1024, .f32⟩
  | .hbm, ⟨59, _⟩ => ⟨S1x1024, .f32⟩
  | .hbm, ⟨60, _⟩ => ⟨S1x1024, .f32⟩
  | .hbm, ⟨61, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1024x4608, .bf16⟩
  | .local _ .vmem, ⟨20, _⟩ => ⟨S1x1024, .f32⟩
  | .local _ .vmem, ⟨21, _⟩ => ⟨S1x1024, .f32⟩
  | .local _ .vmem, ⟨22, _⟩ => ⟨S1x256, .f32⟩
  | .local _ .vmem, ⟨23, _⟩ => ⟨S256x256, .bf16⟩
  | .local _ .vmem, ⟨24, _⟩ => ⟨S256x4608, .bf16⟩
  | .local _ .vmem, ⟨25, _⟩ => ⟨S256x4608, .bf16⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x1024, .f32⟩
  | .local _ .vmem, ⟨30, _⟩ => ⟨S1x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25_0 : Ref sig .tc := ⟨.hbm, 57, rfl⟩
abbrev main_v25_1 : Ref sig .tc := ⟨.hbm, 58, rfl⟩
abbrev main_v25_2 : Ref sig .tc := ⟨.hbm, 59, rfl⟩
abbrev main_v25_3 : Ref sig .tc := ⟨.hbm, 60, rfl⟩
abbrev main_v25_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x4608 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x4608 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference8Ideal.lean ====
abbrev S8448x1024 : Shape := ⟨2, ![8448, 1024]⟩
abbrev S8448x256 : Shape := ⟨2, ![8448, 256]⟩
abbrev S8448x2048 : Shape := ⟨2, ![8448, 2048]⟩
abbrev S8192x1024 : Shape := ⟨2, ![8192, 1024]⟩
abbrev S256x1024 : Shape := ⟨2, ![256, 1024]⟩
abbrev S1024x4608 : Shape := ⟨2, ![1024, 4608]⟩
abbrev S1x1024 : Shape := ⟨2, ![1, 1024]⟩
abbrev S1x256 : Shape := ⟨2, ![1, 256]⟩
abbrev S_ : Shape := ⟨0, ![]⟩
abbrev S8448 : Shape := ⟨1, ![8448]⟩
abbrev S8448x1 : Shape := ⟨2, ![8448, 1]⟩
abbrev S8448x4608 : Shape := ⟨2, ![8448, 4608]⟩
abbrev S8448x16x64 : Shape := ⟨3, ![8448, 16, 64]⟩
abbrev S16x64 : Shape := ⟨2, ![16, 64]⟩
abbrev S8448x16 : Shape := ⟨2, ![8448, 16]⟩
abbrev S8448x16x1 : Shape := ⟨3, ![8448, 16, 1]⟩
abbrev S1x16x64 : Shape := ⟨3, ![1, 16, 64]⟩
abbrev S8448x4x64 : Shape := ⟨3, ![8448, 4, 64]⟩
abbrev S4x64 : Shape := ⟨2, ![4, 64]⟩
abbrev S8448x4 : Shape := ⟨2, ![8448, 4]⟩
abbrev S8448x4x1 : Shape := ⟨3, ![8448, 4, 1]⟩
abbrev S1x4x64 : Shape := ⟨3, ![1, 4, 64]⟩
abbrev S1024 : Shape := ⟨1, ![1024]⟩

abbrev nBuf : Space → Nat
  | .hbm => 170
  | .vmem => 0
  | .smem => 0
  | _ => 0

abbrev hbmTy0_0 (i : Nat) : BufTy := match i % 128 with
  | 0 => ⟨S8448x1024, .f32⟩
  | 1 => ⟨S8448x256, .f32⟩
  | 2 => ⟨S8448x256, .f32⟩
  | 3 => ⟨S8448x1024, .bf16⟩
  | 4 => ⟨S8448x2048, .bf16⟩
  | 5 => ⟨S8192x1024, .f32⟩
  | 6 => ⟨S256x1024, .f32⟩
  | 7 => ⟨S8448x1024, .f32⟩
  | 8 => ⟨S1024x4608, .bf16⟩
  | 9 => ⟨S1x1024, .f32⟩
  | 10 => ⟨S1x1024, .f32⟩
  | 11 => ⟨S1x256, .f32⟩
  | 12 => ⟨S8448x1024, .f32⟩
  | 13 => ⟨S8448x1024, .f32⟩
  | 14 => ⟨S_, .f32⟩
  | 15 => ⟨S8448, .f32⟩
  | 16 => ⟨S8448x1, .f32⟩
  | 17 => ⟨S_, .f32⟩
  | 18 => ⟨S8448x1, .f32⟩
  | 19 => ⟨S8448x1, .f32⟩
  | 20 => ⟨S_, .f32⟩
  | 21 => ⟨S8448x1, .f32⟩
  | 22 => ⟨S8448x1, .f32⟩
  | 23 => ⟨S8448x1, .f32⟩
  | 24 => ⟨S8448x1, .f32⟩
  | 25 => ⟨S_, .f32⟩
  | 26 => ⟨S8448x1, .f32⟩
  | 27 => ⟨S8448x1, .f32⟩
  | 28 => ⟨S8448x1024, .f32⟩
  | 29 => ⟨S8448x1024, .f32⟩
  | 30 => ⟨S8448x1024, .f32⟩
  | 31 => ⟨S8448x1024, .f32⟩
  | 32 => ⟨S1024x4608, .f32⟩
  | 33 => ⟨S8448x4608, .f32⟩
  | 34 => ⟨S8448x1024, .f32⟩
  | 35 => ⟨S8448x256, .f32⟩
  | 36 => ⟨S8448x256, .f32⟩
  | 37 => ⟨S8448x1024, .f32⟩
  | 38 => ⟨S8448x2048, .f32⟩
  | 39 => ⟨S8448x16x64, .f32⟩
  | 40 => ⟨S16x64, .f32⟩
  | 41 => ⟨S8448x16x64, .f32⟩
  | 42 => ⟨S_, .f32⟩
  | 43 => ⟨S8448x16, .f32⟩
  | 44 => ⟨S8448x16x1, .f32⟩
  | 45 => ⟨S_, .f32⟩
  | 46 => ⟨S8448x16x1, .f32⟩
  | 47 => ⟨S8448x16x1, .f32⟩
  | 48 => ⟨S_, .f32⟩
  | 49 => ⟨S8448x16x1, .f32⟩
  | 50 => ⟨S8448x16x1, .f32⟩
  | 51 => ⟨S8448x16x1, .f32⟩
  | 52 => ⟨S8448x16x1, .f32⟩
  | 53 => ⟨S_, .f32⟩
  | 54 => ⟨S8448x16x1, .f32⟩
  | 55 => ⟨S8448x16x1, .f32⟩
  | 56 => ⟨S8448x16x64, .f32⟩
  | 57 => ⟨S8448x16x64, .f32⟩
  | 58 => ⟨S1x16x64, .f32⟩
  | 59 => ⟨S8448x16x64, .f32⟩
  | 60 => ⟨S8448x16x64, .f32⟩
  | 61 => ⟨S8448x1024, .f32⟩
  | 62 => ⟨S8448x4x64, .f32⟩
  | 63 => ⟨S4x64, .f32⟩
  | 64 => ⟨S8448x4x64, .f32⟩
  | 65 => ⟨S_, .f32⟩
  | 66 => ⟨S8448x4, .f32⟩
  | 67 => ⟨S8448x4x1, .f32⟩
  | 68 => ⟨S_, .f32⟩
  | 69 => ⟨S8448x4x1, .f32⟩
  | 70 => ⟨S8448x4x1, .f32⟩
  | 71 => ⟨S_, .f32⟩
  | 72 => ⟨S8448x4x1, .f32⟩
  | 73 => ⟨S8448x4x1, .f32⟩
  | 74 => ⟨S8448x4x1, .f32⟩
  | 75 => ⟨S8448x4x1, .f32⟩
  | 76 => ⟨S_, .f32⟩
  | 77 => ⟨S8448x4x1, .f32⟩
  | 78 => ⟨S8448x4x1, .f32⟩
  | 79 => ⟨S8448x4x64, .f32⟩
  | 80 => ⟨S8448x4x64, .f32⟩
  | 81 => ⟨S1x4x64, .f32⟩
  | 82 => ⟨S8448x4x64, .f32⟩
  | 83 => ⟨S8448x4x64, .f32⟩
  | 84 => ⟨S8448x256, .f32⟩
  | 85 => ⟨S8448x1024, .f32⟩
  | 86 => ⟨S8448x2048, .f32⟩
  | 87 => ⟨S8448x4x64, .f32⟩
  | 88 => ⟨S8448x4x64, .f32⟩
  | 89 => ⟨S_, .f32⟩
  | 90 => ⟨S4x64, .f32⟩
  | 91 => ⟨S1x4x64, .f32⟩
  | 92 => ⟨S8448x4x64, .f32⟩
  | 93 => ⟨S8448x4x64, .f32⟩
  | 94 => ⟨S_, .f32⟩
  | 95 => ⟨S4x64, .f32⟩
  | 96 => ⟨S8448x4x64, .f32⟩
  | 97 => ⟨S_, .f32⟩
  | 98 => ⟨S8448x4, .f32⟩
  | 99 => ⟨S8448x4x1, .f32⟩
  | 100 => ⟨S8448x4x64, .f32⟩
  | 101 => ⟨S8448x4x64, .f32⟩
  | 102 => ⟨S8448x4x1, .f32⟩
  | 103 => ⟨S_, .f32⟩
  | 104 => ⟨S8448x4x1, .f32⟩
  | 105 => ⟨S8448x4x1, .f32⟩
  | 106 => ⟨S_, .f32⟩
  | 107 => ⟨S8448x4, .f32⟩
  | 108 => ⟨S8448x4x64, .f32⟩
  | 109 => ⟨S8448x4x64, .f32⟩
  | 110 => ⟨S8448x4x64, .f32⟩
  | 111 => ⟨S8448x4x64, .f32⟩
  | 112 => ⟨S8448x4x64, .f32⟩
  | 113 => ⟨S1x256, .f32⟩
  | 114 => ⟨S8448x256, .f32⟩
  | 115 => ⟨S8448x16x64, .f32⟩
  | 116 => ⟨S8448x16x64, .f32⟩
  | 117 => ⟨S_, .f32⟩
  | 118 => ⟨S16x64, .f32⟩
  | 119 => ⟨S1x16x64, .f32⟩
  | 120 => ⟨S8448x16x64, .f32⟩
  | 121 => ⟨S8448x16x64, .f32⟩
  | 122 => ⟨S_, .f32⟩
  | 123 => ⟨S16x64, .f32⟩
  | 124 => ⟨S8448x16x64, .f32⟩
  | 125 => ⟨S_, .f32⟩
  | 126 => ⟨S8448x16, .f32⟩
  | 127 => ⟨S8448x16x1, .f32⟩
  | _ => ⟨S8448x1024, .f32⟩

abbrev hbmTy0_1 (i : Nat) : BufTy := match i % 128 with
  | 0 => ⟨S8448x16x64, .f32⟩
  | 1 => ⟨S8448x16x64, .f32⟩
  | 2 => ⟨S8448x16x1, .f32⟩
  | 3 => ⟨S_, .f32⟩
  | 4 => ⟨S8448x16x1, .f32⟩
  | 5 => ⟨S8448x16x1, .f32⟩
  | 6 => ⟨S_, .f32⟩
  | 7 => ⟨S8448x16, .f32⟩
  | 8 => ⟨S8448x16x64, .f32⟩
  | 9 => ⟨S8448x16x64, .f32⟩
  | 10 => ⟨S8448x16x64, .f32⟩
  | 11 => ⟨S8448x16x64, .f32⟩
  | 12 => ⟨S8448x16x64, .f32⟩
  | 13 => ⟨S1x1024, .f32⟩
  | 14 => ⟨S8448x1024, .f32⟩
  | 15 => ⟨S8448x4608, .f32⟩
  | 16 => ⟨S8448x1024, .f32⟩
  | 17 => ⟨S8448x1024, .f32⟩
  | 18 => ⟨S_, .f32⟩
  | 19 => ⟨S1024, .f32⟩
  | 20 => ⟨S1x1024, .f32⟩
  | 21 => ⟨S8448x1024, .f32⟩
  | 22 => ⟨S8448x1024, .f32⟩
  | 23 => ⟨S8448x1024, .f32⟩
  | 24 => ⟨S_, .f32⟩
  | 25 => ⟨S8448, .f32⟩
  | 26 => ⟨S8448x1, .f32⟩
  | 27 => ⟨S8448x1024, .f32⟩
  | 28 => ⟨S8448x1024, .f32⟩
  | 29 => ⟨S8448x1, .f32⟩
  | 30 => ⟨S_, .f32⟩
  | 31 => ⟨S8448x1, .f32⟩
  | 32 => ⟨S8448x1, .f32⟩
  | 33 => ⟨S_, .f32⟩
  | 34 => ⟨S8448, .f32⟩
  | 35 => ⟨S8448x1024, .f32⟩
  | 36 => ⟨S8448x1024, .f32⟩
  | 37 => ⟨S8448x1024, .f32⟩
  | 38 => ⟨S8448x1024, .f32⟩
  | 39 => ⟨S8448x1024, .f32⟩
  | 40 => ⟨S8448x4608, .bf16⟩
  | 41 => ⟨S8448x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_cst_20 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_22 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_23 : Ref sig .tc := ⟨.hbm, 158, rfl⟩
abbrev main_v122 : Ref sig .tc := ⟨.hbm, 159, rfl⟩
abbrev main_v123 : Ref sig .tc := ⟨.hbm, 160, rfl⟩
abbrev main_cst_24 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩

abbrev nD : Nat := 1
abbrev τ : Topo := Topo.v7x

variable {F : FTy → Type} [FloatOps F]
-- ==== Kernel9.lean ====
abbrev S8192x1024 : Shape := ⟨2, ![8192, 1024]⟩
abbrev S256x1024 : Shape := ⟨2, ![256, 1024]⟩
abbrev S1024x4608 : Shape := ⟨2, ![1024, 4608]⟩
abbrev S1x1024 : Shape := ⟨2, ![1, 1024]⟩
abbrev S1x256 : Shape := ⟨2, ![1, 256]⟩
abbrev S256 : Shape := ⟨1, ![256]⟩
abbrev S_ : Shape := ⟨0, ![]⟩
abbrev S256x1 : Shape := ⟨2, ![256, 1]⟩
abbrev S256x256 : Shape := ⟨2, ![256, 256]⟩
abbrev S8448x1024 : Shape := ⟨2, ![8448, 1024]⟩
abbrev S8448x256 : Shape := ⟨2, ![8448, 256]⟩
abbrev S8448x2048 : Shape := ⟨2, ![8448, 2048]⟩
abbrev S256x2048 : Shape := ⟨2, ![256, 2048]⟩
abbrev S1024x1024 : Shape := ⟨2, ![1024, 1024]⟩
abbrev S1024x256 : Shape := ⟨2, ![1024, 256]⟩
abbrev S1024x2048 : Shape := ⟨2, ![1024, 2048]⟩

abbrev nBuf : Space → Nat
  | .hbm => 39
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024x4608, .bf16⟩
  | .hbm, ⟨3, _⟩ => ⟨S1x1024, .f32⟩
  | .hbm, ⟨4, _⟩ => ⟨S1x1024, .f32⟩
  | .hbm, ⟨5, _⟩ => ⟨S1x256, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S8448x1024, .bf16⟩
  | .hbm, ⟨32, _⟩ => ⟨S8448x1024, .f32⟩
  | .hbm, ⟨33, _⟩ => ⟨S8448x256, .f32⟩
  | .hbm, ⟨34, _⟩ => ⟨S8448x1024, .bf16⟩
  | .hbm, ⟨35, _⟩ => ⟨S8448x256, .bf16⟩
  | .hbm, ⟨36, _⟩ => ⟨S8448x256, .bf16⟩
  | .hbm, ⟨37, _⟩ => ⟨S8448x1024, .f32⟩
  | .hbm, ⟨38, _⟩ => ⟨S8448x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1024x4608, .bf16⟩
  | .local _ .vmem, ⟨4, _⟩ => ⟨S1x1024, .f32⟩
  | .local _ .vmem, ⟨5, _⟩ => ⟨S1x1024, .f32⟩
  | .local _ .vmem, ⟨6, _⟩ => ⟨S1x256, .f32⟩
  | .local _ .vmem, ⟨7, _⟩ => ⟨S256x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x1024, .bf16⟩
  | .local _ .vmem, ⟨15, _⟩ => ⟨S256x1024, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x1024, .f32⟩
  | .local _ .vmem, ⟨21, _⟩ => ⟨S256x1024, .f32⟩
  | .local _ .vmem, ⟨22, _⟩ => ⟨S256x2048, .f32⟩
  | .local _ .vmem, ⟨23, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8_0 : Ref sig .tc := ⟨.hbm, 31, rfl⟩
abbrev main_v8_1 : Ref sig .tc := ⟨.hbm, 32, rfl⟩
abbrev main_v8_2 : Ref sig .tc := ⟨.hbm, 33, rfl⟩
abbrev main_v8_3 : Ref sig .tc := ⟨.hbm, 34, rfl⟩
abbrev main_v8_4 : Ref sig .tc := ⟨.hbm, 35, rfl⟩
abbrev main_v8_5 : Ref sig .tc := ⟨.hbm, 36, rfl⟩
abbrev main_v8_6 : Ref sig .tc := ⟨.hbm, 37, rfl⟩
abbrev main_v8_7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference9Ideal.lean ====
abbrev S8192x1024 : Shape := ⟨2, ![8192, 1024]⟩
abbrev S256x1024 : Shape := ⟨2, ![256, 1024]⟩
abbrev S1024x4608 : Shape := ⟨2, ![1024, 4608]⟩
abbrev S1x1024 : Shape := ⟨2, ![1, 1024]⟩
abbrev S1x256 : Shape := ⟨2, ![1, 256]⟩
abbrev S8448x1024 : Shape := ⟨2, ![8448, 1024]⟩
abbrev S_ : Shape := ⟨0, ![]⟩
abbrev S8448 : Shape := ⟨1, ![8448]⟩
abbrev S8448x1 : Shape := ⟨2, ![8448, 1]⟩
abbrev S8448x4608 : Shape := ⟨2, ![8448, 4608]⟩
abbrev S8448x256 : Shape := ⟨2, ![8448, 256]⟩
abbrev S8448x2048 : Shape := ⟨2, ![8448, 2048]⟩
abbrev S8448x16x64 : Shape := ⟨3, ![8448, 16, 64]⟩
abbrev S16x64 : Shape := ⟨2, ![16, 64]⟩
abbrev S8448x16 : Shape := ⟨2, ![8448, 16]⟩
abbrev S8448x16x1 : Shape := ⟨3, ![8448, 16, 1]⟩
abbrev S1x16x64 : Shape := ⟨3, ![1, 16, 64]⟩
abbrev S8448x4x64 : Shape := ⟨3, ![8448, 4, 64]⟩
abbrev S4x64 : Shape := ⟨2, ![4, 64]⟩
abbrev S8448x4 : Shape := ⟨2, ![8448, 4]⟩
abbrev S8448x4x1 : Shape := ⟨3, ![8448, 4, 1]⟩
abbrev S1x4x64 : Shape := ⟨3, ![1, 4, 64]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024x4608, .bf16⟩
  | .hbm, ⟨3, _⟩ => ⟨S1x1024, .f32⟩
  | .hbm, ⟨4, _⟩ => ⟨S1x1024, .f32⟩
  | .hbm, ⟨5, _⟩ => ⟨S1x256, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S1024x4608, .f32⟩
  | .hbm, ⟨23, _⟩ => ⟨S8448x4608, .f32⟩
  | .hbm, ⟨24, _⟩ => ⟨S8448x1024, .f32⟩
  | .hbm, ⟨25, _⟩ => ⟨S8448x256, .f32⟩
  | .hbm, ⟨26, _⟩ => ⟨S8448x256, .f32⟩
  | .hbm, ⟨27, _⟩ => ⟨S8448x1024, .f32⟩
  | .hbm, ⟨28, _⟩ => ⟨S8448x2048, .f32⟩
  | .hbm, ⟨29, _⟩ => ⟨S8448x16x64, .f32⟩
  | .hbm, ⟨30, _⟩ => ⟨S16x64, .f32⟩
  | .hbm, ⟨31, _⟩ => ⟨S8448x16x64, .f32⟩
  | .hbm, ⟨32, _⟩ => ⟨S_, .f32⟩
  | .hbm, ⟨33, _⟩ => ⟨S8448x16, .f32⟩
  | .hbm, ⟨34, _⟩ => ⟨S8448x16x1, .f32⟩
  | .hbm, ⟨35, _⟩ => ⟨S_, .f32⟩
  | .hbm, ⟨36, _⟩ => ⟨S8448x16x1, .f32⟩
  | .hbm, ⟨37, _⟩ => ⟨S8448x16x1, .f32⟩
  | .hbm, ⟨38, _⟩ => ⟨S_, .f32⟩
  | .hbm, ⟨39, _⟩ => ⟨S8448x16x1, .f32⟩
  | .hbm, ⟨40, _⟩ => ⟨S8448x16x1, .f32⟩
  | .hbm, ⟨41, _⟩ => ⟨S8448x16x1, .f32⟩
  | .hbm, ⟨42, _⟩ => ⟨S8448x16x64, .f32⟩
  | .hbm, ⟨43, _⟩ => ⟨S8448x16x64, .f32⟩
  | .hbm, ⟨44, _⟩ => ⟨S1x16x64, .f32⟩
  | .hbm, ⟨45, _⟩ => ⟨S8448x16x64, .f32⟩
  | .hbm, ⟨46, _⟩ => ⟨S8448x16x64, .f32⟩
  | .hbm, ⟨47, _⟩ => ⟨S8448x1024, .f32⟩
  | .hbm, ⟨48, _⟩ => ⟨S8448x4x64, .f32⟩
  | .hbm, ⟨49, _⟩ => ⟨S4x64, .f32⟩
  | .hbm, ⟨50, _⟩ => ⟨S8448x4x64, .f32⟩
  | .hbm, ⟨51, _⟩ => ⟨S_, .f32⟩
  | .hbm, ⟨52, _⟩ => ⟨S8448x4, .f32⟩
  | .hbm, ⟨53, _⟩ => ⟨S8448x4x1, .f32⟩
  | .hbm, ⟨54, _⟩ => ⟨S_, .f32⟩
  | .hbm, ⟨55, _⟩ => ⟨S8448x4x1, .f32⟩
  | .hbm, ⟨56, _⟩ => ⟨S8448x4x1, .f32⟩
  | .hbm, ⟨57, _⟩ => ⟨S_, .f32⟩
  | .hbm, ⟨58, _⟩ => ⟨S8448x4x1, .f32⟩
  | .hbm, ⟨59, _⟩ => ⟨S8448x4x1, .f32⟩
  | .hbm, ⟨60, _⟩ => ⟨S8448x4x1, .f32⟩
  | .hbm, ⟨61, _⟩ => ⟨S8448x4x64, .f32⟩
  | .hbm, ⟨62, _⟩ => ⟨S8448x4x64, .f32⟩
  | .hbm, ⟨63, _⟩ => ⟨S1x4x64, .f32⟩
  | .hbm, ⟨64, _⟩ => ⟨S8448x4x64, .f32⟩
  | .hbm, ⟨65, _⟩ => ⟨S8448x4x64, .f32⟩
  | .hbm, ⟨66, _⟩ => ⟨S8448x256, .f32⟩
  | .hbm, ⟨67, _⟩ => ⟨S8448x1024, .bf16⟩
  | .hbm, ⟨68, _⟩ => ⟨S8448x1024, .f32⟩
  | .hbm, ⟨69, _⟩ => ⟨S8448x256, .f32⟩
  | .hbm, ⟨70, _⟩ => ⟨S8448x1024, .bf16⟩
  | .hbm, ⟨71, _⟩ => ⟨S8448x256, .bf16⟩
  | .hbm, ⟨72, _⟩ => ⟨S8448x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel10.lean ====
abbrev S8448x1024 : Shape := ⟨2, ![8448, 1024]⟩
abbrev S8448x2048 : Shape := ⟨2, ![8448, 2048]⟩
abbrev S8192x1024 : Shape := ⟨2, ![8192, 1024]⟩
abbrev S256x1024 : Shape := ⟨2, ![256, 1024]⟩
abbrev S1024x2048 : Shape := ⟨2, ![1024, 2048]⟩
abbrev S1024x1024 : Shape := ⟨2, ![1024, 1024]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 21
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S8192x1024, .f32⟩
  | .hbm, ⟨4, _⟩ => ⟨S256x1024, .f32⟩
  | .hbm, ⟨5, _⟩ => ⟨S1024x2048, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8448x1024, .bf16⟩
  | .hbm, ⟨10, _⟩ => ⟨S8448x2048, .bf16⟩
  | .hbm, ⟨11, _⟩ => ⟨S8448x1024, .bf16⟩
  | .hbm, ⟨12, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1024x2048, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel10Ideal.lean ====
variable {F : FTy → Type} [FloatOps F] [Named F]
def κ : String → Option EReal := fun
  | "cubic" => some ((8943 / 200000 : ℝ) : EReal)
  | _ => none
-- ==== Reference10Ideal.lean ====
abbrev S8448x1024 : Shape := ⟨2, ![8448, 1024]⟩
abbrev S8448x2048 : Shape := ⟨2, ![8448, 2048]⟩
abbrev S8192x1024 : Shape := ⟨2, ![8192, 1024]⟩
abbrev S256x1024 : Shape := ⟨2, ![256, 1024]⟩
abbrev S1024x2048 : Shape := ⟨2, ![1024, 2048]⟩
abbrev S1024x1024 : Shape := ⟨2, ![1024, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 100
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S8192x1024, .f32⟩
  | .hbm, ⟨4, _⟩ => ⟨S256x1024, .f32⟩
  | .hbm, ⟨5, _⟩ => ⟨S1024x2048, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1024x2048, .f32⟩
  | .hbm, ⟨30, _⟩ => ⟨S8448x2048, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x1024, .f32⟩
  | .hbm, ⟨48, _⟩ => ⟨S8448x1024, .f32⟩
  | .hbm, ⟨49, _⟩ => ⟨S_, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S8448, .f32⟩
  | .hbm, ⟨55, _⟩ => ⟨S8448x1, .f32⟩
  | .hbm, ⟨56, _⟩ => ⟨S_, .f32⟩
  | .hbm, ⟨57, _⟩ => ⟨S8448x1, .f32⟩
  | .hbm, ⟨58, _⟩ => ⟨S8448x1, .f32⟩
  | .hbm, ⟨59, _⟩ => ⟨S_, .f32⟩
  | .hbm, ⟨60, _⟩ => ⟨S8448x1, .f32⟩
  | .hbm, ⟨61, _⟩ => ⟨S8448x1, .f32⟩
  | .hbm, ⟨62, _⟩ => ⟨S8448x1, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S_, .f32⟩
  | .hbm, ⟨71, _⟩ => ⟨S8448x1024, .f32⟩
  | .hbm, ⟨72, _⟩ => ⟨S8448x1024, .f32⟩
  | .hbm, ⟨73, _⟩ => ⟨S_, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S_, .f32⟩
  | .hbm, ⟨78, _⟩ => ⟨S8448, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448x1, .f32⟩
  | .hbm, ⟨85, _⟩ => ⟨S8448x1, .f32⟩
  | .hbm, ⟨86, _⟩ => ⟨S8448x1, .f32⟩
  | .hbm, ⟨87, _⟩ => ⟨S8448x1024, .f32⟩
  | .hbm, ⟨88, _⟩ => ⟨S8448x1024, .f32⟩
  | .hbm, ⟨89, _⟩ => ⟨S8448x1024, .f32⟩
  | .hbm, ⟨90, _⟩ => ⟨S8448x1024, .f32⟩
  | .hbm, ⟨91, _⟩ => ⟨S8448x1024, .f32⟩
  | .hbm, ⟨92, _⟩ => ⟨S8448x1024, .f32⟩
  | .hbm, ⟨93, _⟩ => ⟨S8448x1024, .f32⟩
  | .hbm, ⟨94, _⟩ => ⟨S1024x1024, .f32⟩
  | .hbm, ⟨95, _⟩ => ⟨S8448x1024, .f32⟩
  | .hbm, ⟨96, _⟩ => ⟨S8448x1024, .f32⟩
  | .hbm, ⟨97, _⟩ => ⟨S8448x1024, .bf16⟩
  | .hbm, ⟨98, _⟩ => ⟨S8448x2048, .bf16⟩
  | .hbm, ⟨99, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Kernel11.lean ====
abbrev S1024x1152 : Shape := ⟨2, ![1024, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S704x1024 : Shape := ⟨2, ![704, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S16x256 : Shape := ⟨2, ![16, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S3x512x1152 : Shape := ⟨3, ![3, 512, 1152]⟩
abbrev S512x4608 : Shape := ⟨2, ![512, 4608]⟩
abbrev S1024x1152 : Shape := ⟨2, ![1024, 1152]⟩
abbrev S3x256x1152 : Shape := ⟨3, ![3, 256, 1152]⟩
abbrev S256x1152 : Shape := ⟨2, ![256, 1152]⟩
abbrev S1x256x1152 : Shape := ⟨3, ![1, 256, 1152]⟩

abbrev nBuf : Space → Nat
  | .hbm => 3
  | .vmem => 6
  | .smem => 0
  | _ => 0

abbrev bufTy : (tb : Table) → Fin (tcTables nBuf tb) → BufTy
  | .hbm, ⟨0, _⟩ => ⟨S3x512x1152, .bf16⟩
  | .hbm, ⟨1, _⟩ => ⟨S512x4608, .bf16⟩
  | .hbm, ⟨2, _⟩ => ⟨S1024x1152, .f32⟩
  | .local _ .vmem, ⟨0, _⟩ => ⟨S3x256x1152, .bf16⟩
  | .local _ .vmem, ⟨1, _⟩ => ⟨S3x256x1152, .bf16⟩
  | .local _ .vmem, ⟨2, _⟩ => ⟨S256x1152, .bf16⟩
  | .local _ .vmem, ⟨3, _⟩ => ⟨S256x1152, .bf16⟩
  | .local _ .vmem, ⟨4, _⟩ => ⟨S256x1152, .f32⟩
  | .local _ .vmem, ⟨5, _⟩ => ⟨S256x1152, .f32⟩
  | _, _ => ⟨S3x512x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S3x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S3x512x1152 : Shape := ⟨3, ![3, 512, 1152]⟩
abbrev S512x4608 : Shape := ⟨2, ![512, 4608]⟩
abbrev S_ : Shape := ⟨0, ![]⟩
abbrev S512x1152 : Shape := ⟨2, ![512, 1152]⟩
abbrev S1024x1152 : Shape := ⟨2, ![1024, 1152]⟩

abbrev nBuf : Space → Nat
  | .hbm => 11
  | .vmem => 0
  | .smem => 0
  | _ => 0

abbrev bufTy : (tb : Table) → Fin (tcTables nBuf tb) → BufTy
  | .hbm, ⟨0, _⟩ => ⟨S3x512x1152, .bf16⟩
  | .hbm, ⟨1, _⟩ => ⟨S512x4608, .bf16⟩
  | .hbm, ⟨2, _⟩ => ⟨S3x512x1152, .f32⟩
  | .hbm, ⟨3, _⟩ => ⟨S_, .f32⟩
  | .hbm, ⟨4, _⟩ => ⟨S512x1152, .f32⟩
  | .hbm, ⟨5, _⟩ => ⟨S512x1152, .bf16⟩
  | .hbm, ⟨6, _⟩ => ⟨S512x1152, .f32⟩
  | .hbm, ⟨7, _⟩ => ⟨S512x1152, .f32⟩
  | .hbm, ⟨8, _⟩ => ⟨S_, .f32⟩
  | .hbm, ⟨9, _⟩ => ⟨S512x1152, .f32⟩
  | .hbm, ⟨10, _⟩ => ⟨S1024x1152, .f32⟩
  | _, _ => ⟨S3x512x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S7x512x512 : Shape := ⟨3, ![7, 512, 512]⟩
abbrev S1024x2048 : Shape := ⟨2, ![1024, 2048]⟩
abbrev S1024x512 : Shape := ⟨2, ![1024, 512]⟩
abbrev S7x256x512 : Shape := ⟨3, ![7, 256, 512]⟩
abbrev S256x512 : Shape := ⟨2, ![256, 512]⟩
abbrev S1x256x512 : Shape := ⟨3, ![1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S7x512x512, .bf16⟩
  | .hbm, ⟨1, _⟩ => ⟨S1024x2048, .f32⟩
  | .hbm, ⟨2, _⟩ => ⟨S1024x512, .f32⟩
  | .local _ .vmem, ⟨0, _⟩ => ⟨S7x256x512, .bf16⟩
  | .local _ .vmem, ⟨1, _⟩ => ⟨S7x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | _, _ => ⟨S7x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S7x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S7x512x512 : Shape := ⟨3, ![7, 512, 512]⟩
abbrev S1024x2048 : Shape := ⟨2, ![1024, 2048]⟩
abbrev S_ : Shape := ⟨0, ![]⟩
abbrev S512x512 : Shape := ⟨2, ![512, 512]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S7x512x512, .bf16⟩
  | .hbm, ⟨1, _⟩ => ⟨S1024x2048, .f32⟩
  | .hbm, ⟨2, _⟩ => ⟨S7x512x512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S1024x512, .f32⟩
  | _, _ => ⟨S7x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S7x256x512 : Shape := ⟨3, ![7, 256, 512]⟩
abbrev S1024x1024 : Shape := ⟨2, ![1024, 1024]⟩
abbrev S256x1024 : Shape := ⟨2, ![256, 1024]⟩
abbrev S256x512 : Shape := ⟨2, ![256, 512]⟩
abbrev S1x256x512 : Shape := ⟨3, ![1, 256, 512]⟩

abbrev nBuf : Space → Nat
  | .hbm => 3
  | .vmem => 3
  | .smem => 0
  | _ => 0

abbrev bufTy : (tb : Table) → Fin (tcTables nBuf tb) → BufTy
  | .hbm, ⟨0, _⟩ => ⟨S7x256x512, .bf16⟩
  | .hbm, ⟨1, _⟩ => ⟨S1024x1024, .f32⟩
  | .hbm, ⟨2, _⟩ => ⟨S256x1024, .f32⟩
  | .local _ .vmem, ⟨0, _⟩ => ⟨S7x256x512, .bf16⟩
  | .local _ .vmem, ⟨1, _⟩ => ⟨S256x512, .f32⟩
  | .local _ .vmem, ⟨2, _⟩ => ⟨S256x512, .f32⟩
  | _, _ => ⟨S7x256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S7x256x512 : Shape := ⟨3, ![7, 256, 512]⟩
abbrev S1024x1024 : Shape := ⟨2, ![1024, 1024]⟩
abbrev S_ : Shape := ⟨0, ![]⟩
abbrev S256x512 : Shape := ⟨2, ![256, 512]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S7x256x512, .bf16⟩
  | .hbm, ⟨1, _⟩ => ⟨S1024x1024, .f32⟩
  | .hbm, ⟨2, _⟩ => ⟨S7x256x512, .f32⟩
  | .hbm, ⟨3, _⟩ => ⟨S_, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x1024, .f32⟩
  | _, _ => ⟨S7x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel20.lean ====
abbrev S7x512x1408 : Shape := ⟨3, ![7, 512, 1408]⟩
abbrev S1024x5632 : Shape := ⟨2, ![1024, 5632]⟩
abbrev S1024x1408 : Shape := ⟨2, ![1024, 1408]⟩
abbrev S7x256x1408 : Shape := ⟨3, ![7, 256, 1408]⟩
abbrev S256x1408 : Shape := ⟨2, ![256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S7x512x1408, .bf16⟩
  | .hbm, ⟨1, _⟩ => ⟨S1024x5632, .f32⟩
  | .hbm, ⟨2, _⟩ => ⟨S1024x1408, .f32⟩
  | .local _ .vmem, ⟨0, _⟩ => ⟨S7x256x1408, .bf16⟩
  | .local _ .vmem, ⟨1, _⟩ => ⟨S7x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | _, _ => ⟨S7x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S7x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S7x512x1408 : Shape := ⟨3, ![7, 512, 1408]⟩
abbrev S1024x5632 : Shape := ⟨2, ![1024, 5632]⟩
abbrev S_ : Shape := ⟨0, ![]⟩
abbrev S512x1408 : Shape := ⟨2, ![512, 1408]⟩
abbrev S1024x1408 : Shape := ⟨2, ![1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S7x512x1408, .bf16⟩
  | .hbm, ⟨1, _⟩ => ⟨S1024x5632, .f32⟩
  | .hbm, ⟨2, _⟩ => ⟨S7x512x1408, .f32⟩
  | .hbm, ⟨3, _⟩ => ⟨S_, .f32⟩
  | .hbm, ⟨4, _⟩ => ⟨S512x1408, .f32⟩
  | .hbm, ⟨5, _⟩ => ⟨S512x1408, .f32⟩
  | .hbm, ⟨6, _⟩ => ⟨S512x1408, .f32⟩
  | .hbm, ⟨7, _⟩ => ⟨S_, .f32⟩
  | .hbm, ⟨8, _⟩ => ⟨S512x1408, .f32⟩
  | .hbm, ⟨9, _⟩ => ⟨S1024x1408, .f32⟩
  | _, _ => ⟨S7x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel21.lean ====
abbrev S7x704x512 : Shape := ⟨3, ![7, 704, 512]⟩
abbrev S2816x1024 : Shape := ⟨2, ![2816, 1024]⟩
abbrev S704x1024 : Shape := ⟨2, ![704, 1024]⟩
abbrev S7x64x512 : Shape := ⟨3, ![7, 64, 512]⟩
abbrev S64x512 : Shape := ⟨2, ![64, 512]⟩
abbrev S1x64x512 : Shape := ⟨3, ![1, 64, 512]⟩

abbrev nBuf : Space → Nat
  | .hbm => 3
  | .vmem => 6
  | .smem => 0
  | _ => 0

abbrev bufTy : (tb : Table) → Fin (tcTables nBuf tb) → BufTy
  | .hbm, ⟨0, _⟩ => ⟨S7x704x512, .bf16⟩
  | .hbm, ⟨1, _⟩ => ⟨S2816x1024, .f32⟩
  | .hbm, ⟨2, _⟩ => ⟨S704x1024, .f32⟩
  | .local _ .vmem, ⟨0, _⟩ => ⟨S7x64x512, .bf16⟩
  | .local _ .vmem, ⟨1, _⟩ => ⟨S7x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | _, _ => ⟨S7x704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S7x704x512 : Shape := ⟨3, ![7, 704, 512]⟩
abbrev S2816x1024 : Shape := ⟨2, ![2816, 1024]⟩
abbrev S_ : Shape := ⟨0, ![]⟩
abbrev S704x512 : Shape := ⟨2, ![704, 512]⟩
abbrev S704x1024 : Shape := ⟨2, ![704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S7x704x512, .bf16⟩
  | .hbm, ⟨1, _⟩ => ⟨S2816x1024, .f32⟩
  | .hbm, ⟨2, _⟩ => ⟨S7x704x512, .f32⟩
  | .hbm, ⟨3, _⟩ => ⟨S_, .f32⟩
  | .hbm, ⟨4, _⟩ => ⟨S704x512, .f32⟩
  | .hbm, ⟨5, _⟩ => ⟨S704x512, .f32⟩
  | .hbm, ⟨6, _⟩ => ⟨S704x512, .f32⟩
  | .hbm, ⟨7, _⟩ => ⟨S_, .f32⟩
  | .hbm, ⟨8, _⟩ => ⟨S704x512, .f32⟩
  | .hbm, ⟨9, _⟩ => ⟨S704x1024, .f32⟩
  | _, _ => ⟨S7x704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Adam.lean ====
/- The optimiser's step of one weight, over the extended reals. -/
module

public import Idealize.ShloMosaic.PureOps.IdealRules

@[expose] public section

set_option maxRecDepth 16384

noncomputable section

namespace Cert.Adam

open Idealize.ShloMosaic

/-- The first moment after the step. -/
def AM (m g : EReal) : EReal := Ideal.ofBits .f32 0x3F666666#32 * m + Ideal.ofBits .f32 0x3DCCCCCD#32 * g
/-- The second moment after the step. -/
def AV (v g : EReal) : EReal := Ideal.ofBits .f32 0x3F7FBE77#32 * v + Ideal.ofBits .f32 0x3A83126F#32 * (g * g)
/-- The weight's change. -/
def AD (w g m v : EReal) : EReal := Ideal.ofBits .f32 0xBA83126F#32 *
  (Ideal.div (Ideal.div (AM m g) (Ideal.ofBits .f32 0x3F26BD02#32)) (Ideal.sqrt (Ideal.div (AV v g) (Ideal.ofBits .f32 0x3C231ACC#32)) + Ideal.ofBits .f32 0x322BCC77#32)
    + Ideal.ofBits .f32 0x3C23D70A#32 * w)

variable {s : Shape}
def AMs (m g : s.Idx → EReal) : s.Idx → EReal := fun j => AM (m j) (g j)
def AVs (v g : s.Idx → EReal) : s.Idx → EReal := fun j => AV (v j) (g j)
def ADs (w g m v : s.Idx → EReal) : s.Idx → EReal := fun j => AD (w j) (g j) (m j) (v j)

end Cert.Adam

end
-- ==== Proof.Ad11.lean ====
/- The optimiser's step of the input weight. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Adam
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Adam11

open Idealize.ShloMosaic Idealize.ShloMosaic.TcCoe Idealize.SL.Sem Cert.Adam
open Idealize.ShloMosaic.Pipeline (Dat)

section
open Cert.Kernel11Ideal Cert.Kernel11Ideal.Gen

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of block `t`, as a row of the arrays. -/
def rr (t : Fin cfg0.N) (r : Fin 256) : Fin 1024 := ⟨t.val * 256 + r.val, by have := lt_of_lt_of_eq t.isLt N_0; omega⟩
/-- Block `t` of an array. -/
def TL (x : S1024x1152.Idx → EReal) (t : Fin cfg0.N) : S256x1152.Idx → EReal := fun j => x (ix2 (rr t (j 0)) (j 1))

theorem pay1 (g m : S256x1152.Idx → EReal) : k0_pay1 (F := Ideal) g m = AMs m g := by
  funext j
  pointwise [k0_pay1]
  rfl
theorem pay2 (g v : S256x1152.Idx → EReal) : k0_pay2 (F := Ideal) g v = AVs v g := by
  funext j
  pointwise [k0_pay2]
  rfl
theorem pay3 (g w m v : S256x1152.Idx → EReal) : k0_pay3 (F := Ideal) g w m v = ADs w g m v := by
  rw [k0_pay3, pay1, pay2]
  funext j
  pointwise
  rfl
variable (m : (ℓ : Loc nD τ sig) → Buf (Elt Ideal) ℓ) {c : Dev nD} {w g a v : S1024x1152.Idx → EReal}

/-- The arguments. -/
structure KArgs (m : (ℓ : Loc nD τ sig) → Buf (Elt Ideal) ℓ) (c : Dev nD) (w g a v : S1024x1152.Idx → EReal) : Prop where
  h0 : m ((c : Thread nD τ).loc main_arg0) = w
  h1 : m ((c : Thread nD τ).loc main_arg1) = g
  h2 : m ((c : Thread nD τ).loc main_arg2) = a
  h3 : m ((c : Thread nD τ).loc main_arg3) = v

variable (h : KArgs m c w g a v) (t : Fin cfg0.N)
include h

theorem b0 : iblk m c 0 t = (TL w t : S256x1152.Idx → EReal) := by
  funext i
  unfold TL
  rw [← h.h0]
  blk_ext [iblk, V, idx t]
  rfl
theorem b1 : iblk m c 1 t = (TL g t : S256x1152.Idx → EReal) := by
  funext i
  unfold TL
  rw [← h.h1]
  blk_ext [iblk, V, idx t]
  rfl
theorem b2 : iblk m c 2 t = (TL a t : S256x1152.Idx → EReal) := by
  funext i
  unfold TL
  rw [← h.h2]
  blk_ext [iblk, V, idx t]
  rfl
theorem b3 : iblk m c 3 t = (TL v t : S256x1152.Idx → EReal) := by
  funext i
  unfold TL
  rw [← h.h3]
  blk_ext [iblk, V, idx t]
  rfl
theorem f4 : (dats m 0 c).arrAt 4 (cfgs 0).N = (g : S1024x1152.Idx → EReal) := by
  refine (dats m 0 c).arrAt_eq_of_covers 4 _ (by decide +kernel) fun t hf q => ?_
  blk_simp
  have o : (dats m 0 c).after 4 t = (TL g t : S256x1152.Idx → EReal) := by
    rw [after0_4, b0 m h t, b1 m h t, b2 m h t, b3 m h t]
    unfold out0_4
    frame_out
  rw [o]
  obtain ⟨r, k, rfl⟩ : ∃ r k, q = ix2 r k := ⟨_, _, eq_ix2 q⟩
  have e : (win0_4.blk t).view.emb (ix2 r k) = ix2 (rr t r) k := by
    blk_ext [idx t] <;> rfl
  rw [e]
  rfl
theorem f5 : (dats m 0 c).arrAt 5 (cfgs 0).N = (ADs w g a v : S1024x1152.Idx → EReal) := by
  refine (dats m 0 c).arrAt_eq_of_covers 5 _ (by decide +kernel) fun t hf q => ?_
  blk_simp
  have o : (dats m 0 c).after 5 t = (ADs (TL w t) (TL g t) (TL a t) (TL v t) : S256x1152.Idx → EReal) := by
    rw [after0_5, b0 m h t, b1 m h t, b2 m h t, b3 m h t]
    unfold out0_5
    frame_out
    rw [pay3]
  rw [o]
  obtain ⟨r, k, rfl⟩ : ∃ r k, q = ix2 r k := ⟨_, _, eq_ix2 q⟩
  have e : (win0_5.blk t).view.emb (ix2 r k) = ix2 (rr t r) k := by
    blk_ext [idx t] <;> rfl
  rw [e]
  rfl
theorem f6 : (dats m 0 c).arrAt 6 (cfgs 0).N = (AMs a g : S1024x1152.Idx → EReal) := by
  refine (dats m 0 c).arrAt_eq_of_covers 6 _ (by decide +kernel) fun t hf q => ?_
  blk_simp
  have o : (dats m 0 c).after 6 t = (AMs (TL a t) (TL g t) : S256x1152.Idx → EReal) := by
    rw [after0_6, b0 m h t, b1 m h t, b2 m h t, b3 m h t]
    unfold out0_6
    frame_out
    rw [pay1]
  rw [o]
  obtain ⟨r, k, rfl⟩ : ∃ r k, q = ix2 r k := ⟨_, _, eq_ix2 q⟩
  have e : (win0_6.blk t).view.emb (ix2 r k) = ix2 (rr t r) k := by
    blk_ext [idx t] <;> rfl
  rw [e]
  rfl
theorem f7 : (dats m 0 c).arrAt 7 (cfgs 0).N = (AVs v g : S1024x1152.Idx → EReal) := by
  refine (dats m 0 c).arrAt_eq_of_covers 7 _ (by decide +kernel) fun t hf q => ?_
  blk_simp
  have o : (dats m 0 c).after 7 t = (AVs (TL v t) (TL g t) : S256x1152.Idx → EReal) := by
    rw [after0_7, b0 m h t, b1 m h t, b2 m h t, b3 m h t]
    unfold out0_7
    frame_out
    rw [pay2]
  rw [o]
  obtain ⟨r, k, rfl⟩ : ∃ r k, q = ix2 r k := ⟨_, _, eq_ix2 q⟩
  have e : (win0_7.blk t).view.emb (ix2 r k) = ix2 (rr t r) k := by
    blk_ext [idx t] <;> rfl
  rw [e]
  rfl

end

theorem algebraic : Cert.algebraic_Kernel11Ideal_Reference11Ideal (hKernel11Ideal := Cert.Kernel11Ideal.Gen.facts)
    (hReference11Ideal := Cert.Reference11Ideal.Gen.facts) := by
  intro m g m' g' _ e
  have hK : ∀ c, KArgs m c _ _ _ _ := fun c => ⟨rfl, rfl, rfl, rfl⟩
  refine ⟨_, _, _, _, Cert.Kernel11Ideal.Value.run_blocks m g, ?_⟩
  refine (θ_run Cert.Reference11Ideal.defs _ _).mono (fun r h c => ?_) (Cert.Reference11Ideal.Value.run m' g')
  obtain ⟨o0, o1, o2, o3, k⟩ := h c
  obtain ⟨a0, a1, a2, a3⟩ := e c
  refine ⟨o0.trans ?_, o1.trans ?_, o2.trans ?_, o3.trans ?_, k⟩
  · rw [a1]
    exact (f4 m (hK c)).symm
  · rw [a0, a1, a2, a3]
    refine Eq.trans ?_ (f5 m (hK c)).symm
    funext j
    obtain ⟨r, k, rfl⟩ : ∃ r k, j = ix2 r k := ⟨_, _, eq_ix2 j⟩
    pointwise
    rfl
  · rw [a1, a2]
    refine Eq.trans ?_ (f6 m (hK c)).symm
    funext j
    obtain ⟨r, k, rfl⟩ : ∃ r k, j = ix2 r k := ⟨_, _, eq_ix2 j⟩
    pointwise
    rfl
  · rw [a1, a3]
    refine Eq.trans ?_ (f7 m (hK c)).symm
    funext j
    obtain ⟨r, k, rfl⟩ : ∃ r k, j = ix2 r k := ⟨_, _, eq_ix2 j⟩
    pointwise
    rfl

/-- The reference's run changes no argument and leaves every counter at zero. -/
theorem frame_r : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run m ρ)

end Cert.Adam11

end
-- ==== Proof.Ad12.lean ====
/- The optimiser's step of the gated unit's weight. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Adam
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Adam12

open Idealize.ShloMosaic Idealize.ShloMosaic.TcCoe Idealize.SL.Sem Cert.Adam
open Idealize.ShloMosaic.Pipeline (Dat)

section
open Cert.Kernel12Ideal Cert.Kernel12Ideal.Gen

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of block `t`, as a row of the arrays. -/
def rr (t : Fin cfg0.N) (r : Fin 256) : Fin 1024 := ⟨t.val * 256 + r.val, by have := lt_of_lt_of_eq t.isLt N_0; omega⟩
/-- Block `t` of an array. -/
def TL (x : S1024x512.Idx → EReal) (t : Fin cfg0.N) : S256x512.Idx → EReal := fun j => x (ix2 (rr t (j 0)) (j 1))

theorem pay1 (g m : S256x512.Idx → EReal) : k0_pay1 (F := Ideal) g m = AMs m g := by
  funext j
  pointwise [k0_pay1]
  rfl
theorem pay2 (g v : S256x512.Idx → EReal) : k0_pay2 (F := Ideal) g v = AVs v g := by
  funext j
  pointwise [k0_pay2]
  rfl
theorem pay3 (g w m v : S256x512.Idx → EReal) : k0_pay3 (F := Ideal) g w m v = ADs w g m v := by
  rw [k0_pay3, pay1, pay2]
  funext j
  pointwise
  rfl
variable (m : (ℓ : Loc nD τ sig) → Buf (Elt Ideal) ℓ) {c : Dev nD} {w g a v : S1024x512.Idx → EReal}

/-- The arguments. -/
structure KArgs (m : (ℓ : Loc nD τ sig) → Buf (Elt Ideal) ℓ) (c : Dev nD) (w g a v : S1024x512.Idx → EReal) : Prop where
  h0 : m ((c : Thread nD τ).loc main_arg0) = w
  h1 : m ((c : Thread nD τ).loc main_arg1) = g
  h2 : m ((c : Thread nD τ).loc main_arg2) = a
  h3 : m ((c : Thread nD τ).loc main_arg3) = v

variable (h : KArgs m c w g a v) (t : Fin cfg0.N)
include h

theorem b0 : iblk m c 0 t = (TL w t : S256x512.Idx → EReal) := by
  funext i
  unfold TL
  rw [← h.h0]
  blk_ext [iblk, V, idx t]
  rfl
theorem b1 : iblk m c 1 t = (TL g t : S256x512.Idx → EReal) := by
  funext i
  unfold TL
  rw [← h.h1]
  blk_ext [iblk, V, idx t]
  rfl
theorem b2 : iblk m c 2 t = (TL a t : S256x512.Idx → EReal) := by
  funext i
  unfold TL
  rw [← h.h2]
  blk_ext [iblk, V, idx t]
  rfl
theorem b3 : iblk m c 3 t = (TL v t : S256x512.Idx → EReal) := by
  funext i
  unfold TL
  rw [← h.h3]
  blk_ext [iblk, V, idx t]
  rfl
theorem f4 : (dats m 0 c).arrAt 4 (cfgs 0).N = (g : S1024x512.Idx → EReal) := by
  refine (dats m 0 c).arrAt_eq_of_covers 4 _ (by decide +kernel) fun t hf q => ?_
  blk_simp
  have o : (dats m 0 c).after 4 t = (TL g t : S256x512.Idx → EReal) := by
    rw [after0_4, b0 m h t, b1 m h t, b2 m h t, b3 m h t]
    unfold out0_4
    frame_out
  rw [o]
  obtain ⟨r, k, rfl⟩ : ∃ r k, q = ix2 r k := ⟨_, _, eq_ix2 q⟩
  have e : (win0_4.blk t).view.emb (ix2 r k) = ix2 (rr t r) k := by
    blk_ext [idx t] <;> rfl
  rw [e]
  rfl
theorem f5 : (dats m 0 c).arrAt 5 (cfgs 0).N = (ADs w g a v : S1024x512.Idx → EReal) := by
  refine (dats m 0 c).arrAt_eq_of_covers 5 _ (by decide +kernel) fun t hf q => ?_
  blk_simp
  have o : (dats m 0 c).after 5 t = (ADs (TL w t) (TL g t) (TL a t) (TL v t) : S256x512.Idx → EReal) := by
    rw [after0_5, b0 m h t, b1 m h t, b2 m h t, b3 m h t]
    unfold out0_5
    frame_out
    rw [pay3]
  rw [o]
  obtain ⟨r, k, rfl⟩ : ∃ r k, q = ix2 r k := ⟨_, _, eq_ix2 q⟩
  have e : (win0_5.blk t).view.emb (ix2 r k) = ix2 (rr t r) k := by
    blk_ext [idx t] <;> rfl
  rw [e]
  rfl
theorem f6 : (dats m 0 c).arrAt 6 (cfgs 0).N = (AMs a g : S1024x512.Idx → EReal) := by
  refine (dats m 0 c).arrAt_eq_of_covers 6 _ (by decide +kernel) fun t hf q => ?_
  blk_simp
  have o : (dats m 0 c).after 6 t = (AMs (TL a t) (TL g t) : S256x512.Idx → EReal) := by
    rw [after0_6, b0 m h t, b1 m h t, b2 m h t, b3 m h t]
    unfold out0_6
    frame_out
    rw [pay1]
  rw [o]
  obtain ⟨r, k, rfl⟩ : ∃ r k, q = ix2 r k := ⟨_, _, eq_ix2 q⟩
  have e : (win0_6.blk t).view.emb (ix2 r k) = ix2 (rr t r) k := by
    blk_ext [idx t] <;> rfl
  rw [e]
  rfl
theorem f7 : (dats m 0 c).arrAt 7 (cfgs 0).N = (AVs v g : S1024x512.Idx → EReal) := by
  refine (dats m 0 c).arrAt_eq_of_covers 7 _ (by decide +kernel) fun t hf q => ?_
  blk_simp
  have o : (dats m 0 c).after 7 t = (AVs (TL v t) (TL g t) : S256x512.Idx → EReal) := by
    rw [after0_7, b0 m h t, b1 m h t, b2 m h t, b3 m h t]
    unfold out0_7
    frame_out
    rw [pay2]
  rw [o]
  obtain ⟨r, k, rfl⟩ : ∃ r k, q = ix2 r k := ⟨_, _, eq_ix2 q⟩
  have e : (win0_7.blk t).view.emb (ix2 r k) = ix2 (rr t r) k := by
    blk_ext [idx t] <;> rfl
  rw [e]
  rfl

end

theorem algebraic : Cert.algebraic_Kernel12Ideal_Reference12Ideal (hKernel12Ideal := Cert.Kernel12Ideal.Gen.facts)
    (hReference12Ideal := Cert.Reference12Ideal.Gen.facts) := by
  intro m g m' g' _ e
  have hK : ∀ c, KArgs m c _ _ _ _ := fun c => ⟨rfl, rfl, rfl, rfl⟩
  refine ⟨_, _, _, _, Cert.Kernel12Ideal.Value.run_blocks m g, ?_⟩
  refine (θ_run Cert.Reference12Ideal.defs _ _).mono (fun r h c => ?_) (Cert.Reference12Ideal.Value.run m' g')
  obtain ⟨o0, o1, o2, o3, k⟩ := h c
  obtain ⟨a0, a1, a2, a3⟩ := e c
  refine ⟨o0.trans ?_, o1.trans ?_, o2.trans ?_, o3.trans ?_, k⟩
  · rw [a1]
    exact (f4 m (hK c)).symm
  · rw [a0, a1, a2, a3]
    refine Eq.trans ?_ (f5 m (hK c)).symm
    funext j
    obtain ⟨r, k, rfl⟩ : ∃ r k, j = ix2 r k := ⟨_, _, eq_ix2 j⟩
    pointwise
    rfl
  · rw [a1, a2]
    refine Eq.trans ?_ (f6 m (hK c)).symm
    funext j
    obtain ⟨r, k, rfl⟩ : ∃ r k, j = ix2 r k := ⟨_, _, eq_ix2 j⟩
    pointwise
    rfl
  · rw [a1, a3]
    refine Eq.trans ?_ (f7 m (hK c)).symm
    funext j
    obtain ⟨r, k, rfl⟩ : ∃ r k, j = ix2 r k := ⟨_, _, eq_ix2 j⟩
    pointwise
    rfl

/-- The reference's run changes no argument and leaves every counter at zero. -/
theorem frame_r : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run m ρ)

end Cert.Adam12

end
-- ==== Proof.Ad13.lean ====
/- The optimiser's step of the output weight. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Adam
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Adam13

open Idealize.ShloMosaic Idealize.ShloMosaic.TcCoe Idealize.SL.Sem Cert.Adam
open Idealize.ShloMosaic.Pipeline (Dat)

section
open Cert.Kernel13Ideal Cert.Kernel13Ideal.Gen

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- Row `r` of block `t`, as a row of the arrays. -/
def rr (t : Fin cfg0.N) (r : Fin 256) : Fin 256 := r
/-- Block `t` of an array. -/
def TL (x : S256x1024.Idx → EReal) (t : Fin cfg0.N) : S256x1024.Idx → EReal := fun j => x (ix2 (rr t (j 0)) (j 1))

theorem pay1 (g m : S256x1024.Idx → EReal) : k0_pay1 (F := Ideal) g m = AMs m g := by
  funext j
  pointwise [k0_pay1]
  rfl
theorem pay2 (g v : S256x1024.Idx → EReal) : k0_pay2 (F := Ideal) g v = AVs v g := by
  funext j
  pointwise [k0_pay2]
  rfl
theorem pay3 (g w m v : S256x1024.Idx → EReal) : k0_pay3 (F := Ideal) g w m v = ADs w g m v := by
  rw [k0_pay3, pay1, pay2]
  funext j
  pointwise
  rfl
variable (m : (ℓ : Loc nD τ sig) → Buf (Elt Ideal) ℓ) {c : Dev nD} {w g a v : S256x1024.Idx → EReal}

/-- The arguments. -/
structure KArgs (m : (ℓ : Loc nD τ sig) → Buf (Elt Ideal) ℓ) (c : Dev nD) (w g a v : S256x1024.Idx → EReal) : Prop where
  h0 : m ((c : Thread nD τ).loc main_arg0) = w
  h1 : m ((c : Thread nD τ).loc main_arg1) = g
  h2 : m ((c : Thread nD τ).loc main_arg2) = a
  h3 : m ((c : Thread nD τ).loc main_arg3) = v

variable (h : KArgs m c w g a v) (t : Fin cfg0.N)
include h

theorem b0 : iblk m c 0 t = (TL w t : S256x1024.Idx → EReal) := by
  funext i
  unfold TL
  rw [← h.h0]
  blk_ext [iblk, V, idx t]
  rfl
theorem b1 : iblk m c 1 t = (TL g t : S256x1024.Idx → EReal) := by
  funext i
  unfold TL
  rw [← h.h1]
  blk_ext [iblk, V, idx t]
  rfl
theorem b2 : iblk m c 2 t = (TL a t : S256x1024.Idx → EReal) := by
  funext i
  unfold TL
  rw [← h.h2]
  blk_ext [iblk, V, idx t]
  rfl
theorem b3 : iblk m c 3 t = (TL v t : S256x1024.Idx → EReal) := by
  funext i
  unfold TL
  rw [← h.h3]
  blk_ext [iblk, V, idx t]
  rfl
theorem f4 : (dats m 0 c).arrAt 4 (cfgs 0).N = (g : S256x1024.Idx → EReal) := by
  refine (dats m 0 c).arrAt_eq_of_covers 4 _ (by decide +kernel) fun t hf q => ?_
  blk_simp
  have o : (dats m 0 c).after 4 t = (TL g t : S256x1024.Idx → EReal) := by
    rw [after0_4, b0 m h t, b1 m h t, b2 m h t, b3 m h t]
    unfold out0_4
    frame_out
  rw [o]
  obtain ⟨r, k, rfl⟩ : ∃ r k, q = ix2 r k := ⟨_, _, eq_ix2 q⟩
  have e : (win0_4.blk t).view.emb (ix2 r k) = ix2 (rr t r) k := by
    blk_ext [idx t] <;> rfl
  rw [e]
  rfl
theorem f5 : (dats m 0 c).arrAt 5 (cfgs 0).N = (ADs w g a v : S256x1024.Idx → EReal) := by
  refine (dats m 0 c).arrAt_eq_of_covers 5 _ (by decide +kernel) fun t hf q => ?_
  blk_simp
  have o : (dats m 0 c).after 5 t = (ADs (TL w t) (TL g t) (TL a t) (TL v t) : S256x1024.Idx → EReal) := by
    rw [after0_5, b0 m h t, b1 m h t, b2 m h t, b3 m h t]
    unfold out0_5
    frame_out
    rw [pay3]
  rw [o]
  obtain ⟨r, k, rfl⟩ : ∃ r k, q = ix2 r k := ⟨_, _, eq_ix2 q⟩
  have e : (win0_5.blk t).view.emb (ix2 r k) = ix2 (rr t r) k := by
    blk_ext [idx t] <;> rfl
  rw [e]
  rfl
theorem f6 : (dats m 0 c).arrAt 6 (cfgs 0).N = (AMs a g : S256x1024.Idx → EReal) := by
  refine (dats m 0 c).arrAt_eq_of_covers 6 _ (by decide +kernel) fun t hf q => ?_
  blk_simp
  have o : (dats m 0 c).after 6 t = (AMs (TL a t) (TL g t) : S256x1024.Idx → EReal) := by
    rw [after0_6, b0 m h t, b1 m h t, b2 m h t, b3 m h t]
    unfold out0_6
    frame_out
    rw [pay1]
  rw [o]
  obtain ⟨r, k, rfl⟩ : ∃ r k, q = ix2 r k := ⟨_, _, eq_ix2 q⟩
  have e : (win0_6.blk t).view.emb (ix2 r k) = ix2 (rr t r) k := by
    blk_ext [idx t] <;> rfl
  rw [e]
  rfl
theorem f7 : (dats m 0 c).arrAt 7 (cfgs 0).N = (AVs v g : S256x1024.Idx → EReal) := by
  refine (dats m 0 c).arrAt_eq_of_covers 7 _ (by decide +kernel) fun t hf q => ?_
  blk_simp
  have o : (dats m 0 c).after 7 t = (AVs (TL v t) (TL g t) : S256x1024.Idx → EReal) := by
    rw [after0_7, b0 m h t, b1 m h t, b2 m h t, b3 m h t]
    unfold out0_7
    frame_out
    rw [pay2]
  rw [o]
  obtain ⟨r, k, rfl⟩ : ∃ r k, q = ix2 r k := ⟨_, _, eq_ix2 q⟩
  have e : (win0_7.blk t).view.emb (ix2 r k) = ix2 (rr t r) k := by
    blk_ext [idx t] <;> rfl
  rw [e]
  rfl

end

theorem algebraic : Cert.algebraic_Kernel13Ideal_Reference13Ideal (hKernel13Ideal := Cert.Kernel13Ideal.Gen.facts)
    (hReference13Ideal := Cert.Reference13Ideal.Gen.facts) := by
  intro m g m' g' _ e
  have hK : ∀ c, KArgs m c _ _ _ _ := fun c => ⟨rfl, rfl, rfl, rfl⟩
  refine ⟨_, _, _, _, Cert.Kernel13Ideal.Value.run_blocks m g, ?_⟩
  refine (θ_run Cert.Reference13Ideal.defs _ _).mono (fun r h c => ?_) (Cert.Reference13Ideal.Value.run m' g')
  obtain ⟨o0, o1, o2, o3, k⟩ := h c
  obtain ⟨a0, a1, a2, a3⟩ := e c
  refine ⟨o0.trans ?_, o1.trans ?_, o2.trans ?_, o3.trans ?_, k⟩
  · rw [a1]
    exact (f4 m (hK c)).symm
  · rw [a0, a1, a2, a3]
    refine Eq.trans ?_ (f5 m (hK c)).symm
    funext j
    obtain ⟨r, k, rfl⟩ : ∃ r k, j = ix2 r k := ⟨_, _, eq_ix2 j⟩
    pointwise
    rfl
  · rw [a1, a2]
    refine Eq.trans ?_ (f6 m (hK c)).symm
    funext j
    obtain ⟨r, k, rfl⟩ : ∃ r k, j = ix2 r k := ⟨_, _, eq_ix2 j⟩
    pointwise
    rfl
  · rw [a1, a3]
    refine Eq.trans ?_ (f7 m (hK c)).symm
    funext j
    obtain ⟨r, k, rfl⟩ : ∃ r k, j = ix2 r k := ⟨_, _, eq_ix2 j⟩
    pointwise
    rfl

/-- The reference's run changes no argument and leaves every counter at zero. -/
theorem frame_r : Cert.quiescent_Reference13Ideal (hReference13Ideal := Cert.Reference13Ideal.Gen.facts) := fun m ρ _ =>
  (θ_run Cert.Reference13Ideal.defs _ _).mono (fun r h => ⟨fun c => (h c).2.2.2.2, sem_eq_zero_of_no_sems (by decide) r.2⟩)
    (Cert.Reference13Ideal.Value.run m ρ)

end Cert.Adam13

end
-- ==== Proof.Ad14.lean ====
/- The optimiser's step of the feed-forward layer's first weight. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Adam
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Adam14

open Idealize.ShloMosaic Idealize.ShloMosaic.TcCoe Idealize.SL.Sem Cert.Adam
open Idealize.ShloMosaic.Pipeline (Dat)

section
open Cert.Kernel14Ideal Cert.Kernel14Ideal.Gen

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of block `t`, as a row of the arrays. -/
def rr (t : Fin cfg0.N) (r : Fin 256) : Fin 1024 := ⟨t.val * 256 + r.val, by have := lt_of_lt_of_eq t.isLt N_0; omega⟩
/-- Block `t` of an array. -/
def TL (x : S1024x1408.Idx → EReal) (t : Fin cfg0.N) : S256x1408.Idx → EReal := fun j => x (ix2 (rr t (j 0)) (j 1))

theorem pay1 (g m : S256x1408.Idx → EReal) : k0_pay1 (F := Ideal) g m = AMs m g := by
  funext j
  pointwise [k0_pay1]
  rfl
theorem pay2 (g v : S256x1408.Idx → EReal) : k0_pay2 (F := Ideal) g v = AVs v g := by
  funext j
  pointwise [k0_pay2]
  rfl
theorem pay3 (g w m v : S256x1408.Idx → EReal) : k0_pay3 (F := Ideal) g w m v = ADs w g m v := by
  rw [k0_pay3, pay1, pay2]
  funext j
  pointwise
  rfl
variable (m : (ℓ : Loc nD τ sig) → Buf (Elt Ideal) ℓ) {c : Dev nD} {w g a v : S1024x1408.Idx → EReal}

/-- The arguments. -/
structure KArgs (m : (ℓ : Loc nD τ sig) → Buf (Elt Ideal) ℓ) (c : Dev nD) (w g a v : S1024x1408.Idx → EReal) : Prop where
  h0 : m ((c : Thread nD τ).loc main_arg0) = w
  h1 : m ((c : Thread nD τ).loc main_arg1) = g
  h2 : m ((c : Thread nD τ).loc main_arg2) = a
  h3 : m ((c : Thread nD τ).loc main_arg3) = v

variable (h : KArgs m c w g a v) (t : Fin cfg0.N)
include h

theorem b0 : iblk m c 0 t = (TL w t : S256x1408.Idx → EReal) := by
  funext i
  unfold TL
  rw [← h.h0]
  blk_ext [iblk, V, idx t]
  rfl
theorem b1 : iblk m c 1 t = (TL g t : S256x1408.Idx → EReal) := by
  funext i
  unfold TL
  rw [← h.h1]
  blk_ext [iblk, V, idx t]
  rfl
theorem b2 : iblk m c 2 t = (TL a t : S256x1408.Idx → EReal) := by
  funext i
  unfold TL
  rw [← h.h2]
  blk_ext [iblk, V, idx t]
  rfl
theorem b3 : iblk m c 3 t = (TL v t : S256x1408.Idx → EReal) := by
  funext i
  unfold TL
  rw [← h.h3]
  blk_ext [iblk, V, idx t]
  rfl
theorem f4 : (dats m 0 c).arrAt 4 (cfgs 0).N = (g : S1024x1408.Idx → EReal) := by
  refine (dats m 0 c).arrAt_eq_of_covers 4 _ (by decide +kernel) fun t hf q => ?_
  blk_simp
  have o : (dats m 0 c).after 4 t = (TL g t : S256x1408.Idx → EReal) := by
    rw [after0_4, b0 m h t, b1 m h t, b2 m h t, b3 m h t]
    unfold out0_4
    frame_out
  rw [o]
  obtain ⟨r, k, rfl⟩ : ∃ r k, q = ix2 r k := ⟨_, _, eq_ix2 q⟩
  have e : (win0_4.blk t).view.emb (ix2 r k) = ix2 (rr t r) k := by
    blk_ext [idx t] <;> rfl
  rw [e]
  rfl
theorem f5 : (dats m 0 c).arrAt 5 (cfgs 0).N = (ADs w g a v : S1024x1408.Idx → EReal) := by
  refine (dats m 0 c).arrAt_eq_of_covers 5 _ (by decide +kernel) fun t hf q => ?_
  blk_simp
  have o : (dats m 0 c).after 5 t = (ADs (TL w t) (TL g t) (TL a t) (TL v t) : S256x1408.Idx → EReal) := by
    rw [after0_5, b0 m h t, b1 m h t, b2 m h t, b3 m h t]
    unfold out0_5
    frame_out
    rw [pay3]
  rw [o]
  obtain ⟨r, k, rfl⟩ : ∃ r k, q = ix2 r k := ⟨_, _, eq_ix2 q⟩
  have e : (win0_5.blk t).view.emb (ix2 r k) = ix2 (rr t r) k := by
    blk_ext [idx t] <;> rfl
  rw [e]
  rfl
theorem f6 : (dats m 0 c).arrAt 6 (cfgs 0).N = (AMs a g : S1024x1408.Idx → EReal) := by
  refine (dats m 0 c).arrAt_eq_of_covers 6 _ (by decide +kernel) fun t hf q => ?_
  blk_simp
  have o : (dats m 0 c).after 6 t = (AMs (TL a t) (TL g t) : S256x1408.Idx → EReal) := by
    rw [after0_6, b0 m h t, b1 m h t, b2 m h t, b3 m h t]
    unfold out0_6
    frame_out
    rw [pay1]
  rw [o]
  obtain ⟨r, k, rfl⟩ : ∃ r k, q = ix2 r k := ⟨_, _, eq_ix2 q⟩
  have e : (win0_6.blk t).view.emb (ix2 r k) = ix2 (rr t r) k := by
    blk_ext [idx t] <;> rfl
  rw [e]
  rfl
theorem f7 : (dats m 0 c).arrAt 7 (cfgs 0).N = (AVs v g : S1024x1408.Idx → EReal) := by
  refine (dats m 0 c).arrAt_eq_of_covers 7 _ (by decide +kernel) fun t hf q => ?_
  blk_simp
  have o : (dats m 0 c).after 7 t = (AVs (TL v t) (TL g t) : S256x1408.Idx → EReal) := by
    rw [after0_7, b0 m h t, b1 m h t, b2 m h t, b3 m h t]
    unfold out0_7
    frame_out
    rw [pay2]
  rw [o]
  obtain ⟨r, k, rfl⟩ : ∃ r k, q = ix2 r k := ⟨_, _, eq_ix2 q⟩
  have e : (win0_7.blk t).view.emb (ix2 r k) = ix2 (rr t r) k := by
    blk_ext [idx t] <;> rfl
  rw [e]
  rfl

end

theorem algebraic : Cert.algebraic_Kernel14Ideal_Reference14Ideal (hKernel14Ideal := Cert.Kernel14Ideal.Gen.facts)
    (hReference14Ideal := Cert.Reference14Ideal.Gen.facts) := by
  intro m g m' g' _ e
  have hK : ∀ c, KArgs m c _ _ _ _ := fun c => ⟨rfl, rfl, rfl, rfl⟩
  refine ⟨_, _, _, _, Cert.Kernel14Ideal.Value.run_blocks m g, ?_⟩
  refine (θ_run Cert.Reference14Ideal.defs _ _).mono (fun r h c => ?_) (Cert.Reference14Ideal.Value.run m' g')
  obtain ⟨o0, o1, o2, o3, k⟩ := h c
  obtain ⟨a0, a1, a2, a3⟩ := e c
  refine ⟨o0.trans ?_, o1.trans ?_, o2.trans ?_, o3.trans ?_, k⟩
  · rw [a1]
    exact (f4 m (hK c)).symm
  · rw [a0, a1, a2, a3]
    refine Eq.trans ?_ (f5 m (hK c)).symm
    funext j
    obtain ⟨r, k, rfl⟩ : ∃ r k, j = ix2 r k := ⟨_, _, eq_ix2 j⟩
    pointwise
    rfl
  · rw [a1, a2]
    refine Eq.trans ?_ (f6 m (hK c)).symm
    funext j
    obtain ⟨r, k, rfl⟩ : ∃ r k, j = ix2 r k := ⟨_, _, eq_ix2 j⟩
    pointwise
    rfl
  · rw [a1, a3]
    refine Eq.trans ?_ (f7 m (hK c)).symm
    funext j
    obtain ⟨r, k, rfl⟩ : ∃ r k, j = ix2 r k := ⟨_, _, eq_ix2 j⟩
    pointwise
    rfl

/-- The reference's run changes no argument and leaves every counter at zero. -/
theorem frame_r : Cert.quiescent_Reference14Ideal (hReference14Ideal := Cert.Reference14Ideal.Gen.facts) := fun m ρ _ =>
  (θ_run Cert.Reference14Ideal.defs _ _).mono (fun r h => ⟨fun c => (h c).2.2.2.2, sem_eq_zero_of_no_sems (by decide) r.2⟩)
    (Cert.Reference14Ideal.Value.run m ρ)

end Cert.Adam14

end
-- ==== Proof.Ad15.lean ====
/- The optimiser's step of the feed-forward layer's second weight. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Adam
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Adam15

open Idealize.ShloMosaic Idealize.ShloMosaic.TcCoe Idealize.SL.Sem Cert.Adam
open Idealize.ShloMosaic.Pipeline (Dat)

section
open Cert.Kernel15Ideal Cert.Kernel15Ideal.Gen

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of block `t`, as a row of the arrays. -/
def rr (t : Fin cfg0.N) (r : Fin 64) : Fin 704 := ⟨t.val * 64 + r.val, by have := lt_of_lt_of_eq t.isLt N_0; omega⟩
/-- Block `t` of an array. -/
def TL (x : S704x1024.Idx → EReal) (t : Fin cfg0.N) : S64x1024.Idx → EReal := fun j => x (ix2 (rr t (j 0)) (j 1))

theorem pay1 (g m : S64x1024.Idx → EReal) : k0_pay1 (F := Ideal) g m = AMs m g := by
  funext j
  pointwise [k0_pay1]
  rfl
theorem pay2 (g v : S64x1024.Idx → EReal) : k0_pay2 (F := Ideal) g v = AVs v g := by
  funext j
  pointwise [k0_pay2]
  rfl
theorem pay3 (g w m v : S64x1024.Idx → EReal) : k0_pay3 (F := Ideal) g w m v = ADs w g m v := by
  rw [k0_pay3, pay1, pay2]
  funext j
  pointwise
  rfl
variable (m : (ℓ : Loc nD τ sig) → Buf (Elt Ideal) ℓ) {c : Dev nD} {w g a v : S704x1024.Idx → EReal}

/-- The arguments. -/
structure KArgs (m : (ℓ : Loc nD τ sig) → Buf (Elt Ideal) ℓ) (c : Dev nD) (w g a v : S704x1024.Idx → EReal) : Prop where
  h0 : m ((c : Thread nD τ).loc main_arg0) = w
  h1 : m ((c : Thread nD τ).loc main_arg1) = g
  h2 : m ((c : Thread nD τ).loc main_arg2) = a
  h3 : m ((c : Thread nD τ).loc main_arg3) = v

variable (h : KArgs m c w g a v) (t : Fin cfg0.N)
include h

theorem b0 : iblk m c 0 t = (TL w t : S64x1024.Idx → EReal) := by
  funext i
  unfold TL
  rw [← h.h0]
  blk_ext [iblk, V, idx t]
  rfl
theorem b1 : iblk m c 1 t = (TL g t : S64x1024.Idx → EReal) := by
  funext i
  unfold TL
  rw [← h.h1]
  blk_ext [iblk, V, idx t]
  rfl
theorem b2 : iblk m c 2 t = (TL a t : S64x1024.Idx → EReal) := by
  funext i
  unfold TL
  rw [← h.h2]
  blk_ext [iblk, V, idx t]
  rfl
theorem b3 : iblk m c 3 t = (TL v t : S64x1024.Idx → EReal) := by
  funext i
  unfold TL
  rw [← h.h3]
  blk_ext [iblk, V, idx t]
  rfl
theorem f4 : (dats m 0 c).arrAt 4 (cfgs 0).N = (g : S704x1024.Idx → EReal) := by
  refine (dats m 0 c).arrAt_eq_of_covers 4 _ (by decide +kernel) fun t hf q => ?_
  blk_simp
  have o : (dats m 0 c).after 4 t = (TL g t : S64x1024.Idx → EReal) := by
    rw [after0_4, b0 m h t, b1 m h t, b2 m h t, b3 m h t]
    unfold out0_4
    frame_out
  rw [o]
  obtain ⟨r, k, rfl⟩ : ∃ r k, q = ix2 r k := ⟨_, _, eq_ix2 q⟩
  have e : (win0_4.blk t).view.emb (ix2 r k) = ix2 (rr t r) k := by
    blk_ext [idx t] <;> rfl
  rw [e]
  rfl
theorem f5 : (dats m 0 c).arrAt 5 (cfgs 0).N = (ADs w g a v : S704x1024.Idx → EReal) := by
  refine (dats m 0 c).arrAt_eq_of_covers 5 _ (by decide +kernel) fun t hf q => ?_
  blk_simp
  have o : (dats m 0 c).after 5 t = (ADs (TL w t) (TL g t) (TL a t) (TL v t) : S64x1024.Idx → EReal) := by
    rw [after0_5, b0 m h t, b1 m h t, b2 m h t, b3 m h t]
    unfold out0_5
    frame_out
    rw [pay3]
  rw [o]
  obtain ⟨r, k, rfl⟩ : ∃ r k, q = ix2 r k := ⟨_, _, eq_ix2 q⟩
  have e : (win0_5.blk t).view.emb (ix2 r k) = ix2 (rr t r) k := by
    blk_ext [idx t] <;> rfl
  rw [e]
  rfl
theorem f6 : (dats m 0 c).arrAt 6 (cfgs 0).N = (AMs a g : S704x1024.Idx → EReal) := by
  refine (dats m 0 c).arrAt_eq_of_covers 6 _ (by decide +kernel) fun t hf q => ?_
  blk_simp
  have o : (dats m 0 c).after 6 t = (AMs (TL a t) (TL g t) : S64x1024.Idx → EReal) := by
    rw [after0_6, b0 m h t, b1 m h t, b2 m h t, b3 m h t]
    unfold out0_6
    frame_out
    rw [pay1]
  rw [o]
  obtain ⟨r, k, rfl⟩ : ∃ r k, q = ix2 r k := ⟨_, _, eq_ix2 q⟩
  have e : (win0_6.blk t).view.emb (ix2 r k) = ix2 (rr t r) k := by
    blk_ext [idx t] <;> rfl
  rw [e]
  rfl
theorem f7 : (dats m 0 c).arrAt 7 (cfgs 0).N = (AVs v g : S704x1024.Idx → EReal) := by
  refine (dats m 0 c).arrAt_eq_of_covers 7 _ (by decide +kernel) fun t hf q => ?_
  blk_simp
  have o : (dats m 0 c).after 7 t = (AVs (TL v t) (TL g t) : S64x1024.Idx → EReal) := by
    rw [after0_7, b0 m h t, b1 m h t, b2 m h t, b3 m h t]
    unfold out0_7
    frame_out
    rw [pay2]
  rw [o]
  obtain ⟨r, k, rfl⟩ : ∃ r k, q = ix2 r k := ⟨_, _, eq_ix2 q⟩
  have e : (win0_7.blk t).view.emb (ix2 r k) = ix2 (rr t r) k := by
    blk_ext [idx t] <;> rfl
  rw [e]
  rfl

end

theorem algebraic : Cert.algebraic_Kernel15Ideal_Reference15Ideal (hKernel15Ideal := Cert.Kernel15Ideal.Gen.facts)
    (hReference15Ideal := Cert.Reference15Ideal.Gen.facts) := by
  intro m g m' g' _ e
  have hK : ∀ c, KArgs m c _ _ _ _ := fun c => ⟨rfl, rfl, rfl, rfl⟩
  refine ⟨_, _, _, _, Cert.Kernel15Ideal.Value.run_blocks m g, ?_⟩
  refine (θ_run Cert.Reference15Ideal.defs _ _).mono (fun r h c => ?_) (Cert.Reference15Ideal.Value.run m' g')
  obtain ⟨o0, o1, o2, o3, k⟩ := h c
  obtain ⟨a0, a1, a2, a3⟩ := e c
  refine ⟨o0.trans ?_, o1.trans ?_, o2.trans ?_, o3.trans ?_, k⟩
  · rw [a1]
    exact (f4 m (hK c)).symm
  · rw [a0, a1, a2, a3]
    refine Eq.trans ?_ (f5 m (hK c)).symm
    funext j
    obtain ⟨r, k, rfl⟩ : ∃ r k, j = ix2 r k := ⟨_, _, eq_ix2 j⟩
    pointwise
    rfl
  · rw [a1, a2]
    refine Eq.trans ?_ (f6 m (hK c)).symm
    funext j
    obtain ⟨r, k, rfl⟩ : ∃ r k, j = ix2 r k := ⟨_, _, eq_ix2 j⟩
    pointwise
    rfl
  · rw [a1, a3]
    refine Eq.trans ?_ (f7 m (hK c)).symm
    funext j
    obtain ⟨r, k, rfl⟩ : ∃ r k, j = ix2 r k := ⟨_, _, eq_ix2 j⟩
    pointwise
    rfl

/-- The reference's run changes no argument and leaves every counter at zero. -/
theorem frame_r : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩)
    (Cert.Reference15Ideal.Value.run m ρ)

end Cert.Adam15

end
-- ==== Proof.Ad16.lean ====
/- The optimiser's step of the meta tokens. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Adam
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Adam16

open Idealize.ShloMosaic Idealize.ShloMosaic.TcCoe Idealize.SL.Sem Cert.Adam
open Idealize.ShloMosaic.Pipeline (Dat)

section
open Cert.Kernel16Ideal Cert.Kernel16Ideal.Gen

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- Row `r` of block `t`, as a row of the arrays. -/
def rr (t : Fin cfg0.N) (r : Fin 16) : Fin 16 := r
/-- Block `t` of an array. -/
def TL (x : S16x256.Idx → EReal) (t : Fin cfg0.N) : S16x256.Idx → EReal := fun j => x (ix2 (rr t (j 0)) (j 1))

theorem pay1 (g m : S16x256.Idx → EReal) : k0_pay1 (F := Ideal) g m = AMs m g := by
  funext j
  pointwise [k0_pay1]
  rfl
theorem pay2 (g v : S16x256.Idx → EReal) : k0_pay2 (F := Ideal) g v = AVs v g := by
  funext j
  pointwise [k0_pay2]
  rfl
theorem pay3 (g w m v : S16x256.Idx → EReal) : k0_pay3 (F := Ideal) g w m v = ADs w g m v := by
  rw [k0_pay3, pay1, pay2]
  funext j
  pointwise
  rfl
variable (m : (ℓ : Loc nD τ sig) → Buf (Elt Ideal) ℓ) {c : Dev nD} {w g a v : S16x256.Idx → EReal}

/-- The arguments. -/
structure KArgs (m : (ℓ : Loc nD τ sig) → Buf (Elt Ideal) ℓ) (c : Dev nD) (w g a v : S16x256.Idx → EReal) : Prop where
  h0 : m ((c : Thread nD τ).loc main_arg0) = w
  h1 : m ((c : Thread nD τ).loc main_arg1) = g
  h2 : m ((c : Thread nD τ).loc main_arg2) = a
  h3 : m ((c : Thread nD τ).loc main_arg3) = v

variable (h : KArgs m c w g a v) (t : Fin cfg0.N)
include h

theorem b0 : iblk m c 0 t = (TL w t : S16x256.Idx → EReal) := by
  funext i
  unfold TL
  rw [← h.h0]
  blk_ext [iblk, V, idx t]
  rfl
theorem b1 : iblk m c 1 t = (TL g t : S16x256.Idx → EReal) := by
  funext i
  unfold TL
  rw [← h.h1]
  blk_ext [iblk, V, idx t]
  rfl
theorem b2 : iblk m c 2 t = (TL a t : S16x256.Idx → EReal) := by
  funext i
  unfold TL
  rw [← h.h2]
  blk_ext [iblk, V, idx t]
  rfl
theorem b3 : iblk m c 3 t = (TL v t : S16x256.Idx → EReal) := by
  funext i
  unfold TL
  rw [← h.h3]
  blk_ext [iblk, V, idx t]
  rfl
theorem f4 : (dats m 0 c).arrAt 4 (cfgs 0).N = (g : S16x256.Idx → EReal) := by
  refine (dats m 0 c).arrAt_eq_of_covers 4 _ (by decide +kernel) fun t hf q => ?_
  blk_simp
  have o : (dats m 0 c).after 4 t = (TL g t : S16x256.Idx → EReal) := by
    rw [after0_4, b0 m h t, b1 m h t, b2 m h t, b3 m h t]
    unfold out0_4
    frame_out
  rw [o]
  obtain ⟨r, k, rfl⟩ : ∃ r k, q = ix2 r k := ⟨_, _, eq_ix2 q⟩
  have e : (win0_4.blk t).view.emb (ix2 r k) = ix2 (rr t r) k := by
    blk_ext [idx t] <;> rfl
  rw [e]
  rfl
theorem f5 : (dats m 0 c).arrAt 5 (cfgs 0).N = (ADs w g a v : S16x256.Idx → EReal) := by
  refine (dats m 0 c).arrAt_eq_of_covers 5 _ (by decide +kernel) fun t hf q => ?_
  blk_simp
  have o : (dats m 0 c).after 5 t = (ADs (TL w t) (TL g t) (TL a t) (TL v t) : S16x256.Idx → EReal) := by
    rw [after0_5, b0 m h t, b1 m h t, b2 m h t, b3 m h t]
    unfold out0_5
    frame_out
    rw [pay3]
  rw [o]
  obtain ⟨r, k, rfl⟩ : ∃ r k, q = ix2 r k := ⟨_, _, eq_ix2 q⟩
  have e : (win0_5.blk t).view.emb (ix2 r k) = ix2 (rr t r) k := by
    blk_ext [idx t] <;> rfl
  rw [e]
  rfl
theorem f6 : (dats m 0 c).arrAt 6 (cfgs 0).N = (AMs a g : S16x256.Idx → EReal) := by
  refine (dats m 0 c).arrAt_eq_of_covers 6 _ (by decide +kernel) fun t hf q => ?_
  blk_simp
  have o : (dats m 0 c).after 6 t = (AMs (TL a t) (TL g t) : S16x256.Idx → EReal) := by
    rw [after0_6, b0 m h t, b1 m h t, b2 m h t, b3 m h t]
    unfold out0_6
    frame_out
    rw [pay1]
  rw [o]
  obtain ⟨r, k, rfl⟩ : ∃ r k, q = ix2 r k := ⟨_, _, eq_ix2 q⟩
  have e : (win0_6.blk t).view.emb (ix2 r k) = ix2 (rr t r) k := by
    blk_ext [idx t] <;> rfl
  rw [e]
  rfl
theorem f7 : (dats m 0 c).arrAt 7 (cfgs 0).N = (AVs v g : S16x256.Idx → EReal) := by
  refine (dats m 0 c).arrAt_eq_of_covers 7 _ (by decide +kernel) fun t hf q => ?_
  blk_simp
  have o : (dats m 0 c).after 7 t = (AVs (TL v t) (TL g t) : S16x256.Idx → EReal) := by
    rw [after0_7, b0 m h t, b1 m h t, b2 m h t, b3 m h t]
    unfold out0_7
    frame_out
    rw [pay2]
  rw [o]
  obtain ⟨r, k, rfl⟩ : ∃ r k, q = ix2 r k := ⟨_, _, eq_ix2 q⟩
  have e : (win0_7.blk t).view.emb (ix2 r k) = ix2 (rr t r) k := by
    blk_ext [idx t] <;> rfl
  rw [e]
  rfl

end

theorem algebraic : Cert.algebraic_Kernel16Ideal_Reference16Ideal (hKernel16Ideal := Cert.Kernel16Ideal.Gen.facts)
    (hReference16Ideal := Cert.Reference16Ideal.Gen.facts) := by
  intro m g m' g' _ e
  have hK : ∀ c, KArgs m c _ _ _ _ := fun c => ⟨rfl, rfl, rfl, rfl⟩
  refine ⟨_, _, _, _, Cert.Kernel16Ideal.Value.run_blocks m g, ?_⟩
  refine (θ_run Cert.Reference16Ideal.defs _ _).mono (fun r h c => ?_) (Cert.Reference16Ideal.Value.run m' g')
  obtain ⟨o0, o1, o2, o3, k⟩ := h c
  obtain ⟨a0, a1, a2, a3⟩ := e c
  refine ⟨o0.trans ?_, o1.trans ?_, o2.trans ?_, o3.trans ?_, k⟩
  · rw [a1]
    exact (f4 m (hK c)).symm
  · rw [a0, a1, a2, a3]
    refine Eq.trans ?_ (f5 m (hK c)).symm
    funext j
    obtain ⟨r, k, rfl⟩ : ∃ r k, j = ix2 r k := ⟨_, _, eq_ix2 j⟩
    pointwise
    rfl
  · rw [a1, a2]
    refine Eq.trans ?_ (f6 m (hK c)).symm
    funext j
    obtain ⟨r, k, rfl⟩ : ∃ r k, j = ix2 r k := ⟨_, _, eq_ix2 j⟩
    pointwise
    rfl
  · rw [a1, a3]
    refine Eq.trans ?_ (f7 m (hK c)).symm
    funext j
    obtain ⟨r, k, rfl⟩ : ∃ r k, j = ix2 r k := ⟨_, _, eq_ix2 j⟩
    pointwise
    rfl

/-- The reference's run changes no argument and leaves every counter at zero. -/
theorem frame_r : Cert.quiescent_Reference16Ideal (hReference16Ideal := Cert.Reference16Ideal.Gen.facts) := fun m ρ _ =>
  (θ_run Cert.Reference16Ideal.defs _ _).mono (fun r h => ⟨fun c => (h c).2.2.2.2, sem_eq_zero_of_no_sems (by decide) r.2⟩)
    (Cert.Reference16Ideal.Value.run m ρ)

end Cert.Adam16

end
-- ==== Proof.Sm21.lean ====
/- The sum of the devices' gradients of the feed-forward block's output weight, on the half of the part that the call writes. -/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.On_left_half_Kernel21Ideal
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Sm21

open Idealize.ShloMosaic Idealize.ShloMosaic.TcCoe Idealize.SL.Sem

/-- A row of the written half, as a row of the result. -/
def qr (r : Fin 704) : Fin 704 := ⟨r.val, by omega⟩
/-- A column of the written half, as a column of the result. -/
def qc (k : Fin 512) : Fin 1024 := ⟨k.val, by omega⟩
/-- A row of the written half, as a row of the device's own gradient. -/
def hr (r : Fin 704) : Fin 2816 := ⟨r.val, by omega⟩
/-- A column of the written half, as a column of the device's own gradient. -/
def hc (k : Fin 512) : Fin 1024 := ⟨k.val, by omega⟩

section
open Cert.Reference21Ideal Cert.Reference21Ideal.Gen

/-- The reference's result. -/
def REF (x : S7x704x512.Idx → EReal) (y : S2816x1024.Idx → EReal) : S704x1024.Idx → EReal :=
  (concatenate S704x1024 1 [⟨S704x512, (addf (F := Ideal) (Host.reduceAdd (extf .f32 (x : FVec Ideal S7x704x512 .bf16) bitsLt_bf16_f32) (constant (F := Ideal) S_ .f32 0x00000000#32) reducesTo_S7x704x512_S704x512_d0 h_S_) (extractStridedSlice S704x512 ![0, 0] (y : FVec Ideal S2816x1024 .f32) slices_S2816x1024_S704x512_0_0))⟩, ⟨S704x512, (broadcastInDim S704x512 ![] bcast_S_S704x512 (constant (F := Ideal) S_ .f32 0x00000000#32) : FVec Ideal S704x512 .f32)⟩] concatenates_S704x512_S704x512_S704x1024_d1 : FVec Ideal S704x1024 .f32)

theorem assoc8 (a b c d e f g h : EReal) : a + b + c + d + e + f + g + h = ((a + b) + (c + d)) + ((e + f) + (g + h)) := by
  simp only [add_assoc]
theorem ref_apply (p : S7x704x512.Idx → EReal) (h : S2816x1024.Idx → EReal) (r : Fin 704) (k : Fin 512) :
    REF p h (ix2 (qr r) (qc k)) = ((p (ix3 0 r k) + p (ix3 1 r k)) + (p (ix3 2 r k) + p (ix3 3 r k))) + ((p (ix3 4 r k) + p (ix3 5 r k)) + (p (ix3 6 r k) + h (ix2 (hr r) (hc k)))) := by
  unfold REF
  pointwise
  refine (dif_pos (c := (qc k).val < 512) k.isLt).trans ?_
  refine (congrArg (· + _) (Fin.sum_univ_seven _)).trans ?_
  exact assoc8 _ _ _ _ _ _ _ _
end

section
open Cert.Kernel21Ideal Cert.Kernel21Ideal.Gen

theorem idx : ∀ t : Fin cfg0.N, win0_0.index t = ![0, t.val, 0] ∧ win0_1.index t = ![t.val, 0] ∧ win0_2.index t = ![t.val, 0] :=
  (by decide +kernel : ∀ t : Fin grid0.N, _)

/-- Row `r` of block `t`, as a row of the written half. -/
def rr (t : Fin cfg0.N) (r : Fin 64) : Fin 704 := ⟨t.val * 64 + r.val, by have ht : t.val < 11 := t.isLt; omega⟩
/-- Block `t` of the other devices' gradients. -/
def TP (x : S7x704x512.Idx → EReal) (t : Fin cfg0.N) : S7x64x512.Idx → EReal := fun j => x (ix3 (j 0) (rr t (j 1)) (j 2))
/-- Block `t` of the device's own gradient. -/
def TH (x : S2816x1024.Idx → EReal) (t : Fin cfg0.N) : S64x512.Idx → EReal := fun j => x (ix2 (hr (rr t (j 0))) (hc (j 1)))

variable (m : (ℓ : Loc nD τ sig) → Buf (Elt Ideal) ℓ) {c : Dev nD} {p : S7x704x512.Idx → EReal} {h : S2816x1024.Idx → EReal}

/-- The arguments. -/
structure KArgs (m : (ℓ : Loc nD τ sig) → Buf (Elt Ideal) ℓ) (c : Dev nD) (p : S7x704x512.Idx → EReal) (h : S2816x1024.Idx → EReal) : Prop where
  h0 : m ((c : Thread nD τ).loc main_arg0) = p
  h1 : m ((c : Thread nD τ).loc main_arg1) = h

variable (H : KArgs m c p h) (t : Fin cfg0.N)
include H

theorem b0 : iblk m c 0 t = (TP p t : S7x64x512.Idx → EReal) := by
  funext i
  unfold TP
  rw [← H.h0]
  blk_ext [iblk, V, idx t]
  all_goals rfl
theorem b1 : iblk m c 1 t = (TH h t : S64x512.Idx → EReal) := by
  funext i
  unfold TH
  rw [← H.h1]
  blk_ext [iblk, V, idx t]
  all_goals rfl
omit H in
theorem out (r : Fin 64) (k : Fin 512) : (out0_2 (F := Ideal) (TP p t) (TH h t) (ix2 r k) : EReal) = ((p (ix3 0 (rr t r) k) + p (ix3 1 (rr t r) k)) + (p (ix3 2 (rr t r) k) + p (ix3 3 (rr t r) k))) + ((p (ix3 4 (rr t r) k) + p (ix3 5 (rr t r) k)) + (p (ix3 6 (rr t r) k) + h (ix2 (hr (rr t r)) (hc k)))) := by
  have l0 : (View.ld (Val := Elt Ideal) (e' := .bf16) (TP p t : Vec Ideal S7x64x512 .bf16) r0_0 (Value.ix2_0 (ix2 r k)) : EReal) = (p (ix3 0 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l1 : (View.ld (Val := Elt Ideal) (e' := .bf16) (TP p t : Vec Ideal S7x64x512 .bf16) r0_1 (Value.ix2_1 (ix2 r k)) : EReal) = (p (ix3 1 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l2 : (View.ld (Val := Elt Ideal) (e' := .bf16) (TP p t : Vec Ideal S7x64x512 .bf16) r0_2 (Value.ix2_2 (ix2 r k)) : EReal) = (p (ix3 2 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l3 : (View.ld (Val := Elt Ideal) (e' := .bf16) (TP p t : Vec Ideal S7x64x512 .bf16) r0_3 (Value.ix2_3 (ix2 r k)) : EReal) = (p (ix3 3 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l4 : (View.ld (Val := Elt Ideal) (e' := .bf16) (TP p t : Vec Ideal S7x64x512 .bf16) r0_4 (Value.ix2_4 (ix2 r k)) : EReal) = (p (ix3 4 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l5 : (View.ld (Val := Elt Ideal) (e' := .bf16) (TP p t : Vec Ideal S7x64x512 .bf16) r0_5 (Value.ix2_5 (ix2 r k)) : EReal) = (p (ix3 5 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l6 : (View.ld (Val := Elt Ideal) (e' := .bf16) (TP p t : Vec Ideal S7x64x512 .bf16) r0_6 (Value.ix2_6 (ix2 r k)) : EReal) = (p (ix3 6 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l7 : (View.ld (Val := Elt Ideal) (e' := .f32) (TH h t : Vec Ideal S64x512 .f32) r0_7 (Value.ix2_7 (ix2 r k)) : EReal) = (h (ix2 (hr (rr t r)) (hc k)) : EReal) := by
    refine congrArg h (funext fun a => Fin.ext ?_)
    match a with
    | ⟨0, _⟩ => exact congrArg (fun q => (rr t q).val) (Fin.ext (by show 0 + 1 * r.val = r.val; omega))
    | ⟨1, _⟩ => show 0 + 1 * k.val = k.val; omega
  unfold out0_2
  rw [Value.canon2_eq]
  show _ = _
  unfold Value.E2
  rw [l0, l1, l2, l3, l4, l5, l6, l7]
  rfl
theorem fin (r : Fin 704) (k : Fin 512) : (dats m 0 c).arrAt 2 cfg0.N (ix2 (qr r) (qc k)) = REF p h (ix2 (qr r) (qc k)) := by
  rw [ref_apply]
  obtain ⟨t, q, rfl⟩ : ∃ (t : Fin cfg0.N) (q : Fin 64), rr t q = r := ⟨⟨r.val / 64, by have h := r.isLt; show _ < 11; omega⟩, ⟨r.val % 64, Nat.mod_lt _ (by decide)⟩, Fin.ext (Nat.div_add_mod' r.val 64)⟩
  have e : (win0_2.blk t).view.emb (ix2 q k) = ix2 (qr (rr t q)) (qc k) := by
    blk_ext [idx t] <;> rfl
  rw [← e]
  refine (congrFun (Value.blocks2 m c t (flush0_2 t)) (ix2 q k)).trans ?_
  rw [Value.flushed2, b0 m H t, b1 m H t]
  exact out t q k
end

section
open Cert.On_left_half_Kernel21Ideal

theorem key : ∀ r < 1024, IntOp.cmpi .slt (BitVec.ofNat 32 r) 512#32 = 1#1 ↔ r < 512 := by decide +kernel

theorem mask_iff [hf : Facts] (x : FVec Ideal S7x704x512 .bf16) (y : FVec Ideal S2816x1024 .f32) (i : S704x1024.Idx) : fn x y i = 1#1 ↔ (i 1 : Nat) < 512 := by
  show IntOp.cmpi .slt (BitVec.ofNat 32 (i 1 : Nat)) 512#32 = 1#1 ↔ _
  exact key _ (i 1).isLt

end

theorem frame_r : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run m ρ)

theorem algebraic : Cert.algebraic_Kernel21Ideal_Reference21Ideal_on_left_half_Kernel21Ideal
    (hKernel21Ideal := Cert.Kernel21Ideal.Gen.facts) (hReference21Ideal := Cert.Reference21Ideal.Gen.facts)
    (hOn_left_half_Kernel21Ideal := Cert.On_left_half_Kernel21Ideal.Gen.facts) := by
  intro m ρ m' ρ' _ hagree
  refine ⟨fun c => REF (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), ?_, ?_⟩
  · refine (θ_run Cert.Kernel21Ideal.defs _ _).mono (fun _ h c => ⟨fun i hi => ?_, (h c).2⟩) (Cert.Kernel21Ideal.Value.run_blocks m ρ)
    rw [(h c).1]
    replace hi := (mask_iff (hf := Cert.On_left_half_Kernel21Ideal.Gen.facts) _ _ i).mp hi
    obtain ⟨r, k, e⟩ : ∃ (r : Fin 704) (k : Fin 512), i = ix2 (qr r) (qc k) := ⟨i 0, ⟨(i 1).val, hi⟩, eq_ix2 i⟩
    rw [e]
    exact fin m ⟨rfl, rfl⟩ r k
  · refine (θ_run Cert.Reference21Ideal.defs _ _).mono (fun _ h c => ⟨fun i _ => ?_, (h c).2⟩) (Cert.Reference21Ideal.Value.run m' ρ')
    rw [(h c).1, (hagree c).1, (hagree c).2]
    rfl
end Cert.Sm21

end
-- ==== Proof.Sm20.lean ====
/- The sum of the devices' gradients of the feed-forward block's input weight, on the half of the part that the call writes. -/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Gen.On_upper_half_Kernel20Ideal
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Sm20

open Idealize.ShloMosaic Idealize.ShloMosaic.TcCoe Idealize.SL.Sem

/-- A row of the written half, as a row of the result. -/
def qr (r : Fin 512) : Fin 1024 := ⟨r.val, by omega⟩
/-- A column of the written half, as a column of the result. -/
def qc (k : Fin 1408) : Fin 1408 := ⟨k.val, by omega⟩
/-- A row of the written half, as a row of the device's own gradient. -/
def hr (r : Fin 512) : Fin 1024 := ⟨r.val, by omega⟩
/-- A column of the written half, as a column of the device's own gradient. -/
def hc (k : Fin 1408) : Fin 5632 := ⟨k.val, by omega⟩

section
open Cert.Reference20Ideal Cert.Reference20Ideal.Gen

/-- The reference's result. -/
def REF (x : S7x512x1408.Idx → EReal) (y : S1024x5632.Idx → EReal) : S1024x1408.Idx → EReal :=
  (concatenate S1024x1408 0 [⟨S512x1408, (addf (F := Ideal) (Host.reduceAdd (extf .f32 (x : FVec Ideal S7x512x1408 .bf16) bitsLt_bf16_f32) (constant (F := Ideal) S_ .f32 0x00000000#32) reducesTo_S7x512x1408_S512x1408_d0 h_S_) (extractStridedSlice S512x1408 ![0, 0] (y : FVec Ideal S1024x5632 .f32) slices_S1024x5632_S512x1408_0_0))⟩, ⟨S512x1408, (broadcastInDim S512x1408 ![] bcast_S_S512x1408 (constant (F := Ideal) S_ .f32 0x00000000#32) : FVec Ideal S512x1408 .f32)⟩] concatenates_S512x1408_S512x1408_S1024x1408_d0 : FVec Ideal S1024x1408 .f32)

theorem assoc8 (a b c d e f g h : EReal) : a + b + c + d + e + f + g + h = ((a + b) + (c + d)) + ((e + f) + (g + h)) := by
  simp only [add_assoc]
theorem ref_apply (p : S7x512x1408.Idx → EReal) (h : S1024x5632.Idx → EReal) (r : Fin 512) (k : Fin 1408) :
    REF p h (ix2 (qr r) (qc k)) = ((p (ix3 0 r k) + p (ix3 1 r k)) + (p (ix3 2 r k) + p (ix3 3 r k))) + ((p (ix3 4 r k) + p (ix3 5 r k)) + (p (ix3 6 r k) + h (ix2 (hr r) (hc k)))) := by
  unfold REF
  pointwise
  refine (dif_pos (c := (qr r).val < 512) r.isLt).trans ?_
  refine (congrArg (· + _) (Fin.sum_univ_seven _)).trans ?_
  exact assoc8 _ _ _ _ _ _ _ _
end

section
open Cert.Kernel20Ideal Cert.Kernel20Ideal.Gen

theorem idx : ∀ t : Fin cfg0.N, win0_0.index t = ![0, t.val, 0] ∧ win0_1.index t = ![t.val, 0] ∧ win0_2.index t = ![t.val, 0] :=
  (by decide +kernel : ∀ t : Fin grid0.N, _)

/-- Row `r` of block `t`, as a row of the written half. -/
def rr (t : Fin cfg0.N) (r : Fin 256) : Fin 512 := ⟨t.val * 256 + r.val, by have ht : t.val < 2 := t.isLt; omega⟩
/-- Block `t` of the other devices' gradients. -/
def TP (x : S7x512x1408.Idx → EReal) (t : Fin cfg0.N) : S7x256x1408.Idx → EReal := fun j => x (ix3 (j 0) (rr t (j 1)) (j 2))
/-- Block `t` of the device's own gradient. -/
def TH (x : S1024x5632.Idx → EReal) (t : Fin cfg0.N) : S256x1408.Idx → EReal := fun j => x (ix2 (hr (rr t (j 0))) (hc (j 1)))

variable (m : (ℓ : Loc nD τ sig) → Buf (Elt Ideal) ℓ) {c : Dev nD} {p : S7x512x1408.Idx → EReal} {h : S1024x5632.Idx → EReal}

/-- The arguments. -/
structure KArgs (m : (ℓ : Loc nD τ sig) → Buf (Elt Ideal) ℓ) (c : Dev nD) (p : S7x512x1408.Idx → EReal) (h : S1024x5632.Idx → EReal) : Prop where
  h0 : m ((c : Thread nD τ).loc main_arg0) = p
  h1 : m ((c : Thread nD τ).loc main_arg1) = h

variable (H : KArgs m c p h) (t : Fin cfg0.N)
include H

theorem b0 : iblk m c 0 t = (TP p t : S7x256x1408.Idx → EReal) := by
  funext i
  unfold TP
  rw [← H.h0]
  blk_ext [iblk, V, idx t]
  all_goals rfl
theorem b1 : iblk m c 1 t = (TH h t : S256x1408.Idx → EReal) := by
  funext i
  unfold TH
  rw [← H.h1]
  blk_ext [iblk, V, idx t]
  all_goals rfl
omit H in
theorem out (r : Fin 256) (k : Fin 1408) : (out0_2 (F := Ideal) (TP p t) (TH h t) (ix2 r k) : EReal) = ((p (ix3 0 (rr t r) k) + p (ix3 1 (rr t r) k)) + (p (ix3 2 (rr t r) k) + p (ix3 3 (rr t r) k))) + ((p (ix3 4 (rr t r) k) + p (ix3 5 (rr t r) k)) + (p (ix3 6 (rr t r) k) + h (ix2 (hr (rr t r)) (hc k)))) := by
  have l0 : (View.ld (Val := Elt Ideal) (e' := .bf16) (TP p t : Vec Ideal S7x256x1408 .bf16) r0_0 (Value.ix2_0 (ix2 r k)) : EReal) = (p (ix3 0 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l1 : (View.ld (Val := Elt Ideal) (e' := .bf16) (TP p t : Vec Ideal S7x256x1408 .bf16) r0_1 (Value.ix2_1 (ix2 r k)) : EReal) = (p (ix3 1 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l2 : (View.ld (Val := Elt Ideal) (e' := .bf16) (TP p t : Vec Ideal S7x256x1408 .bf16) r0_2 (Value.ix2_2 (ix2 r k)) : EReal) = (p (ix3 2 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l3 : (View.ld (Val := Elt Ideal) (e' := .bf16) (TP p t : Vec Ideal S7x256x1408 .bf16) r0_3 (Value.ix2_3 (ix2 r k)) : EReal) = (p (ix3 3 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l4 : (View.ld (Val := Elt Ideal) (e' := .bf16) (TP p t : Vec Ideal S7x256x1408 .bf16) r0_4 (Value.ix2_4 (ix2 r k)) : EReal) = (p (ix3 4 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l5 : (View.ld (Val := Elt Ideal) (e' := .bf16) (TP p t : Vec Ideal S7x256x1408 .bf16) r0_5 (Value.ix2_5 (ix2 r k)) : EReal) = (p (ix3 5 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l6 : (View.ld (Val := Elt Ideal) (e' := .bf16) (TP p t : Vec Ideal S7x256x1408 .bf16) r0_6 (Value.ix2_6 (ix2 r k)) : EReal) = (p (ix3 6 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l7 : (View.ld (Val := Elt Ideal) (e' := .f32) (TH h t : Vec Ideal S256x1408 .f32) r0_7 (Value.ix2_7 (ix2 r k)) : EReal) = (h (ix2 (hr (rr t r)) (hc k)) : EReal) := by
    refine congrArg h (funext fun a => Fin.ext ?_)
    match a with
    | ⟨0, _⟩ => exact congrArg (fun q => (rr t q).val) (Fin.ext (by show 0 + 1 * r.val = r.val; omega))
    | ⟨1, _⟩ => show 0 + 1 * k.val = k.val; omega
  unfold out0_2
  rw [Value.canon2_eq]
  show _ = _
  unfold Value.E2
  rw [l0, l1, l2, l3, l4, l5, l6, l7]
  rfl
theorem fin (r : Fin 512) (k : Fin 1408) : (dats m 0 c).arrAt 2 cfg0.N (ix2 (qr r) (qc k)) = REF p h (ix2 (qr r) (qc k)) := by
  rw [ref_apply]
  obtain ⟨t, q, rfl⟩ : ∃ (t : Fin cfg0.N) (q : Fin 256), rr t q = r := ⟨⟨r.val / 256, by have h := r.isLt; show _ < 2; omega⟩, ⟨r.val % 256, Nat.mod_lt _ (by decide)⟩, Fin.ext (Nat.div_add_mod' r.val 256)⟩
  have e : (win0_2.blk t).view.emb (ix2 q k) = ix2 (qr (rr t q)) (qc k) := by
    blk_ext [idx t] <;> rfl
  rw [← e]
  refine (congrFun (Value.blocks2 m c t (flush0_2 t)) (ix2 q k)).trans ?_
  rw [Value.flushed2, b0 m H t, b1 m H t]
  exact out t q k
end

section
open Cert.On_upper_half_Kernel20Ideal

theorem key : ∀ r < 1024, IntOp.cmpi .slt (BitVec.ofNat 32 r) 512#32 = 1#1 ↔ r < 512 := by decide +kernel

theorem mask_iff [hf : Facts] (x : FVec Ideal S7x512x1408 .bf16) (y : FVec Ideal S1024x5632 .f32) (i : S1024x1408.Idx) : fn x y i = 1#1 ↔ (i 0 : Nat) < 512 := by
  show IntOp.cmpi .slt (BitVec.ofNat 32 (i 0 : Nat)) 512#32 = 1#1 ↔ _
  exact key _ (i 0).isLt

end

theorem frame_r : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run m ρ)

theorem algebraic : Cert.algebraic_Kernel20Ideal_Reference20Ideal_on_upper_half_Kernel20Ideal
    (hKernel20Ideal := Cert.Kernel20Ideal.Gen.facts) (hReference20Ideal := Cert.Reference20Ideal.Gen.facts)
    (hOn_upper_half_Kernel20Ideal := Cert.On_upper_half_Kernel20Ideal.Gen.facts) := by
  intro m ρ m' ρ' _ hagree
  refine ⟨fun c => REF (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), ?_, ?_⟩
  · refine (θ_run Cert.Kernel20Ideal.defs _ _).mono (fun _ h c => ⟨fun i hi => ?_, (h c).2⟩) (Cert.Kernel20Ideal.Value.run_blocks m ρ)
    rw [(h c).1]
    replace hi := (mask_iff (hf := Cert.On_upper_half_Kernel20Ideal.Gen.facts) _ _ i).mp hi
    obtain ⟨r, k, e⟩ : ∃ (r : Fin 512) (k : Fin 1408), i = ix2 (qr r) (qc k) := ⟨⟨(i 0).val, hi⟩, i 1, eq_ix2 i⟩
    rw [e]
    exact fin m ⟨rfl, rfl⟩ r k
  · refine (θ_run Cert.Reference20Ideal.defs _ _).mono (fun _ h c => ⟨fun i _ => ?_, (h c).2⟩) (Cert.Reference20Ideal.Value.run m' ρ')
    rw [(h c).1, (hagree c).1, (hagree c).2]
    rfl
end Cert.Sm20

end
-- ==== Proof.Sm19.lean ====
/- The sum of the devices' gradients of the output weight, on the half of the part that the call writes. -/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Gen.On_left_half_Kernel19Ideal
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Sm19

open Idealize.ShloMosaic Idealize.ShloMosaic.TcCoe Idealize.SL.Sem

/-- A row of the written half, as a row of the result. -/
def qr (r : Fin 256) : Fin 256 := ⟨r.val, by omega⟩
/-- A column of the written half, as a column of the result. -/
def qc (k : Fin 512) : Fin 1024 := ⟨k.val, by omega⟩
/-- A row of the written half, as a row of the device's own gradient. -/
def hr (r : Fin 256) : Fin 1024 := ⟨r.val, by omega⟩
/-- A column of the written half, as a column of the device's own gradient. -/
def hc (k : Fin 512) : Fin 1024 := ⟨k.val, by omega⟩

section
open Cert.Reference19Ideal Cert.Reference19Ideal.Gen

/-- The reference's result. -/
def REF (x : S7x256x512.Idx → EReal) (y : S1024x1024.Idx → EReal) : S256x1024.Idx → EReal :=
  (concatenate S256x1024 1 [⟨S256x512, (addf (F := Ideal) (Host.reduceAdd (extf .f32 (x : FVec Ideal S7x256x512 .bf16) bitsLt_bf16_f32) (constant (F := Ideal) S_ .f32 0x00000000#32) reducesTo_S7x256x512_S256x512_d0 h_S_) (extractStridedSlice S256x512 ![0, 0] (y : FVec Ideal S1024x1024 .f32) slices_S1024x1024_S256x512_0_0))⟩, ⟨S256x512, (broadcastInDim S256x512 ![] bcast_S_S256x512 (constant (F := Ideal) S_ .f32 0x00000000#32) : FVec Ideal S256x512 .f32)⟩] concatenates_S256x512_S256x512_S256x1024_d1 : FVec Ideal S256x1024 .f32)

theorem assoc8 (a b c d e f g h : EReal) : a + b + c + d + e + f + g + h = ((a + b) + (c + d)) + ((e + f) + (g + h)) := by
  simp only [add_assoc]
theorem ref_apply (p : S7x256x512.Idx → EReal) (h : S1024x1024.Idx → EReal) (r : Fin 256) (k : Fin 512) :
    REF p h (ix2 (qr r) (qc k)) = ((p (ix3 0 r k) + p (ix3 1 r k)) + (p (ix3 2 r k) + p (ix3 3 r k))) + ((p (ix3 4 r k) + p (ix3 5 r k)) + (p (ix3 6 r k) + h (ix2 (hr r) (hc k)))) := by
  unfold REF
  pointwise
  refine (dif_pos (c := (qc k).val < 512) k.isLt).trans ?_
  refine (congrArg (· + _) (Fin.sum_univ_seven _)).trans ?_
  exact assoc8 _ _ _ _ _ _ _ _
end

section
open Cert.Kernel19Ideal Cert.Kernel19Ideal.Gen

theorem idx : ∀ t : Fin cfg0.N, win0_0.index t = ![0, t.val, 0] ∧ win0_1.index t = ![t.val, 0] ∧ win0_2.index t = ![t.val, 0] :=
  (by decide +kernel : ∀ t : Fin grid0.N, _)

/-- Row `r` of block `t`, as a row of the written half. -/
def rr (t : Fin cfg0.N) (r : Fin 256) : Fin 256 := r
/-- Block `t` of the other devices' gradients. -/
def TP (x : S7x256x512.Idx → EReal) (t : Fin cfg0.N) : S7x256x512.Idx → EReal := fun j => x (ix3 (j 0) (rr t (j 1)) (j 2))
/-- Block `t` of the device's own gradient. -/
def TH (x : S1024x1024.Idx → EReal) (t : Fin cfg0.N) : S256x512.Idx → EReal := fun j => x (ix2 (hr (rr t (j 0))) (hc (j 1)))

variable (m : (ℓ : Loc nD τ sig) → Buf (Elt Ideal) ℓ) {c : Dev nD} {p : S7x256x512.Idx → EReal} {h : S1024x1024.Idx → EReal}

/-- The arguments. -/
structure KArgs (m : (ℓ : Loc nD τ sig) → Buf (Elt Ideal) ℓ) (c : Dev nD) (p : S7x256x512.Idx → EReal) (h : S1024x1024.Idx → EReal) : Prop where
  h0 : m ((c : Thread nD τ).loc main_arg0) = p
  h1 : m ((c : Thread nD τ).loc main_arg1) = h

variable (H : KArgs m c p h) (t : Fin cfg0.N)
include H

theorem b0 : iblk m c 0 t = (TP p t : S7x256x512.Idx → EReal) := by
  funext i
  unfold TP
  rw [← H.h0]
  blk_ext [iblk, V, idx t]
  all_goals rfl
theorem b1 : iblk m c 1 t = (TH h t : S256x512.Idx → EReal) := by
  funext i
  unfold TH
  rw [← H.h1]
  blk_ext [iblk, V, idx t]
  all_goals rfl
omit H in
theorem out (r : Fin 256) (k : Fin 512) : (out0_2 (F := Ideal) (TP p t) (TH h t) (ix2 r k) : EReal) = ((p (ix3 0 (rr t r) k) + p (ix3 1 (rr t r) k)) + (p (ix3 2 (rr t r) k) + p (ix3 3 (rr t r) k))) + ((p (ix3 4 (rr t r) k) + p (ix3 5 (rr t r) k)) + (p (ix3 6 (rr t r) k) + h (ix2 (hr (rr t r)) (hc k)))) := by
  have l0 : (View.ld (Val := Elt Ideal) (e' := .bf16) (TP p t : Vec Ideal S7x256x512 .bf16) r0_0 (Value.ix2_0 (ix2 r k)) : EReal) = (p (ix3 0 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l1 : (View.ld (Val := Elt Ideal) (e' := .bf16) (TP p t : Vec Ideal S7x256x512 .bf16) r0_1 (Value.ix2_1 (ix2 r k)) : EReal) = (p (ix3 1 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l2 : (View.ld (Val := Elt Ideal) (e' := .bf16) (TP p t : Vec Ideal S7x256x512 .bf16) r0_2 (Value.ix2_2 (ix2 r k)) : EReal) = (p (ix3 2 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l3 : (View.ld (Val := Elt Ideal) (e' := .bf16) (TP p t : Vec Ideal S7x256x512 .bf16) r0_3 (Value.ix2_3 (ix2 r k)) : EReal) = (p (ix3 3 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l4 : (View.ld (Val := Elt Ideal) (e' := .bf16) (TP p t : Vec Ideal S7x256x512 .bf16) r0_4 (Value.ix2_4 (ix2 r k)) : EReal) = (p (ix3 4 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l5 : (View.ld (Val := Elt Ideal) (e' := .bf16) (TP p t : Vec Ideal S7x256x512 .bf16) r0_5 (Value.ix2_5 (ix2 r k)) : EReal) = (p (ix3 5 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l6 : (View.ld (Val := Elt Ideal) (e' := .bf16) (TP p t : Vec Ideal S7x256x512 .bf16) r0_6 (Value.ix2_6 (ix2 r k)) : EReal) = (p (ix3 6 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l7 : (View.ld (Val := Elt Ideal) (e' := .f32) (TH h t : Vec Ideal S256x512 .f32) r0_7 (Value.ix2_7 (ix2 r k)) : EReal) = (h (ix2 (hr (rr t r)) (hc k)) : EReal) := by
    refine congrArg h (funext fun a => Fin.ext ?_)
    match a with
    | ⟨0, _⟩ => exact congrArg (fun q => (rr t q).val) (Fin.ext (by show 0 + 1 * r.val = r.val; omega))
    | ⟨1, _⟩ => show 0 + 1 * k.val = k.val; omega
  unfold out0_2
  rw [Value.canon2_eq]
  show _ = _
  unfold Value.E2
  rw [l0, l1, l2, l3, l4, l5, l6, l7]
  rfl
theorem fin (r : Fin 256) (k : Fin 512) : (dats m 0 c).arrAt 2 cfg0.N (ix2 (qr r) (qc k)) = REF p h (ix2 (qr r) (qc k)) := by
  rw [ref_apply]
  obtain ⟨t, q, rfl⟩ : ∃ (t : Fin cfg0.N) (q : Fin 256), rr t q = r := ⟨⟨0, by decide⟩, r, rfl⟩
  have e : (win0_2.blk t).view.emb (ix2 q k) = ix2 (qr (rr t q)) (qc k) := by
    blk_ext [idx t] <;> rfl
  rw [← e]
  refine (congrFun (Value.blocks2 m c t (flush0_2 t)) (ix2 q k)).trans ?_
  rw [Value.flushed2, b0 m H t, b1 m H t]
  exact out t q k
end

section
open Cert.On_left_half_Kernel19Ideal

theorem key : ∀ r < 1024, IntOp.cmpi .slt (BitVec.ofNat 32 r) 512#32 = 1#1 ↔ r < 512 := by decide +kernel

theorem mask_iff [hf : Facts] (x : FVec Ideal S7x256x512 .bf16) (y : FVec Ideal S1024x1024 .f32) (i : S256x1024.Idx) : fn x y i = 1#1 ↔ (i 1 : Nat) < 512 := by
  show IntOp.cmpi .slt (BitVec.ofNat 32 (i 1 : Nat)) 512#32 = 1#1 ↔ _
  exact key _ (i 1).isLt

end

theorem frame_r : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run m ρ)

theorem algebraic : Cert.algebraic_Kernel19Ideal_Reference19Ideal_on_left_half_Kernel19Ideal
    (hKernel19Ideal := Cert.Kernel19Ideal.Gen.facts) (hReference19Ideal := Cert.Reference19Ideal.Gen.facts)
    (hOn_left_half_Kernel19Ideal := Cert.On_left_half_Kernel19Ideal.Gen.facts) := by
  intro m ρ m' ρ' _ hagree
  refine ⟨fun c => REF (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), ?_, ?_⟩
  · refine (θ_run Cert.Kernel19Ideal.defs _ _).mono (fun _ h c => ⟨fun i hi => ?_, (h c).2⟩) (Cert.Kernel19Ideal.Value.run_blocks m ρ)
    rw [(h c).1]
    replace hi := (mask_iff (hf := Cert.On_left_half_Kernel19Ideal.Gen.facts) _ _ i).mp hi
    obtain ⟨r, k, e⟩ : ∃ (r : Fin 256) (k : Fin 512), i = ix2 (qr r) (qc k) := ⟨i 0, ⟨(i 1).val, hi⟩, eq_ix2 i⟩
    rw [e]
    exact fin m ⟨rfl, rfl⟩ r k
  · refine (θ_run Cert.Reference19Ideal.defs _ _).mono (fun _ h c => ⟨fun i _ => ?_, (h c).2⟩) (Cert.Reference19Ideal.Value.run m' ρ')
    rw [(h c).1, (hagree c).1, (hagree c).2]
    rfl
end Cert.Sm19

end
-- ==== Proof.Sm18.lean ====
/- The sum of the devices' gradients of the gates' weight, on the half of the part that the call writes. -/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Gen.On_upper_half_Kernel18Ideal
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Sm18

open Idealize.ShloMosaic Idealize.ShloMosaic.TcCoe Idealize.SL.Sem

/-- A row of the written half, as a row of the result. -/
def qr (r : Fin 512) : Fin 1024 := ⟨r.val, by omega⟩
/-- A column of the written half, as a column of the result. -/
def qc (k : Fin 512) : Fin 512 := ⟨k.val, by omega⟩
/-- A row of the written half, as a row of the device's own gradient. -/
def hr (r : Fin 512) : Fin 1024 := ⟨r.val, by omega⟩
/-- A column of the written half, as a column of the device's own gradient. -/
def hc (k : Fin 512) : Fin 2048 := ⟨k.val, by omega⟩

section
open Cert.Reference18Ideal Cert.Reference18Ideal.Gen

/-- The reference's result. -/
def REF (x : S7x512x512.Idx → EReal) (y : S1024x2048.Idx → EReal) : S1024x512.Idx → EReal :=
  (concatenate S1024x512 0 [⟨S512x512, (addf (F := Ideal) (Host.reduceAdd (extf .f32 (x : FVec Ideal S7x512x512 .bf16) bitsLt_bf16_f32) (constant (F := Ideal) S_ .f32 0x00000000#32) reducesTo_S7x512x512_S512x512_d0 h_S_) (extractStridedSlice S512x512 ![0, 0] (y : FVec Ideal S1024x2048 .f32) slices_S1024x2048_S512x512_0_0))⟩, ⟨S512x512, (broadcastInDim S512x512 ![] bcast_S_S512x512 (constant (F := Ideal) S_ .f32 0x00000000#32) : FVec Ideal S512x512 .f32)⟩] concatenates_S512x512_S512x512_S1024x512_d0 : FVec Ideal S1024x512 .f32)

theorem assoc8 (a b c d e f g h : EReal) : a + b + c + d + e + f + g + h = ((a + b) + (c + d)) + ((e + f) + (g + h)) := by
  simp only [add_assoc]
theorem ref_apply (p : S7x512x512.Idx → EReal) (h : S1024x2048.Idx → EReal) (r : Fin 512) (k : Fin 512) :
    REF p h (ix2 (qr r) (qc k)) = ((p (ix3 0 r k) + p (ix3 1 r k)) + (p (ix3 2 r k) + p (ix3 3 r k))) + ((p (ix3 4 r k) + p (ix3 5 r k)) + (p (ix3 6 r k) + h (ix2 (hr r) (hc k)))) := by
  unfold REF
  pointwise
  refine (dif_pos (c := (qr r).val < 512) r.isLt).trans ?_
  refine (congrArg (· + _) (Fin.sum_univ_seven _)).trans ?_
  exact assoc8 _ _ _ _ _ _ _ _
end

section
open Cert.Kernel18Ideal Cert.Kernel18Ideal.Gen

theorem idx : ∀ t : Fin cfg0.N, win0_0.index t = ![0, t.val, 0] ∧ win0_1.index t = ![t.val, 0] ∧ win0_2.index t = ![t.val, 0] :=
  (by decide +kernel : ∀ t : Fin grid0.N, _)

/-- Row `r` of block `t`, as a row of the written half. -/
def rr (t : Fin cfg0.N) (r : Fin 256) : Fin 512 := ⟨t.val * 256 + r.val, by have ht : t.val < 2 := t.isLt; omega⟩
/-- Block `t` of the other devices' gradients. -/
def TP (x : S7x512x512.Idx → EReal) (t : Fin cfg0.N) : S7x256x512.Idx → EReal := fun j => x (ix3 (j 0) (rr t (j 1)) (j 2))
/-- Block `t` of the device's own gradient. -/
def TH (x : S1024x2048.Idx → EReal) (t : Fin cfg0.N) : S256x512.Idx → EReal := fun j => x (ix2 (hr (rr t (j 0))) (hc (j 1)))

variable (m : (ℓ : Loc nD τ sig) → Buf (Elt Ideal) ℓ) {c : Dev nD} {p : S7x512x512.Idx → EReal} {h : S1024x2048.Idx → EReal}

/-- The arguments. -/
structure KArgs (m : (ℓ : Loc nD τ sig) → Buf (Elt Ideal) ℓ) (c : Dev nD) (p : S7x512x512.Idx → EReal) (h : S1024x2048.Idx → EReal) : Prop where
  h0 : m ((c : Thread nD τ).loc main_arg0) = p
  h1 : m ((c : Thread nD τ).loc main_arg1) = h

variable (H : KArgs m c p h) (t : Fin cfg0.N)
include H

theorem b0 : iblk m c 0 t = (TP p t : S7x256x512.Idx → EReal) := by
  funext i
  unfold TP
  rw [← H.h0]
  blk_ext [iblk, V, idx t]
  all_goals rfl
theorem b1 : iblk m c 1 t = (TH h t : S256x512.Idx → EReal) := by
  funext i
  unfold TH
  rw [← H.h1]
  blk_ext [iblk, V, idx t]
  all_goals rfl
omit H in
theorem out (r : Fin 256) (k : Fin 512) : (out0_2 (F := Ideal) (TP p t) (TH h t) (ix2 r k) : EReal) = ((p (ix3 0 (rr t r) k) + p (ix3 1 (rr t r) k)) + (p (ix3 2 (rr t r) k) + p (ix3 3 (rr t r) k))) + ((p (ix3 4 (rr t r) k) + p (ix3 5 (rr t r) k)) + (p (ix3 6 (rr t r) k) + h (ix2 (hr (rr t r)) (hc k)))) := by
  have l0 : (View.ld (Val := Elt Ideal) (e' := .bf16) (TP p t : Vec Ideal S7x256x512 .bf16) r0_0 (Value.ix2_0 (ix2 r k)) : EReal) = (p (ix3 0 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l1 : (View.ld (Val := Elt Ideal) (e' := .bf16) (TP p t : Vec Ideal S7x256x512 .bf16) r0_1 (Value.ix2_1 (ix2 r k)) : EReal) = (p (ix3 1 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l2 : (View.ld (Val := Elt Ideal) (e' := .bf16) (TP p t : Vec Ideal S7x256x512 .bf16) r0_2 (Value.ix2_2 (ix2 r k)) : EReal) = (p (ix3 2 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l3 : (View.ld (Val := Elt Ideal) (e' := .bf16) (TP p t : Vec Ideal S7x256x512 .bf16) r0_3 (Value.ix2_3 (ix2 r k)) : EReal) = (p (ix3 3 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l4 : (View.ld (Val := Elt Ideal) (e' := .bf16) (TP p t : Vec Ideal S7x256x512 .bf16) r0_4 (Value.ix2_4 (ix2 r k)) : EReal) = (p (ix3 4 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l5 : (View.ld (Val := Elt Ideal) (e' := .bf16) (TP p t : Vec Ideal S7x256x512 .bf16) r0_5 (Value.ix2_5 (ix2 r k)) : EReal) = (p (ix3 5 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l6 : (View.ld (Val := Elt Ideal) (e' := .bf16) (TP p t : Vec Ideal S7x256x512 .bf16) r0_6 (Value.ix2_6 (ix2 r k)) : EReal) = (p (ix3 6 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l7 : (View.ld (Val := Elt Ideal) (e' := .f32) (TH h t : Vec Ideal S256x512 .f32) r0_7 (Value.ix2_7 (ix2 r k)) : EReal) = (h (ix2 (hr (rr t r)) (hc k)) : EReal) := by
    refine congrArg h (funext fun a => Fin.ext ?_)
    match a with
    | ⟨0, _⟩ => exact congrArg (fun q => (rr t q).val) (Fin.ext (by show 0 + 1 * r.val = r.val; omega))
    | ⟨1, _⟩ => show 0 + 1 * k.val = k.val; omega
  unfold out0_2
  rw [Value.canon2_eq]
  show _ = _
  unfold Value.E2
  rw [l0, l1, l2, l3, l4, l5, l6, l7]
  rfl
theorem fin (r : Fin 512) (k : Fin 512) : (dats m 0 c).arrAt 2 cfg0.N (ix2 (qr r) (qc k)) = REF p h (ix2 (qr r) (qc k)) := by
  rw [ref_apply]
  obtain ⟨t, q, rfl⟩ : ∃ (t : Fin cfg0.N) (q : Fin 256), rr t q = r := ⟨⟨r.val / 256, by have h := r.isLt; show _ < 2; omega⟩, ⟨r.val % 256, Nat.mod_lt _ (by decide)⟩, Fin.ext (Nat.div_add_mod' r.val 256)⟩
  have e : (win0_2.blk t).view.emb (ix2 q k) = ix2 (qr (rr t q)) (qc k) := by
    blk_ext [idx t] <;> rfl
  rw [← e]
  refine (congrFun (Value.blocks2 m c t (flush0_2 t)) (ix2 q k)).trans ?_
  rw [Value.flushed2, b0 m H t, b1 m H t]
  exact out t q k
end

section
open Cert.On_upper_half_Kernel18Ideal

theorem key : ∀ r < 1024, IntOp.cmpi .slt (BitVec.ofNat 32 r) 512#32 = 1#1 ↔ r < 512 := by decide +kernel

theorem mask_iff [hf : Facts] (x : FVec Ideal S7x512x512 .bf16) (y : FVec Ideal S1024x2048 .f32) (i : S1024x512.Idx) : fn x y i = 1#1 ↔ (i 0 : Nat) < 512 := by
  show IntOp.cmpi .slt (BitVec.ofNat 32 (i 0 : Nat)) 512#32 = 1#1 ↔ _
  exact key _ (i 0).isLt

end

theorem frame_r : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run m ρ)

theorem algebraic : Cert.algebraic_Kernel18Ideal_Reference18Ideal_on_upper_half_Kernel18Ideal
    (hKernel18Ideal := Cert.Kernel18Ideal.Gen.facts) (hReference18Ideal := Cert.Reference18Ideal.Gen.facts)
    (hOn_upper_half_Kernel18Ideal := Cert.On_upper_half_Kernel18Ideal.Gen.facts) := by
  intro m ρ m' ρ' _ hagree
  refine ⟨fun c => REF (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), ?_, ?_⟩
  · refine (θ_run Cert.Kernel18Ideal.defs _ _).mono (fun _ h c => ⟨fun i hi => ?_, (h c).2⟩) (Cert.Kernel18Ideal.Value.run_blocks m ρ)
    rw [(h c).1]
    replace hi := (mask_iff (hf := Cert.On_upper_half_Kernel18Ideal.Gen.facts) _ _ i).mp hi
    obtain ⟨r, k, e⟩ : ∃ (r : Fin 512) (k : Fin 512), i = ix2 (qr r) (qc k) := ⟨⟨(i 0).val, hi⟩, i 1, eq_ix2 i⟩
    rw [e]
    exact fin m ⟨rfl, rfl⟩ r k
  · refine (θ_run Cert.Reference18Ideal.defs _ _).mono (fun _ h c => ⟨fun i _ => ?_, (h c).2⟩) (Cert.Reference18Ideal.Value.run m' ρ')
    rw [(h c).1, (hagree c).1, (hagree c).2]
    rfl
end Cert.Sm18

end
-- ==== Proof.Sm17.lean ====
/- The sum of the devices' gradients of the input weight, on the half of the part that the call writes. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Gen.On_upper_half_Kernel17Ideal
public import Idealize.ShloMosaic.PureOps.IdealRules
public import Idealize.ShloMosaic.Lib.StableHlo.ReadAt
public import Idealize.ShloMosaic.Lib.Pipeline.ValueKit
public import Idealize.ShloMosaic.Lib.IdealHost

@[expose] public section

set_option maxRecDepth 16384

noncomputable section

namespace Cert.Sm17

open Idealize.ShloMosaic Idealize.ShloMosaic.TcCoe Idealize.SL.Sem

/-- A row of the written half, as a row of the result. -/
def qr (r : Fin 512) : Fin 1024 := ⟨r.val, by omega⟩
/-- A column of the written half, as a column of the result. -/
def qc (k : Fin 1152) : Fin 1152 := ⟨k.val, by omega⟩
/-- A row of the written half, as a row of the device's own gradient. -/
def hr (r : Fin 512) : Fin 512 := ⟨r.val, by omega⟩
/-- A column of the written half, as a column of the device's own gradient. -/
def hc (k : Fin 1152) : Fin 4608 := ⟨k.val, by omega⟩

section
open Cert.Reference17Ideal Cert.Reference17Ideal.Gen

/-- The reference's result. -/
def REF (x : S3x512x1152.Idx → EReal) (y : S512x4608.Idx → EReal) : S1024x1152.Idx → EReal :=
  (concatenate S1024x1152 0 [⟨S512x1152, (addf (F := Ideal) (Host.reduceAdd (extf .f32 (x : FVec Ideal S3x512x1152 .bf16) bitsLt_bf16_f32) (constant (F := Ideal) S_ .f32 0x00000000#32) reducesTo_S3x512x1152_S512x1152_d0 h_S_) (extf .f32 (extractStridedSlice S512x1152 ![0, 0] (y : FVec Ideal S512x4608 .bf16) slices_S512x4608_S512x1152_0_0) bitsLt_bf16_f32))⟩, ⟨S512x1152, (broadcastInDim S512x1152 ![] bcast_S_S512x1152 (constant (F := Ideal) S_ .f32 0x00000000#32) : FVec Ideal S512x1152 .f32)⟩] concatenates_S512x1152_S512x1152_S1024x1152_d0 : FVec Ideal S1024x1152 .f32)

theorem ref_apply (p : S3x512x1152.Idx → EReal) (h : S512x4608.Idx → EReal) (r : Fin 512) (k : Fin 1152) :
    REF p h (ix2 (qr r) (qc k)) = (p (ix3 0 r k) + p (ix3 1 r k)) + (p (ix3 2 r k) + h (ix2 (hr r) (hc k))) := by
  unfold REF
  pointwise
  refine (dif_pos (c := (qr r).val < 512) r.isLt).trans ?_
  refine (congrArg (· + _) (Fin.sum_univ_three _)).trans ?_
  exact add_assoc _ _ _
end

section
open Cert.Kernel17Ideal Cert.Kernel17Ideal.Gen

theorem idx : ∀ t : Fin cfg0.N, win0_0.index t = ![0, t.val, 0] ∧ win0_1.index t = ![t.val, 0] ∧ win0_2.index t = ![t.val, 0] :=
  (by decide +kernel : ∀ t : Fin grid0.N, _)

/-- Row `r` of block `t`, as a row of the written half. -/
def rr (t : Fin cfg0.N) (r : Fin 256) : Fin 512 := ⟨t.val * 256 + r.val, by have ht : t.val < 2 := t.isLt; omega⟩
/-- Block `t` of the other devices' gradients. -/
def TP (x : S3x512x1152.Idx → EReal) (t : Fin cfg0.N) : S3x256x1152.Idx → EReal := fun j => x (ix3 (j 0) (rr t (j 1)) (j 2))
/-- Block `t` of the device's own gradient. -/
def TH (x : S512x4608.Idx → EReal) (t : Fin cfg0.N) : S256x1152.Idx → EReal := fun j => x (ix2 (hr (rr t (j 0))) (hc (j 1)))

variable (m : (ℓ : Loc nD τ sig) → Buf (Elt Ideal) ℓ) {c : Dev nD} {p : S3x512x1152.Idx → EReal} {h : S512x4608.Idx → EReal}

/-- The arguments. -/
structure KArgs (m : (ℓ : Loc nD τ sig) → Buf (Elt Ideal) ℓ) (c : Dev nD) (p : S3x512x1152.Idx → EReal) (h : S512x4608.Idx → EReal) : Prop where
  h0 : m ((c : Thread nD τ).loc main_arg0) = p
  h1 : m ((c : Thread nD τ).loc main_arg1) = h

variable (H : KArgs m c p h) (t : Fin cfg0.N)
include H

theorem b0 : iblk m c 0 t = (TP p t : S3x256x1152.Idx → EReal) := by
  funext i
  unfold TP
  rw [← H.h0]
  blk_ext [iblk, V, idx t]
  all_goals rfl
theorem b1 : iblk m c 1 t = (TH h t : S256x1152.Idx → EReal) := by
  funext i
  unfold TH
  rw [← H.h1]
  blk_ext [iblk, V, idx t]
  all_goals rfl
omit H in
theorem out (r : Fin 256) (k : Fin 1152) : (out0_2 (F := Ideal) (TP p t) (TH h t) (ix2 r k) : EReal) = (p (ix3 0 (rr t r) k) + p (ix3 1 (rr t r) k)) + (p (ix3 2 (rr t r) k) + h (ix2 (hr (rr t r)) (hc k))) := by
  have l0 : (View.ld (Val := Elt Ideal) (e' := .bf16) (TP p t : Vec Ideal S3x256x1152 .bf16) r0_0 (Value.ix2_0 (ix2 r k)) : EReal) = (p (ix3 0 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l1 : (View.ld (Val := Elt Ideal) (e' := .bf16) (TP p t : Vec Ideal S3x256x1152 .bf16) r0_1 (Value.ix2_1 (ix2 r k)) : EReal) = (p (ix3 1 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l2 : (View.ld (Val := Elt Ideal) (e' := .bf16) (TP p t : Vec Ideal S3x256x1152 .bf16) r0_2 (Value.ix2_2 (ix2 r k)) : EReal) = (p (ix3 2 (rr t r) k) : EReal) := by
    refine congrArg p (funext fun a => Fin.ext ?_)
    match a with
    | ⟨0, _⟩ => rfl
    | ⟨1, _⟩ => exact congrArg (fun q => (rr t q).val) (Fin.ext (by show 0 + 1 * r.val = r.val; omega))
    | ⟨2, _⟩ => show 0 + 1 * k.val = k.val; omega
  have l3 : (View.ld (Val := Elt Ideal) (e' := .bf16) (TH h t : Vec Ideal S256x1152 .bf16) r0_3 (Value.ix2_3 (ix2 r k)) : EReal) = (h (ix2 (hr (rr t r)) (hc k)) : EReal) := by
    refine congrArg h (funext fun a => Fin.ext ?_)
    match a with
    | ⟨0, _⟩ => exact congrArg (fun q => (rr t q).val) (Fin.ext (by show 0 + 1 * r.val = r.val; omega))
    | ⟨1, _⟩ => show 0 + 1 * k.val = k.val; omega
  unfold out0_2
  rw [Value.canon2_eq]
  show _ = _
  unfold Value.E2
  rw [l0, l1, l2, l3]
  rfl
theorem fin (r : Fin 512) (k : Fin 1152) : (dats m 0 c).arrAt 2 cfg0.N (ix2 (qr r) (qc k)) = REF p h (ix2 (qr r) (qc k)) := by
  rw [ref_apply]
  obtain ⟨t, q, rfl⟩ : ∃ (t : Fin cfg0.N) (q : Fin 256), rr t q = r := ⟨⟨r.val / 256, by have h := r.isLt; show _ < 2; omega⟩, ⟨r.val % 256, Nat.mod_lt _ (by decide)⟩, Fin.ext (Nat.div_add_mod' r.val 256)⟩
  have e : (win0_2.blk t).view.emb (ix2 q k) = ix2 (qr (rr t q)) (qc k) := by
    blk_ext [idx t] <;> rfl
  rw [← e]
  refine (congrFun (Value.blocks2 m c t (flush0_2 t)) (ix2 q k)).trans ?_
  rw [Value.flushed2, b0 m H t, b1 m H t]
  exact out t q k
end

section
open Cert.On_upper_half_Kernel17Ideal

theorem key : ∀ r < 1024, IntOp.cmpi .slt (BitVec.ofNat 32 r) 512#32 = 1#1 ↔ r < 512 := by decide +kernel

theorem mask_iff [hf : Facts] (x : FVec Ideal S3x512x1152 .bf16) (y : FVec Ideal S512x4608 .bf16) (i : S1024x1152.Idx) : fn x y i = 1#1 ↔ (i 0 : Nat) < 512 := by
  show IntOp.cmpi .slt (BitVec.ofNat 32 (i 0 : Nat)) 512#32 = 1#1 ↔ _
  exact key _ (i 0).isLt

end

theorem frame_r : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run m ρ)

theorem algebraic : Cert.algebraic_Kernel17Ideal_Reference17Ideal_on_upper_half_Kernel17Ideal
    (hKernel17Ideal := Cert.Kernel17Ideal.Gen.facts) (hReference17Ideal := Cert.Reference17Ideal.Gen.facts)
    (hOn_upper_half_Kernel17Ideal := Cert.On_upper_half_Kernel17Ideal.Gen.facts) := by
  intro m ρ m' ρ' _ hagree
  refine ⟨fun c => REF (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run Cert.Kernel17Ideal.defs _ _).mono (fun _ h c => ⟨fun i hi => ?_, (h c).2⟩) (Cert.Kernel17Ideal.Value.run_blocks m ρ)
    rw [(h c).1]
    replace hi := (mask_iff (hf := Cert.On_upper_half_Kernel17Ideal.Gen.facts) _ _ i).mp hi
    obtain ⟨r, k, e⟩ : ∃ (r : Fin 512) (k : Fin 1152), i = ix2 (qr r) (qc k) := ⟨⟨(i 0).val, hi⟩, i 1, eq_ix2 i⟩
    rw [e]
    exact fin m ⟨rfl, rfl⟩ r k
  · refine (θ_run Cert.Reference17Ideal.defs _ _).mono (fun _ h c => ⟨fun i _ => ?_, (h c).2⟩) (Cert.Reference17Ideal.Value.run m' ρ')
    rw [(h c).1, (hagree c).1, (hagree c).2]
    rfl
end Cert.Sm17

end
-- ==== Proof.Reals.lean ====
/- Arrays of real numbers inside the extended reals, and the operations of the ideal programs on them. -/
module

public import Idealize.ShloMosaic.Lib.Pipeline.ValueKit
public import Idealize.ShloMosaic.Lib.IdealHost

@[expose] public section

noncomputable section

namespace Cert.Reals

open Idealize.ShloMosaic

/-- A real array read as an array of extended reals. -/
def up {S : Shape} (b : S.Idx → ℝ) : S.Idx → EReal := fun i => ((b i : ℝ) : EReal)

theorem up_apply {S : Shape} (b : S.Idx → ℝ) (i : S.Idx) : up b i = ((b i : ℝ) : EReal) := rfl

/-- An array all of whose entries are finite is a real array. -/
theorem exists_up {S : Shape} (v : S.Idx → EReal) (h : ∀ i, v i ≠ ⊤ ∧ v i ≠ ⊥) : ∃ b : S.Idx → ℝ, v = up b :=
  ⟨fun i => (v i).toReal, funext fun i => (EReal.coe_toReal (h i).1 (h i).2).symm⟩

/-- The logistic function. -/
def sg (x : ℝ) : ℝ := (1 + Real.exp (-x))⁻¹

/-- The small number the norms add, as the word the programs print. -/
def eps : ℝ := 8796093 / 8796093022208

/-- The square root of `2 / π` as the word the programs print. -/
def gc : ℝ := 13386282 / 16777216

theorem eps_pos : 0 < eps := by norm_num [eps]

theorem lit_half : Ideal.ofBits .f32 1056964608#32 = ((1 / 2 : ℝ) : EReal) := by
  simp [Ideal.ofBits, Ideal.ieee, -EReal.coe_mul]; norm_num
theorem lit_neg_half : Ideal.ofBits .f32 3204448256#32 = ((-(1 / 2) : ℝ) : EReal) := by
  simp [Ideal.ofBits, Ideal.ieee, -EReal.coe_mul]; norm_num
theorem lit_1024 : Ideal.ofBits .f32 1149239296#32 = ((1024 : ℝ) : EReal) := by
  simp [Ideal.ofBits, Ideal.ieee, -EReal.coe_mul]; norm_num
theorem lit_three : Ideal.ofBits .f32 1077936128#32 = ((3 : ℝ) : EReal) := by
  simp [Ideal.ofBits, Ideal.ieee, -EReal.coe_mul]; norm_num
theorem lit_44715 : Ideal.ofBits .f32 0x472EAB00#32 = ((44715 : ℝ) : EReal) := by
  simp [Ideal.ofBits, Ideal.ieee, -EReal.coe_mul]; norm_num
theorem lit_million : Ideal.ofBits .f32 0x49742400#32 = ((1000000 : ℝ) : EReal) := by
  simp [Ideal.ofBits, Ideal.ieee, -EReal.coe_mul]; norm_num
theorem lit_eps : Ideal.ofBits .f32 897988541#32 = ((eps : ℝ) : EReal) := by
  simp [Ideal.ofBits, Ideal.ieee, -EReal.coe_mul, eps]; norm_num
theorem lit_gc : Ideal.ofBits .f32 0x3F4C422A#32 = ((gc : ℝ) : EReal) := by
  simp [Ideal.ofBits, Ideal.ieee, -EReal.coe_mul, gc]; norm_num

theorem coe_sum {n : ℕ} (f : Fin n → ℝ) : ∑ x, ((f x : ℝ) : EReal) = ((∑ x, f x : ℝ) : EReal) := by
  classical
  induction (Finset.univ : Finset (Fin n)) using Finset.induction_on with
  | empty => simp
  | insert a t ha ih => rw [Finset.sum_insert ha, Finset.sum_insert ha, ih, EReal.coe_add]

theorem sg_eq_tanh (x : ℝ) : 1 / 2 * Real.tanh (1 / 2 * x) + 1 / 2 = sg x := by
  have e : 1 / 2 * x = x / 2 := by ring
  rw [e, sg, Real.tanh_eq_sinh_div_cosh, Real.sinh_eq, Real.cosh_eq]
  have h : Real.exp (-x) = Real.exp (-(x / 2)) * Real.exp (-(x / 2)) := by rw [← Real.exp_add]; ring_nf
  have h1 : Real.exp (x / 2) * Real.exp (-(x / 2)) = 1 := by rw [← Real.exp_add]; simp
  rw [h]
  have p := Real.exp_pos (x / 2)
  have q := Real.exp_pos (-(x / 2))
  generalize Real.exp (x / 2) = a at *
  generalize Real.exp (-(x / 2)) = b at *
  field_simp
  linear_combination (2 * b) * h1

theorem one_div_one_add_exp (x : ℝ) : Ideal.div ((1 : ℝ) : EReal) ((1 + Real.exp (-x) : ℝ) : EReal) = ((sg x : ℝ) : EReal) := by
  rw [Ideal.div_coe (by positivity), ← EReal.coe_mul, sg, one_mul, one_div]

theorem div_million (a : ℝ) : Ideal.div (a : EReal) ((1000000 : ℝ) : EReal) = ((a / 1000000 : ℝ) : EReal) := by
  rw [Ideal.div_coe (by norm_num), ← EReal.coe_mul, mul_one_div]

/-- The inverse root of a mean square plus the small number, of the sum of the squares. -/
def rs (s : ℝ) : ℝ := (Real.sqrt (s / 1024 + eps))⁻¹

theorem mean_pos {n : ℕ} (f : Fin n → ℝ) : 0 < (∑ x, f x * f x) / 1024 + eps :=
  add_pos_of_nonneg_of_pos (div_nonneg (Finset.sum_nonneg fun x _ => mul_self_nonneg (f x)) (by norm_num)) eps_pos

theorem rsqrt_mean {n : ℕ} (f : Fin n → ℝ) :
    Ideal.rsqrt ((((∑ x, f x * f x) / 1024 + eps : ℝ)) : EReal) = ((rs (∑ x, f x * f x) : ℝ) : EReal) := by
  rw [Ideal.rsqrt_coe, if_neg (not_lt.mpr (mean_pos f).le), if_neg (mean_pos f).ne', rs]

theorem rs_sq {n : ℕ} (f : Fin n → ℝ) : rs (∑ x, f x * f x) * rs (∑ x, f x * f x) * ((∑ x, f x * f x) / 1024 + eps) = 1 := by
  have h := mean_pos f
  rw [rs, ← mul_inv, Real.mul_self_sqrt h.le, inv_mul_cancel₀ h.ne']

theorem div_mean {n : ℕ} (a : ℝ) (f : Fin n → ℝ) :
    Ideal.div (a : EReal) ((((∑ x, f x * f x) / 1024 + eps : ℝ)) : EReal) = ((a / ((∑ x, f x * f x) / 1024 + eps) : ℝ) : EReal) := by
  rw [Ideal.div_coe (mean_pos f).ne', ← EReal.coe_mul, mul_one_div]

theorem div_1024 (a : ℝ) : Ideal.div (a : EReal) ((1024 : ℝ) : EReal) = ((a / 1024 : ℝ) : EReal) := by
  rw [Ideal.div_coe (by norm_num), ← EReal.coe_mul, mul_one_div]

theorem coe_one : (1 : EReal) = ((1 : ℝ) : EReal) := rfl
theorem coe_zero : (0 : EReal) = ((0 : ℝ) : EReal) := rfl
theorem coe_mul (a b : ℝ) : (a : EReal) * (b : EReal) = ((a * b : ℝ) : EReal) := rfl
theorem coe_add (a b : ℝ) : (a : EReal) + (b : EReal) = ((a + b : ℝ) : EReal) := rfl
theorem coe_sub (a b : ℝ) : (a : EReal) - (b : EReal) = ((a - b : ℝ) : EReal) := rfl
theorem coe_neg (a : ℝ) : -(a : EReal) = ((-a : ℝ) : EReal) := rfl
theorem coe_logistic (a : ℝ) : Ideal.logistic (a : EReal) = ((sg a : ℝ) : EReal) := Ideal.logistic_coe a
theorem reals : ((1 : EReal) = ((1 : ℝ) : EReal)) ∧ ((0 : EReal) = ((0 : ℝ) : EReal)) ∧ (∀ a b : ℝ, (a : EReal) * (b : EReal) = ((a * b : ℝ) : EReal))
    ∧ (∀ a b : ℝ, (a : EReal) + (b : EReal) = ((a + b : ℝ) : EReal)) ∧ (∀ a b : ℝ, (a : EReal) - (b : EReal) = ((a - b : ℝ) : EReal))
    ∧ (∀ a : ℝ, -(a : EReal) = ((-a : ℝ) : EReal)) ∧ (∀ (n : ℕ) (f : Fin n → ℝ), ∑ x, ((f x : ℝ) : EReal) = ((∑ x, f x : ℝ) : EReal))
    ∧ (∀ a : ℝ, Ideal.div (a : EReal) ((1024 : ℝ) : EReal) = ((a / 1024 : ℝ) : EReal))
    ∧ (∀ a : ℝ, Ideal.tanh (a : EReal) = ((Real.tanh a : ℝ) : EReal)) ∧ (∀ a : ℝ, Ideal.logistic (a : EReal) = ((sg a : ℝ) : EReal))
    ∧ (Ideal.ofBits .f32 1056964608#32 = ((1 / 2 : ℝ) : EReal)) ∧ (Ideal.ofBits .f32 3204448256#32 = ((-(1 / 2) : ℝ) : EReal))
    ∧ (Ideal.ofBits .f32 1149239296#32 = ((1024 : ℝ) : EReal)) ∧ (Ideal.ofBits .f32 1077936128#32 = ((3 : ℝ) : EReal))
    ∧ (Ideal.ofBits .f32 897988541#32 = ((eps : ℝ) : EReal)) ∧ (Ideal.ofBits .f32 1061962282#32 = ((gc : ℝ) : EReal))
    ∧ (Ideal.ofBits .f32 1194240768#32 = ((44715 : ℝ) : EReal)) ∧ (Ideal.ofBits .f32 1232348160#32 = ((1000000 : ℝ) : EReal))
    ∧ (∀ a : ℝ, Ideal.exp (a : EReal) = ((Real.exp a : ℝ) : EReal))
    ∧ (∀ x : ℝ, Ideal.div ((1 : ℝ) : EReal) ((1 + Real.exp (-x) : ℝ) : EReal) = ((sg x : ℝ) : EReal))
    ∧ (∀ a : ℝ, Ideal.div (a : EReal) ((1000000 : ℝ) : EReal) = ((a / 1000000 : ℝ) : EReal)) :=
  ⟨rfl, rfl, coe_mul, coe_add, coe_sub, coe_neg, fun _ f => coe_sum f, div_1024, Ideal.tanh_coe, coe_logistic, lit_half, lit_neg_half, lit_1024,
    lit_three, lit_eps, lit_gc, lit_44715, lit_million, Ideal.exp_coe, one_div_one_add_exp, div_million⟩

theorem coe_ite (p : Prop) [Decidable p] (a b : ℝ) : (if p then (a : EReal) else (b : EReal)) = (((if p then a else b) : ℝ) : EReal) := by
  split <;> rfl
theorem coe_dite (p : Prop) [Decidable p] (a : p → ℝ) (b : ¬p → ℝ) :
    (if h : p then ((a h : ℝ) : EReal) else ((b h : ℝ) : EReal)) = (((if h : p then a h else b h) : ℝ) : EReal) := by
  split <;> rfl

end Cert.Reals

end
-- ==== Proof.MidK.lean ====
/- The blocks the merge's backward kernel writes, over real blocks. -/
module

public import proofs.«01_k».proof.Proof.Gen.KernelIdeal.Skeleton
public import proofs.«01_k».proof.Proof.Reals
public import Idealize.ShloMosaic.PureOps.IdealRules

@[expose] public section

set_option maxRecDepth 16384

noncomputable section

namespace Cert.Mid

open Idealize.ShloMosaic Cert.Reals

/-! ## One row of the gradient, over the reals -/

/-- The left half of a row. -/
def lo (v : Fin 2048 → ℝ) (j : Fin 1024) : ℝ := v ⟨j, by omega⟩
/-- The right half of a row. -/
def hi (v : Fin 2048 → ℝ) (j : Fin 1024) : ℝ := v ⟨1024 + j, by omega⟩
/-- The gradient of the merged row. -/
def dm (dh : Fin 1024 → ℝ) (wo : Fin 1024 → Fin 1024 → ℝ) (j : Fin 1024) : ℝ := ∑ k, dh k * wo j k
/-- The gated row. -/
def ssm (zz : Fin 2048 → ℝ) (j : Fin 1024) : ℝ := lo zz j * sg (hi zz j)
/-- The inverse root mean square of a row. -/
def ri (x : Fin 1024 → ℝ) : ℝ := rs (∑ k, x k * x k)
/-- The gradient of a normalised row at the row, from the gradient `d` of the normalised one. -/
def nb (d x : Fin 1024 → ℝ) (j : Fin 1024) : ℝ := ri x * (d j - x j * ri x * ((∑ k, d k * (x k * ri x)) / 1024))
/-- The gradient that reaches a normalised row through its gate `g` and weight `w`. -/
def dn (e : Fin 1024 → ℝ) (g w : Fin 1024 → ℝ) (j : Fin 1024) : ℝ := e j * sg (g j) * w j
/-- The gradient of a gate's logit. -/
def dgate (e g w x : Fin 1024 → ℝ) (j : Fin 1024) : ℝ := dn e g w j * (x j * ri x) * (1 - sg (g j))
/-- One row's part of the gradient of a norm's weight. -/
def dw (e g x : Fin 1024 → ℝ) (j : Fin 1024) : ℝ := e j * sg (g j) * (x j * ri x)
/-- The gradients of the two halves of the gated linear unit. -/
def dza (ds : Fin 1024 → ℝ) (zz : Fin 2048 → ℝ) (j : Fin 1024) : ℝ := nb ds (ssm zz) j * sg (hi zz j)
def dzb (ds : Fin 1024 → ℝ) (zz : Fin 2048 → ℝ) (j : Fin 1024) : ℝ := nb ds (ssm zz) j * sg (hi zz j) * lo zz j * (1 - sg (hi zz j))
/-- The derivative of the activation. -/
def dgelu (x : ℝ) : ℝ :=
  1 / 2 * (1 + Real.tanh (gc * (x + 8943 / 200000 * x * x * x)))
    + 1 / 2 * x * (1 - Real.tanh (gc * (x + 8943 / 200000 * x * x * x)) * Real.tanh (gc * (x + 8943 / 200000 * x * x * x))) * gc
      * (1 + 26829 / 200000 * x * x)

/-- Row `r` of an array of rows. -/
def row {a b : ℕ} (v : (⟨2, ![a, b]⟩ : Shape).Idx → ℝ) (r : Fin a) : Fin b → ℝ := fun k => v (ix2 r k)

section
open Cert.KernelIdeal Cert.KernelIdeal.Gen

variable (dh a y : S256x1024.Idx → ℝ) (gg zz : S256x2048.Idx → ℝ) (wo : S1024x1024.Idx → ℝ) (wg : S1024x2048.Idx → ℝ)
  (abn sbn : S1x1024.Idx → ℝ)

theorem pay3 : k0_pay3 (F := Ideal) (up dh) (up wo) = up fun j => dm (row dh (j 0)) (row wo) (j 1) := by
  funext j
  pointwise [k0_pay3]
  simp only [up_apply, reals]
  rfl

theorem pay8 : k0_pay8 (F := Ideal) (up a) = up fun j => ri (row a (j 0)) := by
  funext j
  pointwise [k0_pay8]
  simp only [up_apply, reals, rsqrt_mean]
  rfl

theorem pay14 : k0_pay14 (F := Ideal) (up gg) = up fun j => sg (hi (row gg (j 0)) (j 1)) := by
  funext j
  pointwise [k0_pay14]
  simp only [up_apply, reals, sg_eq_tanh]
  rfl

theorem pay1 (j) : k0_pay1 (F := Ideal) j = 0 := by pointwise [k0_pay1]
theorem pay2 (j) : k0_pay2 (F := Ideal) j = 0 := by pointwise [k0_pay2]

theorem pay16 (acc : S1x1024.Idx → EReal) : k0_pay16 (F := Ideal) (k0_pay3 (up dh) (up wo)) (up a) (up gg) (k0_pay8 (up a)) acc
    = fun j => acc j + up (fun j => ∑ r, dw (dm (row dh r) (row wo)) (lo (row gg r)) (row a r) (j 1)) j := by
  rw [pay3, pay8]
  funext j
  pointwise [k0_pay16, k0_pay15, k0_pay11, k0_pay13]
  simp only [up_apply, reals, sg_eq_tanh]
  rfl

theorem pay19 : k0_pay19 (F := Ideal) (k0_pay3 (up dh) (up wo)) (up abn) (up a) (up gg) (k0_pay8 (up a))
    = up fun j => dgate (dm (row dh (j 0)) (row wo)) (lo (row gg (j 0))) (row abn 0) (row a (j 0)) (j 1) := by
  rw [pay3, pay8]
  funext j
  obtain ⟨r, k, rfl⟩ : ∃ r k, j = ix2 r k := ⟨_, _, eq_ix2 j⟩
  pointwise [k0_pay19, k0_pay18, k0_pay17, k0_pay15, k0_pay11, k0_pay13]
  simp only [up_apply, reals, sg_eq_tanh]
  rfl

theorem pay20 : k0_pay20 (F := Ideal) (k0_pay8 (up a)) (k0_pay11 (up a) (k0_pay8 (up a))) (k0_pay17 (k0_pay3 (up dh) (up wo)) (up abn) (up gg))
      (k0_pay18 (k0_pay3 (up dh) (up wo)) (up abn) (up a) (up gg) (k0_pay8 (up a)))
    = up fun j => nb (dn (dm (row dh (j 0)) (row wo)) (lo (row gg (j 0))) (row abn 0)) (row a (j 0)) (j 1) := by
  rw [pay3, pay8]
  funext j
  obtain ⟨r, k, rfl⟩ : ∃ r k, j = ix2 r k := ⟨_, _, eq_ix2 j⟩
  pointwise [k0_pay20, k0_pay18, k0_pay17, k0_pay15, k0_pay11, k0_pay13]
  simp only [up_apply, reals, sg_eq_tanh]
  rfl

theorem pay6 : k0_pay6 (F := Ideal) (up zz) = up fun j => sg (hi (row zz (j 0)) (j 1)) := by
  funext j
  pointwise [k0_pay6, k0_pay4]
  simp only [up_apply, reals, sg_eq_tanh]
  rfl

theorem pay5 : k0_pay5 (F := Ideal) (up zz) = up fun j => lo (row zz (j 0)) (j 1) := by
  funext j
  pointwise [k0_pay5, k0_pay4]
  simp only [up_apply]
  rfl

theorem pay7 : k0_pay7 (F := Ideal) (up zz) = up fun j => ssm (row zz (j 0)) (j 1) := by
  rw [k0_pay7, pay5, pay6]
  funext j
  pointwise
  simp only [up_apply, reals]
  rfl

theorem pay9 : k0_pay9 (F := Ideal) (up zz) = up fun j => ∑ k, ssm (row zz (j 0)) k * ssm (row zz (j 0)) k := by
  rw [k0_pay9, pay7]
  funext j
  pointwise
  simp only [up_apply, reals]
  rfl

theorem pay10 : k0_pay10 (F := Ideal) (k0_pay9 (up zz)) = up fun j => ri (ssm (row zz (j 0))) := by
  rw [pay9]
  funext j
  pointwise [k0_pay10]
  simp only [up_apply, reals, rsqrt_mean]
  rfl

theorem pay12 : k0_pay12 (F := Ideal) (k0_pay7 (up zz)) (k0_pay9 (up zz))
    = up fun j => ssm (row zz (j 0)) (j 1) * ri (ssm (row zz (j 0))) := by
  rw [k0_pay12, pay7, pay10]
  funext j
  pointwise
  simp only [up_apply, reals]
  rfl

theorem pay22 (acc : S1x1024.Idx → EReal) : k0_pay22 (F := Ideal) (k0_pay3 (up dh) (up wo)) (k0_pay12 (k0_pay7 (up zz)) (k0_pay9 (up zz))) (k0_pay14 (up gg)) acc
    = fun j => acc j + up (fun j => ∑ r, dw (dm (row dh r) (row wo)) (hi (row gg r)) (ssm (row zz r)) (j 1)) j := by
  rw [pay3, pay12, pay14]
  funext j
  pointwise [k0_pay22, k0_pay21]
  simp only [up_apply, reals]
  rfl

theorem pay25 : k0_pay25 (F := Ideal) (k0_pay3 (up dh) (up wo)) (up sbn) (k0_pay12 (k0_pay7 (up zz)) (k0_pay9 (up zz))) (k0_pay14 (up gg))
    = up fun j => dgate (dm (row dh (j 0)) (row wo)) (hi (row gg (j 0))) (row sbn 0) (ssm (row zz (j 0))) (j 1) := by
  rw [pay3, pay12, pay14]
  funext j
  pointwise [k0_pay25, k0_pay24, k0_pay23, k0_pay21]
  simp only [up_apply, reals]
  rfl

theorem pay27 : k0_pay27 (F := Ideal) (k0_pay3 (up dh) (up wo)) (up sbn) (k0_pay6 (up zz)) (k0_pay10 (k0_pay9 (up zz)))
      (k0_pay12 (k0_pay7 (up zz)) (k0_pay9 (up zz))) (k0_pay14 (up gg))
    = up fun j => dza (dn (dm (row dh (j 0)) (row wo)) (hi (row gg (j 0))) (row sbn 0)) (row zz (j 0)) (j 1) := by
  rw [pay3, pay12, pay14, pay6, pay10]
  funext j
  pointwise [k0_pay27, k0_pay26, k0_pay24, k0_pay23, k0_pay21]
  simp only [up_apply, reals]
  rfl

theorem pay29 : k0_pay29 (F := Ideal) (k0_pay6 (up zz)) (k0_pay28 (k0_pay3 (up dh) (up wo)) (up sbn) (k0_pay5 (up zz)) (k0_pay6 (up zz))
      (k0_pay10 (k0_pay9 (up zz))) (k0_pay12 (k0_pay7 (up zz)) (k0_pay9 (up zz))) (k0_pay14 (up gg)))
    = up fun j => dzb (dn (dm (row dh (j 0)) (row wo)) (hi (row gg (j 0))) (row sbn 0)) (row zz (j 0)) (j 1) := by
  rw [pay3, pay12, pay14, pay6, pay10, pay5]
  funext j
  pointwise [k0_pay29, k0_pay28, k0_pay26, k0_pay24, k0_pay23, k0_pay21]
  simp only [up_apply, reals]
  rfl

theorem cubic : Named.named (F := Ideal) κ "cubic" (φ := .f32) 0x3D372713#32 = ((8943 / 200000 : ℝ) : EReal) :=
  IdealRules.named_const.ideal_named_scalar _ _ _ _ rfl
theorem cubic3 : Named.named (F := Ideal) κ "cubic3" (φ := .f32) 0x3E095D4F#32 = ((26829 / 200000 : ℝ) : EReal) :=
  IdealRules.named_const.ideal_named_scalar _ _ _ _ rfl

theorem pay30 : k0_pay30 (F := Ideal) (up zz) (up wg) (up y)
    = up fun j => (∑ k, zz (ix2 (j 0) k) * wg (ix2 (j 1) k)) * dgelu (y j) := by
  funext j
  pointwise [k0_pay30]
  simp only [up_apply, cubic, cubic3, reals]
  rfl

end

end Cert.Mid

end
-- ==== Proof.MidR.lean ====
/- The merge's gradient as the reference computes it, over real arrays. -/
module

public import proofs.«01_k».proof.Proof.Gen.ReferenceIdeal.Run
public import proofs.«01_k».proof.Proof.MidK

@[expose] public section

set_option maxRecDepth 16384

noncomputable section

namespace Cert.Mid

open Idealize.ShloMosaic Idealize.ShloMosaic.TcCoe Cert.Reals

/-! ## One row, as the reference's chain rule has it -/

/-- The activation. -/
def gel (x : ℝ) : ℝ := 1 / 2 * x * (1 + Real.tanh (gc * (x + x * x * x * 44715 / 1000000)))
/-- The gated unit's input row. -/
def zrow (y : Fin 1024 → ℝ) (wg : Fin 1024 → Fin 2048 → ℝ) (q : Fin 2048) : ℝ := ∑ k, gel (y k) * wg k q
/-- The coefficient of the mean square in a norm's gradient. -/
def mc (d x : Fin 1024 → ℝ) : ℝ :=
  (∑ k, x k * d k) * (-(1 / 2) * (ri x / ((∑ k, x k * x k) / 1024 + eps))) / 1024
/-- The gradient of a normalised row at the row. -/
def nbR (d x : Fin 1024 → ℝ) (j : Fin 1024) : ℝ := d j * ri x + x j * mc d x + mc d x * x j
def dnR (e g w : Fin 1024 → ℝ) (j : Fin 1024) : ℝ := sg (g j) * e j * w j
def dgateR (e g w x : Fin 1024 → ℝ) (j : Fin 1024) : ℝ := e j * (x j * ri x * w j) * (sg (g j) * (1 - sg (g j)))
def dwR (e g x : Fin 1024 → ℝ) (j : Fin 1024) : ℝ := x j * ri x * (sg (g j) * e j)
def dzaR (ds : Fin 1024 → ℝ) (zz : Fin 2048 → ℝ) (j : Fin 1024) : ℝ := nbR ds (ssm zz) j * sg (hi zz j)
def dzbR (ds : Fin 1024 → ℝ) (zz : Fin 2048 → ℝ) (j : Fin 1024) : ℝ :=
  lo zz j * nbR ds (ssm zz) j * (sg (hi zz j) * (1 - sg (hi zz j)))
/-- Two halves of a row, one after the other. -/
def cat (f g : Fin 1024 → ℝ) (q : Fin 2048) : ℝ :=
  if h : (q : ℕ) < 1024 then f ⟨q, h⟩ else g ⟨(q : ℕ) - 1024, by omega⟩
theorem coe_cat (f g : Fin 1024 → ℝ) (q : Fin 2048) : (cat f g q : EReal)
    = if h : (q : ℕ) < 1024 then (f ⟨q, h⟩ : EReal) else (g ⟨(q : ℕ) - 1024, by omega⟩ : EReal) := by
  unfold cat
  split <;> rfl
/-- The gradient of a gelu, as the product rule leaves it. -/
def dgelR (dz x : ℝ) : ℝ :=
  gc * (1 / 2 * x * dz * ((1 + Real.tanh (gc * (x + x * x * x * 44715 / 1000000))) * (1 - Real.tanh (gc * (x + x * x * x * 44715 / 1000000)))))

section
open Cert.ReferenceIdeal Cert.ReferenceIdeal.Gen Cert.ReferenceIdeal.Value

/-- The arguments hold these real arrays. -/
structure Args (V0 : Valuation τ sig (Elt Ideal)) (dh y a : S8448x1024.Idx → ℝ) (gg : S8448x2048.Idx → ℝ)
    (wg : S1024x2048.Idx → ℝ) (wo : S1024x1024.Idx → ℝ) (abn sbn : S1x1024.Idx → ℝ) : Prop where
  h0 : V0 (Proc.devRef .tc main_arg0) = (up dh : S8448x1024.Idx → EReal)
  h1 : V0 (Proc.devRef .tc main_arg1) = (up y : S8448x1024.Idx → EReal)
  h2 : V0 (Proc.devRef .tc main_arg2) = (up a : S8448x1024.Idx → EReal)
  h3 : V0 (Proc.devRef .tc main_arg3) = (up gg : S8448x2048.Idx → EReal)
  h4 : V0 (Proc.devRef .tc main_arg4) = (up wg : S1024x2048.Idx → EReal)
  h5 : V0 (Proc.devRef .tc main_arg5) = (up wo : S1024x1024.Idx → EReal)
  h6 : V0 (Proc.devRef .tc main_arg6) = (up abn : S1x1024.Idx → EReal)
  h7 : V0 (Proc.devRef .tc main_arg7) = (up sbn : S1x1024.Idx → EReal)

variable {V0 : Valuation τ sig (Elt Ideal)} {dh y a : S8448x1024.Idx → ℝ} {gg : S8448x2048.Idx → ℝ}
  {wg : S1024x2048.Idx → ℝ} {wo : S1024x1024.Idx → ℝ} {abn sbn : S1x1024.Idx → ℝ}
  (h : Args V0 dh y a gg wg wo abn sbn)
include h

theorem r1 : res_main_v1 V0 = (up fun j => 1 / 2 * y j : S8448x1024.Idx → EReal) := by
  rw [res_main_v1, h.h1]
  funext j
  pointwise
  simp only [up_apply, reals]

theorem r14 : res_main_v14 V0 = (up fun j => Real.tanh (gc * (y j + y j * y j * y j * 44715 / 1000000)) : S8448x1024.Idx → EReal) := by
  rw [res_main_v14, h.h1]
  funext j
  pointwise
  simp only [up_apply, reals]

theorem r21 : res_main_v21 V0 = (up fun j => 1 + Real.tanh (gc * (y j + y j * y j * y j * 44715 / 1000000)) : S8448x1024.Idx → EReal) := by
  rw [res_main_v21, r14 h]
  funext j
  pointwise
  simp only [up_apply, reals]

theorem r24 : res_main_v24 V0 = (up fun j => zrow (row y (j 0)) (row wg) (j 1) : S8448x2048.Idx → EReal) := by
  rw [res_main_v24, r1 h, r21 h, res_main_v23, h.h4]
  funext j
  pointwise
  simp only [up_apply, reals]
  rfl

theorem r54 : res_main_v54 V0 = (up fun j => (∑ k, row a (j 0) k * row a (j 0) k) / 1024 + eps : S8448x1.Idx → EReal) := by
  rw [res_main_v54, h.h2]
  funext j
  pointwise
  simp only [up_apply, reals]
  rfl
theorem r25 : res_main_v25 V0 = (up fun j => lo (zrow (row y (j 0)) (row wg)) (j 1) : S8448x1024.Idx → EReal) := by
  rw [res_main_v25, r24 h]
  funext j
  pointwise
  simp only [up_apply, reals]
  rfl

theorem r32 : res_main_v32 V0 = (up fun j => sg (hi (zrow (row y (j 0)) (row wg)) (j 1)) : S8448x1024.Idx → EReal) := by
  rw [res_main_v32, r24 h]
  funext j
  pointwise
  simp only [up_apply, reals]
  rfl

theorem r36 : res_main_v36 V0 = (up fun j => ssm (zrow (row y (j 0)) (row wg)) (j 1) : S8448x1024.Idx → EReal) := by
  rw [res_main_v36, r25 h, r32 h]
  funext j
  pointwise
  simp only [up_apply, reals]
  rfl

theorem r44 : res_main_v44 V0 = (up fun j => sg (lo (row gg (j 0)) (j 1)) : S8448x1024.Idx → EReal) := by
  rw [res_main_v44, h.h3]
  funext j
  pointwise
  simp only [up_apply, reals]
  rfl

theorem r55 : res_main_v55 V0 = (up fun j => ri (row a (j 0)) : S8448x1.Idx → EReal) := by
  rw [res_main_v55, r54 h]
  funext j
  pointwise
  simp only [up_apply, reals, rsqrt_mean]
  rfl

theorem r60 : res_main_v60 V0 = (up fun j => a j * ri (row a (j 0)) : S8448x1024.Idx → EReal) := by
  rw [res_main_v60, r55 h, h.h2]
  funext j
  pointwise
  simp only [up_apply, reals]
  rfl

theorem r62 : res_main_v62 V0 = (up fun j => a j * ri (row a (j 0)) * row abn 0 (j 1) : S8448x1024.Idx → EReal) := by
  rw [res_main_v62, r60 h, h.h6]
  funext j
  pointwise
  simp only [up_apply, reals]
  rfl

theorem r69 : res_main_v69 V0 = (up fun j => sg (hi (row gg (j 0)) (j 1)) : S8448x1024.Idx → EReal) := by
  rw [res_main_v69, h.h3]
  funext j
  pointwise
  simp only [up_apply, reals]
  rfl

theorem r79 : res_main_v79 V0 = (up fun j => (∑ k, ssm (zrow (row y (j 0)) (row wg)) k * ssm (zrow (row y (j 0)) (row wg)) k) / 1024 + eps : S8448x1.Idx → EReal) := by
  rw [res_main_v79, r36 h]
  funext j
  pointwise
  simp only [up_apply, reals]
  rfl

theorem r80 : res_main_v80 V0 = (up fun j => ri (ssm (zrow (row y (j 0)) (row wg))) : S8448x1.Idx → EReal) := by
  rw [res_main_v80, r79 h]
  funext j
  pointwise
  simp only [up_apply, reals, rsqrt_mean]
  rfl

theorem r85 : res_main_v85 V0 = (up fun j => ssm (zrow (row y (j 0)) (row wg)) (j 1) * ri (ssm (zrow (row y (j 0)) (row wg))) : S8448x1024.Idx → EReal) := by
  rw [res_main_v85, r36 h, r80 h]
  funext j
  pointwise
  simp only [up_apply, reals]
  rfl

theorem r87 : res_main_v87 V0 = (up fun j => ssm (zrow (row y (j 0)) (row wg)) (j 1) * ri (ssm (zrow (row y (j 0)) (row wg))) * row sbn 0 (j 1) : S8448x1024.Idx → EReal) := by
  rw [res_main_v87, r85 h, h.h7]
  funext j
  pointwise
  simp only [up_apply, reals]
  rfl

theorem r92 : res_main_v92 V0 = (up fun j => (dm (row dh (j 0)) (row wo)) (j 1) : S8448x1024.Idx → EReal) := by
  rw [res_main_v92, res_main_v90, h.h0, h.h5]
  funext j
  pointwise
  simp only [up_apply, reals]
  rfl

theorem r93 : res_main_v93 V0 = (up fun j => sg (hi (row gg (j 0)) (j 1)) * (dm (row dh (j 0)) (row wo)) (j 1) : S8448x1024.Idx → EReal) := by
  rw [res_main_v93, r92 h, r69 h]
  funext j
  pointwise
  simp only [up_apply, reals]

theorem r99 : res_main_v99 V0 = (up fun j => (dnR (dm (row dh (j 0)) (row wo)) (hi (row gg (j 0))) (row sbn 0)) (j 1) : S8448x1024.Idx → EReal) := by
  rw [res_main_v99, r93 h, h.h7]
  funext j
  pointwise
  simp only [up_apply, reals]
  rfl

theorem r109 : res_main_v109 V0 = (up fun j => mc (dnR (dm (row dh (j 0)) (row wo)) (hi (row gg (j 0))) (row sbn 0)) (ssm (zrow (row y (j 0)) (row wg))) : S8448x1024.Idx → EReal) := by
  rw [res_main_v109, r36 h, r99 h, r79 h, r80 h]
  funext j
  pointwise
  simp only [up_apply, reals, div_mean, Finset.univ_unique, Finset.sum_singleton]
  rfl

theorem r113 : res_main_v113 V0 = (up fun j => nbR (dnR (dm (row dh (j 0)) (row wo)) (hi (row gg (j 0))) (row sbn 0)) (ssm (zrow (row y (j 0)) (row wg))) (j 1) : S8448x1024.Idx → EReal) := by
  rw [res_main_v113, r36 h, r99 h, r80 h, r109 h]
  funext j
  pointwise
  simp only [up_apply, reals]
  rfl

theorem r115 : res_main_v115 V0 = (up fun j => sg (lo (row gg (j 0)) (j 1)) * (dm (row dh (j 0)) (row wo)) (j 1) : S8448x1024.Idx → EReal) := by
  rw [res_main_v115, r92 h, r44 h]
  funext j
  pointwise
  simp only [up_apply, reals]

theorem r121 : res_main_v121 V0 = (up fun j => (dnR (dm (row dh (j 0)) (row wo)) (lo (row gg (j 0))) (row abn 0)) (j 1) : S8448x1024.Idx → EReal) := by
  rw [res_main_v121, r115 h, h.h6]
  funext j
  pointwise
  simp only [up_apply, reals]
  rfl

theorem r131 : res_main_v131 V0 = (up fun j => mc (dnR (dm (row dh (j 0)) (row wo)) (lo (row gg (j 0))) (row abn 0)) (row a (j 0)) : S8448x1024.Idx → EReal) := by
  rw [res_main_v131, h.h2, r121 h, r54 h, r55 h]
  funext j
  obtain ⟨r, k, rfl⟩ : ∃ r k, j = ix2 r k := ⟨_, _, eq_ix2 j⟩
  pointwise
  simp only [up_apply, reals, div_mean, Finset.univ_unique, Finset.sum_singleton]
  rfl

theorem r141 : res_main_v141 V0 = (up fun j => cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) (j 1) : S8448x2048.Idx → EReal) := by
  rw [res_main_v141, r113 h, r32 h, r25 h]
  funext j
  obtain ⟨r, k, rfl⟩ : ∃ r k, j = ix2 r k := ⟨_, _, eq_ix2 j⟩
  pointwise
  simp only [up_apply, reals]
  refine Eq.trans ?_ (coe_cat _ _ _).symm
  rfl

theorem r142 : res_main_v142 V0 = (up fun j => ∑ q, cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) q * row wg (j 1) q : S8448x1024.Idx → EReal) := by
  rw [res_main_v142, res_main_v23, r141 h, h.h4]
  funext j
  pointwise
  simp only [up_apply, reals]
  rfl

theorem r147 : res_main_v147 V0 = (up fun j => dgelR (∑ q, cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) q * row wg (j 1) q) (y j) : S8448x1024.Idx → EReal) := by
  rw [res_main_v147, r1 h, r142 h, r14 h]
  funext j
  obtain ⟨r, k, rfl⟩ : ∃ r k, j = ix2 r k := ⟨_, _, eq_ix2 j⟩
  pointwise
  simp only [up_apply, reals]
  rfl

theorem r158 : (truncf .bf16 (concatenate S8448x2048 1 [⟨S8448x1024, (mulf (mulf (res_main_v92 V0) (res_main_v62 V0)) (mulf (res_main_v44 V0) (subf (broadcastInDim S8448x1024 ![] bcast_S_S8448x1024 (constant S_ .f32 0x3F800000#32)) (res_main_v44 V0))))⟩, ⟨S8448x1024, (mulf (mulf (res_main_v92 V0) (res_main_v87 V0)) (mulf (res_main_v69 V0) (subf (broadcastInDim S8448x1024 ![] bcast_S_S8448x1024 (constant S_ .f32 0x3F800000#32)) (res_main_v69 V0))))⟩] concatenates_S8448x1024_S8448x1024_S8448x2048_d1) bitsLt_bf16_f32 : S8448x2048.Idx → EReal) = (up fun j => cat (dgateR (dm (row dh (j 0)) (row wo)) (lo (row gg (j 0))) (row abn 0) (row a (j 0))) (dgateR (dm (row dh (j 0)) (row wo)) (hi (row gg (j 0))) (row sbn 0) (ssm (zrow (row y (j 0)) (row wg)))) (j 1) : S8448x2048.Idx → EReal) := by
  rw [r92 h, r62 h, r44 h, r87 h, r69 h]
  funext j
  obtain ⟨r, k, rfl⟩ : ∃ r k, j = ix2 r k := ⟨_, _, eq_ix2 j⟩
  pointwise
  simp only [up_apply, reals]
  refine Eq.trans ?_ (coe_cat _ _ _).symm
  rfl

theorem r159 : (truncf .bf16 (res_main_v141 V0) bitsLt_bf16_f32 : S8448x2048.Idx → EReal) = (up fun j => cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) (j 1) : S8448x2048.Idx → EReal) := by
  rw [r141 h]
  rfl

theorem r156 : (addf (addf (res_main_v147 V0) (mulf (mulf (Host.divf (res_main_v147 V0) (broadcastInDim S8448x1024 ![] bcast_S_S8448x1024 (constant S_ .f32 0x49742400#32))) (broadcastInDim S8448x1024 ![] bcast_S_S8448x1024 (constant S_ .f32 0x472EAB00#32))) (mulf (broadcastInDim S8448x1024 ![] bcast_S_S8448x1024 (constant S_ .f32 0x40400000#32)) (mulf (V0 (Proc.devRef .tc main_arg1)) (V0 (Proc.devRef .tc main_arg1)))))) (mulf (broadcastInDim S8448x1024 ![] bcast_S_S8448x1024 (constant S_ .f32 0x3F000000#32)) (mulf (res_main_v142 V0) (res_main_v21 V0))) : S8448x1024.Idx → EReal) = (up fun j => dgelR (∑ q, cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) q * row wg (j 1) q) (y j) + dgelR (∑ q, cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) q * row wg (j 1) q) (y j) / 1000000 * 44715 * (3 * (y j * y j)) + 1 / 2 * ((∑ q, cat (dzaR (dnR (dm (row dh (j 0)) (row wo)) (hi (row gg (j 0))) (row sbn 0)) (zrow (row y (j 0)) (row wg))) (dzbR (dnR (dm (row dh (j 0)) (row wo)) (hi (row gg (j 0))) (row sbn 0)) (zrow (row y (j 0)) (row wg))) q * row wg (j 1) q) * (1 + Real.tanh (gc * (y j + y j * y j * y j * 44715 / 1000000)))) : S8448x1024.Idx → EReal) := by
  rw [r147 h, r142 h, r21 h, h.h1]
  funext j
  obtain ⟨r, k, rfl⟩ : ∃ r k, j = ix2 r k := ⟨_, _, eq_ix2 j⟩
  pointwise
  simp only [up_apply, reals]

theorem r157 : (truncf .bf16 (addf (addf (mulf (res_main_v121 V0) (broadcastInDim S8448x1024 ![0, 1] bcast_S8448x1_S8448x1024_0_1 (res_main_v55 V0))) (mulf (V0 (Proc.devRef .tc main_arg2)) (res_main_v131 V0))) (mulf (res_main_v131 V0) (V0 (Proc.devRef .tc main_arg2)))) bitsLt_bf16_f32 : S8448x1024.Idx → EReal) = (up fun j => nbR (dnR (dm (row dh (j 0)) (row wo)) (lo (row gg (j 0))) (row abn 0)) (row a (j 0)) (j 1) : S8448x1024.Idx → EReal) := by
  rw [r121 h, r55 h, r131 h, h.h2]
  funext j
  obtain ⟨r, k, rfl⟩ : ∃ r k, j = ix2 r k := ⟨_, _, eq_ix2 j⟩
  pointwise
  simp only [up_apply, reals]
  rfl

theorem r119 : (shapeCast S1x1024 (Host.reduceAdd (mulf (res_main_v60 V0) (res_main_v115 V0)) (constant S_ .f32 0x00000000#32) reducesTo_S8448x1024_S1024_d0 h_S_) shapeCasts_S1024_S1x1024 : S1x1024.Idx → EReal) = (up fun j => ∑ r, dwR (dm (row dh r) (row wo)) (lo (row gg r)) (row a r) (j 1) : S1x1024.Idx → EReal) := by
  rw [r60 h, r115 h]
  funext j
  pointwise
  simp only [up_apply, reals]
  rfl

theorem r97 : (shapeCast S1x1024 (Host.reduceAdd (mulf (res_main_v85 V0) (res_main_v93 V0)) (constant S_ .f32 0x00000000#32) reducesTo_S8448x1024_S1024_d0 h_S_) shapeCasts_S1024_S1x1024 : S1x1024.Idx → EReal) = (up fun j => ∑ r, dwR (dm (row dh r) (row wo)) (hi (row gg r)) (ssm (zrow (row y r) (row wg))) (j 1) : S1x1024.Idx → EReal) := by
  rw [r85 h, r93 h]
  funext j
  pointwise
  simp only [up_apply, reals]
  rfl

end

end Cert.Mid
-- ==== Proof.MidEq.lean ====
module
public import proofs.«01_k».proof.Proof.MidK
public import proofs.«01_k».proof.Proof.MidR

/-! The product rule's rows are the kernel's rows. -/

@[expose] public section
noncomputable section
open Cert.Reals

namespace Cert.Mid

theorem dn_eq (e g w : Fin 1024 → ℝ) : dnR e g w = dn e g w := by
  funext j; unfold dnR dn; ring
theorem dgate_eq (e g w x : Fin 1024 → ℝ) : dgateR e g w x = dgate e g w x := by
  funext j; unfold dgateR dgate dn; ring
theorem dw_eq (e g x : Fin 1024 → ℝ) : dwR e g x = dw e g x := by
  funext j; unfold dwR dw; ring
theorem nb_eq (d x : Fin 1024 → ℝ) : nbR d x = nb d x := by
  funext j
  have hs : ∑ k, d k * (x k * ri x) = (∑ k, x k * d k) * ri x := by
    rw [Finset.sum_mul]; exact Finset.sum_congr rfl fun k _ => by ring
  have hp := mean_pos x
  have hr : ri x / ((∑ k, x k * x k) / 1024 + eps) = ri x * ri x * ri x := by
    rw [div_eq_iff (ne_of_gt hp)]
    have := rs_sq x
    unfold ri
    linear_combination (-(rs (∑ k, x k * x k))) * this
  unfold nbR nb mc
  rw [hs, hr]; ring
theorem dza_eq (ds : Fin 1024 → ℝ) (zz : Fin 2048 → ℝ) : dzaR ds zz = dza ds zz := by
  funext j; unfold dzaR dza; rw [nb_eq]
theorem dzb_eq (ds : Fin 1024 → ℝ) (zz : Fin 2048 → ℝ) : dzbR ds zz = dzb ds zz := by
  funext j; unfold dzbR dzb; rw [nb_eq]; ring
theorem dgelu_eq (dz x : ℝ) : dgelR dz x + dgelR dz x / 1000000 * 44715 * (3 * (x * x))
      + 1 / 2 * (dz * (1 + Real.tanh (gc * (x + x * x * x * 44715 / 1000000)))) = dz * dgelu x := by
  have e : gc * (x + x * x * x * 44715 / 1000000) = gc * (x + 8943 / 200000 * x * x * x) := by ring
  unfold dgelR dgelu
  rw [e]; ring

end Cert.Mid
end
end
-- ==== Proof.MidF.lean ====
module
public import proofs.«01_k».proof.Proof.Gen.KernelIdeal.Value
public import proofs.«01_k».proof.Proof.MidK
public import proofs.«01_k».proof.Proof.MidEq
public import Idealize.ShloMosaic.Lib.StableHlo.ReadAt

/-! The kernel's blocks as rows of real arrays. -/

@[expose] public section
set_option maxRecDepth 16384
noncomputable section
namespace Cert.Mid
open Cert.KernelIdeal Cert.KernelIdeal.Gen Idealize.ShloMosaic Idealize.ShloMosaic.TcCoe Idealize.SL.Sem Cert.Reals
open Idealize.ShloMosaic.Pipeline (Dat)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0] :=
  (by decide +kernel : ∀ t : Fin grid0.N, _)

/-- Row `r` of block `t`, as a row of the array. -/
def rw_ (t : Fin cfg0.N) (r : Fin 256) : Fin 8448 := ⟨t.val * 256 + r.val, by have := lt_of_lt_of_eq t.isLt N_0; omega⟩

variable (m : (ℓ : Loc nD τ sig) → Buf (Elt Ideal) ℓ)
variable {c : Dev nD} {dh y a : S8448x1024.Idx → ℝ} {gg : S8448x2048.Idx → ℝ} {wg : S1024x2048.Idx → ℝ}
  {wo : S1024x1024.Idx → ℝ} {abn sbn : S1x1024.Idx → ℝ}

/-- The arguments are real arrays. -/
structure KArgs (m : (ℓ : Loc nD τ sig) → Buf (Elt Ideal) ℓ) (c : Dev nD) (dh y a : S8448x1024.Idx → ℝ) (gg : S8448x2048.Idx → ℝ)
    (wg : S1024x2048.Idx → ℝ) (wo : S1024x1024.Idx → ℝ) (abn sbn : S1x1024.Idx → ℝ) : Prop where
  h0 : m ((c : Thread nD τ).loc main_arg0) = (up dh : S8448x1024.Idx → EReal)
  h1 : m ((c : Thread nD τ).loc main_arg1) = (up y : S8448x1024.Idx → EReal)
  h2 : m ((c : Thread nD τ).loc main_arg2) = (up a : S8448x1024.Idx → EReal)
  h3 : m ((c : Thread nD τ).loc main_arg3) = (up gg : S8448x2048.Idx → EReal)
  h4 : m ((c : Thread nD τ).loc main_arg4) = (up wg : S1024x2048.Idx → EReal)
  h5 : m ((c : Thread nD τ).loc main_arg5) = (up wo : S1024x1024.Idx → EReal)
  h6 : m ((c : Thread nD τ).loc main_arg6) = (up abn : S1x1024.Idx → EReal)
  h7 : m ((c : Thread nD τ).loc main_arg7) = (up sbn : S1x1024.Idx → EReal)

variable (h : KArgs m c dh y a gg wg wo abn sbn) (t : Fin cfg0.N)
include h

theorem b0 : iblk m c 0 t = (up fun x => dh (ix2 (rw_ t (x 0)) (x 1)) : S256x1024.Idx → EReal) := by
  funext x
  rw [up_apply, ← up_apply dh, ← h.h0]
  blk_point [iblk, V, idx t]
  rfl
theorem b1 : iblk m c 1 t = (up fun x => y (ix2 (rw_ t (x 0)) (x 1)) : S256x1024.Idx → EReal) := by
  funext x
  rw [up_apply, ← up_apply y, ← h.h1]
  blk_ext [iblk, V, idx t]
  rfl
theorem b2 : iblk m c 2 t = (up fun x => a (ix2 (rw_ t (x 0)) (x 1)) : S256x1024.Idx → EReal) := by
  funext x
  rw [up_apply, ← up_apply a, ← h.h2]
  blk_ext [iblk, V, idx t]
  rfl
theorem b3 : iblk m c 3 t = (up fun x => gg (ix2 (rw_ t (x 0)) (x 1)) : S256x2048.Idx → EReal) := by
  funext x
  rw [up_apply, ← up_apply gg, ← h.h3]
  blk_ext [iblk, V, idx t]
  rfl
theorem b5 : iblk m c 5 t = (up wg : S1024x2048.Idx → EReal) := by
  funext x
  rw [← h.h4]
  blk_ext [iblk, V, idx t]
theorem b6 : iblk m c 6 t = (up wo : S1024x1024.Idx → EReal) := by
  funext x
  rw [← h.h5]
  blk_ext [iblk, V, idx t]
theorem b7 : iblk m c 7 t = (up abn : S1x1024.Idx → EReal) := by
  funext x
  rw [← h.h6]
  blk_ext [iblk, V, idx t]
theorem b8 : iblk m c 8 t = (up sbn : S1x1024.Idx → EReal) := by
  funext x
  rw [← h.h7]
  blk_ext [iblk, V, idx t]
theorem v18 : V m c main_v18 = (up fun j => zrow (row y (j 0)) (row wg) (j 1) : S8448x2048.Idx → EReal) := by
  funext j
  unfold V
  after_reads_at
  have e1 : m (c, Proc.devRef .tc main_arg1) = (up y : S8448x1024.Idx → EReal) := h.h1
  have e4 : m (c, Proc.devRef .tc main_arg4) = (up wg : S1024x2048.Idx → EReal) := h.h4
  rw [e1, e4]
  simp only [up_apply, reals]
  rfl
theorem b4 : iblk m c 4 t = (up fun x => zrow (row y (rw_ t (x 0))) (row wg) (x 1) : S256x2048.Idx → EReal) := by
  funext x
  have e := v18 m h
  show _ = (up fun j => zrow (row y (j 0)) (row wg) (j 1) : S8448x2048.Idx → EReal) (ix2 (rw_ t (x 0)) (x 1))
  rw [← e]
  blk_ext [iblk, idx t]
  rfl

omit h in
theorem cat_left (f g : Fin 1024 → ℝ) (k : Fin 2048) (x : Fin 1024) (e : (k : ℕ) = x) : cat f g k = f x := by
  have hk : (k : ℕ) < 1024 := e ▸ x.isLt
  rw [cat, dif_pos hk]
  exact congrArg f (Fin.ext e)
omit h in
theorem cat_right (f g : Fin 1024 → ℝ) (k : Fin 2048) (x : Fin 1024) (e : (k : ℕ) = 1024 + x) : cat f g k = g x := by
  have hk : ¬(k : ℕ) < 1024 := by omega
  rw [cat, dif_neg hk]
  exact congrArg g (Fin.ext (by show (k : ℕ) - 1024 = x; omega))

omit h in
/-- Reading back two halves. -/
theorem halves {κ : Kind} {sp : Space} (v : View sig κ sp S256x2048 .bf16) (p q : S256x1024.Idx → ℝ) :
    v.readCov (Val := Elt Ideal) [⟨Rect.unit ![0, 1024] ![256, 1024] inb_S256x2048_S256x1024_0_1024, (up q : S256x1024.Idx → EReal)⟩,
      ⟨Rect.unit ![0, 0] ![256, 1024] inb_S256x2048_S256x1024_0_0, (up p : S256x1024.Idx → EReal)⟩]
      (Rect.unit ![0, 0] ![256, 2048] inb_S256x2048_S256x2048_0_0).toLoadRect
    = (up fun j => cat (fun k => p (ix2 (j 0) k)) (fun k => q (ix2 (j 0) k)) (j 1) : S256x2048.Idx → EReal) := by
  rw [View.readCov_eq_canon']
  funext j
  obtain ⟨r, k, rfl⟩ : ∃ r k, j = ix2 r k := ⟨_, _, eq_ix2 j⟩
  have e : (Rect.unit ![0, 0] ![256, 2048] inb_S256x2048_S256x2048_0_0).toLoadRect.idx (ix2 r k) = (ix2 r k : S256x2048.Idx) := by
    blk_ext <;> simp
  rw [e]
  generalize hy : (ix2 r k : S256x2048.Idx) = w
  canon_tiles x h
  case piece0 =>
    subst hy
    obtain rfl : r = (x 0 : Fin 256) := Fin.ext h0
    rw [up_apply, up_apply, cat_right _ _ _ (x 1) h1]
    exact congrArg (fun i => (q i : EReal)) (eq_ix2 x)
  case piece1 =>
    subst hy
    obtain rfl : r = (x 0 : Fin 256) := Fin.ext h0
    rw [up_apply, up_apply, cat_left _ _ _ (x 1) h1]
    exact congrArg (fun i => (p i : EReal)) (eq_ix2 x)

omit h in
/-- The rows of the blocks of one run, one after the other. -/
theorem rw_run (s : Fin 33) (k : Fin 256) (hl : s.val * 256 + k.val < 8448) {p} : rw_ ⟨33 * (t.val / 33) + s.val, p⟩ k = ⟨s.val * 256 + k.val, hl⟩ :=
  Fin.ext (by
    have : t.val < 33 := lt_of_lt_of_eq t.isLt N_0
    show (33 * (t.val / 33) + s.val) * 256 + k.val = s.val * 256 + k.val
    omega)

/-- The rows. -/
def DM (dh : S8448x1024.Idx → ℝ) (wo : S1024x1024.Idx → ℝ) (r : Fin 8448) : Fin 1024 → ℝ := dm (row dh r) (row wo)
def Z (y : S8448x1024.Idx → ℝ) (wg : S1024x2048.Idx → ℝ) (r : Fin 8448) : Fin 2048 → ℝ := zrow (row y r) (row wg)

theorem o10 (x : S256x1024.Idx) : (outsAt0 m c t.val t.isLt).2.1 x
    = ((nb (dn (DM dh wo (rw_ t (x 0))) (lo (row gg (rw_ t (x 0)))) (row abn 0)) (row a (rw_ t (x 0))) (x 1) : ℝ) : EReal) := by
  by_cases ht : t.val % 33 = 0
  · rw [outsAt0_A m c t ht]
    frame_out
    rw [b0 m h t, b2 m h t, b3 m h t, b6 m h t, b7 m h t]
    rw [pay20]
    rfl
  · rw [outsAt0_B m c t ht]
    frame_out
    rw [b0 m h t, b2 m h t, b3 m h t, b6 m h t, b7 m h t, pay20]
    rfl
theorem o11 (r : Fin 256) (k : Fin 2048) : (outsAt0 m c t.val t.isLt).2.2.1 (ix2 r k)
    = ((cat (dgate (DM dh wo (rw_ t r)) (lo (row gg (rw_ t r))) (row abn 0) (row a (rw_ t r)))
        (dgate (DM dh wo (rw_ t r)) (hi (row gg (rw_ t r))) (row sbn 0) (ssm (Z y wg (rw_ t r)))) k : ℝ) : EReal) := by
  by_cases ht : t.val % 33 = 0
  · rw [outsAt0_A m c t ht]
    frame_out
    rw [b0 m h t, b2 m h t, b3 m h t, b4 m h t, b6 m h t, b7 m h t, b8 m h t, pay19, pay25]
    generalize hy : (ix2 r k : S256x2048.Idx) = w
    clear h
    canon_tiles x h
    case piece0 =>
      subst hy
      obtain rfl : r = (x 0 : Fin 256) := Fin.ext h0
      rw [cat_right _ _ k (x 1) h1]
      rfl
    case piece1 =>
      subst hy
      obtain rfl : r = (x 0 : Fin 256) := Fin.ext h0
      rw [cat_left _ _ k (x 1) h1]
      rfl
  · rw [outsAt0_B m c t ht]
    frame_out
    rw [b0 m h t, b2 m h t, b3 m h t, b4 m h t, b6 m h t, b7 m h t, b8 m h t, pay19, pay25]
    generalize hy : (ix2 r k : S256x2048.Idx) = w
    clear h
    canon_tiles x h
    case piece0 =>
      subst hy
      obtain rfl : r = (x 0 : Fin 256) := Fin.ext h0
      rw [cat_right _ _ k (x 1) h1]
      rfl
    case piece1 =>
      subst hy
      obtain rfl : r = (x 0 : Fin 256) := Fin.ext h0
      rw [cat_left _ _ k (x 1) h1]
      rfl

theorem o12 (r : Fin 256) (k : Fin 2048) : (outsAt0 m c t.val t.isLt).2.2.2.1 (ix2 r k)
    = ((cat (dza (dn (DM dh wo (rw_ t r)) (hi (row gg (rw_ t r))) (row sbn 0)) (Z y wg (rw_ t r)))
        (dzb (dn (DM dh wo (rw_ t r)) (hi (row gg (rw_ t r))) (row sbn 0)) (Z y wg (rw_ t r))) k : ℝ) : EReal) := by
  by_cases ht : t.val % 33 = 0
  · rw [outsAt0_A m c t ht]
    frame_out
    rw [b0 m h t, b3 m h t, b4 m h t, b6 m h t, b8 m h t, pay27, pay29]
    generalize hy : (ix2 r k : S256x2048.Idx) = w
    clear h
    canon_tiles x h
    case piece0 =>
      subst hy
      obtain rfl : r = (x 0 : Fin 256) := Fin.ext h0
      rw [cat_right _ _ k (x 1) h1]
      rfl
    case piece1 =>
      subst hy
      obtain rfl : r = (x 0 : Fin 256) := Fin.ext h0
      rw [cat_left _ _ k (x 1) h1]
      rfl
  · rw [outsAt0_B m c t ht]
    frame_out
    rw [b0 m h t, b3 m h t, b4 m h t, b6 m h t, b8 m h t, pay27, pay29]
    generalize hy : (ix2 r k : S256x2048.Idx) = w
    clear h
    canon_tiles x h
    case piece0 =>
      subst hy
      obtain rfl : r = (x 0 : Fin 256) := Fin.ext h0
      rw [cat_right _ _ k (x 1) h1]
      rfl
    case piece1 =>
      subst hy
      obtain rfl : r = (x 0 : Fin 256) := Fin.ext h0
      rw [cat_left _ _ k (x 1) h1]
      rfl

theorem o9 (r : Fin 256) (k : Fin 1024) : (outsAt0 m c t.val t.isLt).1 (ix2 r k)
    = (((∑ q, cat (dza (dn (DM dh wo (rw_ t r)) (hi (row gg (rw_ t r))) (row sbn 0)) (Z y wg (rw_ t r))) (dzb (dn (DM dh wo (rw_ t r)) (hi (row gg (rw_ t r))) (row sbn 0)) (Z y wg (rw_ t r))) q * row wg k q) * dgelu (y (ix2 (rw_ t r) k)) : ℝ) : EReal) := by
  by_cases ht : t.val % 33 = 0
  · rw [outsAt0_A m c t ht]
    frame_out
    rw [b0 m h t, b1 m h t, b3 m h t, b4 m h t, b5 m h t, b6 m h t, b8 m h t, pay27, pay29, halves, pay30]
    rfl
  · rw [outsAt0_B m c t ht]
    frame_out
    rw [b0 m h t, b1 m h t, b3 m h t, b4 m h t, b5 m h t, b6 m h t, b8 m h t, pay27, pay29, halves, pay30]
    rfl
theorem f9 : (dats m 0 c).arrAt 9 (cfgs 0).N = (up fun j => (∑ q, cat (dza (dn (DM dh wo (j 0)) (hi (row gg (j 0))) (row sbn 0)) (Z y wg (j 0))) (dzb (dn (DM dh wo (j 0)) (hi (row gg (j 0))) (row sbn 0)) (Z y wg (j 0))) q * row wg (j 1) q) * dgelu (y j) : S8448x1024.Idx → EReal) := by
  refine (dats m 0 c).arrAt_eq_of_covers 9 _ (by decide +kernel) fun t hf w => ?_
  blk_simp
  rw [after0_9]
  obtain ⟨r, k, rfl⟩ : ∃ r k, w = ix2 r k := ⟨_, _, eq_ix2 w⟩
  refine (o9 m h t r k).trans ?_
  have e : (win0_9.blk t).view.emb (ix2 r k) = ix2 (rw_ t r) k := by
    blk_ext [idx t] <;> rfl
  rw [e]
  rfl
theorem f10 : (dats m 0 c).arrAt 10 (cfgs 0).N = (up fun j => nb (dn (DM dh wo (j 0)) (lo (row gg (j 0))) (row abn 0)) (row a (j 0)) (j 1) : S8448x1024.Idx → EReal) := by
  refine (dats m 0 c).arrAt_eq_of_covers 10 _ (by decide +kernel) fun t hf w => ?_
  blk_simp
  rw [after0_10]
  obtain ⟨r, k, rfl⟩ : ∃ r k, w = ix2 r k := ⟨_, _, eq_ix2 w⟩
  refine (o10 m h t (ix2 r k)).trans ?_
  have e : (win0_10.blk t).view.emb (ix2 r k) = ix2 (rw_ t r) k := by
    blk_ext [idx t] <;> rfl
  rw [e]
  rfl
theorem f11 : (dats m 0 c).arrAt 11 (cfgs 0).N = (up fun j => cat (dgate (DM dh wo (j 0)) (lo (row gg (j 0))) (row abn 0) (row a (j 0))) (dgate (DM dh wo (j 0)) (hi (row gg (j 0))) (row sbn 0) (ssm (Z y wg (j 0)))) (j 1) : S8448x2048.Idx → EReal) := by
  refine (dats m 0 c).arrAt_eq_of_covers 11 _ (by decide +kernel) fun t hf w => ?_
  blk_simp
  rw [after0_11]
  obtain ⟨r, k, rfl⟩ : ∃ r k, w = ix2 r k := ⟨_, _, eq_ix2 w⟩
  refine (o11 m h t r k).trans ?_
  have e : (win0_11.blk t).view.emb (ix2 r k) = ix2 (rw_ t r) k := by
    blk_ext [idx t] <;> rfl
  rw [e]
  rfl
theorem f12 : (dats m 0 c).arrAt 12 (cfgs 0).N = (up fun j => cat (dza (dn (DM dh wo (j 0)) (hi (row gg (j 0))) (row sbn 0)) (Z y wg (j 0))) (dzb (dn (DM dh wo (j 0)) (hi (row gg (j 0))) (row sbn 0)) (Z y wg (j 0))) (j 1) : S8448x2048.Idx → EReal) := by
  refine (dats m 0 c).arrAt_eq_of_covers 12 _ (by decide +kernel) fun t hf w => ?_
  blk_simp
  rw [after0_12]
  obtain ⟨r, k, rfl⟩ : ∃ r k, w = ix2 r k := ⟨_, _, eq_ix2 w⟩
  refine (o12 m h t r k).trans ?_
  have e : (win0_12.blk t).view.emb (ix2 r k) = ix2 (rw_ t r) k := by
    blk_ext [idx t] <;> rfl
  rw [e]
  rfl
theorem a13 (ht : t.val % 33 = 0) (j : S1x1024.Idx) : (outsAt0 m c t.val t.isLt).2.2.2.2.1 j
    = 0 + ((∑ r : Fin 256, dw (DM dh wo (rw_ t r)) (lo (row gg (rw_ t r))) (row a (rw_ t r)) (j 1) : ℝ) : EReal) := by
  rw [outsAt0_A m c t ht]
  frame_out
  rw [b0 m h t, b2 m h t, b3 m h t, b6 m h t, pay16]
  exact congrArg (· + _) (pay1 j)
theorem s13 (ht : ¬t.val % 33 = 0) (j : S1x1024.Idx) : (outsAt0 m c t.val t.isLt).2.2.2.2.1 j
    = (outsAt0 m c (t.val - 1) (lt_of_le_of_lt (Nat.sub_le _ _) t.isLt)).2.2.2.2.1 j + ((∑ r : Fin 256, dw (DM dh wo (rw_ t r)) (lo (row gg (rw_ t r))) (row a (rw_ t r)) (j 1) : ℝ) : EReal) := by
  rw [outsAt0_B m c t ht]
  frame_out
  rw [b0 m h t, b2 m h t, b3 m h t, b6 m h t, pay16]
  rfl
theorem f13 : (dats m 0 c).arrAt 13 (cfgs 0).N = (up fun j => ∑ r, dw (DM dh wo r) (lo (row gg r)) (row a r) (j 1) : S1x1024.Idx → EReal) := by
  refine (dats m 0 c).arrAt_eq_of_covers 13 _ (by decide +kernel) fun t hf w => ?_
  blk_simp
  rw [after0_13, Pipeline.eq_sum_fin_of_reset_step_apply_of_flush (fun n h => (outsAt0 m c n h).2.2.2.2.1) 33 (fun _ => 0)
    (fun t j => ((∑ r : Fin 256, dw (DM dh wo (rw_ t r)) (lo (row gg (rw_ t r))) (row a (rw_ t r)) (j 1) : ℝ) : EReal)) (fun t ht j => a13 m h t ht j) (fun t ht j => s13 m h t ht j) t ((flush0_13 t).mp hf) _, zero_add]
  have e : (win0_13.blk t).view.emb w = w := by
    blk_ext [idx t] <;> rfl
  rw [e]
  refine (coe_sum _).trans (congrArg _ (Fin.sum_mul_add_congr fun s k hl => ?_))
  rw [rw_run t s k hl]
theorem a14 (ht : t.val % 33 = 0) (j : S1x1024.Idx) : (outsAt0 m c t.val t.isLt).2.2.2.2.2 j
    = 0 + ((∑ r : Fin 256, dw (DM dh wo (rw_ t r)) (hi (row gg (rw_ t r))) (ssm (Z y wg (rw_ t r))) (j 1) : ℝ) : EReal) := by
  rw [outsAt0_A m c t ht]
  frame_out
  rw [b0 m h t, b3 m h t, b4 m h t, b6 m h t, pay22]
  exact congrArg (· + _) (pay2 j)
theorem s14 (ht : ¬t.val % 33 = 0) (j : S1x1024.Idx) : (outsAt0 m c t.val t.isLt).2.2.2.2.2 j
    = (outsAt0 m c (t.val - 1) (lt_of_le_of_lt (Nat.sub_le _ _) t.isLt)).2.2.2.2.2 j + ((∑ r : Fin 256, dw (DM dh wo (rw_ t r)) (hi (row gg (rw_ t r))) (ssm (Z y wg (rw_ t r))) (j 1) : ℝ) : EReal) := by
  rw [outsAt0_B m c t ht]
  frame_out
  rw [b0 m h t, b3 m h t, b4 m h t, b6 m h t, pay22]
  rfl
theorem f14 : (dats m 0 c).arrAt 14 (cfgs 0).N = (up fun j => ∑ r, dw (DM dh wo r) (hi (row gg r)) (ssm (Z y wg r)) (j 1) : S1x1024.Idx → EReal) := by
  refine (dats m 0 c).arrAt_eq_of_covers 14 _ (by decide +kernel) fun t hf w => ?_
  blk_simp
  rw [after0_14, Pipeline.eq_sum_fin_of_reset_step_apply_of_flush (fun n h => (outsAt0 m c n h).2.2.2.2.2) 33 (fun _ => 0)
    (fun t j => ((∑ r : Fin 256, dw (DM dh wo (rw_ t r)) (hi (row gg (rw_ t r))) (ssm (Z y wg (rw_ t r))) (j 1) : ℝ) : EReal)) (fun t ht j => a14 m h t ht j) (fun t ht j => s14 m h t ht j) t ((flush0_14 t).mp hf) _, zero_add]
  have e : (win0_14.blk t).view.emb w = w := by
    blk_ext [idx t] <;> rfl
  rw [e]
  refine (coe_sum _).trans (congrArg _ (Fin.sum_mul_add_congr fun s k hl => ?_))
  rw [rw_run t s k hl]

end Cert.Mid
end
end
-- ==== Proof.Pre.lean ====
module
public import proofs.«01_k».proof.Proof.Reals
public import proofs.«01_k».proof.Pre_finite
public import proofs.«01_k».proof.Proof.Gen.Pre_finite
public import Idealize.ShloMosaic.Lib.ReduceAll
public import Idealize.ShloMosaic.Lib.Affine

/-! The precondition says that every argument is a real array. -/

@[expose] public section
noncomputable section
namespace Cert.Reals
open Idealize.ShloMosaic

theorem inf_word : Ideal.ofBits .f32 0x7F800000#32 = ⊤ := by
  simp [Ideal.ofBits, Ideal.ieee]
theorem real_of_lt (x : EReal) (h : FloatOps.cmpf (F := Ideal) (φ := .f32) .olt (FloatOps.hostAbsf (F := Ideal) (φ := .f32) x) (Ideal.ofBits .f32 0x7F800000#32) = 1#1) : x ≠ ⊤ ∧ x ≠ ⊥ := by
  rw [inf_word] at h
  constructor <;> rintro rfl <;> revert h <;> simp [Ideal.cmpf_def, Ideal.absf_def, Ideal.cmp]

variable {s : Shape} (x : FVec Ideal s .f32) {hb : Cert.Pre_finite.S_.BroadcastsInDim s (![] : Fin 0 → Fin s.rank)}

theorem real_of_all {axes : List (Fin s.rank)} {hr : s.ReducesTo axes Cert.Pre_finite.S_} {hu} (j)
    (h : Host.reduce IntOp.andi (cmpf .olt (Host.absf x) (broadcastInDim s ![] hb (constant (F := Ideal) Cert.Pre_finite.S_ .f32 0x7F800000#32)))
      (constantI Cert.Pre_finite.S_ 1 1#1) hr hu j = 1#1) : ∃ b : s.Idx → ℝ, x = up b :=
  exists_up x fun i => real_of_lt (x i) (Host.reduce_andi_all _ _ hr hu j h i)

open Cert.Pre_finite in
theorem finite_args [Facts] (a0 a1 a2 : FVec Ideal S8448x1024 .f32) (a3 : FVec Ideal S8448x2048 .f32) (a4 : FVec Ideal S1024x2048 .bf16)
    (a5 : FVec Ideal S1024x1024 .bf16) (a6 a7 : FVec Ideal S1x1024 .f32) (h : fn (F := Ideal) a0 a1 a2 a3 a4 a5 a6 a7 = fun _ => 1#1) :
    (∃ b, a0 = up b) ∧ (∃ b, a1 = up b) ∧ (∃ b, a2 = up b) ∧ (∃ b, a3 = up b) ∧ (∃ b, a4 = up b) ∧ (∃ b, a5 = up b)
      ∧ (∃ b, a6 = up b) ∧ (∃ b, a7 = up b) := by
  have h := congrFun h ix0
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨h, h0⟩ := IntOp.andi_eq_one.1 h
  exact ⟨real_of_all _ _ h0, real_of_all _ _ h1, real_of_all _ _ h2, real_of_all _ _ h3, real_of_all _ _ h4, real_of_all _ _ h5,
    real_of_all _ _ h6, real_of_all _ _ h7⟩
end Cert.Reals
end
end
-- ==== Proof.MidMain.lean ====
module
public import proofs.«01_k».proof.Defs
public import proofs.«01_k».proof.Proof.Gen.Kernel.Frame
public import proofs.«01_k».proof.Proof.Gen.ReferenceIdeal.Run
public import proofs.«01_k».proof.Proof.MidF
public import proofs.«01_k».proof.Proof.Pre

/-! The claims about the merge's backward kernel. -/

@[expose] public section
set_option maxRecDepth 16384
noncomputable section
namespace Cert.Mid
open Idealize.ShloMosaic Idealize.ShloMosaic.TcCoe Idealize.SL.Sem Cert.Reals

theorem args (m : (ℓ : Loc Cert.KernelIdeal.nD Cert.KernelIdeal.τ Cert.KernelIdeal.sig) → Buf (Elt Ideal) ℓ)
    (hp : Cert.Pre_KernelIdeal_finite (hPre_finite := Cert.Pre_finite.Gen.facts) m) (c : Dev Cert.KernelIdeal.nD) :
    ∃ dh y a gg wg wo abn sbn, KArgs m c dh y a gg wg wo abn sbn := by
  obtain ⟨⟨b0, h0⟩, ⟨b1, h1⟩, ⟨b2, h2⟩, ⟨b3, h3⟩, ⟨b4, h4⟩, ⟨b5, h5⟩, ⟨b6, h6⟩, ⟨b7, h7⟩⟩ :=
    finite_args (h := hp c)
  exact ⟨b0, b1, b2, b3, b4, b5, b6, b7, ⟨h0, h1, h2, h3, h4, h5, h6, h7⟩⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp e
  choose dh y a gg wg wo abn sbn hK using args m hp
  have hA : ∀ c, Args (StableHlo.launchContents m' c) (dh c) (y c) (a c) (gg c) (wg c) (wo c) (abn c) (sbn c) := fun c =>
    ⟨(e c).1.trans (hK c).h0, (e c).2.1.trans (hK c).h1, (e c).2.2.1.trans (hK c).h2, (e c).2.2.2.1.trans (hK c).h3,
      (e c).2.2.2.2.1.trans (hK c).h4, (e c).2.2.2.2.2.1.trans (hK c).h5, (e c).2.2.2.2.2.2.1.trans (hK c).h6,
      (e c).2.2.2.2.2.2.2.trans (hK c).h7⟩
  refine ⟨_, _, _, _, _, _, Cert.KernelIdeal.Value.run_blocks m g, ?_⟩
  refine (θ_run Cert.ReferenceIdeal.defs _ _).mono (fun r h c => ?_) (Cert.ReferenceIdeal.Value.run m' g')
  obtain ⟨e0, e1, e2, e3, e4, e5, k⟩ := h c
  refine ⟨e0.trans ?_, e1.trans ?_, e2.trans ?_, e3.trans ?_, e4.trans ?_, e5.trans ?_, k⟩
  · refine (r156 (hA c)).trans ((f9 m (hK c)).trans ?_).symm
    simp only [dgelu_eq, dza_eq, dzb_eq, dn_eq]
    rfl
  · refine (r157 (hA c)).trans ((f10 m (hK c)).trans ?_).symm
    simp only [nb_eq, dn_eq]
    rfl
  · refine (r158 (hA c)).trans ((f11 m (hK c)).trans ?_).symm
    simp only [dgate_eq]
    rfl
  · refine (r159 (hA c)).trans ((f12 m (hK c)).trans ?_).symm
    simp only [dza_eq, dzb_eq, dn_eq]
    rfl
  · refine (r119 (hA c)).trans ((f13 m (hK c)).trans ?_).symm
    simp only [dw_eq]
    rfl
  · refine (r97 (hA c)).trans ((f14 m (hK c)).trans ?_).symm
    simp only [dw_eq]
    rfl
end Cert.Mid
end
end
-- ==== Proof.FfnK.lean ====
/- The blocks the feed-forward kernel writes, over real blocks. -/
module

public import proofs.«01_k».proof.Proof.Gen.Kernel2Ideal.Skeleton
public import proofs.«01_k».proof.Proof.Reals
public import Idealize.ShloMosaic.PureOps.IdealRules

@[expose] public section

set_option maxRecDepth 16384

noncomputable section

namespace Cert.Ffn

open Idealize.ShloMosaic Cert.Reals

/-! ## Operations on real arrays of rows -/

/-- A real array of `a` rows of `b` entries. -/
abbrev A2 (a b : ℕ) : Type := (⟨2, ![a, b]⟩ : Shape).Idx → ℝ

variable {a b c : ℕ}

/-- Row `r` of an array of rows. -/
def row (v : A2 a b) (r : Fin a) : Fin b → ℝ := fun k => v (ix2 r k)
/-- The inverse root mean square of a row. -/
def ri {n : ℕ} (x : Fin n → ℝ) : ℝ := rs (∑ k, x k * x k)
/-- The product of two matrices. -/
def MV (x : A2 a b) (w : A2 b c) : A2 a c := fun j => ∑ k, x (ix2 (j 0) k) * w (ix2 k (j 1))
/-- The product of a matrix and a transposed one. -/
def MT (x : A2 a b) (w : A2 c b) : A2 a c := fun j => ∑ k, x (ix2 (j 0) k) * w (ix2 (j 1) k)
/-- Sums. -/
def AD (x y : A2 a b) : A2 a b := fun j => x j + y j
/-- The inverse root mean squares of the rows. -/
def RI (h : A2 a b) : A2 a 1 := fun j => ri (row h (j 0))
/-- The normalised rows. -/
def XH (h : A2 a b) : A2 a b := fun j => h j * ri (row h (j 0))
/-- The normalised rows times the weight. -/
def HN (h : A2 a b) (g : A2 1 b) : A2 a b := fun j => h j * ri (row h (j 0)) * g (ix2 0 (j 1))
/-- The hyperbolic tangent of the halves. -/
def TH (g : A2 a b) : A2 a b := fun j => Real.tanh (1 / 2 * g j)
def HT (g : A2 a b) : A2 a b := fun j => 1 / 2 * Real.tanh (1 / 2 * g j)
def HF : A2 a b := fun _ => 1 / 2
def ZR : A2 a b := fun _ => 0
def SG (g : A2 a b) : A2 a b := fun j => sg (g j)
/-- The gated activation. -/
def SW (g u : A2 a b) : A2 a b := fun j => g j * sg (g j) * u j
/-- The errors, times `ρ`. -/
def ER (ρ : ℝ) (x t : A2 a b) : A2 a b := fun j => (x j - t j) * ρ
/-- Half the sum of the squares over 1024. -/
def LS (e : A2 a b) : ℝ := 1 / 2 * (∑ r, ∑ k, e (ix2 r k) * e (ix2 r k)) * (1 / 1024)
def SC (e : A2 a b) : A2 a b := fun j => e j * (1 / 1024)
/-- The gradients of the gate and of the other factor. -/
def DG (d g u : A2 a b) : A2 a b := fun j => d j * u j * (sg (g j) * (1 + g j * (1 - sg (g j))))
def DU (d g : A2 a b) : A2 a b := fun j => d j * (g j * sg (g j))
/-- The sums over the rows of the entries' products. -/
def CS (d x : A2 a b) : A2 1 b := fun j => ∑ r, d (ix2 r (j 1)) * x (ix2 r (j 1))
def MW (d : A2 a b) (g : A2 1 b) : A2 a b := fun j => d j * g (ix2 0 (j 1))
def MN (d x : A2 a b) : A2 a 1 := fun j => (∑ k, d (ix2 (j 0) k) * x (ix2 (j 0) k)) / 1024
def NB (r : A2 a 1) (x s d : A2 a b) (mn : A2 a 1) : A2 a b := fun j => s j + r (ix2 (j 0) 0) * (d j - x j * mn (ix2 (j 0) 0))
/-- One from the second block on, zero in the first. -/
def rl (i : BitVec 32) : ℝ := if 1 ≤ i.toInt then 1 else 0

theorem lit_1_1024 : Ideal.ofBits .f32 981467136#32 = ((1 / 1024 : ℝ) : EReal) := by
  simp [Ideal.ofBits, Ideal.ieee, -EReal.coe_mul]; norm_num

section
open Cert.Kernel2Ideal Cert.Kernel2Ideal.Gen

variable (h t d x s xh : S256x1024.Idx → ℝ) (gf : S1x1024.Idx → ℝ) (g1 u1 : S1024x1536.Idx → ℝ) (w1 : S1536x1024.Idx → ℝ)
  (g2 u2 : S1024x1280.Idx → ℝ) (w2 : S1280x1024.Idx → ℝ) (p1 q1 : S256x1536.Idx → ℝ) (p2 q2 : S256x1280.Idx → ℝ) (r mn : S256x1.Idx → ℝ)

theorem pay5 : k0_pay5 (F := Ideal) (up h) = up (RI h) := by
  funext j
  pointwise [k0_pay5]
  simp only [up_apply, reals, rsqrt_mean]
  rfl
theorem pay6 : k0_pay6 (F := Ideal) (up h) = up (XH h) := by
  rw [k0_pay6, pay5]
  funext j
  pointwise
  simp only [up_apply, reals]
  rfl
theorem pay7 : k0_pay7 (F := Ideal) (up h) (up gf) = up (HN h gf) := by
  rw [k0_pay7, pay6]
  funext j
  pointwise
  simp only [up_apply, reals]
  rfl
theorem pay8 : k0_pay8 (F := Ideal) (up h) (up gf) (up g1) = up (MV (HN h gf) g1) := by
  rw [k0_pay8, pay7]
  funext j
  pointwise
  simp only [up_apply, reals]
  rfl
theorem pay9 : k0_pay9 (F := Ideal) (up h) (up gf) (up g1) = up (MV (HN h gf) g1) := pay8 h gf g1
theorem pay10 : k0_pay10 (F := Ideal) (up h) (up gf) (up g1) = up (MV (HN h gf) g1) := by
  rw [k0_pay10, pay8]
  funext j
  pointwise
theorem pay11 : k0_pay11 (F := Ideal) (up h) (up gf) (up g1) = up (MV (HN h gf) g1) := pay10 h gf g1
theorem pay12 : k0_pay12 (F := Ideal) (up h) (up gf) (up g1) = up (TH (MV (HN h gf) g1)) := by
  rw [k0_pay12, pay8]
  funext j
  pointwise
  simp only [up_apply, reals]
  rfl
theorem pay13 : k0_pay13 (F := Ideal) (up p1) (up q1) (up (TH p1)) (Scalar.ofBits .f32 0x3F000000#32) = up (SW p1 q1) := by
  funext j
  pointwise [k0_pay13]
  simp only [up_apply, TH, reals, sg_eq_tanh]
  rfl
theorem pay14 : k0_pay14 (F := Ideal) (up x) (up p1) (up q1) (up (TH p1)) (Scalar.ofBits .f32 0x3F000000#32) (up w1) = up (AD x (MV (SW p1 q1) w1)) := by
  rw [k0_pay14, pay13]
  funext j
  pointwise
  simp only [up_apply, reals]
  rfl
theorem pay15 : k0_pay15 (F := Ideal) (up x) (up g2) = up (MV x g2) := by
  rw [k0_pay15]
  funext j
  pointwise
  simp only [up_apply, reals]
  rfl
theorem pay16 : k0_pay16 (F := Ideal) (up x) (up g2) = up (MV x g2) := pay15 x g2
theorem pay17 : k0_pay17 (F := Ideal) (up x) (up g2) = up (MV x g2) := by
  rw [k0_pay17, pay15]
  funext j
  pointwise
theorem pay18 : k0_pay18 (F := Ideal) (up x) (up g2) = up (MV x g2) := pay17 x g2
theorem pay19 : k0_pay19 (F := Ideal) (up x) (up g2) (up u2) = up (SW (MV x g2) (MV x u2)) := by
  rw [k0_pay19, pay15, pay16]
  funext j
  pointwise
  simp only [up_apply, reals, sg_eq_tanh]
  rfl
theorem real_bit (i : BitVec 32) : (((Scalar.extui (Scalar.cmpi .sge i 1#32) : BitVec 32).toInt : ℝ)) = rl i := by
  unfold rl
  by_cases hi : 1 ≤ i.toInt
  · have : Scalar.cmpi .sge i 1#32 = 1#1 := by simp [Scalar.cmpi, IntOp.cmpi, BitVec.sle, hi]
    rw [if_pos hi, this]
    simp [Scalar.extui]
  · have : Scalar.cmpi .sge i 1#32 = 0#1 := by simp [Scalar.cmpi, IntOp.cmpi, BitVec.sle, hi]
    rw [if_neg hi, this]
    simp [Scalar.extui]
theorem pay20 (i : BitVec 32) : k0_pay20 (F := Ideal) i (up x) (up p2) (up w2) (up t) = up (ER (rl i) (AD x (MV p2 w2)) t) := by
  rw [k0_pay20]
  funext j
  pointwise
  simp only [up_apply, real_bit, reals]
  rfl
theorem pay21 (i : BitVec 32) (acc : S1x1.Idx → EReal) : k0_pay21 (F := Ideal) i (up x) (up p2) (up w2) (up t) acc
    = fun j => acc j + ((LS (ER (rl i) (AD x (MV p2 w2)) t) : ℝ) : EReal) := by
  rw [k0_pay21, pay20]
  funext j
  pointwise
  simp only [up_apply, lit_1_1024, reals]
  rfl
theorem pay22 (i : BitVec 32) : k0_pay22 (F := Ideal) i (up x) (up p2) (up w2) (up t) = up (SC (ER (rl i) (AD x (MV p2 w2)) t)) := by
  rw [k0_pay22, pay20]
  funext j
  pointwise
  simp only [up_apply, lit_1_1024, reals]
  rfl
theorem pay23 (i : BitVec 32) : k0_pay23 (F := Ideal) i (up x) (up p2) (up w2) (up t) = up (SC (ER (rl i) (AD x (MV p2 w2)) t)) := by
  rw [k0_pay23, pay22]
  funext j
  pointwise
theorem pay24 : k0_pay24 (F := Ideal) = up ZR := by
  funext j
  pointwise [k0_pay24]
  rfl
theorem pay25 : k0_pay25 (F := Ideal) (up p1) = up (HT p1) := by
  funext j
  pointwise [k0_pay25]
  simp only [up_apply, reals]
  rfl
theorem pay26 : k0_pay26 (F := Ideal) = up HF := by
  funext j
  pointwise [k0_pay26]
  simp only [reals]
  rfl
theorem pay27 : k0_pay27 (F := Ideal) (up (HT p1)) (up HF) = up (SG p1) := by
  funext j
  pointwise [k0_pay27]
  simp only [up_apply, HT, HF, reals, sg_eq_tanh]
  rfl
theorem pay28 : k0_pay28 (F := Ideal) (up d) (up w1) = up (MT d w1) := by
  funext j
  pointwise [k0_pay28]
  simp only [up_apply, reals]
  rfl
theorem pay29 : k0_pay29 (F := Ideal) (up d) (up p1) (up q1) (up (HT p1)) (up HF) (up w1) = up (DG (MT d w1) p1 q1) := by
  rw [k0_pay29, pay27, pay28]
  funext j
  pointwise
  simp only [up_apply, reals]
  rfl
theorem pay30 : k0_pay30 (F := Ideal) (up d) (up p1) (up (HT p1)) (up HF) (up w1) = up (DU (MT d w1) p1) := by
  rw [k0_pay30, pay27, pay28]
  funext j
  pointwise
  simp only [up_apply, reals]
  rfl
theorem pay31 : k0_pay31 (F := Ideal) (up d) (up ZR) (up p1) (up q1) (up (HT p1)) (up HF) (up w1) (up g1) (up u1)
    = up (AD (MT (DG (MT d w1) p1 q1) g1) (MT (DU (MT d w1) p1) u1)) := by
  rw [k0_pay31, pay29, pay30]
  funext j
  pointwise
  simp only [up_apply, ZR, reals, zero_add]
  rfl
theorem pay32 : k0_pay32 (F := Ideal) (up p2) = up (SG p2) := by
  funext j
  pointwise [k0_pay32]
  simp only [up_apply, reals, sg_eq_tanh]
  rfl
theorem pay33 : k0_pay33 (F := Ideal) (up d) (up w2) (constant S256x1280 .f32 0x00000000#32) = up (MT d w2) := by
  funext j
  pointwise [k0_pay33]
  simp only [up_apply, reals]
  rfl
theorem pay34 : k0_pay34 (F := Ideal) (up d) (up p2) (up q2) (up (SG p2)) (up w2) (constant S256x1280 .f32 0x00000000#32) = up (DG (MT d w2) p2 q2) := by
  rw [k0_pay34, pay33]
  funext j
  pointwise
  simp only [up_apply, SG, reals]
  rfl
theorem pay35 : k0_pay35 (F := Ideal) (up d) (up p2) (up (SG p2)) (up w2) (constant S256x1280 .f32 0x00000000#32) = up (DU (MT d w2) p2) := by
  rw [k0_pay35, pay33]
  funext j
  pointwise
  simp only [up_apply, SG, reals]
  rfl
theorem pay36 : k0_pay36 (F := Ideal) (up d) (up x) (up p2) (up q2) (up (SG p2)) (up w2) (constant S256x1280 .f32 0x00000000#32) (up g2) (up u2)
    = up (AD x (AD (MT (DG (MT d w2) p2 q2) g2) (MT (DU (MT d w2) p2) u2))) := by
  rw [k0_pay36, pay34, pay35]
  funext j
  pointwise
  simp only [up_apply, reals]
  rfl
theorem pay37 (acc : S1x1024.Idx → EReal) : k0_pay37 (F := Ideal) (up xh) (up d) (up x) (up p2) (up q2) (up (SG p2)) (up w2) (constant S256x1280 .f32 0x00000000#32) (up g2) (up u2) acc
    = fun j => acc j + up (CS (AD x (AD (MT (DG (MT d w2) p2 q2) g2) (MT (DU (MT d w2) p2) u2))) xh) j := by
  rw [k0_pay37, pay36]
  funext j
  pointwise
  simp only [up_apply, reals]
  rfl
theorem pay38 : k0_pay38 (F := Ideal) (up d) (up x) (up p2) (up q2) (up (SG p2)) (up w2) (constant S256x1280 .f32 0x00000000#32) (up g2) (up u2) (up gf)
    = up (MW (AD x (AD (MT (DG (MT d w2) p2 q2) g2) (MT (DU (MT d w2) p2) u2))) gf) := by
  rw [k0_pay38, pay36]
  funext j
  pointwise
  simp only [up_apply, reals]
  rfl
theorem pay39 : k0_pay39 (F := Ideal) (up xh) (up d) (up x) (up p2) (up q2) (up (SG p2)) (up w2) (constant S256x1280 .f32 0x00000000#32) (up g2) (up u2) (up gf)
    = up (MN (MW (AD x (AD (MT (DG (MT d w2) p2 q2) g2) (MT (DU (MT d w2) p2) u2))) gf) xh) := by
  rw [k0_pay39, pay38]
  funext j
  pointwise
  simp only [up_apply, reals]
  rfl
theorem pay1 : k0_pay1 (F := Ideal) (up r) (up xh) (up s) (up d) (up mn) = up (NB r xh s d mn) := by
  funext j
  pointwise [k0_pay1]
  simp only [up_apply, reals]
  rfl
theorem pay2 : k0_pay2 (F := Ideal) (up r) (up xh) (up s) (up d) (up mn) = up (NB r xh s d mn) := by
  rw [k0_pay2, pay1]
  funext j
  pointwise
theorem pay3 (j) : k0_pay3 (F := Ideal) j = 0 := by pointwise [k0_pay3]
theorem pay4 (j) : k0_pay4 (F := Ideal) j = 0 := by pointwise [k0_pay4]

end

end Cert.Ffn

end
-- ==== Proof.FfnF.lean ====
/- The feed-forward kernel's blocks as rows of real arrays. -/
module

public import proofs.«01_k».proof.Proof.Gen.Kernel2Ideal.Value
public import proofs.«01_k».proof.Proof.FfnK
public import Idealize.ShloMosaic.Lib.StableHlo.ReadAt

@[expose] public section

set_option maxRecDepth 16384

noncomputable section

namespace Cert.Ffn

open Cert.Kernel2Ideal Cert.Kernel2Ideal.Gen Idealize.ShloMosaic Idealize.ShloMosaic.TcCoe Idealize.SL.Sem Cert.Reals
open Idealize.ShloMosaic.Pipeline (Dat)

theorem idx : ∀ t : Fin cfg0.N, win0_0.index t = ![t.val, 0] ∧ win0_1.index t = ![t.val - 1, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

/-- Row `r` of block `t`, as a row of the arrays. -/
def rw_ (t : Fin cfg0.N) (r : Fin 256) : Fin 8448 := ⟨t.val * 256 + r.val, by have := lt_of_lt_of_eq t.isLt N_0; omega⟩
/-- Row `r` of block `t`, as a row of the targets: the first block's repeated once. -/
def rt_ (t : Fin cfg0.N) (r : Fin 256) : Fin 8192 := ⟨(t.val - 1) * 256 + r.val, by have := lt_of_lt_of_eq t.isLt N_0; omega⟩

variable (m : (ℓ : Loc nD τ sig) → Buf (Elt Ideal) ℓ)
variable {c : Dev nD} {h1 : S8448x1024.Idx → ℝ} {tg : S8192x1024.Idx → ℝ} {wi : S1024x5632.Idx → ℝ} {wo : S2816x1024.Idx → ℝ} {gf : S1x1024.Idx → ℝ}

/-- The arguments are real arrays. -/
structure KArgs (m : (ℓ : Loc nD τ sig) → Buf (Elt Ideal) ℓ) (c : Dev nD) (h1 : S8448x1024.Idx → ℝ) (tg : S8192x1024.Idx → ℝ)
    (wi : S1024x5632.Idx → ℝ) (wo : S2816x1024.Idx → ℝ) (gf : S1x1024.Idx → ℝ) : Prop where
  a0 : m ((c : Thread nD τ).loc main_arg0) = (up h1 : S8448x1024.Idx → EReal)
  a1 : m ((c : Thread nD τ).loc main_arg1) = (up tg : S8192x1024.Idx → EReal)
  a2 : m ((c : Thread nD τ).loc main_arg2) = (up wi : S1024x5632.Idx → EReal)
  a3 : m ((c : Thread nD τ).loc main_arg3) = (up wo : S2816x1024.Idx → EReal)
  a4 : m ((c : Thread nD τ).loc main_arg4) = (up gf : S1x1024.Idx → EReal)

/-- The rows of a block. -/
def TL {b : ℕ} (x : A2 8448 b) (t : Fin cfg0.N) : A2 256 b := fun j => x (ix2 (rw_ t (j 0)) (j 1))
def TT (x : A2 8192 1024) (t : Fin cfg0.N) : A2 256 1024 := fun j => x (ix2 (rt_ t (j 0)) (j 1))

/-- Some columns, and some rows, of an array. -/
def CL {a b : ℕ} (o n : ℕ) (hb : o + n ≤ b) (w : A2 a b) : A2 a n := fun j => w (ix2 (j 0) ⟨o + (j 1).val, by have : (j 1).val < n := (j 1).isLt; omega⟩)
def RL {a b : ℕ} (o n : ℕ) (hb : o + n ≤ a) (w : A2 a b) : A2 n b := fun j => w (ix2 ⟨o + (j 0).val, by have : (j 0).val < n := (j 0).isLt; omega⟩ (j 1))

/-- The columns of the first factor, left and right; the rows of the second factor. -/
abbrev G1 (w : A2 1024 5632) : A2 1024 1536 := CL 0 1536 (by omega) w
abbrev G2 (w : A2 1024 5632) : A2 1024 1280 := CL 1536 1280 (by omega) w
abbrev U1 (w : A2 1024 5632) : A2 1024 1536 := CL 2816 1536 (by omega) w
abbrev U2 (w : A2 1024 5632) : A2 1024 1280 := CL 4352 1280 (by omega) w
abbrev W1 (w : A2 2816 1024) : A2 1536 1024 := RL 0 1536 (by omega) w
abbrev W2 (w : A2 2816 1024) : A2 1280 1024 := RL 1536 1280 (by omega) w

theorem ldg1 (wi : S1024x5632.Idx → ℝ) : View.ld (Val := Elt Ideal) (e' := .bf16) (up wi : S1024x5632.Idx → EReal) (Rect.unit (s := S1024x5632) ![0, 0] ![1024, 1536] inb_S1024x5632_S1024x1536_0_0) = (up (G1 wi) : _ → EReal) := by
  funext x
  refine congrArg (fun i => ((wi i : ℝ) : EReal)) ?_
  blk_ext <;> simp
theorem ldu1 (wi : S1024x5632.Idx → ℝ) : View.ld (Val := Elt Ideal) (e' := .bf16) (up wi : S1024x5632.Idx → EReal) (Rect.unit (s := S1024x5632) ![0, 2816] ![1024, 1536] inb_S1024x5632_S1024x1536_0_2816) = (up (U1 wi) : _ → EReal) := by
  funext x
  refine congrArg (fun i => ((wi i : ℝ) : EReal)) ?_
  blk_ext <;> simp
theorem ldg2 (wi : S1024x5632.Idx → ℝ) : View.ld (Val := Elt Ideal) (e' := .bf16) (up wi : S1024x5632.Idx → EReal) (Rect.unit (s := S1024x5632) ![0, 1536] ![1024, 1280] inb_S1024x5632_S1024x1280_0_1536) = (up (G2 wi) : _ → EReal) := by
  funext x
  refine congrArg (fun i => ((wi i : ℝ) : EReal)) ?_
  blk_ext <;> simp
theorem ldu2 (wi : S1024x5632.Idx → ℝ) : View.ld (Val := Elt Ideal) (e' := .bf16) (up wi : S1024x5632.Idx → EReal) (Rect.unit (s := S1024x5632) ![0, 4352] ![1024, 1280] inb_S1024x5632_S1024x1280_0_4352) = (up (U2 wi) : _ → EReal) := by
  funext x
  refine congrArg (fun i => ((wi i : ℝ) : EReal)) ?_
  blk_ext <;> simp
theorem ldw1 (wo : S2816x1024.Idx → ℝ) : View.ld (Val := Elt Ideal) (e' := .bf16) (up wo : S2816x1024.Idx → EReal) (Rect.unit (s := S2816x1024) ![0, 0] ![1536, 1024] inb_S2816x1024_S1536x1024_0_0) = (up (W1 wo) : _ → EReal) := by
  funext x
  refine congrArg (fun i => ((wo i : ℝ) : EReal)) ?_
  blk_ext <;> simp
theorem ldw2 (wo : S2816x1024.Idx → ℝ) : View.ld (Val := Elt Ideal) (e' := .bf16) (up wo : S2816x1024.Idx → EReal) (Rect.unit (s := S2816x1024) ![1536, 0] ![1280, 1024] inb_S2816x1024_S1280x1024_1536_0) = (up (W2 wo) : _ → EReal) := by
  funext x
  refine congrArg (fun i => ((wo i : ℝ) : EReal)) ?_
  blk_ext <;> simp

/-- Reading back the two parts of the columns. -/
theorem rdL {κ : Kind} {sp : Space} (v : View sig κ sp S256x2816 .f32) (p : S256x1536.Idx → ℝ) (q : S256x1280.Idx → ℝ) :
    v.readCov (Val := Elt Ideal) [⟨Rect.unit ![0, 1536] ![256, 1280] inb_S256x2816_S256x1280_0_1536, (up q : S256x1280.Idx → EReal)⟩,
      ⟨Rect.unit ![0, 0] ![256, 1536] inb_S256x2816_S256x1536_0_0, (up p : S256x1536.Idx → EReal)⟩]
      (Rect.unit ![0, 0] ![256, 1536] inb_S256x2816_S256x1536_0_0).toLoadRect = (up p : S256x1536.Idx → EReal) := by
  rw [View.readCov_eq_canon']
  funext j
  obtain ⟨r, k, rfl⟩ : ∃ r k, j = ix2 r k := ⟨_, _, eq_ix2 j⟩
  have e : (Rect.unit ![0, 0] ![256, 1536] inb_S256x2816_S256x1536_0_0).toLoadRect.idx (ix2 r k) = (ix2 r ⟨k.val, by have : k.val < 1536 := k.isLt; omega⟩ : S256x2816.Idx) := by
    blk_ext <;> simp
  rw [e]
  generalize hy : (ix2 r _ : S256x2816.Idx) = w
  canon_tiles x h using View.cover_of_tiledBy _ ![256, 256] (by sl_kernel_rfl) _
  case piece0 =>
    subst hy
    have hk : k.val < 1536 := k.isLt
    have h1' : k.val = 1536 + (x 1).val := h1
    omega
  case piece1 =>
    subst hy
    obtain rfl : r = (x 0 : Fin 256) := Fin.ext h0
    obtain rfl : k = (x 1 : Fin 1536) := Fin.ext h1
    exact congrArg (fun i => (p i : EReal)) (eq_ix2 x)
theorem rdR {κ : Kind} {sp : Space} (v : View sig κ sp S256x2816 .f32) (p : S256x1536.Idx → ℝ) (q : S256x1280.Idx → ℝ) :
    v.readCov (Val := Elt Ideal) [⟨Rect.unit ![0, 1536] ![256, 1280] inb_S256x2816_S256x1280_0_1536, (up q : S256x1280.Idx → EReal)⟩,
      ⟨Rect.unit ![0, 0] ![256, 1536] inb_S256x2816_S256x1536_0_0, (up p : S256x1536.Idx → EReal)⟩]
      (Rect.unit ![0, 1536] ![256, 1280] inb_S256x2816_S256x1280_0_1536).toLoadRect = (up q : S256x1280.Idx → EReal) := by
  rw [View.readCov_eq_canon']
  funext j
  obtain ⟨r, k, rfl⟩ : ∃ r k, j = ix2 r k := ⟨_, _, eq_ix2 j⟩
  have e : (Rect.unit ![0, 1536] ![256, 1280] inb_S256x2816_S256x1280_0_1536).toLoadRect.idx (ix2 r k) = (ix2 r ⟨1536 + k.val, by have : k.val < 1280 := k.isLt; omega⟩ : S256x2816.Idx) := by
    blk_ext <;> simp
  rw [e]
  generalize hy : (ix2 r _ : S256x2816.Idx) = w
  canon_tiles x h using View.cover_of_tiledBy _ ![256, 256] (by sl_kernel_rfl) _
  case piece0 =>
    subst hy
    obtain rfl : r = (x 0 : Fin 256) := Fin.ext h0
    obtain rfl : k = (x 1 : Fin 1280) := Fin.ext (Nat.add_left_cancel h1)
    exact congrArg (fun i => (q i : EReal)) (eq_ix2 x)
  case piece1 =>
    subst hy
    have hx : (x 1).val < 1536 := (x 1).isLt
    have h1' : 1536 + k.val = (x 1).val := h1
    omega

variable (h : KArgs m c h1 tg wi wo gf) (t : Fin cfg0.N)
include h

theorem b0 : iblk m c 0 t = (up (TL h1 t) : S256x1024.Idx → EReal) := by
  funext x
  unfold TL
  rw [up_apply, ← up_apply h1, ← h.a0]
  blk_ext [iblk, V, idx t]
  rfl
theorem b1 : iblk m c 1 t = (up (TT tg t) : S256x1024.Idx → EReal) := by
  funext x
  unfold TT
  rw [up_apply, ← up_apply tg, ← h.a1]
  blk_ext [iblk, V, idx t]
  rfl
theorem b2 : iblk m c 2 t = (up wi : S1024x5632.Idx → EReal) := by
  funext x
  rw [← h.a2]
  blk_ext [iblk, V, idx t]
theorem b3 : iblk m c 3 t = (up wo : S2816x1024.Idx → EReal) := by
  funext x
  rw [← h.a3]
  blk_ext [iblk, V, idx t]
theorem b4 : iblk m c 4 t = (up gf : S1x1024.Idx → EReal) := by
  funext x
  rw [← h.a4]
  blk_ext [iblk, V, idx t]

end Cert.Ffn
end
-- ==== Proof.FfnR.lean ====
/- The feed-forward gradient as the reference computes it, over real arrays. -/
module

public import proofs.«01_k».proof.Proof.Gen.Reference2Ideal.Run
public import proofs.«01_k».proof.Proof.FfnK

@[expose] public section

set_option maxRecDepth 16384

noncomputable section

namespace Cert.Ffn

open Idealize.ShloMosaic Idealize.ShloMosaic.TcCoe Cert.Reals

/-! ## The reference's operations on real arrays -/

section
variable {a b c : ℕ}
/-- The coefficient of the inverse root's derivative. -/
def RC (h : A2 a b) : A2 a 1 := fun j => -(1 / 2) * (ri (row h (j 0)) / ((∑ k, row h (j 0) k * row h (j 0) k) / 1024 + eps))
def GS (g : A2 a b) : A2 a b := fun j => g j * sg (g j)
def SD (g : A2 a b) : A2 a b := fun j => sg (g j) * (1 - sg (g j))
def ML (x y : A2 a b) : A2 a b := fun j => x j * y j
def DGR (d g : A2 a b) : A2 a b := fun j => d j * sg (g j) + g j * d j * (sg (g j) * (1 - sg (g j)))
/-- The left and the right half of the columns. -/
def LF (x : A2 8448 5632) : A2 8448 2816 := fun j => x (ix2 (j 0) ⟨(j 1).val, by have : (j 1).val < 2816 := (j 1).isLt; omega⟩)
def RT (x : A2 8448 5632) : A2 8448 2816 := fun j => x (ix2 (j 0) ⟨2816 + (j 1).val, by have : (j 1).val < 2816 := (j 1).isLt; omega⟩)
/-- Two halves of the columns, one after the other. -/
def CAT (x y : A2 8448 2816) : A2 8448 5632 := fun j =>
  if h : (j 1).val < 2816 then x (ix2 (j 0) ⟨(j 1).val, h⟩)
  else y (ix2 (j 0) ⟨(j 1).val - 2816, by have : (j 1).val < 5632 := (j 1).isLt; omega⟩)
/-- The errors of the rows after the first 256. -/
def EE (x : A2 8448 1024) (t : A2 8192 1024) : A2 8192 1024 := fun j =>
  x (ix2 ⟨256 + (j 0).val, by have : (j 0).val < 8192 := (j 0).isLt; omega⟩ (j 1)) - t j
/-- The loss. -/
def LOSS (e : A2 8192 1024) : ℝ := 1 / 2 * ∑ r, (∑ k, e (ix2 r k) * e (ix2 r k)) / 1024
/-- The gradient of the loss, zero in the first 256 rows. -/
def DP (e : A2 8192 1024) : A2 8448 1024 := fun j =>
  if h : 256 ≤ (j 0).val then e (ix2 ⟨(j 0).val - 256, by have : (j 0).val < 8448 := (j 0).isLt; omega⟩ (j 1)) / 1024 else 0
/-- The mean's gradient per row. -/
def CO (h d : A2 a b) : A2 a 1 := fun j => (∑ k, h (ix2 (j 0) k) * d (ix2 (j 0) k)) * RC h j / 1024
def NBR (h s d : A2 a b) : A2 a b := fun j => s j + (d j * ri (row h (j 0)) + h j * CO h d (ix2 (j 0) 0) + CO h d (ix2 (j 0) 0) * h j)
end

section
open Cert.Reference2Ideal Cert.Reference2Ideal.Gen Cert.Reference2Ideal.Value

theorem lit_two : Ideal.ofBits .f32 1073741824#32 = ((2 : ℝ) : EReal) := by
  simp [Ideal.ofBits, Ideal.ieee, -EReal.coe_mul]; norm_num

theorem r7 (h : S8448x1024.Idx → ℝ) : (Host.rsqrt (addf (Host.divf (broadcastInDim S8448x1 ![0] bcast_S8448_S8448x1_0 (Host.reduceAdd (mulf (up h : FVec Ideal S8448x1024 .f32) (up h : FVec Ideal S8448x1024 .f32)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32))) : FVec Ideal S8448x1 .f32)
    = (up (RI h) : S8448x1.Idx → EReal) := by
  funext j
  pointwise
  simp only [up_apply, reals, rsqrt_mean]
  rfl

theorem r10 (h : S8448x1024.Idx → ℝ) : (mulf (broadcastInDim S8448x1 ![] bcast_S_S8448x1 (constant S_ .f32 0xBF000000#32)) (Host.divf (up (RI h) : FVec Ideal S8448x1 .f32) (addf (Host.divf (broadcastInDim S8448x1 ![0] bcast_S8448_S8448x1_0 (Host.reduceAdd (mulf (up h : FVec Ideal S8448x1024 .f32) (up h : FVec Ideal S8448x1024 .f32)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) : FVec Ideal S8448x1 .f32)
    = (up (RC h) : S8448x1.Idx → EReal) := by
  funext j
  obtain ⟨r, k, rfl⟩ : ∃ r k, j = ix2 r k := ⟨_, _, eq_ix2 j⟩
  pointwise
  simp only [up_apply, RI, row, ri, reals, div_mean]
  rfl

theorem r12 (h : S8448x1024.Idx → ℝ) : (mulf (up h : FVec Ideal S8448x1024 .f32) (broadcastInDim S8448x1024 ![0, 1] bcast_S8448x1_S8448x1024_0_1 (up (RI h) : FVec Ideal S8448x1 .f32)) : FVec Ideal S8448x1024 .f32)
    = (up (XH h) : S8448x1024.Idx → EReal) := by
  funext j
  pointwise
  simp only [up_apply, reals]
  rfl

theorem r14 (h : S8448x1024.Idx → ℝ) (gf : S1x1024.Idx → ℝ) : (mulf (up (XH h) : FVec Ideal S8448x1024 .f32) (broadcastInDim S8448x1024 ![0, 1] bcast_S1x1024_S8448x1024_0_1 (up gf : FVec Ideal S1x1024 .f32)) : FVec Ideal S8448x1024 .f32)
    = (up (HN h gf) : S8448x1024.Idx → EReal) := by
  funext j
  pointwise
  simp only [up_apply, reals]
  rfl

theorem r15 (wi : S1024x5632.Idx → ℝ) : ((extf .f32 (up wi : FVec Ideal S1024x5632 .bf16) bitsLt_bf16_f32) : FVec Ideal S1024x5632 .f32)
    = (up wi : S1024x5632.Idx → EReal) := by
  funext j
  pointwise

theorem r21 (wo : S2816x1024.Idx → ℝ) : ((extf .f32 (up wo : FVec Ideal S2816x1024 .bf16) bitsLt_bf16_f32) : FVec Ideal S2816x1024 .f32)
    = (up wo : S2816x1024.Idx → EReal) := by
  funext j
  pointwise

theorem r16 (x : S8448x1024.Idx → ℝ) (wi : S1024x5632.Idx → ℝ) : (Host.dotGeneral (φ₁ := .f32) (φ₂ := .f32) dot_S8448x1024_S1024x5632_S8448x5632_1_0_0_1_n_n none (up x : FVec Ideal S8448x1024 .f32) (up wi : FVec Ideal S1024x5632 .f32) : FVec Ideal S8448x5632 .f32)
    = (up (MV x wi) : S8448x5632.Idx → EReal) := by
  funext j
  pointwise
  simp only [up_apply, reals]
  rfl

theorem r17 (x : S8448x5632.Idx → ℝ) : (extractStridedSlice S8448x2816 ![0, 0] (up x : FVec Ideal S8448x5632 .f32) slices_S8448x5632_S8448x2816_0_0 : FVec Ideal S8448x2816 .f32)
    = (up (LF x) : S8448x2816.Idx → EReal) := by
  funext j
  pointwise
  rfl

theorem r18 (x : S8448x5632.Idx → ℝ) : (extractStridedSlice S8448x2816 ![0, 2816] (up x : FVec Ideal S8448x5632 .f32) slices_S8448x5632_S8448x2816_0_2816 : FVec Ideal S8448x2816 .f32)
    = (up (RT x) : S8448x2816.Idx → EReal) := by
  funext j
  pointwise
  rfl

theorem r192 (g : S8448x2816.Idx → ℝ) : (Host.divf (broadcastInDim S8448x2816 ![] bcast_S_S8448x2816 (constant S_ .f32 0x3F800000#32)) (addf (broadcastInDim S8448x2816 ![] bcast_S_S8448x2816 (constant S_ .f32 0x3F800000#32)) (Host.exp (Host.negf (up g : FVec Ideal S8448x2816 .f32)))) : FVec Ideal S8448x2816 .f32)
    = (up (SG g) : S8448x2816.Idx → EReal) := by
  funext j
  pointwise
  simp only [up_apply, reals]
  rfl

theorem r191 (g : S8448x2816.Idx → ℝ) : (mulf (up (SG g) : FVec Ideal S8448x2816 .f32) (subf (broadcastInDim S8448x2816 ![] bcast_S_S8448x2816 (constant S_ .f32 0x3F800000#32)) (up (SG g) : FVec Ideal S8448x2816 .f32)) : FVec Ideal S8448x2816 .f32)
    = (up (SD g) : S8448x2816.Idx → EReal) := by
  funext j
  pointwise
  simp only [up_apply, SG, reals]
  rfl

theorem r190 (g : S8448x2816.Idx → ℝ) : (mulf (up g : FVec Ideal S8448x2816 .f32) (up (SG g) : FVec Ideal S8448x2816 .f32) : FVec Ideal S8448x2816 .f32)
    = (up (GS g) : S8448x2816.Idx → EReal) := by
  funext j
  pointwise
  simp only [up_apply, SG, reals]
  rfl

theorem r20 (g u : S8448x2816.Idx → ℝ) : (mulf (up (GS g) : FVec Ideal S8448x2816 .f32) (up u : FVec Ideal S8448x2816 .f32) : FVec Ideal S8448x2816 .f32)
    = (up (SW g u) : S8448x2816.Idx → EReal) := by
  funext j
  pointwise
  simp only [up_apply, GS, reals]
  rfl

theorem r23 (h : S8448x1024.Idx → ℝ) (g : S8448x2816.Idx → ℝ) (wo : S2816x1024.Idx → ℝ) : (addf (up h : FVec Ideal S8448x1024 .f32) (Host.dotGeneral (φ₁ := .f32) (φ₂ := .f32) dot_S8448x2816_S2816x1024_S8448x1024_1_0_0_1_n_n none (up g : FVec Ideal S8448x2816 .f32) (up wo : FVec Ideal S2816x1024 .f32)) : FVec Ideal S8448x1024 .f32)
    = (up (AD h (MV g wo)) : S8448x1024.Idx → EReal) := by
  funext j
  pointwise
  simp only [up_apply, reals]
  rfl

theorem r25 (x : S8448x1024.Idx → ℝ) (t : S8192x1024.Idx → ℝ) : (subf (extractStridedSlice S8192x1024 ![256, 0] (up x : FVec Ideal S8448x1024 .f32) slices_S8448x1024_S8192x1024_256_0) (up t : FVec Ideal S8192x1024 .f32) : FVec Ideal S8192x1024 .f32)
    = (up (EE x t) : S8192x1024.Idx → EReal) := by
  funext j
  pointwise
  simp only [up_apply, reals]
  rfl

theorem r40 (e : S8192x1024.Idx → ℝ) : (pad S8448x1024 ![256, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (up e : FVec Ideal S8192x1024 .f32))) (constant S_ .f32 0x00000000#32) pads_S8192x1024_S8448x1024_25600_000 h_S_ : FVec Ideal S8448x1024 .f32)
    = (up (DP e) : S8448x1024.Idx → EReal) := by
  funext j
  obtain ⟨r, k, rfl⟩ : ∃ r k, j = ix2 r k := ⟨_, _, eq_ix2 j⟩
  pointwise
  simp only [up_apply, lit_two, reals]
  unfold DP
  split_ifs with h1 h2 h2
  · refine congrArg (fun z : ℝ => (z : EReal)) ?_
    rw [show (1 / 2 / 1024 * (2 * e (ix2 ⟨r.val - 256, h1.2⟩ k)) : ℝ) = e (ix2 ⟨r.val - 256, h1.2⟩ k) / 1024 by ring]
    rfl
  · exact absurd h1.1 h2
  · exact absurd ⟨h2, by have := r.isLt; omega⟩ h1
  · rfl

theorem r41 (d : S8448x1024.Idx → ℝ) (wo : S2816x1024.Idx → ℝ) : (Host.dotGeneral (φ₁ := .f32) (φ₂ := .f32) dot_S8448x1024_S2816x1024_S8448x2816_1_1_0_0_n_n none (up d : FVec Ideal S8448x1024 .f32) (up wo : FVec Ideal S2816x1024 .f32) : FVec Ideal S8448x2816 .f32)
    = (up (MT d wo) : S8448x2816.Idx → EReal) := by
  funext j
  pointwise
  simp only [up_apply, reals]
  rfl

theorem r42 (x y : S8448x2816.Idx → ℝ) : (mulf (up x : FVec Ideal S8448x2816 .f32) (up y : FVec Ideal S8448x2816 .f32) : FVec Ideal S8448x2816 .f32)
    = (up (ML x y) : S8448x2816.Idx → EReal) := by
  funext j
  pointwise
  simp only [up_apply, reals]
  rfl

theorem r43 (x y : S8448x2816.Idx → ℝ) : (mulf (up x : FVec Ideal S8448x2816 .f32) (up y : FVec Ideal S8448x2816 .f32) : FVec Ideal S8448x2816 .f32)
    = (up (ML x y) : S8448x2816.Idx → EReal) := by
  exact r42 x y

theorem r44 (d g : S8448x2816.Idx → ℝ) : (addf (mulf (up d : FVec Ideal S8448x2816 .f32) (up (SG g) : FVec Ideal S8448x2816 .f32)) (mulf (mulf (up g : FVec Ideal S8448x2816 .f32) (up d : FVec Ideal S8448x2816 .f32)) (up (SD g) : FVec Ideal S8448x2816 .f32)) : FVec Ideal S8448x2816 .f32)
    = (up (DGR d g) : S8448x2816.Idx → EReal) := by
  funext j
  pointwise
  simp only [up_apply, SG, SD, reals]
  rfl

theorem r45 (x y : S8448x2816.Idx → ℝ) : (concatenate S8448x5632 1 [⟨S8448x2816, (up x : FVec Ideal S8448x2816 .f32)⟩, ⟨S8448x2816, (up y : FVec Ideal S8448x2816 .f32)⟩] concatenates_S8448x2816_S8448x2816_S8448x5632_d1 : FVec Ideal S8448x5632 .f32)
    = (up (CAT x y) : S8448x5632.Idx → EReal) := by
  funext j
  obtain ⟨r, k, rfl⟩ : ∃ r k, j = ix2 r k := ⟨_, _, eq_ix2 j⟩
  pointwise
  simp only [up_apply]
  exact (coe_dite _ _ _)

theorem r46 (x : S8448x5632.Idx → ℝ) (wi : S1024x5632.Idx → ℝ) : (Host.dotGeneral (φ₁ := .f32) (φ₂ := .f32) dot_S8448x5632_S1024x5632_S8448x1024_1_1_0_0_n_n none (up x : FVec Ideal S8448x5632 .f32) (up wi : FVec Ideal S1024x5632 .f32) : FVec Ideal S8448x1024 .f32)
    = (up (MT x wi) : S8448x1024.Idx → EReal) := by
  funext j
  pointwise
  simp only [up_apply, reals]
  rfl

theorem r51 (d : S8448x1024.Idx → ℝ) (gf : S1x1024.Idx → ℝ) : (mulf (up d : FVec Ideal S8448x1024 .f32) (broadcastInDim S8448x1024 ![0, 1] bcast_S1x1024_S8448x1024_0_1 (up gf : FVec Ideal S1x1024 .f32)) : FVec Ideal S8448x1024 .f32)
    = (up (MW d gf) : S8448x1024.Idx → EReal) := by
  funext j
  pointwise
  simp only [up_apply, reals]
  rfl

theorem r61 (h d : S8448x1024.Idx → ℝ) : (Host.divf (mulf (shapeCast S8448x1 (Host.reduceAdd (mulf (up h : FVec Ideal S8448x1024 .f32) (up d : FVec Ideal S8448x1024 .f32)) (constant S_ .f32 0x00000000#32) reducesTo_S8448x1024_S8448_d1 h_S_) shapeCasts_S8448_S8448x1) (up (RC h) : FVec Ideal S8448x1 .f32)) (broadcastInDim S8448x1 ![] bcast_S_S8448x1 (constant S_ .f32 0x44800000#32)) : FVec Ideal S8448x1 .f32)
    = (up (CO h d) : S8448x1.Idx → EReal) := by
  funext j
  obtain ⟨r, k, rfl⟩ : ∃ r k, j = ix2 r k := ⟨_, _, eq_ix2 j⟩
  pointwise
  simp only [up_apply, reals]
  rfl

theorem r66 (h s d : S8448x1024.Idx → ℝ) : (addf (up s : FVec Ideal S8448x1024 .f32) (addf (addf (mulf (up d : FVec Ideal S8448x1024 .f32) (broadcastInDim S8448x1024 ![0, 1] bcast_S8448x1_S8448x1024_0_1 (up (RI h) : FVec Ideal S8448x1 .f32))) (mulf (up h : FVec Ideal S8448x1024 .f32) (broadcastInDim S8448x1024 ![0] bcast_S8448_S8448x1024_0 (Host.reduceAdd (up (CO h d) : FVec Ideal S8448x1 .f32) (constant S_ .f32 0x00000000#32) reducesTo_S8448x1_S8448_d1 h_S_)))) (mulf (broadcastInDim S8448x1024 ![0] bcast_S8448_S8448x1024_0 (Host.reduceAdd (up (CO h d) : FVec Ideal S8448x1 .f32) (constant S_ .f32 0x00000000#32) reducesTo_S8448x1_S8448_d1 h_S_)) (up h : FVec Ideal S8448x1024 .f32))) : FVec Ideal S8448x1024 .f32)
    = (up (NBR h s d) : S8448x1024.Idx → EReal) := by
  funext j
  obtain ⟨r, k, rfl⟩ : ∃ r k, j = ix2 r k := ⟨_, _, eq_ix2 j⟩
  pointwise
  simp only [up_apply, RI, reals, Finset.univ_unique, Finset.sum_singleton]
  rfl

theorem trA (x : S8448x1024.Idx → ℝ) : (truncf .bf16 (up x : FVec Ideal S8448x1024 .f32) bitsLt_bf16_f32 : FVec Ideal S8448x1024 .bf16) = (up x : S8448x1024.Idx → EReal) := by
  funext j
  pointwise

theorem trG (x : S8448x2816.Idx → ℝ) : (truncf .bf16 (up x : FVec Ideal S8448x2816 .f32) bitsLt_bf16_f32 : FVec Ideal S8448x2816 .bf16) = (up x : S8448x2816.Idx → EReal) := by
  funext j
  pointwise

theorem trW (x : S8448x5632.Idx → ℝ) : (truncf .bf16 (up x : FVec Ideal S8448x5632 .f32) bitsLt_bf16_f32 : FVec Ideal S8448x5632 .bf16) = (up x : S8448x5632.Idx → EReal) := by
  funext j
  pointwise

theorem r49 (d x : S8448x1024.Idx → ℝ) : (shapeCast S1x1024 (Host.reduceAdd (mulf (up x : FVec Ideal S8448x1024 .f32) (up d : FVec Ideal S8448x1024 .f32)) (constant S_ .f32 0x00000000#32) reducesTo_S8448x1024_S1024_d0 h_S_) shapeCasts_S1024_S1x1024 : FVec Ideal S1x1024 .f32)
    = (up (CS d x) : S1x1024.Idx → EReal) := by
  funext j
  obtain ⟨r, k, rfl⟩ : ∃ r k, j = ix2 r k := ⟨_, _, eq_ix2 j⟩
  pointwise
  simp only [up_apply, reals]
  exact congrArg _ (Finset.sum_congr rfl fun q _ => mul_comm _ _)

theorem r72 (e : S8192x1024.Idx → ℝ) : (shapeCast S1x1 (mulf (constant S_ .f32 0x3F000000#32) (Host.reduceAdd (Host.divf (Host.reduceAdd (mulf (up e : FVec Ideal S8192x1024 .f32) (up e : FVec Ideal S8192x1024 .f32)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1 : FVec Ideal S1x1 .f32)
    = (up (fun _ => LOSS e) : S1x1.Idx → EReal) := by
  funext j
  pointwise
  simp only [up_apply, reals]
  rfl

/-- The arguments hold these real arrays. -/
structure RArgs (m : (ℓ : Loc nD τ sig) → Buf (Elt Ideal) ℓ) (c : Dev nD) (h : S8448x1024.Idx → ℝ) (t : S8192x1024.Idx → ℝ)
    (wi : S1024x5632.Idx → ℝ) (wo : S2816x1024.Idx → ℝ) (gf : S1x1024.Idx → ℝ) : Prop where
  h0 : m ((c.tc : Thread nD τ).loc main_arg0) = (up h : S8448x1024.Idx → EReal)
  h1 : m ((c.tc : Thread nD τ).loc main_arg1) = (up t : S8192x1024.Idx → EReal)
  h2 : m ((c.tc : Thread nD τ).loc main_arg2) = (up wi : S1024x5632.Idx → EReal)
  h3 : m ((c.tc : Thread nD τ).loc main_arg3) = (up wo : S2816x1024.Idx → EReal)
  h4 : m ((c.tc : Thread nD τ).loc main_arg4) = (up gf : S1x1024.Idx → EReal)

variable {m : (ℓ : Loc nD τ sig) → Buf (Elt Ideal) ℓ} {c : Dev nD} {h : S8448x1024.Idx → ℝ} {t : S8192x1024.Idx → ℝ}
  {wi : S1024x5632.Idx → ℝ} {wo : S2816x1024.Idx → ℝ} {gf : S1x1024.Idx → ℝ} (hh : RArgs m c h t wi wo gf)
include hh

theorem f0 : (truncf .bf16 (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) bitsLt_bf16_f32 : FVec Ideal S8448x1024 .bf16)
    = (up (HN h gf) : S8448x1024.Idx → EReal) := by
  rw [hh.h0, hh.h4, r7, r12, r14, trA]
theorem f1 : res_main_v68 m c
    = (up (CAT (DGR (ML (MT (DP (EE (AD h (MV (SW (LF (MV (HN h gf) wi)) (RT (MV (HN h gf) wi))) wo)) t)) wo) (RT (MV (HN h gf) wi))) (LF (MV (HN h gf) wi))) (ML (GS (LF (MV (HN h gf) wi))) (MT (DP (EE (AD h (MV (SW (LF (MV (HN h gf) wi)) (RT (MV (HN h gf) wi))) wo)) t)) wo))) : S8448x5632.Idx → EReal) := by
  rw [res_main_v68, hh.h0, hh.h1, hh.h2, hh.h3, hh.h4, r7, r12, r14, r15, r16, r17, r18, r192, r190, r20, r21, r23, r191, r25, r40, r41, r42 (GS _), r43 _ (RT _), r44, r45, trW]
theorem f2 : (truncf .bf16 (mulf (mulf (extractStridedSlice S8448x2816 ![0, 0] (Host.dotGeneral dot_S8448x1024_S1024x5632_S8448x5632_1_0_0_1_n_n none (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) (extf .f32 (m ((c.tc : Thread nD τ).loc main_arg2)) bitsLt_bf16_f32)) slices_S8448x5632_S8448x2816_0_0) (Host.divf (broadcastInDim S8448x2816 ![] bcast_S_S8448x2816 (constant S_ .f32 0x3F800000#32)) (addf (broadcastInDim S8448x2816 ![] bcast_S_S8448x2816 (constant S_ .f32 0x3F800000#32)) (Host.exp (Host.negf (extractStridedSlice S8448x2816 ![0, 0] (Host.dotGeneral dot_S8448x1024_S1024x5632_S8448x5632_1_0_0_1_n_n none (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) (extf .f32 (m ((c.tc : Thread nD τ).loc main_arg2)) bitsLt_bf16_f32)) slices_S8448x5632_S8448x2816_0_0)))))) (extractStridedSlice S8448x2816 ![0, 2816] (Host.dotGeneral dot_S8448x1024_S1024x5632_S8448x5632_1_0_0_1_n_n none (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) (extf .f32 (m ((c.tc : Thread nD τ).loc main_arg2)) bitsLt_bf16_f32)) slices_S8448x5632_S8448x2816_0_2816)) bitsLt_bf16_f32 : FVec Ideal S8448x2816 .bf16)
    = (up (SW (LF (MV (HN h gf) wi)) (RT (MV (HN h gf) wi))) : S8448x2816.Idx → EReal) := by
  rw [hh.h0, hh.h2, hh.h4, r7, r12, r14, r15, r16, r17, r18, r192, r190, r20, trG]
theorem f3 : (truncf .bf16 (pad S8448x1024 ![256, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![256, 0] (addf (m ((c.tc : Thread nD τ).loc main_arg0)) (Host.dotGeneral dot_S8448x2816_S2816x1024_S8448x1024_1_0_0_1_n_n none (mulf (mulf (extractStridedSlice S8448x2816 ![0, 0] (Host.dotGeneral dot_S8448x1024_S1024x5632_S8448x5632_1_0_0_1_n_n none (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) (extf .f32 (m ((c.tc : Thread nD τ).loc main_arg2)) bitsLt_bf16_f32)) slices_S8448x5632_S8448x2816_0_0) (Host.divf (broadcastInDim S8448x2816 ![] bcast_S_S8448x2816 (constant S_ .f32 0x3F800000#32)) (addf (broadcastInDim S8448x2816 ![] bcast_S_S8448x2816 (constant S_ .f32 0x3F800000#32)) (Host.exp (Host.negf (extractStridedSlice S8448x2816 ![0, 0] (Host.dotGeneral dot_S8448x1024_S1024x5632_S8448x5632_1_0_0_1_n_n none (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) (extf .f32 (m ((c.tc : Thread nD τ).loc main_arg2)) bitsLt_bf16_f32)) slices_S8448x5632_S8448x2816_0_0)))))) (extractStridedSlice S8448x2816 ![0, 2816] (Host.dotGeneral dot_S8448x1024_S1024x5632_S8448x5632_1_0_0_1_n_n none (mulf (mulf (m ((c.tc : Thread nD τ).loc main_arg0)) (broadcastInDim S8448x1024 ![0, 1] bcast_S8448x1_S8448x1024_0_1 (Host.rsqrt (addf (Host.divf (broadcastInDim S8448x1 ![0] bcast_S8448_S8448x1_0 (Host.reduceAdd (mulf (m ((c.tc : Thread nD τ).loc main_arg0)) (m ((c.tc : Thread nD τ).loc main_arg0))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (m ((c.tc : Thread nD τ).loc main_arg4)))) (extf .f32 (m ((c.tc : Thread nD τ).loc main_arg2)) bitsLt_bf16_f32)) slices_S8448x5632_S8448x2816_0_2816)) (extf .f32 (m ((c.tc : Thread nD τ).loc main_arg3)) bitsLt_bf16_f32))) slices_S8448x1024_S8192x1024_256_0) (m ((c.tc : Thread nD τ).loc main_arg1))))) (constant S_ .f32 0x00000000#32) pads_S8192x1024_S8448x1024_25600_000 h_S_) bitsLt_bf16_f32 : FVec Ideal S8448x1024 .bf16)
    = (up (DP (EE (AD h (MV (SW (LF (MV (HN h gf) wi)) (RT (MV (HN h gf) wi))) wo)) t)) : S8448x1024.Idx → EReal) := by
  rw [hh.h0, hh.h1, hh.h2, hh.h3, hh.h4, r7, r12, r14, r15, r16, r17, r18, r192, r190, r20, r21, r23, r25, r40, trA]
theorem f4 : res_main_v66 m c
    = (up (NBR h (DP (EE (AD h (MV (SW (LF (MV (HN h gf) wi)) (RT (MV (HN h gf) wi))) wo)) t)) (MW (MT (CAT (DGR (ML (MT (DP (EE (AD h (MV (SW (LF (MV (HN h gf) wi)) (RT (MV (HN h gf) wi))) wo)) t)) wo) (RT (MV (HN h gf) wi))) (LF (MV (HN h gf) wi))) (ML (GS (LF (MV (HN h gf) wi))) (MT (DP (EE (AD h (MV (SW (LF (MV (HN h gf) wi)) (RT (MV (HN h gf) wi))) wo)) t)) wo))) wi) gf)) : S8448x1024.Idx → EReal) := by
  rw [res_main_v66, hh.h0, hh.h1, hh.h2, hh.h3, hh.h4, r7, r12, r14, r15, r16, r17, r18, r192, r190, r20, r21, r23, r191, r25, r40, r41, r42 (GS _), r43 _ (RT _), r44, r45, r46, r10, r51]
  erw [r61, r66]
theorem f5 : res_main_v71 m c
    = (up (NBR h (DP (EE (AD h (MV (SW (LF (MV (HN h gf) wi)) (RT (MV (HN h gf) wi))) wo)) t)) (MW (MT (CAT (DGR (ML (MT (DP (EE (AD h (MV (SW (LF (MV (HN h gf) wi)) (RT (MV (HN h gf) wi))) wo)) t)) wo) (RT (MV (HN h gf) wi))) (LF (MV (HN h gf) wi))) (ML (GS (LF (MV (HN h gf) wi))) (MT (DP (EE (AD h (MV (SW (LF (MV (HN h gf) wi)) (RT (MV (HN h gf) wi))) wo)) t)) wo))) wi) gf)) : S8448x1024.Idx → EReal) := by
  exact (congrArg (fun x : FVec Ideal S8448x1024 .f32 => truncf .bf16 x bitsLt_bf16_f32) (f4 hh)).trans (trA _)
theorem f6 : res_main_v49 m c
    = (up (CS (MT (CAT (DGR (ML (MT (DP (EE (AD h (MV (SW (LF (MV (HN h gf) wi)) (RT (MV (HN h gf) wi))) wo)) t)) wo) (RT (MV (HN h gf) wi))) (LF (MV (HN h gf) wi))) (ML (GS (LF (MV (HN h gf) wi))) (MT (DP (EE (AD h (MV (SW (LF (MV (HN h gf) wi)) (RT (MV (HN h gf) wi))) wo)) t)) wo))) wi) (XH h)) : S1x1024.Idx → EReal) := by
  rw [res_main_v49, hh.h0, hh.h1, hh.h2, hh.h3, hh.h4, r7, r12, r14, r15, r16, r17, r18, r192, r190, r20, r21, r23, r191, r25, r40, r41, r42 (GS _), r43 _ (RT _), r44, r45, r46]
  exact r49 _ _
theorem f7 : res_main_v72 m c
    = (up (fun _ => LOSS (EE (AD h (MV (SW (LF (MV (HN h gf) wi)) (RT (MV (HN h gf) wi))) wo)) t)) : S1x1.Idx → EReal) := by
  rw [res_main_v72, hh.h0, hh.h1, hh.h2, hh.h3, hh.h4, r7, r12, r14, r15, r16, r17, r18, r192, r190, r20, r21, r23, r25]
  exact r72 _

end

end Cert.Ffn

end
-- ==== Proof.FfnE.lean ====
/- The feed-forward kernel's tiles are the rows of the reference's arrays. -/
module

public import proofs.«01_k».proof.Proof.FfnF
public import proofs.«01_k».proof.Proof.FfnR

@[expose] public section

set_option maxRecDepth 16384

noncomputable section

namespace Cert.Ffn

open Cert.Kernel2Ideal Cert.Kernel2Ideal.Gen Idealize.ShloMosaic Idealize.ShloMosaic.TcCoe Cert.Reals

/-! ## The arrays -/

section
variable (h : A2 8448 1024) (tg : A2 8192 1024) (wi : A2 1024 5632) (wo : A2 2816 1024) (gf : A2 1 1024)
/-- The gate and the other factor. -/
abbrev GG : A2 8448 2816 := LF (MV (HN h gf) wi)
abbrev UU : A2 8448 2816 := RT (MV (HN h gf) wi)
abbrev AC : A2 8448 2816 := SW (GG h wi gf) (UU h wi gf)
/-- The layer's result, and the errors. -/
abbrev H2 : A2 8448 1024 := AD h (MV (AC h wi gf) wo)
abbrev ERR : A2 8192 1024 := EE (H2 h wi wo gf) tg
/-- The gradients, from the result's back to the layer's argument's. -/
abbrev D2 : A2 8448 1024 := DP (ERR h tg wi wo gf)
abbrev DA : A2 8448 2816 := MT (D2 h tg wi wo gf) wo
abbrev DC : A2 8448 5632 := CAT (DGR (ML (DA h tg wi wo gf) (UU h wi gf)) (GG h wi gf)) (ML (GS (GG h wi gf)) (DA h tg wi wo gf))
abbrev DN : A2 8448 1024 := MT (DC h tg wi wo gf) wi
abbrev DX : A2 8448 1024 := MW (DN h tg wi wo gf) gf
abbrev DH : A2 8448 1024 := NBR h (D2 h tg wi wo gf) (DX h tg wi wo gf)
end

/-! ## Sums in parts -/

theorem sum2816 (f : Fin 2816 → ℝ) : ∑ k, f k = ∑ k : Fin 1536, f ⟨0 + k.val, by omega⟩ + ∑ k : Fin 1280, f ⟨1536 + k.val, by omega⟩ := by
  refine (Fin.sum_univ_add (a := 1536) (b := 1280) f).trans ?_
  refine congrArg₂ (· + ·) (Finset.sum_congr rfl fun k _ => congrArg f (Fin.ext ?_)) (Finset.sum_congr rfl fun k _ => congrArg f (Fin.ext ?_))
  · simp
  · simp
theorem sum5632 (f : Fin 5632 → ℝ) : ∑ k, f k = ∑ k : Fin 2816, f ⟨k.val, by omega⟩ + ∑ k : Fin 2816, f ⟨2816 + k.val, by omega⟩ := by
  refine (Fin.sum_univ_add (a := 2816) (b := 2816) f).trans ?_
  refine congrArg₂ (· + ·) (Finset.sum_congr rfl fun k _ => congrArg f (Fin.ext ?_)) (Finset.sum_congr rfl fun k _ => congrArg f (Fin.ext ?_))
  · simp
  · simp [Nat.add_comm]

theorem sum8448 (f : Fin 8448 → ℝ) : ∑ k, f k = ∑ k : Fin 256, f ⟨k.val, by omega⟩ + ∑ k : Fin 8192, f ⟨256 + k.val, by omega⟩ := by
  refine (Fin.sum_univ_add (a := 256) (b := 8192) f).trans ?_
  refine congrArg₂ (· + ·) (Finset.sum_congr rfl fun k _ => congrArg f (Fin.ext ?_)) (Finset.sum_congr rfl fun k _ => congrArg f (Fin.ext ?_))
  · simp
  · simp [Nat.add_comm]
/-- One row's part of the loss. -/
def RS (e : A2 8192 1024) (r : Fin 8448) : ℝ :=
  if h : 256 ≤ r.val then 1 / 2 * ((∑ k, e (ix2 ⟨r.val - 256, by omega⟩ k) * e (ix2 ⟨r.val - 256, by omega⟩ k)) / 1024) else 0
theorem sum_RS (e : A2 8192 1024) : ∑ r, RS e r = LOSS e := by
  rw [sum8448, Finset.sum_eq_zero (fun k _ => dif_neg (show ¬ 256 ≤ k.val by omega)), zero_add, LOSS, Finset.mul_sum]
  refine Finset.sum_congr rfl fun k _ => ?_
  have e1 : (⟨256 + k.val - 256, by omega⟩ : Fin 8192) = k := Fin.ext (by show 256 + k.val - 256 = k.val; omega)
  refine (dif_pos (show 256 ≤ 256 + k.val by omega)).trans ?_
  simp only [e1]

/-! ## Tiles -/

variable (h h2 d : A2 8448 1024) (tg : A2 8192 1024) (wi : A2 1024 5632) (wo : A2 2816 1024) (gf : A2 1 1024) (t : Fin cfg0.N)
variable (x p q g u : A2 8448 2816)

theorem tg1 : MV (TL h t) (G1 wi) = TL (CL 0 1536 (by omega) (LF (MV h wi))) t := rfl
theorem tg2 : MV (TL h t) (G2 wi) = TL (CL 1536 1280 (by omega) (LF (MV h wi))) t := rfl
theorem tu1 : MV (TL h t) (U1 wi) = TL (CL 0 1536 (by omega) (RT (MV h wi))) t := by
  funext j
  refine congrArg (MV h wi) (congrArg (ix2 (rw_ t (j 0))) (Fin.ext ?_))
  show 2816 + (j 1).val = 2816 + (0 + (j 1).val)
  omega
theorem tu2 : MV (TL h t) (U2 wi) = TL (CL 1536 1280 (by omega) (RT (MV h wi))) t := by
  funext j
  refine congrArg (MV h wi) (congrArg (ix2 (rw_ t (j 0))) (Fin.ext ?_))
  show 4352 + (j 1).val = 2816 + (1536 + (j 1).val)
  omega
theorem thn : HN (TL h t) gf = TL (HN h gf) t := rfl
theorem tsw {n o : ℕ} (hb : o + n ≤ 2816) : SW (TL (CL o n hb g) t) (TL (CL o n hb u) t) = TL (CL o n hb (SW g u)) t := rfl
theorem th2 : AD (AD (TL h t) (MV (TL (CL 0 1536 (by omega) x) t) (W1 wo))) (MV (TL (CL 1536 1280 (by omega) x) t) (W2 wo)) = TL (AD h (MV x wo)) t := by
  funext j
  show _ + _ + _ = _ + ∑ k, _
  rw [sum2816, ← add_assoc]
  rfl
theorem tw1 : MT (TL d t) (W1 wo) = TL (CL 0 1536 (by omega) (MT d wo)) t := rfl
theorem tw2 : MT (TL d t) (W2 wo) = TL (CL 1536 1280 (by omega) (MT d wo)) t := rfl
theorem tdg {n o : ℕ} (hb : o + n ≤ 2816) : DG (TL (CL o n hb x) t) (TL (CL o n hb g) t) (TL (CL o n hb u) t) = TL (CL o n hb (DGR (ML x u) g)) t := by
  funext j
  unfold DG DGR ML TL CL
  ring
theorem tdu {n o : ℕ} (hb : o + n ≤ 2816) : DU (TL (CL o n hb x) t) (TL (CL o n hb g) t) = TL (CL o n hb (ML (GS g) x)) t := by
  funext j
  unfold DU ML GS TL CL
  ring
theorem tdn : AD (AD (MT (TL (CL 0 1536 (by omega) p) t) (G1 wi)) (MT (TL (CL 0 1536 (by omega) q) t) (U1 wi)))
      (AD (MT (TL (CL 1536 1280 (by omega) p) t) (G2 wi)) (MT (TL (CL 1536 1280 (by omega) q) t) (U2 wi))) = TL (MT (CAT p q) wi) t := by
  funext j
  have e1 : TL (MT (CAT p q) wi) t j = ∑ k : Fin 2816, p (ix2 (rw_ t (j 0)) k) * wi (ix2 (j 1) ⟨k.val, by omega⟩)
      + ∑ k : Fin 2816, q (ix2 (rw_ t (j 0)) k) * wi (ix2 (j 1) ⟨2816 + k.val, by omega⟩) := by
    show ∑ k : Fin 5632, CAT p q (ix2 (rw_ t (j 0)) k) * wi (ix2 (j 1) k) = _
    rw [sum5632]
    refine congrArg₂ (· + ·) (Finset.sum_congr rfl fun k _ => congrArg₂ (fun y z : ℝ => y * z) ?_ rfl) (Finset.sum_congr rfl fun k _ => congrArg₂ (fun y z : ℝ => y * z) ?_ rfl)
    · exact dif_pos k.isLt
    · refine (dif_neg (show ¬ 2816 + k.val < 2816 by omega)).trans (congrArg q (congrArg (ix2 (rw_ t (j 0))) (Fin.ext ?_)))
      show 2816 + k.val - 2816 = k.val
      omega
  rw [e1, sum2816, sum2816]
  have e2 : MT (TL (CL 0 1536 (by omega) q) t) (U1 wi) j = ∑ k : Fin 1536, q (ix2 (rw_ t (j 0)) ⟨0 + k.val, by omega⟩) * wi (ix2 (j 1) ⟨2816 + (0 + k.val), by omega⟩) :=
    Finset.sum_congr rfl fun k _ => congrArg₂ (fun y z : ℝ => y * z) rfl (congrArg wi (congrArg (ix2 (j 1)) (Fin.ext (show 2816 + k.val = 2816 + (0 + k.val) by omega))))
  have e3 : MT (TL (CL 1536 1280 (by omega) q) t) (U2 wi) j = ∑ k : Fin 1280, q (ix2 (rw_ t (j 0)) ⟨1536 + k.val, by omega⟩) * wi (ix2 (j 1) ⟨2816 + (1536 + k.val), by omega⟩) :=
    Finset.sum_congr rfl fun k _ => congrArg₂ (fun y z : ℝ => y * z) rfl (congrArg wi (congrArg (ix2 (j 1)) (Fin.ext (show 4352 + k.val = 2816 + (1536 + k.val) by omega))))
  show (_ + MT (TL (CL 0 1536 (by omega) q) t) (U1 wi) j) + (_ + MT (TL (CL 1536 1280 (by omega) q) t) (U2 wi) j) = _
  rw [e2, e3]
  exact add_add_add_comm _ _ _ _

theorem rl_eq : ∀ t : Fin cfg0.N, (1 ≤ (BitVec.ofNat 32 (grid0.coords t 0).val).toInt) ↔ 1 ≤ t.val :=
  (by decide +kernel : ∀ t : Fin grid0.N, _)
theorem ter : SC (ER (rl (BitVec.ofNat 32 (grid0.coords t 0).val)) (TL h2 t) (TT tg t)) = TL (DP (EE h2 tg)) t := by
  funext j
  have hj : (j 0).val < 256 := (j 0).isLt
  unfold SC ER rl
  by_cases ht : 1 ≤ t.val
  · rw [if_pos ((rl_eq t).2 ht)]
    have hc : 256 ≤ t.val * 256 + (j 0).val := by omega
    refine Eq.trans ?_ (dif_pos hc).symm
    rw [mul_one, mul_one_div]
    refine congrArg (· / 1024) (congrArg₂ (· - ·) (congrArg h2 (congrArg (ix2 · (j 1)) (Fin.ext ?_))) (congrArg tg (congrArg (ix2 · (j 1)) (Fin.ext ?_))))
    · show t.val * 256 + (j 0).val = 256 + (t.val * 256 + (j 0).val - 256)
      omega
    · show (t.val - 1) * 256 + (j 0).val = t.val * 256 + (j 0).val - 256
      omega
  · rw [if_neg (fun hh => ht ((rl_eq t).1 hh))]
    have hc : ¬ 256 ≤ t.val * 256 + (j 0).val := by omega
    refine Eq.trans ?_ (dif_neg hc).symm
    rw [mul_zero, zero_mul]
theorem tmw : MW (TL d t) gf = TL (MW d gf) t := rfl
theorem tnb : NB (RI (TL h t)) (XH (TL h t)) (TL h2 t) (TL d t) (MN (TL d t) (XH (TL h t))) = TL (NBR h h2 d) t := by
  funext j
  set r := rw_ t (j 0)
  have hs : ∑ k, d (ix2 r k) * (h (ix2 r k) * ri (row h r)) = (∑ k, h (ix2 r k) * d (ix2 r k)) * ri (row h r) := by
    rw [Finset.sum_mul]; exact Finset.sum_congr rfl fun k _ => by ring
  have hp := mean_pos (row h r)
  have hr : ri (row h r) / ((∑ k, row h r k * row h r k) / 1024 + eps) = ri (row h r) * ri (row h r) * ri (row h r) := by
    rw [div_eq_iff (ne_of_gt hp)]
    have := rs_sq (row h r)
    unfold ri
    linear_combination (-(rs (∑ k, row h r k * row h r k))) * this
  show h2 (ix2 r (j 1)) + ri (row h r) * (d (ix2 r (j 1)) - h (ix2 r (j 1)) * ri (row h r) * ((∑ k, d (ix2 r k) * (h (ix2 r k) * ri (row h r))) / 1024))
    = h2 (ix2 r (j 1)) + (d (ix2 r (j 1)) * ri (row h r)
      + h (ix2 r (j 1)) * ((∑ k, h (ix2 r k) * d (ix2 r k)) * (-(1 / 2) * (ri (row h r) / ((∑ k, row h r k * row h r k) / 1024 + eps))) / 1024)
      + (∑ k, h (ix2 r k) * d (ix2 r k)) * (-(1 / 2) * (ri (row h r) / ((∑ k, row h r k * row h r k) / 1024 + eps))) / 1024 * h (ix2 r (j 1)))
  rw [hs, hr]; ring
theorem tls : LS (ER (rl (BitVec.ofNat 32 (grid0.coords t 0).val)) (TL h2 t) (TT tg t)) = ∑ r : Fin 256, RS (EE h2 tg) (rw_ t r) := by
  unfold LS ER rl
  rw [Finset.mul_sum, Finset.sum_mul]
  refine Finset.sum_congr rfl fun r _ => ?_
  by_cases ht : 1 ≤ t.val
  · have hc : 256 ≤ t.val * 256 + r.val := by omega
    refine Eq.trans ?_ (dif_pos hc).symm
    rw [if_pos ((rl_eq t).2 ht), mul_one_div, mul_div_assoc]
    refine congrArg (fun z : ℝ => 1 / 2 * (z / 1024)) (Finset.sum_congr rfl fun k _ => ?_)
    have e0 : h2 (ix2 (rw_ t r) k) - tg (ix2 (rt_ t r) k) = EE h2 tg (ix2 ⟨(rw_ t r).val - 256, by omega⟩ k) := by
      refine congrArg₂ (· - ·) (congrArg h2 (congrArg (ix2 · k) (Fin.ext ?_))) (congrArg tg (congrArg (ix2 · k) (Fin.ext ?_)))
      · show t.val * 256 + r.val = 256 + (t.val * 256 + r.val - 256)
        omega
      · show (t.val - 1) * 256 + r.val = t.val * 256 + r.val - 256
        omega
    rw [← e0, mul_one]
    rfl
  · have hc : ¬ 256 ≤ t.val * 256 + r.val := by omega
    refine Eq.trans ?_ (dif_neg hc).symm
    rw [if_neg (fun hh => ht ((rl_eq t).1 hh))]
    simp

end Cert.Ffn
end
-- ==== Proof.FfnO.lean ====
/- The feed-forward kernel's results are the reference's arrays. -/
module

public import proofs.«01_k».proof.Proof.FfnE

@[expose] public section

set_option maxRecDepth 16384

noncomputable section

namespace Cert.Ffn

open Cert.Kernel2Ideal Cert.Kernel2Ideal.Gen Idealize.ShloMosaic Idealize.ShloMosaic.TcCoe Idealize.SL.Sem Cert.Reals
open Idealize.ShloMosaic.Pipeline (Dat)

variable (m : (ℓ : Loc nD τ sig) → Buf (Elt Ideal) ℓ)
variable {c : Dev nD} {y1 : S8448x1024.Idx → ℝ} {tg : S8192x1024.Idx → ℝ} {wi : S1024x5632.Idx → ℝ} {wo : S2816x1024.Idx → ℝ} {gf : S1x1024.Idx → ℝ}
variable (h : KArgs m c y1 tg wi wo gf) (t : Fin cfg0.N)

theorem catL (x y : A2 8448 2816) (r : Fin 8448) (k : Fin 5632) (l : Fin 2816) (e : k.val = l.val) : CAT x y (ix2 r k) = x (ix2 r l) := by
  refine (dif_pos (show k.val < 2816 by omega)).trans (congrArg x (congrArg (ix2 r) (Fin.ext e)))
theorem catR (x y : A2 8448 2816) (r : Fin 8448) (k : Fin 5632) (l : Fin 2816) (e : k.val = 2816 + l.val) : CAT x y (ix2 r k) = y (ix2 r l) := by
  refine (dif_neg (show ¬ k.val < 2816 by omega)).trans (congrArg y (congrArg (ix2 r) (Fin.ext (show k.val - 2816 = l.val by omega))))

include h
theorem o5 (r : Fin 256) (k : Fin 1024) : (outsAt0 m c t.val t.isLt).1 (ix2 r k) = (up (TL (HN y1 gf) t) : S256x1024.Idx → EReal) (ix2 r k) := by
  by_cases ht : t.val % 33 = 0
  · rw [outsAt0_A m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
  · rw [outsAt0_B m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
set_option maxHeartbeats 2000000 in
theorem o7 (r : Fin 256) (k : Fin 2816) : (outsAt0 m c t.val t.isLt).2.2.1 (ix2 r k) = (up (TL (AC y1 wi gf) t) : S256x2816.Idx → EReal) (ix2 r k) := by
  by_cases ht : t.val % 33 = 0
  · rw [outsAt0_A m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
    generalize hy : (ix2 r k : S256x2816.Idx) = w
    clear h
    canon_tiles x h using View.cover_of_tiledBy _ ![256, 256] (by sl_kernel_rfl) _
    case piece0 =>
      subst hy
      obtain rfl : r = (x 0 : Fin 256) := Fin.ext h0
      exact congrArg (fun z => ((AC y1 wi gf (ix2 (rw_ t (x 0)) z) : ℝ) : EReal)) (Fin.ext (show 1536 + (x 1).val = k.val by have h1' : k.val = 1536 + (x 1).val := h1; omega))
    case piece1 =>
      subst hy
      obtain rfl : r = (x 0 : Fin 256) := Fin.ext h0
      exact congrArg (fun z => ((AC y1 wi gf (ix2 (rw_ t (x 0)) z) : ℝ) : EReal)) (Fin.ext (show 0 + (x 1).val = k.val by have h1' : k.val = (x 1).val := h1; omega))
  · rw [outsAt0_B m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
    generalize hy : (ix2 r k : S256x2816.Idx) = w
    clear h
    canon_tiles x h using View.cover_of_tiledBy _ ![256, 256] (by sl_kernel_rfl) _
    case piece0 =>
      subst hy
      obtain rfl : r = (x 0 : Fin 256) := Fin.ext h0
      exact congrArg (fun z => ((AC y1 wi gf (ix2 (rw_ t (x 0)) z) : ℝ) : EReal)) (Fin.ext (show 1536 + (x 1).val = k.val by have h1' : k.val = 1536 + (x 1).val := h1; omega))
    case piece1 =>
      subst hy
      obtain rfl : r = (x 0 : Fin 256) := Fin.ext h0
      exact congrArg (fun z => ((AC y1 wi gf (ix2 (rw_ t (x 0)) z) : ℝ) : EReal)) (Fin.ext (show 0 + (x 1).val = k.val by have h1' : k.val = (x 1).val := h1; omega))
set_option maxHeartbeats 2000000 in
theorem o6 (r : Fin 256) (k : Fin 5632) : (outsAt0 m c t.val t.isLt).2.1 (ix2 r k) = (up (TL (DC y1 tg wi wo gf) t) : S256x5632.Idx → EReal) (ix2 r k) := by
  by_cases ht : t.val % 33 = 0
  · rw [outsAt0_A m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
    generalize hy : (ix2 r k : S256x5632.Idx) = w
    clear h
    canon_tiles x h using View.cover_of_tiledBy _ ![256, 256] (by sl_kernel_rfl) _
    case piece0 =>
      subst hy
      obtain rfl : r = (x 0 : Fin 256) := Fin.ext h0
      have hx : (x 1).val < 1280 := (x 1).isLt
      exact congrArg (fun z : ℝ => (z : EReal)) (catR _ _ (rw_ t (x 0)) k ⟨1536 + (x 1).val, by omega⟩ (by have h1' : k.val = 4352 + (x 1).val := h1; show k.val = 2816 + (1536 + (x 1).val); omega)).symm
    case piece1 =>
      subst hy
      obtain rfl : r = (x 0 : Fin 256) := Fin.ext h0
      have hx : (x 1).val < 1280 := (x 1).isLt
      exact congrArg (fun z : ℝ => (z : EReal)) (catL _ _ (rw_ t (x 0)) k ⟨1536 + (x 1).val, by omega⟩ (by have h1' : k.val = 1536 + (x 1).val := h1; show k.val = (1536 + (x 1).val); omega)).symm
    case piece2 =>
      subst hy
      obtain rfl : r = (x 0 : Fin 256) := Fin.ext h0
      have hx : (x 1).val < 1536 := (x 1).isLt
      exact congrArg (fun z : ℝ => (z : EReal)) (catR _ _ (rw_ t (x 0)) k ⟨0 + (x 1).val, by omega⟩ (by have h1' : k.val = 2816 + (x 1).val := h1; show k.val = 2816 + (0 + (x 1).val); omega)).symm
    case piece3 =>
      subst hy
      obtain rfl : r = (x 0 : Fin 256) := Fin.ext h0
      have hx : (x 1).val < 1536 := (x 1).isLt
      exact congrArg (fun z : ℝ => (z : EReal)) (catL _ _ (rw_ t (x 0)) k ⟨0 + (x 1).val, by omega⟩ (by have h1' : k.val = (x 1).val := h1; show k.val = (0 + (x 1).val); omega)).symm
  · rw [outsAt0_B m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
    generalize hy : (ix2 r k : S256x5632.Idx) = w
    clear h
    canon_tiles x h using View.cover_of_tiledBy _ ![256, 256] (by sl_kernel_rfl) _
    case piece0 =>
      subst hy
      obtain rfl : r = (x 0 : Fin 256) := Fin.ext h0
      have hx : (x 1).val < 1280 := (x 1).isLt
      exact congrArg (fun z : ℝ => (z : EReal)) (catR _ _ (rw_ t (x 0)) k ⟨1536 + (x 1).val, by omega⟩ (by have h1' : k.val = 4352 + (x 1).val := h1; show k.val = 2816 + (1536 + (x 1).val); omega)).symm
    case piece1 =>
      subst hy
      obtain rfl : r = (x 0 : Fin 256) := Fin.ext h0
      have hx : (x 1).val < 1280 := (x 1).isLt
      exact congrArg (fun z : ℝ => (z : EReal)) (catL _ _ (rw_ t (x 0)) k ⟨1536 + (x 1).val, by omega⟩ (by have h1' : k.val = 1536 + (x 1).val := h1; show k.val = (1536 + (x 1).val); omega)).symm
    case piece2 =>
      subst hy
      obtain rfl : r = (x 0 : Fin 256) := Fin.ext h0
      have hx : (x 1).val < 1536 := (x 1).isLt
      exact congrArg (fun z : ℝ => (z : EReal)) (catR _ _ (rw_ t (x 0)) k ⟨0 + (x 1).val, by omega⟩ (by have h1' : k.val = 2816 + (x 1).val := h1; show k.val = 2816 + (0 + (x 1).val); omega)).symm
    case piece3 =>
      subst hy
      obtain rfl : r = (x 0 : Fin 256) := Fin.ext h0
      have hx : (x 1).val < 1536 := (x 1).isLt
      exact congrArg (fun z : ℝ => (z : EReal)) (catL _ _ (rw_ t (x 0)) k ⟨0 + (x 1).val, by omega⟩ (by have h1' : k.val = (x 1).val := h1; show k.val = (0 + (x 1).val); omega)).symm
theorem o8 (r : Fin 256) (k : Fin 1024) : (outsAt0 m c t.val t.isLt).2.2.2.1 (ix2 r k) = (up (TL (D2 y1 tg wi wo gf) t) : S256x1024.Idx → EReal) (ix2 r k) := by
  by_cases ht : t.val % 33 = 0
  · rw [outsAt0_A m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
  · rw [outsAt0_B m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
theorem o9 (r : Fin 256) (k : Fin 1024) : (outsAt0 m c t.val t.isLt).2.2.2.2.1 (ix2 r k) = (up (TL (DH y1 tg wi wo gf) t) : S256x1024.Idx → EReal) (ix2 r k) := by
  by_cases ht : t.val % 33 = 0
  · rw [outsAt0_A m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
  · rw [outsAt0_B m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
theorem o10 (r : Fin 256) (k : Fin 1024) : (outsAt0 m c t.val t.isLt).2.2.2.2.2.1 (ix2 r k) = (up (TL (DH y1 tg wi wo gf) t) : S256x1024.Idx → EReal) (ix2 r k) := by
  by_cases ht : t.val % 33 = 0
  · rw [outsAt0_A m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
  · rw [outsAt0_B m c t ht]
    frame_out
    simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
    simp only [tg1, tg2, tu1, tu2, thn, tsw, th2, tw1, tw2, tdg, tdu, tdn, ter, tmw, tnb]
theorem F5 : (dats m 0 c).arrAt 5 (cfgs 0).N = (up (HN y1 gf) : S8448x1024.Idx → EReal) := by
  refine (dats m 0 c).arrAt_eq_of_covers 5 _ (by decide +kernel) fun t hf w => ?_
  blk_simp
  rw [after0_5]
  obtain ⟨r, k, rfl⟩ : ∃ r k, w = ix2 r k := ⟨_, _, eq_ix2 w⟩
  refine (o5 m h t r k).trans ?_
  have e : (win0_5.blk t).view.emb (ix2 r k) = ix2 (rw_ t r) k := by
    blk_ext [idx t] <;> rfl
  rw [e]
  rfl
theorem F6 : (dats m 0 c).arrAt 6 (cfgs 0).N = (up (DC y1 tg wi wo gf) : S8448x5632.Idx → EReal) := by
  refine (dats m 0 c).arrAt_eq_of_covers 6 _ (by decide +kernel) fun t hf w => ?_
  blk_simp
  rw [after0_6]
  obtain ⟨r, k, rfl⟩ : ∃ r k, w = ix2 r k := ⟨_, _, eq_ix2 w⟩
  refine (o6 m h t r k).trans ?_
  have e : (win0_6.blk t).view.emb (ix2 r k) = ix2 (rw_ t r) k := by
    blk_ext [idx t] <;> rfl
  rw [e]
  rfl
theorem F7 : (dats m 0 c).arrAt 7 (cfgs 0).N = (up (AC y1 wi gf) : S8448x2816.Idx → EReal) := by
  refine (dats m 0 c).arrAt_eq_of_covers 7 _ (by decide +kernel) fun t hf w => ?_
  blk_simp
  rw [after0_7]
  obtain ⟨r, k, rfl⟩ : ∃ r k, w = ix2 r k := ⟨_, _, eq_ix2 w⟩
  refine (o7 m h t r k).trans ?_
  have e : (win0_7.blk t).view.emb (ix2 r k) = ix2 (rw_ t r) k := by
    blk_ext [idx t] <;> rfl
  rw [e]
  rfl
theorem F8 : (dats m 0 c).arrAt 8 (cfgs 0).N = (up (D2 y1 tg wi wo gf) : S8448x1024.Idx → EReal) := by
  refine (dats m 0 c).arrAt_eq_of_covers 8 _ (by decide +kernel) fun t hf w => ?_
  blk_simp
  rw [after0_8]
  obtain ⟨r, k, rfl⟩ : ∃ r k, w = ix2 r k := ⟨_, _, eq_ix2 w⟩
  refine (o8 m h t r k).trans ?_
  have e : (win0_8.blk t).view.emb (ix2 r k) = ix2 (rw_ t r) k := by
    blk_ext [idx t] <;> rfl
  rw [e]
  rfl
theorem F9 : (dats m 0 c).arrAt 9 (cfgs 0).N = (up (DH y1 tg wi wo gf) : S8448x1024.Idx → EReal) := by
  refine (dats m 0 c).arrAt_eq_of_covers 9 _ (by decide +kernel) fun t hf w => ?_
  blk_simp
  rw [after0_9]
  obtain ⟨r, k, rfl⟩ : ∃ r k, w = ix2 r k := ⟨_, _, eq_ix2 w⟩
  refine (o9 m h t r k).trans ?_
  have e : (win0_9.blk t).view.emb (ix2 r k) = ix2 (rw_ t r) k := by
    blk_ext [idx t] <;> rfl
  rw [e]
  rfl
theorem F10 : (dats m 0 c).arrAt 10 (cfgs 0).N = (up (DH y1 tg wi wo gf) : S8448x1024.Idx → EReal) := by
  refine (dats m 0 c).arrAt_eq_of_covers 10 _ (by decide +kernel) fun t hf w => ?_
  blk_simp
  rw [after0_10]
  obtain ⟨r, k, rfl⟩ : ∃ r k, w = ix2 r k := ⟨_, _, eq_ix2 w⟩
  refine (o10 m h t r k).trans ?_
  have e : (win0_10.blk t).view.emb (ix2 r k) = ix2 (rw_ t r) k := by
    blk_ext [idx t] <;> rfl
  rw [e]
  rfl
omit h in
/-- The rows of the blocks of one run, one after the other. -/
theorem rw_run (s : Fin 33) (k : Fin 256) (hl : s.val * 256 + k.val < 8448) {p} : rw_ ⟨33 * (t.val / 33) + s.val, p⟩ k = ⟨s.val * 256 + k.val, hl⟩ :=
  Fin.ext (by
    have : t.val < 33 := lt_of_lt_of_eq t.isLt N_0
    show (33 * (t.val / 33) + s.val) * 256 + k.val = s.val * 256 + k.val
    omega)
theorem a11 (ht : t.val % 33 = 0) (j : S1x1024.Idx) : (outsAt0 m c t.val t.isLt).2.2.2.2.2.2.1 j = 0 + (fun (t : Fin cfg0.N) (j : S1x1024.Idx) => ((∑ r : Fin 256, DN y1 tg wi wo gf (ix2 (rw_ t r) (j 1)) * XH y1 (ix2 (rw_ t r) (j 1)) : ℝ) : EReal)) t j := by
  rw [outsAt0_A m c t ht]
  frame_out
  simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
  simp only [tg1, tg2, tu1, tu2, thn, tsw, th2, tw1, tw2, tdg, tdu, tdn, ter, tmw, tnb]
  exact congrArg (· + _) (pay3 j)
theorem s11 (ht : ¬t.val % 33 = 0) (j : S1x1024.Idx) : (outsAt0 m c t.val t.isLt).2.2.2.2.2.2.1 j
    = (outsAt0 m c (t.val - 1) (lt_of_le_of_lt (Nat.sub_le _ _) t.isLt)).2.2.2.2.2.2.1 j + (fun (t : Fin cfg0.N) (j : S1x1024.Idx) => ((∑ r : Fin 256, DN y1 tg wi wo gf (ix2 (rw_ t r) (j 1)) * XH y1 (ix2 (rw_ t r) (j 1)) : ℝ) : EReal)) t j := by
  rw [outsAt0_B m c t ht]
  frame_out
  simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
  simp only [tg1, tg2, tu1, tu2, thn, tsw, th2, tw1, tw2, tdg, tdu, tdn, ter, tmw, tnb]
  rfl
theorem F11 : (dats m 0 c).arrAt 11 (cfgs 0).N = (up (CS (DN y1 tg wi wo gf) (XH y1)) : S1x1024.Idx → EReal) := by
  refine (dats m 0 c).arrAt_eq_of_covers 11 _ (by decide +kernel) fun t hf w => ?_
  blk_simp
  rw [after0_11, Pipeline.eq_sum_fin_of_reset_step_apply_of_flush (fun n h => (outsAt0 m c n h).2.2.2.2.2.2.1) 33 (fun _ => 0)
    (fun (t : Fin cfg0.N) (j : S1x1024.Idx) => ((∑ r : Fin 256, DN y1 tg wi wo gf (ix2 (rw_ t r) (j 1)) * XH y1 (ix2 (rw_ t r) (j 1)) : ℝ) : EReal)) (fun t ht j => a11 m h t ht j) (fun t ht j => s11 m h t ht j) t ((flush0_11 t).mp hf) _, zero_add]
  have e : (win0_11.blk t).view.emb w = w := by
    blk_ext [idx t] <;> rfl
  rw [e]
  refine (coe_sum _).trans (congrArg _ (Fin.sum_mul_add_congr fun s k hl => ?_))
  rw [rw_run t s k hl]
theorem a12 (ht : t.val % 33 = 0) (j : S1x1.Idx) : (outsAt0 m c t.val t.isLt).2.2.2.2.2.2.2 j = 0 + (fun (t : Fin cfg0.N) (_ : S1x1.Idx) => ((∑ r : Fin 256, RS (ERR y1 tg wi wo gf) (rw_ t r) : ℝ) : EReal)) t j := by
  rw [outsAt0_A m c t ht]
  frame_out
  simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
  simp only [tg1, tg2, tu1, tu2, thn, tsw, th2, tw1, tw2, tdg, tdu, tdn, ter, tmw, tnb, tls]
  exact congrArg (· + _) (pay4 j)
theorem s12 (ht : ¬t.val % 33 = 0) (j : S1x1.Idx) : (outsAt0 m c t.val t.isLt).2.2.2.2.2.2.2 j
    = (outsAt0 m c (t.val - 1) (lt_of_le_of_lt (Nat.sub_le _ _) t.isLt)).2.2.2.2.2.2.2 j + (fun (t : Fin cfg0.N) (_ : S1x1.Idx) => ((∑ r : Fin 256, RS (ERR y1 tg wi wo gf) (rw_ t r) : ℝ) : EReal)) t j := by
  rw [outsAt0_B m c t ht]
  frame_out
  simp only [b0 m h t, b1 m h t, b2 m h t, b3 m h t, b4 m h t, ldg1, ldu1, ldg2, ldu2, ldw1, ldw2, pay7, pay8, pay9, pay10, pay11, pay12, pay13, pay14, pay17, pay18, pay19, rdL, rdR, pay20, pay21, pay22, pay23, pay24, pay25, pay26, pay27, pay28, pay29, pay30, pay31, pay32, pay33, pay34, pay35, pay5, pay6, pay36, pay37, pay38, pay39, pay1, pay2]
  simp only [tg1, tg2, tu1, tu2, thn, tsw, th2, tw1, tw2, tdg, tdu, tdn, ter, tmw, tnb, tls]
theorem F12 : (dats m 0 c).arrAt 12 (cfgs 0).N = (up (fun _ => ∑ r, RS (ERR y1 tg wi wo gf) r) : S1x1.Idx → EReal) := by
  refine (dats m 0 c).arrAt_eq_of_covers 12 _ (by decide +kernel) fun t hf w => ?_
  blk_simp
  rw [after0_12, Pipeline.eq_sum_fin_of_reset_step_apply_of_flush (fun n h => (outsAt0 m c n h).2.2.2.2.2.2.2) 33 (fun _ => 0)
    (fun (t : Fin cfg0.N) (_ : S1x1.Idx) => ((∑ r : Fin 256, RS (ERR y1 tg wi wo gf) (rw_ t r) : ℝ) : EReal)) (fun t ht j => a12 m h t ht j) (fun t ht j => s12 m h t ht j) t ((flush0_12 t).mp hf) _, zero_add]
  have e : (win0_12.blk t).view.emb w = w := by
    blk_ext [idx t] <;> rfl
  rw [e]
  refine (coe_sum _).trans (congrArg _ (Fin.sum_mul_add_congr fun s k hl => ?_))
  rw [rw_run t s k hl]

end Cert.Ffn
end
-- ==== Proof.Pre2.lean ====
module
public import proofs.«01_k».proof.Proof.Pre
public import proofs.«01_k».proof.Pre_finite2
public import proofs.«01_k».proof.Proof.Gen.Pre_finite2

/-! The second precondition says that every argument is a real array. -/

@[expose] public section
noncomputable section
namespace Cert.Reals
open Idealize.ShloMosaic

variable {s : Shape} (x : FVec Ideal s .f32) {hb : Cert.Pre_finite2.S_.BroadcastsInDim s (![] : Fin 0 → Fin s.rank)}

theorem real_of_all2 {axes : List (Fin s.rank)} {hr : s.ReducesTo axes Cert.Pre_finite2.S_} {hu} (j)
    (h : Host.reduce IntOp.andi (cmpf .olt (Host.absf x) (broadcastInDim s ![] hb (constant (F := Ideal) Cert.Pre_finite2.S_ .f32 0x7F800000#32)))
      (constantI Cert.Pre_finite2.S_ 1 1#1) hr hu j = 1#1) : ∃ b : s.Idx → ℝ, x = up b :=
  exists_up x fun i => real_of_lt (x i) (Host.reduce_andi_all _ _ hr hu j h i)

open Cert.Pre_finite2 in
theorem finite_args2 [Facts] (a0 : FVec Ideal S8448x1024 .f32) (a1 : FVec Ideal S8192x1024 .f32) (a2 : FVec Ideal S1024x5632 .bf16)
    (a3 : FVec Ideal S2816x1024 .bf16) (a4 : FVec Ideal S1x1024 .f32) (h : fn (F := Ideal) a0 a1 a2 a3 a4 = fun _ => 1#1) :
    (∃ b, a0 = up b) ∧ (∃ b, a1 = up b) ∧ (∃ b, a2 = up b) ∧ (∃ b, a3 = up b) ∧ (∃ b, a4 = up b) := by
  have h := congrFun h ix0
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨h, h0⟩ := IntOp.andi_eq_one.1 h
  exact ⟨real_of_all2 _ _ h0, real_of_all2 _ _ h1, real_of_all2 _ _ h2, real_of_all2 _ _ h3, real_of_all2 _ _ h4⟩
end Cert.Reals
end
end
-- ==== Proof.FfnMain.lean ====
module
public import proofs.«01_k».proof.Defs
public import proofs.«01_k».proof.Proof.FfnO
public import proofs.«01_k».proof.Proof.Pre2

/-! The claims about the feed-forward layer's kernel. -/

@[expose] public section
set_option maxRecDepth 16384
noncomputable section
namespace Cert.Ffn
open Idealize.ShloMosaic Idealize.ShloMosaic.TcCoe Idealize.SL.Sem Cert.Reals

theorem args (m : (ℓ : Loc Cert.Kernel2Ideal.nD Cert.Kernel2Ideal.τ Cert.Kernel2Ideal.sig) → Buf (Elt Ideal) ℓ)
    (hp : Cert.Pre_Kernel2Ideal_finite2 (hPre_finite2 := Cert.Pre_finite2.Gen.facts) m) (c : Dev Cert.Kernel2Ideal.nD) :
    ∃ x tg wi wo gf, KArgs m c x tg wi wo gf := by
  obtain ⟨⟨b0, h0⟩, ⟨b1, h1⟩, ⟨b2, h2⟩, ⟨b3, h3⟩, ⟨b4, h4⟩⟩ := finite_args2 (h := hp c)
  exact ⟨b0, b1, b2, b3, b4, ⟨h0, h1, h2, h3, h4⟩⟩

set_option maxHeartbeats 1000000 in
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp e
  choose x tg wi wo gf hK using args m hp
  have hA : ∀ c, RArgs m' c (x c) (tg c) (wi c) (wo c) (gf c) := fun c =>
    ⟨(e c).1.trans (hK c).a0, (e c).2.1.trans (hK c).a1, (e c).2.2.1.trans (hK c).a2, (e c).2.2.2.1.trans (hK c).a3,
      (e c).2.2.2.2.trans (hK c).a4⟩
  refine ⟨_, _, _, _, _, _, _, _, Cert.Kernel2Ideal.Value.run_blocks m g, ?_⟩
  refine (θ_run Cert.Reference2Ideal.defs _ _).mono (fun r h c => ?_) (Cert.Reference2Ideal.Value.run m' g')
  obtain ⟨e0, e1, e2, e3, e4, e5, e6, e7, k⟩ := h c
  refine ⟨e0.trans ?_, e1.trans ?_, e2.trans ?_, e3.trans ?_, e4.trans ?_, e5.trans ?_, e6.trans ?_, e7.trans ?_, k⟩
  · exact (f0 (hA c)).trans (F5 m (hK c)).symm
  · exact (f1 (hA c)).trans (F6 m (hK c)).symm
  · exact (f2 (hA c)).trans (F7 m (hK c)).symm
  · exact (f3 (hA c)).trans (F8 m (hK c)).symm
  · exact (f4 (hA c)).trans (F9 m (hK c)).symm
  · exact (f5 (hA c)).trans (F10 m (hK c)).symm
  · exact (f6 (hA c)).trans (F11 m (hK c)).symm
  · refine (f7 (hA c)).trans ((F12 m (hK c)).trans ?_).symm
    simp only [sum_RS]

/-- The reference's run changes no argument and leaves every counter at zero. -/
theorem frame_r : Cert.quiescent_Reference2Ideal (hReference2Ideal := Cert.Reference2Ideal.Gen.facts) := fun m ρ _ =>
  (θ_run Cert.Reference2Ideal.defs _ _).mono (fun r h => ⟨fun c => (h c).2.2.2.2.2.2.2.2, sem_eq_zero_of_no_sems (by decide) r.2⟩)
    (Cert.Reference2Ideal.Value.run m ρ)

end Cert.Ffn
end
end
-- ==== Proof.Grad3.lean ====
/- The weight gradient `aᵀ b` of the first feed-forward weight: the rows' products summed tile by tile. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Reals
public import Idealize.ShloMosaic.PureOps.IdealRules
public import Idealize.ShloMosaic.Lib.StableHlo.ReadAt

@[expose] public section

set_option maxRecDepth 16384

noncomputable section

namespace Cert.Grad3

open Idealize.ShloMosaic Idealize.ShloMosaic.TcCoe Idealize.SL.Sem
open Idealize.ShloMosaic.Pipeline (Dat)

/-- The sums over the rows of the entries' products. -/
def AB (a : (⟨2, ![8448, 1024]⟩ : Shape).Idx → EReal) (b : (⟨2, ![8448, 5632]⟩ : Shape).Idx → EReal) : (⟨2, ![1024, 5632]⟩ : Shape).Idx → EReal :=
  fun j => ∑ r : Fin 8448, a (ix2 r (j 0)) * b (ix2 r (j 1))

section
open Cert.Kernel3Ideal Cert.Kernel3Ideal.Gen

theorem idx : ∀ t : Fin cfg0.N, win0_0.index t = ![t.val % 4, 0] ∧ win0_1.index t = ![t.val % 4, t.val / 4]
    ∧ win0_2.index t = ![0, t.val / 4] ∧ win0_3.index t = ![0, t.val / 4] :=
  (by decide +kernel : ∀ t : Fin grid0.N, _)

/-- Row `r` of block `t`, as a row of the arrays. -/
def rr (t : Fin cfg0.N) (r : Fin 2112) : Fin 8448 := ⟨t.val % 4 * 2112 + r.val, by omega⟩
/-- Column `k` of block `t`, as a column of the second array. -/
def cc (t : Fin cfg0.N) (k : Fin 1408) : Fin 5632 := ⟨t.val / 4 * 1408 + k.val, by have := lt_of_lt_of_eq t.isLt N_0; omega⟩

variable (m : (ℓ : Loc nD τ sig) → Buf (Elt Ideal) ℓ) {c : Dev nD} {a : S8448x1024.Idx → EReal} {b : S8448x5632.Idx → EReal}

/-- The arguments. -/
structure KArgs (m : (ℓ : Loc nD τ sig) → Buf (Elt Ideal) ℓ) (c : Dev nD) (a : S8448x1024.Idx → EReal) (b : S8448x5632.Idx → EReal) : Prop where
  h0 : m ((c : Thread nD τ).loc main_arg0) = a
  h1 : m ((c : Thread nD τ).loc main_arg1) = b

variable (h : KArgs m c a b) (t : Fin cfg0.N)

/-- The product of two tiles. -/
theorem pay2 (acc : S1024x1408.Idx → EReal) (p : S2112x1024.Idx → EReal) (q : S2112x1408.Idx → EReal) (j : S1024x1408.Idx) :
    k0_pay2 (F := Ideal) acc p q j = acc j + ∑ r : Fin 2112, p (ix2 r (j 0)) * q (ix2 r (j 1)) := by
  pointwise [k0_pay2]
theorem pay1 (j : S1024x1408.Idx) : k0_pay1 (F := Ideal) j = 0 := by
  pointwise [k0_pay1]
theorem pay3 (acc : S1024x1408.Idx → EReal) : k0_pay3 (F := Ideal) acc = acc := by
  funext j
  pointwise [k0_pay3]

include h

theorem b0 : iblk m c 0 t = (fun x => a (ix2 (rr t (x 0)) (x 1)) : S2112x1024.Idx → EReal) := by
  funext x
  rw [← h.h0]
  blk_ext [iblk, V, idx t]
  rfl
theorem b1 : iblk m c 1 t = (fun x => b (ix2 (rr t (x 0)) (cc t (x 1))) : S2112x1408.Idx → EReal) := by
  funext x
  rw [← h.h1]
  blk_ext [iblk, V, idx t] <;> rfl
theorem a2 (ht : t.val % 4 = 0) (j : S1024x1408.Idx) : (outsAt0 m c t.val t.isLt).1 j
    = 0 + ∑ r : Fin 2112, a (ix2 (rr t r) (j 0)) * b (ix2 (rr t r) (cc t (j 1))) := by
  have hn : ¬t.val % 4 = 3 := by omega
  rw [outsAt0_A m c t ht hn]
  frame_out
  rw [b0 m h t, b1 m h t]
  refine (pay2 _ _ _ j).trans ?_
  exact congrArg (· + _) (pay1 j)
theorem s2 (ht : ¬t.val % 4 = 0) (j : S1024x1408.Idx) : (outsAt0 m c t.val t.isLt).1 j
    = (outsAt0 m c (t.val - 1) (lt_of_le_of_lt (Nat.sub_le _ _) t.isLt)).1 j + ∑ r : Fin 2112, a (ix2 (rr t r) (j 0)) * b (ix2 (rr t r) (cc t (j 1))) := by
  by_cases hl : t.val % 4 = 3
  · rw [outsAt0_C m c t ht hl]
    frame_out
    rw [b0 m h t, b1 m h t]
    exact pay2 _ _ _ j
  · rw [outsAt0_B m c t ht hl]
    frame_out
    rw [b0 m h t, b1 m h t]
    exact pay2 _ _ _ j
theorem l2 (ht : t.val % 4 = 3) (j : S1024x1408.Idx) : (outsAt0 m c t.val t.isLt).1 j
    = ∑ r : Fin 8448, a (ix2 r (j 0)) * b (ix2 r (cc t (j 1))) := by
  rw [Pipeline.eq_sum_fin_of_reset_step_apply_of_flush (fun n h => (outsAt0 m c n h).1) 4 (fun _ => (0 : EReal))
    (fun t j => ∑ r : Fin 2112, a (ix2 (rr t r) (j 0)) * b (ix2 (rr t r) (cc t (j 1)))) (fun t ht j => a2 m h t ht j) (fun t ht j => s2 m h t ht j) t ht j, zero_add]
  refine Fin.sum_mul_add_congr fun s k hl => ?_
  have e0 : ∀ p, rr ⟨4 * (t.val / 4) + s.val, p⟩ k = ⟨s.val * 2112 + k.val, hl⟩ := fun p =>
    Fin.ext (by show (4 * (t.val / 4) + s.val) % 4 * 2112 + k.val = s.val * 2112 + k.val; omega)
  have e1 : ∀ p, cc ⟨4 * (t.val / 4) + s.val, p⟩ (j 1) = cc t (j 1) := fun p =>
    Fin.ext (by
      have e : (4 * (t.val / 4) + s.val) / 4 = t.val / 4 := by omega
      show (4 * (t.val / 4) + s.val) / 4 * 1408 + _ = t.val / 4 * 1408 + _
      rw [e])
  rw [e0, e1]
theorem f2 : (dats m 0 c).arrAt 2 (cfgs 0).N = (AB a b : S1024x5632.Idx → EReal) := by
  refine (dats m 0 c).arrAt_eq_of_covers 2 _ (by decide +kernel) fun t hf w => ?_
  blk_simp
  rw [after0_2]
  obtain ⟨r, k, rfl⟩ : ∃ r k, w = ix2 r k := ⟨_, _, eq_ix2 w⟩
  refine (l2 m h t ((flush0_2 t).mp hf) (ix2 r k)).trans ?_
  have e : (win0_2.blk t).view.emb (ix2 r k) = ix2 r (cc t k) := by
    blk_ext [idx t] <;> rfl
  rw [e]
  rfl
theorem l3 (ht : t.val % 4 = 3) (j : S1024x1408.Idx) : (outsAt0 m c t.val t.isLt).2 j
    = ∑ r : Fin 8448, a (ix2 r (j 0)) * b (ix2 r (cc t (j 1))) := by
  refine Eq.trans ?_ (l2 m h t ht j)
  have h0 : ¬t.val % 4 = 0 := by omega
  rw [outsAt0_C m c t h0 ht]
  frame_out
  exact congrFun (pay3 _) j
theorem f3 : (dats m 0 c).arrAt 3 (cfgs 0).N = (AB a b : S1024x5632.Idx → EReal) := by
  refine (dats m 0 c).arrAt_eq_of_covers 3 _ (by decide +kernel) fun t hf w => ?_
  blk_simp
  rw [after0_3]
  obtain ⟨r, k, rfl⟩ : ∃ r k, w = ix2 r k := ⟨_, _, eq_ix2 w⟩
  refine (l3 m h t ((flush0_3 t).mp hf) (ix2 r k)).trans ?_
  have e : (win0_3.blk t).view.emb (ix2 r k) = ix2 r (cc t k) := by
    blk_ext [idx t] <;> rfl
  rw [e]
  rfl
end

section
open Cert.Reference3Ideal Cert.Reference3Ideal.Gen
variable (a : FVec Ideal S8448x1024 .bf16) (b : FVec Ideal S8448x5632 .bf16)
theorem r3 : (transpose S1024x5632 [1, 0] (Host.dotGeneral dot_S8448x5632_S8448x1024_S5632x1024_0_0_1_1_n_n none (extf .f32 b bitsLt_bf16_f32) (extf .f32 a bitsLt_bf16_f32)) transposes_S5632x1024_S1024x5632_1_0 : FVec Ideal S1024x5632 .f32)
    = (AB a b : S1024x5632.Idx → EReal) := by
  funext j
  obtain ⟨r, k, rfl⟩ : ∃ r k, j = ix2 r k := ⟨_, _, eq_ix2 j⟩
  pointwise
  exact Finset.sum_congr rfl fun q _ => mul_comm (G := EReal) _ _
end

theorem algebraic : Cert.algebraic_Kernel3Ideal_Reference3Ideal (hKernel3Ideal := Cert.Kernel3Ideal.Gen.facts)
    (hReference3Ideal := Cert.Reference3Ideal.Gen.facts) := by
  intro m g m' g' _ e
  have hK : ∀ c, KArgs m c _ _ := fun c => ⟨rfl, rfl⟩
  refine ⟨_, _, Cert.Kernel3Ideal.Value.run_blocks m g, ?_⟩
  refine (θ_run Cert.Reference3Ideal.defs _ _).mono (fun r h c => ?_) (Cert.Reference3Ideal.Value.run m' g')
  obtain ⟨e0, e1, k⟩ := h c
  refine ⟨e0.trans ?_, e1.trans ?_, k⟩
  · rw [(e c).1, (e c).2]
    exact (r3 _ _).trans (f2 m (hK c)).symm
  · rw [(e c).1, (e c).2]
    refine Eq.trans ?_ ((r3 _ _).trans (f3 m (hK c)).symm)
    funext j
    pointwise

/-- The reference's run changes no argument and leaves every counter at zero. -/
theorem frame_r : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run m ρ)

end Cert.Grad3

end
-- ==== Proof.Grad4.lean ====
/- The weight gradient `aᵀ b` of the second feed-forward weight: the rows' products summed tile by tile. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Reals
public import Idealize.ShloMosaic.PureOps.IdealRules
public import Idealize.ShloMosaic.Lib.StableHlo.ReadAt

@[expose] public section

set_option maxRecDepth 16384

noncomputable section

namespace Cert.Grad4

open Idealize.ShloMosaic Idealize.ShloMosaic.TcCoe Idealize.SL.Sem
open Idealize.ShloMosaic.Pipeline (Dat)

/-- The sums over the rows of the entries' products. -/
def AB (a : (⟨2, ![8448, 2816]⟩ : Shape).Idx → EReal) (b : (⟨2, ![8448, 1024]⟩ : Shape).Idx → EReal) : (⟨2, ![2816, 1024]⟩ : Shape).Idx → EReal :=
  fun j => ∑ r : Fin 8448, a (ix2 r (j 0)) * b (ix2 r (j 1))

section
open Cert.Kernel4Ideal Cert.Kernel4Ideal.Gen

theorem idx : ∀ t : Fin cfg0.N, win0_0.index t = ![t.val % 11, 0] ∧ win0_1.index t = ![t.val % 11, t.val / 11]
    ∧ win0_2.index t = ![0, t.val / 11] ∧ win0_3.index t = ![0, t.val / 11] :=
  (by decide +kernel : ∀ t : Fin grid0.N, _)

/-- Row `r` of block `t`, as a row of the arrays. -/
def rr (t : Fin cfg0.N) (r : Fin 768) : Fin 8448 := ⟨t.val % 11 * 768 + r.val, by omega⟩
/-- Column `k` of block `t`, as a column of the second array. -/
def cc (t : Fin cfg0.N) (k : Fin 512) : Fin 1024 := ⟨t.val / 11 * 512 + k.val, by have := lt_of_lt_of_eq t.isLt N_0; omega⟩

variable (m : (ℓ : Loc nD τ sig) → Buf (Elt Ideal) ℓ) {c : Dev nD} {a : S8448x2816.Idx → EReal} {b : S8448x1024.Idx → EReal}

/-- The arguments. -/
structure KArgs (m : (ℓ : Loc nD τ sig) → Buf (Elt Ideal) ℓ) (c : Dev nD) (a : S8448x2816.Idx → EReal) (b : S8448x1024.Idx → EReal) : Prop where
  h0 : m ((c : Thread nD τ).loc main_arg0) = a
  h1 : m ((c : Thread nD τ).loc main_arg1) = b

variable (h : KArgs m c a b) (t : Fin cfg0.N)

/-- The product of two tiles. -/
theorem pay2 (acc : S2816x512.Idx → EReal) (p : S768x2816.Idx → EReal) (q : S768x512.Idx → EReal) (j : S2816x512.Idx) :
    k0_pay2 (F := Ideal) acc p q j = acc j + ∑ r : Fin 768, p (ix2 r (j 0)) * q (ix2 r (j 1)) := by
  pointwise [k0_pay2]
theorem pay1 (j : S2816x512.Idx) : k0_pay1 (F := Ideal) j = 0 := by
  pointwise [k0_pay1]
theorem pay3 (acc : S2816x512.Idx → EReal) : k0_pay3 (F := Ideal) acc = acc := by
  funext j
  pointwise [k0_pay3]

include h

theorem b0 : iblk m c 0 t = (fun x => a (ix2 (rr t (x 0)) (x 1)) : S768x2816.Idx → EReal) := by
  funext x
  rw [← h.h0]
  blk_ext [iblk, V, idx t]
  rfl
theorem b1 : iblk m c 1 t = (fun x => b (ix2 (rr t (x 0)) (cc t (x 1))) : S768x512.Idx → EReal) := by
  funext x
  rw [← h.h1]
  blk_ext [iblk, V, idx t] <;> rfl
theorem a2 (ht : t.val % 11 = 0) (j : S2816x512.Idx) : (outsAt0 m c t.val t.isLt).1 j
    = 0 + ∑ r : Fin 768, a (ix2 (rr t r) (j 0)) * b (ix2 (rr t r) (cc t (j 1))) := by
  have hn : ¬t.val % 11 = 10 := by omega
  rw [outsAt0_A m c t ht hn]
  frame_out
  rw [b0 m h t, b1 m h t]
  refine (pay2 _ _ _ j).trans ?_
  exact congrArg (· + _) (pay1 j)
theorem s2 (ht : ¬t.val % 11 = 0) (j : S2816x512.Idx) : (outsAt0 m c t.val t.isLt).1 j
    = (outsAt0 m c (t.val - 1) (lt_of_le_of_lt (Nat.sub_le _ _) t.isLt)).1 j + ∑ r : Fin 768, a (ix2 (rr t r) (j 0)) * b (ix2 (rr t r) (cc t (j 1))) := by
  by_cases hl : t.val % 11 = 10
  · rw [outsAt0_C m c t ht hl]
    frame_out
    rw [b0 m h t, b1 m h t]
    exact pay2 _ _ _ j
  · rw [outsAt0_B m c t ht hl]
    frame_out
    rw [b0 m h t, b1 m h t]
    exact pay2 _ _ _ j
theorem l2 (ht : t.val % 11 = 10) (j : S2816x512.Idx) : (outsAt0 m c t.val t.isLt).1 j
    = ∑ r : Fin 8448, a (ix2 r (j 0)) * b (ix2 r (cc t (j 1))) := by
  rw [Pipeline.eq_sum_fin_of_reset_step_apply_of_flush (fun n h => (outsAt0 m c n h).1) 11 (fun _ => (0 : EReal))
    (fun t j => ∑ r : Fin 768, a (ix2 (rr t r) (j 0)) * b (ix2 (rr t r) (cc t (j 1)))) (fun t ht j => a2 m h t ht j) (fun t ht j => s2 m h t ht j) t ht j, zero_add]
  refine Fin.sum_mul_add_congr fun s k hl => ?_
  have e0 : ∀ p, rr ⟨11 * (t.val / 11) + s.val, p⟩ k = ⟨s.val * 768 + k.val, hl⟩ := fun p =>
    Fin.ext (by show (11 * (t.val / 11) + s.val) % 11 * 768 + k.val = s.val * 768 + k.val; omega)
  have e1 : ∀ p, cc ⟨11 * (t.val / 11) + s.val, p⟩ (j 1) = cc t (j 1) := fun p =>
    Fin.ext (by
      have e : (11 * (t.val / 11) + s.val) / 11 = t.val / 11 := by omega
      show (11 * (t.val / 11) + s.val) / 11 * 512 + _ = t.val / 11 * 512 + _
      rw [e])
  rw [e0, e1]
theorem f2 : (dats m 0 c).arrAt 2 (cfgs 0).N = (AB a b : S2816x1024.Idx → EReal) := by
  refine (dats m 0 c).arrAt_eq_of_covers 2 _ (by decide +kernel) fun t hf w => ?_
  blk_simp
  rw [after0_2]
  obtain ⟨r, k, rfl⟩ : ∃ r k, w = ix2 r k := ⟨_, _, eq_ix2 w⟩
  refine (l2 m h t ((flush0_2 t).mp hf) (ix2 r k)).trans ?_
  have e : (win0_2.blk t).view.emb (ix2 r k) = ix2 r (cc t k) := by
    blk_ext [idx t] <;> rfl
  rw [e]
  rfl
theorem l3 (ht : t.val % 11 = 10) (j : S2816x512.Idx) : (outsAt0 m c t.val t.isLt).2 j
    = ∑ r : Fin 8448, a (ix2 r (j 0)) * b (ix2 r (cc t (j 1))) := by
  refine Eq.trans ?_ (l2 m h t ht j)
  have h0 : ¬t.val % 11 = 0 := by omega
  rw [outsAt0_C m c t h0 ht]
  frame_out
  exact congrFun (pay3 _) j
theorem f3 : (dats m 0 c).arrAt 3 (cfgs 0).N = (AB a b : S2816x1024.Idx → EReal) := by
  refine (dats m 0 c).arrAt_eq_of_covers 3 _ (by decide +kernel) fun t hf w => ?_
  blk_simp
  rw [after0_3]
  obtain ⟨r, k, rfl⟩ : ∃ r k, w = ix2 r k := ⟨_, _, eq_ix2 w⟩
  refine (l3 m h t ((flush0_3 t).mp hf) (ix2 r k)).trans ?_
  have e : (win0_3.blk t).view.emb (ix2 r k) = ix2 r (cc t k) := by
    blk_ext [idx t] <;> rfl
  rw [e]
  rfl
end

section
open Cert.Reference4Ideal Cert.Reference4Ideal.Gen
variable (a : FVec Ideal S8448x2816 .bf16) (b : FVec Ideal S8448x1024 .bf16)
theorem r3 : (transpose S2816x1024 [1, 0] (Host.dotGeneral dot_S8448x1024_S8448x2816_S1024x2816_0_0_1_1_n_n none (extf .f32 b bitsLt_bf16_f32) (extf .f32 a bitsLt_bf16_f32)) transposes_S1024x2816_S2816x1024_1_0 : FVec Ideal S2816x1024 .f32)
    = (AB a b : S2816x1024.Idx → EReal) := by
  funext j
  obtain ⟨r, k, rfl⟩ : ∃ r k, j = ix2 r k := ⟨_, _, eq_ix2 j⟩
  pointwise
  exact Finset.sum_congr rfl fun q _ => mul_comm (G := EReal) _ _
end

theorem algebraic : Cert.algebraic_Kernel4Ideal_Reference4Ideal (hKernel4Ideal := Cert.Kernel4Ideal.Gen.facts)
    (hReference4Ideal := Cert.Reference4Ideal.Gen.facts) := by
  intro m g m' g' _ e
  have hK : ∀ c, KArgs m c _ _ := fun c => ⟨rfl, rfl⟩
  refine ⟨_, _, Cert.Kernel4Ideal.Value.run_blocks m g, ?_⟩
  refine (θ_run Cert.Reference4Ideal.defs _ _).mono (fun r h c => ?_) (Cert.Reference4Ideal.Value.run m' g')
  obtain ⟨e0, e1, k⟩ := h c
  refine ⟨e0.trans ?_, e1.trans ?_, k⟩
  · rw [(e c).1, (e c).2]
    exact (r3 _ _).trans (f2 m (hK c)).symm
  · rw [(e c).1, (e c).2]
    refine Eq.trans ?_ ((r3 _ _).trans (f3 m (hK c)).symm)
    funext j
    pointwise

/-- The reference's run changes no argument and leaves every counter at zero. -/
theorem frame_r : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run m ρ)

end Cert.Grad4

end
-- ==== Proof.Grad5.lean ====
/- The weight gradient `aᵀ b` of the merge's weight: the rows' products summed tile by tile. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Reals
public import Idealize.ShloMosaic.PureOps.IdealRules
public import Idealize.ShloMosaic.Lib.StableHlo.ReadAt

@[expose] public section

set_option maxRecDepth 16384

noncomputable section

namespace Cert.Grad5

open Idealize.ShloMosaic Idealize.ShloMosaic.TcCoe Idealize.SL.Sem
open Idealize.ShloMosaic.Pipeline (Dat)

/-- The sums over the rows of the entries' products. -/
def AB (a : (⟨2, ![8448, 1024]⟩ : Shape).Idx → EReal) (b : (⟨2, ![8448, 2048]⟩ : Shape).Idx → EReal) : (⟨2, ![1024, 2048]⟩ : Shape).Idx → EReal :=
  fun j => ∑ r : Fin 8448, a (ix2 r (j 0)) * b (ix2 r (j 1))

section
open Cert.Kernel5Ideal Cert.Kernel5Ideal.Gen

theorem idx : ∀ t : Fin cfg0.N, win0_0.index t = ![t.val % 4, 0] ∧ win0_1.index t = ![t.val % 4, t.val / 4]
    ∧ win0_2.index t = ![0, t.val / 4] ∧ win0_3.index t = ![0, t.val / 4] :=
  (by decide +kernel : ∀ t : Fin grid0.N, _)

/-- Row `r` of block `t`, as a row of the arrays. -/
def rr (t : Fin cfg0.N) (r : Fin 2112) : Fin 8448 := ⟨t.val % 4 * 2112 + r.val, by omega⟩
/-- Column `k` of block `t`, as a column of the second array. -/
def cc (t : Fin cfg0.N) (k : Fin 1024) : Fin 2048 := ⟨t.val / 4 * 1024 + k.val, by have := lt_of_lt_of_eq t.isLt N_0; omega⟩

variable (m : (ℓ : Loc nD τ sig) → Buf (Elt Ideal) ℓ) {c : Dev nD} {a : S8448x1024.Idx → EReal} {b : S8448x2048.Idx → EReal}

/-- The arguments. -/
structure KArgs (m : (ℓ : Loc nD τ sig) → Buf (Elt Ideal) ℓ) (c : Dev nD) (a : S8448x1024.Idx → EReal) (b : S8448x2048.Idx → EReal) : Prop where
  h0 : m ((c : Thread nD τ).loc main_arg0) = a
  h1 : m ((c : Thread nD τ).loc main_arg1) = b

variable (h : KArgs m c a b) (t : Fin cfg0.N)

/-- The product of two tiles. -/
theorem pay2 (acc : S1024x1024.Idx → EReal) (p : S2112x1024.Idx → EReal) (q : S2112x1024.Idx → EReal) (j : S1024x1024.Idx) :
    k0_pay2 (F := Ideal) acc p q j = acc j + ∑ r : Fin 2112, p (ix2 r (j 0)) * q (ix2 r (j 1)) := by
  pointwise [k0_pay2]
theorem pay1 (j : S1024x1024.Idx) : k0_pay1 (F := Ideal) j = 0 := by
  pointwise [k0_pay1]
theorem pay3 (acc : S1024x1024.Idx → EReal) : k0_pay3 (F := Ideal) acc = acc := by
  funext j
  pointwise [k0_pay3]

include h

theorem b0 : iblk m c 0 t = (fun x => a (ix2 (rr t (x 0)) (x 1)) : S2112x1024.Idx → EReal) := by
  funext x
  rw [← h.h0]
  blk_ext [iblk, V, idx t]
  rfl
theorem b1 : iblk m c 1 t = (fun x => b (ix2 (rr t (x 0)) (cc t (x 1))) : S2112x1024.Idx → EReal) := by
  funext x
  rw [← h.h1]
  blk_ext [iblk, V, idx t] <;> rfl
theorem a2 (ht : t.val % 4 = 0) (j : S1024x1024.Idx) : (outsAt0 m c t.val t.isLt).1 j
    = 0 + ∑ r : Fin 2112, a (ix2 (rr t r) (j 0)) * b (ix2 (rr t r) (cc t (j 1))) := by
  have hn : ¬t.val % 4 = 3 := by omega
  rw [outsAt0_A m c t ht hn]
  frame_out
  rw [b0 m h t, b1 m h t]
  refine (pay2 _ _ _ j).trans ?_
  exact congrArg (· + _) (pay1 j)
theorem s2 (ht : ¬t.val % 4 = 0) (j : S1024x1024.Idx) : (outsAt0 m c t.val t.isLt).1 j
    = (outsAt0 m c (t.val - 1) (lt_of_le_of_lt (Nat.sub_le _ _) t.isLt)).1 j + ∑ r : Fin 2112, a (ix2 (rr t r) (j 0)) * b (ix2 (rr t r) (cc t (j 1))) := by
  by_cases hl : t.val % 4 = 3
  · rw [outsAt0_C m c t ht hl]
    frame_out
    rw [b0 m h t, b1 m h t]
    exact pay2 _ _ _ j
  · rw [outsAt0_B m c t ht hl]
    frame_out
    rw [b0 m h t, b1 m h t]
    exact pay2 _ _ _ j
theorem l2 (ht : t.val % 4 = 3) (j : S1024x1024.Idx) : (outsAt0 m c t.val t.isLt).1 j
    = ∑ r : Fin 8448, a (ix2 r (j 0)) * b (ix2 r (cc t (j 1))) := by
  rw [Pipeline.eq_sum_fin_of_reset_step_apply_of_flush (fun n h => (outsAt0 m c n h).1) 4 (fun _ => (0 : EReal))
    (fun t j => ∑ r : Fin 2112, a (ix2 (rr t r) (j 0)) * b (ix2 (rr t r) (cc t (j 1)))) (fun t ht j => a2 m h t ht j) (fun t ht j => s2 m h t ht j) t ht j, zero_add]
  refine Fin.sum_mul_add_congr fun s k hl => ?_
  have e0 : ∀ p, rr ⟨4 * (t.val / 4) + s.val, p⟩ k = ⟨s.val * 2112 + k.val, hl⟩ := fun p =>
    Fin.ext (by show (4 * (t.val / 4) + s.val) % 4 * 2112 + k.val = s.val * 2112 + k.val; omega)
  have e1 : ∀ p, cc ⟨4 * (t.val / 4) + s.val, p⟩ (j 1) = cc t (j 1) := fun p =>
    Fin.ext (by
      have e : (4 * (t.val / 4) + s.val) / 4 = t.val / 4 := by omega
      show (4 * (t.val / 4) + s.val) / 4 * 1024 + _ = t.val / 4 * 1024 + _
      rw [e])
  rw [e0, e1]
theorem f2 : (dats m 0 c).arrAt 2 (cfgs 0).N = (AB a b : S1024x2048.Idx → EReal) := by
  refine (dats m 0 c).arrAt_eq_of_covers 2 _ (by decide +kernel) fun t hf w => ?_
  blk_simp
  rw [after0_2]
  obtain ⟨r, k, rfl⟩ : ∃ r k, w = ix2 r k := ⟨_, _, eq_ix2 w⟩
  refine (l2 m h t ((flush0_2 t).mp hf) (ix2 r k)).trans ?_
  have e : (win0_2.blk t).view.emb (ix2 r k) = ix2 r (cc t k) := by
    blk_ext [idx t] <;> rfl
  rw [e]
  rfl
theorem l3 (ht : t.val % 4 = 3) (j : S1024x1024.Idx) : (outsAt0 m c t.val t.isLt).2 j
    = ∑ r : Fin 8448, a (ix2 r (j 0)) * b (ix2 r (cc t (j 1))) := by
  refine Eq.trans ?_ (l2 m h t ht j)
  have h0 : ¬t.val % 4 = 0 := by omega
  rw [outsAt0_C m c t h0 ht]
  frame_out
  exact congrFun (pay3 _) j
theorem f3 : (dats m 0 c).arrAt 3 (cfgs 0).N = (AB a b : S1024x2048.Idx → EReal) := by
  refine (dats m 0 c).arrAt_eq_of_covers 3 _ (by decide +kernel) fun t hf w => ?_
  blk_simp
  rw [after0_3]
  obtain ⟨r, k, rfl⟩ : ∃ r k, w = ix2 r k := ⟨_, _, eq_ix2 w⟩
  refine (l3 m h t ((flush0_3 t).mp hf) (ix2 r k)).trans ?_
  have e : (win0_3.blk t).view.emb (ix2 r k) = ix2 r (cc t k) := by
    blk_ext [idx t] <;> rfl
  rw [e]
  rfl
end

section
open Cert.Reference5Ideal Cert.Reference5Ideal.Gen
variable (a : FVec Ideal S8448x1024 .bf16) (b : FVec Ideal S8448x2048 .bf16)
theorem r3 : (transpose S1024x2048 [1, 0] (Host.dotGeneral dot_S8448x2048_S8448x1024_S2048x1024_0_0_1_1_n_n none (extf .f32 b bitsLt_bf16_f32) (extf .f32 a bitsLt_bf16_f32)) transposes_S2048x1024_S1024x2048_1_0 : FVec Ideal S1024x2048 .f32)
    = (AB a b : S1024x2048.Idx → EReal) := by
  funext j
  obtain ⟨r, k, rfl⟩ : ∃ r k, j = ix2 r k := ⟨_, _, eq_ix2 j⟩
  pointwise
  exact Finset.sum_congr rfl fun q _ => mul_comm (G := EReal) _ _
end

theorem algebraic : Cert.algebraic_Kernel5Ideal_Reference5Ideal (hKernel5Ideal := Cert.Kernel5Ideal.Gen.facts)
    (hReference5Ideal := Cert.Reference5Ideal.Gen.facts) := by
  intro m g m' g' _ e
  have hK : ∀ c, KArgs m c _ _ := fun c => ⟨rfl, rfl⟩
  refine ⟨_, _, Cert.Kernel5Ideal.Value.run_blocks m g, ?_⟩
  refine (θ_run Cert.Reference5Ideal.defs _ _).mono (fun r h c => ?_) (Cert.Reference5Ideal.Value.run m' g')
  obtain ⟨e0, e1, k⟩ := h c
  refine ⟨e0.trans ?_, e1.trans ?_, k⟩
  · rw [(e c).1, (e c).2]
    exact (r3 _ _).trans (f2 m (hK c)).symm
  · rw [(e c).1, (e c).2]
    refine Eq.trans ?_ ((r3 _ _).trans (f3 m (hK c)).symm)
    funext j
    pointwise

/-- The reference's run changes no argument and leaves every counter at zero. -/
theorem frame_r : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run m ρ)

end Cert.Grad5

end
-- ==== Proof.Grad6.lean ====
/- The weight gradient `aᵀ b` of the output weight: the rows' products summed tile by tile. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Reals
public import Idealize.ShloMosaic.PureOps.IdealRules
public import Idealize.ShloMosaic.Lib.StableHlo.ReadAt

@[expose] public section

set_option maxRecDepth 16384

noncomputable section

namespace Cert.Grad6

open Idealize.ShloMosaic Idealize.ShloMosaic.TcCoe Idealize.SL.Sem
open Idealize.ShloMosaic.Pipeline (Dat)

/-- The sums over the rows of the entries' products. -/
def AB (a : (⟨2, ![8448, 1024]⟩ : Shape).Idx → EReal) (b : (⟨2, ![8448, 1024]⟩ : Shape).Idx → EReal) : (⟨2, ![1024, 1024]⟩ : Shape).Idx → EReal :=
  fun j => ∑ r : Fin 8448, a (ix2 r (j 0)) * b (ix2 r (j 1))

section
open Cert.Kernel6Ideal Cert.Kernel6Ideal.Gen

theorem idx : ∀ t : Fin cfg0.N, win0_0.index t = ![t.val % 4, 0] ∧ win0_1.index t = ![t.val % 4, t.val / 4]
    ∧ win0_2.index t = ![0, t.val / 4] ∧ win0_3.index t = ![0, t.val / 4] :=
  (by decide +kernel : ∀ t : Fin grid0.N, _)

/-- Row `r` of block `t`, as a row of the arrays. -/
def rr (t : Fin cfg0.N) (r : Fin 2112) : Fin 8448 := ⟨t.val % 4 * 2112 + r.val, by omega⟩
/-- Column `k` of block `t`, as a column of the second array. -/
def cc (t : Fin cfg0.N) (k : Fin 1024) : Fin 1024 := ⟨t.val / 4 * 1024 + k.val, by have := lt_of_lt_of_eq t.isLt N_0; omega⟩

variable (m : (ℓ : Loc nD τ sig) → Buf (Elt Ideal) ℓ) {c : Dev nD} {a : S8448x1024.Idx → EReal} {b : S8448x1024.Idx → EReal}

/-- The arguments. -/
structure KArgs (m : (ℓ : Loc nD τ sig) → Buf (Elt Ideal) ℓ) (c : Dev nD) (a : S8448x1024.Idx → EReal) (b : S8448x1024.Idx → EReal) : Prop where
  h0 : m ((c : Thread nD τ).loc main_arg0) = a
  h1 : m ((c : Thread nD τ).loc main_arg1) = b

variable (h : KArgs m c a b) (t : Fin cfg0.N)

/-- The product of two tiles. -/
theorem pay2 (acc : S1024x1024.Idx → EReal) (p : S2112x1024.Idx → EReal) (q : S2112x1024.Idx → EReal) (j : S1024x1024.Idx) :
    k0_pay2 (F := Ideal) acc p q j = acc j + ∑ r : Fin 2112, p (ix2 r (j 0)) * q (ix2 r (j 1)) := by
  pointwise [k0_pay2]
theorem pay1 (j : S1024x1024.Idx) : k0_pay1 (F := Ideal) j = 0 := by
  pointwise [k0_pay1]
theorem pay3 (acc : S1024x1024.Idx → EReal) : k0_pay3 (F := Ideal) acc = acc := by
  funext j
  pointwise [k0_pay3]

include h

theorem b0 : iblk m c 0 t = (fun x => a (ix2 (rr t (x 0)) (x 1)) : S2112x1024.Idx → EReal) := by
  funext x
  rw [← h.h0]
  blk_ext [iblk, V, idx t]
  rfl
theorem b1 : iblk m c 1 t = (fun x => b (ix2 (rr t (x 0)) (cc t (x 1))) : S2112x1024.Idx → EReal) := by
  funext x
  rw [← h.h1]
  blk_ext [iblk, V, idx t] <;> rfl
theorem a2 (ht : t.val % 4 = 0) (j : S1024x1024.Idx) : (outsAt0 m c t.val t.isLt).1 j
    = 0 + ∑ r : Fin 2112, a (ix2 (rr t r) (j 0)) * b (ix2 (rr t r) (cc t (j 1))) := by
  have hn : ¬t.val % 4 = 3 := by omega
  rw [outsAt0_A m c t ht hn]
  frame_out
  rw [b0 m h t, b1 m h t]
  refine (pay2 _ _ _ j).trans ?_
  exact congrArg (· + _) (pay1 j)
theorem s2 (ht : ¬t.val % 4 = 0) (j : S1024x1024.Idx) : (outsAt0 m c t.val t.isLt).1 j
    = (outsAt0 m c (t.val - 1) (lt_of_le_of_lt (Nat.sub_le _ _) t.isLt)).1 j + ∑ r : Fin 2112, a (ix2 (rr t r) (j 0)) * b (ix2 (rr t r) (cc t (j 1))) := by
  by_cases hl : t.val % 4 = 3
  · rw [outsAt0_C m c t ht hl]
    frame_out
    rw [b0 m h t, b1 m h t]
    exact pay2 _ _ _ j
  · rw [outsAt0_B m c t ht hl]
    frame_out
    rw [b0 m h t, b1 m h t]
    exact pay2 _ _ _ j
theorem l2 (ht : t.val % 4 = 3) (j : S1024x1024.Idx) : (outsAt0 m c t.val t.isLt).1 j
    = ∑ r : Fin 8448, a (ix2 r (j 0)) * b (ix2 r (cc t (j 1))) := by
  rw [Pipeline.eq_sum_fin_of_reset_step_apply_of_flush (fun n h => (outsAt0 m c n h).1) 4 (fun _ => (0 : EReal))
    (fun t j => ∑ r : Fin 2112, a (ix2 (rr t r) (j 0)) * b (ix2 (rr t r) (cc t (j 1)))) (fun t ht j => a2 m h t ht j) (fun t ht j => s2 m h t ht j) t ht j, zero_add]
  refine Fin.sum_mul_add_congr fun s k hl => ?_
  have e0 : ∀ p, rr ⟨4 * (t.val / 4) + s.val, p⟩ k = ⟨s.val * 2112 + k.val, hl⟩ := fun p =>
    Fin.ext (by show (4 * (t.val / 4) + s.val) % 4 * 2112 + k.val = s.val * 2112 + k.val; omega)
  have e1 : ∀ p, cc ⟨4 * (t.val / 4) + s.val, p⟩ (j 1) = cc t (j 1) := fun p =>
    Fin.ext (by
      have e : (4 * (t.val / 4) + s.val) / 4 = t.val / 4 := by omega
      show (4 * (t.val / 4) + s.val) / 4 * 1024 + _ = t.val / 4 * 1024 + _
      rw [e])
  rw [e0, e1]
theorem f2 : (dats m 0 c).arrAt 2 (cfgs 0).N = (AB a b : S1024x1024.Idx → EReal) := by
  refine (dats m 0 c).arrAt_eq_of_covers 2 _ (by decide +kernel) fun t hf w => ?_
  blk_simp
  rw [after0_2]
  obtain ⟨r, k, rfl⟩ : ∃ r k, w = ix2 r k := ⟨_, _, eq_ix2 w⟩
  refine (l2 m h t ((flush0_2 t).mp hf) (ix2 r k)).trans ?_
  have e : (win0_2.blk t).view.emb (ix2 r k) = ix2 r (cc t k) := by
    blk_ext [idx t] <;> rfl
  rw [e]
  rfl
theorem l3 (ht : t.val % 4 = 3) (j : S1024x1024.Idx) : (outsAt0 m c t.val t.isLt).2 j
    = ∑ r : Fin 8448, a (ix2 r (j 0)) * b (ix2 r (cc t (j 1))) := by
  refine Eq.trans ?_ (l2 m h t ht j)
  have h0 : ¬t.val % 4 = 0 := by omega
  rw [outsAt0_C m c t h0 ht]
  frame_out
  exact congrFun (pay3 _) j
theorem f3 : (dats m 0 c).arrAt 3 (cfgs 0).N = (AB a b : S1024x1024.Idx → EReal) := by
  refine (dats m 0 c).arrAt_eq_of_covers 3 _ (by decide +kernel) fun t hf w => ?_
  blk_simp
  rw [after0_3]
  obtain ⟨r, k, rfl⟩ : ∃ r k, w = ix2 r k := ⟨_, _, eq_ix2 w⟩
  refine (l3 m h t ((flush0_3 t).mp hf) (ix2 r k)).trans ?_
  have e : (win0_3.blk t).view.emb (ix2 r k) = ix2 r (cc t k) := by
    blk_ext [idx t] <;> rfl
  rw [e]
  rfl
end

section
open Cert.Reference6Ideal Cert.Reference6Ideal.Gen
variable (a : FVec Ideal S8448x1024 .bf16) (b : FVec Ideal S8448x1024 .bf16)
theorem r3 : (transpose S1024x1024 [1, 0] (Host.dotGeneral dot_S8448x1024_S8448x1024_S1024x1024_0_0_1_1_n_n none (extf .f32 b bitsLt_bf16_f32) (extf .f32 a bitsLt_bf16_f32)) transposes_S1024x1024_S1024x1024_1_0 : FVec Ideal S1024x1024 .f32)
    = (AB a b : S1024x1024.Idx → EReal) := by
  funext j
  obtain ⟨r, k, rfl⟩ : ∃ r k, j = ix2 r k := ⟨_, _, eq_ix2 j⟩
  pointwise
  exact Finset.sum_congr rfl fun q _ => mul_comm (G := EReal) _ _
end

theorem algebraic : Cert.algebraic_Kernel6Ideal_Reference6Ideal (hKernel6Ideal := Cert.Kernel6Ideal.Gen.facts)
    (hReference6Ideal := Cert.Reference6Ideal.Gen.facts) := by
  intro m g m' g' _ e
  have hK : ∀ c, KArgs m c _ _ := fun c => ⟨rfl, rfl⟩
  refine ⟨_, _, Cert.Kernel6Ideal.Value.run_blocks m g, ?_⟩
  refine (θ_run Cert.Reference6Ideal.defs _ _).mono (fun r h c => ?_) (Cert.Reference6Ideal.Value.run m' g')
  obtain ⟨e0, e1, k⟩ := h c
  refine ⟨e0.trans ?_, e1.trans ?_, k⟩
  · rw [(e c).1, (e c).2]
    exact (r3 _ _).trans (f2 m (hK c)).symm
  · rw [(e c).1, (e c).2]
    refine Eq.trans ?_ ((r3 _ _).trans (f3 m (hK c)).symm)
    funext j
    pointwise

/-- The reference's run changes no argument and leaves every counter at zero. -/
theorem frame_r : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run m ρ)

end Cert.Grad6

end
-- ==== Proof.Grad7.lean ====
/- The weight gradient `aᵀ b` of the input weight: the rows' products summed tile by tile. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Reals
public import Idealize.ShloMosaic.PureOps.IdealRules
public import Idealize.ShloMosaic.Lib.StableHlo.ReadAt

@[expose] public section

set_option maxRecDepth 16384

noncomputable section

namespace Cert.Grad7

open Idealize.ShloMosaic Idealize.ShloMosaic.TcCoe Idealize.SL.Sem
open Idealize.ShloMosaic.Pipeline (Dat)

/-- The sums over the rows of the entries' products. -/
def AB (a : (⟨2, ![8448, 1024]⟩ : Shape).Idx → EReal) (b : (⟨2, ![8448, 4608]⟩ : Shape).Idx → EReal) : (⟨2, ![1024, 4608]⟩ : Shape).Idx → EReal :=
  fun j => ∑ r : Fin 8448, a (ix2 r (j 0)) * b (ix2 r (j 1))

section
open Cert.Kernel7Ideal Cert.Kernel7Ideal.Gen

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- Row `r` of block `t`, as a row of the arrays. -/
def rr (t : Fin cfg0.N) (r : Fin 2112) : Fin 8448 := ⟨t.val % 4 * 2112 + r.val, by omega⟩
/-- Column `k` of block `t`, as a column of the second array. -/
def cc (t : Fin cfg0.N) (k : Fin 1536) : Fin 4608 := ⟨t.val / 4 * 1536 + k.val, by have := lt_of_lt_of_eq t.isLt N_0; omega⟩

variable (m : (ℓ : Loc nD τ sig) → Buf (Elt Ideal) ℓ) {c : Dev nD} {a : S8448x1024.Idx → EReal} {b : S8448x4608.Idx → EReal}

/-- The arguments. -/
structure KArgs (m : (ℓ : Loc nD τ sig) → Buf (Elt Ideal) ℓ) (c : Dev nD) (a : S8448x1024.Idx → EReal) (b : S8448x4608.Idx → EReal) : Prop where
  h0 : m ((c : Thread nD τ).loc main_arg0) = a
  h1 : m ((c : Thread nD τ).loc main_arg1) = b

variable (h : KArgs m c a b) (t : Fin cfg0.N)

/-- The product of two tiles. -/
theorem pay2 (acc : S1024x1536.Idx → EReal) (p : S2112x1024.Idx → EReal) (q : S2112x1536.Idx → EReal) (j : S1024x1536.Idx) :
    k0_pay2 (F := Ideal) acc p q j = acc j + ∑ r : Fin 2112, p (ix2 r (j 0)) * q (ix2 r (j 1)) := by
  pointwise [k0_pay2]
theorem pay1 (j : S1024x1536.Idx) : k0_pay1 (F := Ideal) j = 0 := by
  pointwise [k0_pay1]

include h

theorem b0 : iblk m c 0 t = (fun x => a (ix2 (rr t (x 0)) (x 1)) : S2112x1024.Idx → EReal) := by
  funext x
  rw [← h.h0]
  blk_ext [iblk, V, idx t]
  rfl
theorem b1 : iblk m c 1 t = (fun x => b (ix2 (rr t (x 0)) (cc t (x 1))) : S2112x1536.Idx → EReal) := by
  funext x
  rw [← h.h1]
  blk_ext [iblk, V, idx t] <;> rfl
theorem a2 (ht : t.val % 4 = 0) (j : S1024x1536.Idx) : (outsAt0 m c t.val t.isLt) j
    = 0 + ∑ r : Fin 2112, a (ix2 (rr t r) (j 0)) * b (ix2 (rr t r) (cc t (j 1))) := by
  rw [outsAt0_A m c t ht]
  frame_out
  rw [b0 m h t, b1 m h t]
  refine (pay2 _ _ _ j).trans ?_
  exact congrArg (· + _) (pay1 j)
theorem s2 (ht : ¬t.val % 4 = 0) (j : S1024x1536.Idx) : (outsAt0 m c t.val t.isLt) j
    = (outsAt0 m c (t.val - 1) (lt_of_le_of_lt (Nat.sub_le _ _) t.isLt)) j + ∑ r : Fin 2112, a (ix2 (rr t r) (j 0)) * b (ix2 (rr t r) (cc t (j 1))) := by
  rw [outsAt0_B m c t ht]
  frame_out
  rw [b0 m h t, b1 m h t]
  exact pay2 _ _ _ j
theorem l2 (ht : t.val % 4 = 3) (j : S1024x1536.Idx) : (outsAt0 m c t.val t.isLt) j
    = ∑ r : Fin 8448, a (ix2 r (j 0)) * b (ix2 r (cc t (j 1))) := by
  rw [Pipeline.eq_sum_fin_of_reset_step_apply_of_flush (fun n h => (outsAt0 m c n h)) 4 (fun _ => (0 : EReal))
    (fun t j => ∑ r : Fin 2112, a (ix2 (rr t r) (j 0)) * b (ix2 (rr t r) (cc t (j 1)))) (fun t ht j => a2 m h t ht j) (fun t ht j => s2 m h t ht j) t ht j, zero_add]
  refine Fin.sum_mul_add_congr fun s k hl => ?_
  have e0 : ∀ p, rr ⟨4 * (t.val / 4) + s.val, p⟩ k = ⟨s.val * 2112 + k.val, hl⟩ := fun p =>
    Fin.ext (by show (4 * (t.val / 4) + s.val) % 4 * 2112 + k.val = s.val * 2112 + k.val; omega)
  have e1 : ∀ p, cc ⟨4 * (t.val / 4) + s.val, p⟩ (j 1) = cc t (j 1) := fun p =>
    Fin.ext (by
      have e : (4 * (t.val / 4) + s.val) / 4 = t.val / 4 := by omega
      show (4 * (t.val / 4) + s.val) / 4 * 1536 + _ = t.val / 4 * 1536 + _
      rw [e])
  rw [e0, e1]
theorem f2 : (dats m 0 c).arrAt 2 (cfgs 0).N = (AB a b : S1024x4608.Idx → EReal) := by
  refine (dats m 0 c).arrAt_eq_of_covers 2 _ (by decide +kernel) fun t hf w => ?_
  blk_simp
  rw [after0_2]
  obtain ⟨r, k, rfl⟩ : ∃ r k, w = ix2 r k := ⟨_, _, eq_ix2 w⟩
  refine (l2 m h t ((flush0_2 t).mp hf) (ix2 r k)).trans ?_
  have e : (win0_2.blk t).view.emb (ix2 r k) = ix2 r (cc t k) := by
    blk_ext [idx t] <;> rfl
  rw [e]
  rfl

end

section
open Cert.Reference7Ideal Cert.Reference7Ideal.Gen
variable (a : FVec Ideal S8448x1024 .bf16) (b : FVec Ideal S8448x4608 .bf16)
theorem r3 : (transpose S1024x4608 [1, 0] (Host.dotGeneral dot_S8448x4608_S8448x1024_S4608x1024_0_0_1_1_n_n none (extf .f32 b bitsLt_bf16_f32) (extf .f32 a bitsLt_bf16_f32)) transposes_S4608x1024_S1024x4608_1_0 : FVec Ideal S1024x4608 .f32)
    = (AB a b : S1024x4608.Idx → EReal) := by
  funext j
  obtain ⟨r, k, rfl⟩ : ∃ r k, j = ix2 r k := ⟨_, _, eq_ix2 j⟩
  pointwise
  exact Finset.sum_congr rfl fun q _ => mul_comm (G := EReal) _ _
end

theorem algebraic : Cert.algebraic_Kernel7Ideal_Reference7Ideal (hKernel7Ideal := Cert.Kernel7Ideal.Gen.facts)
    (hReference7Ideal := Cert.Reference7Ideal.Gen.facts) := by
  intro m g m' g' _ e
  have hK : ∀ c, KArgs m c _ _ := fun c => ⟨rfl, rfl⟩
  refine ⟨_, Cert.Kernel7Ideal.Value.run_blocks m g, ?_⟩
  refine (θ_run Cert.Reference7Ideal.defs _ _).mono (fun r h c => ?_) (Cert.Reference7Ideal.Value.run m' g')
  obtain ⟨e0, k⟩ := h c
  refine ⟨e0.trans ?_, k⟩
  rw [(e c).1, (e c).2]
  exact (r3 _ _).trans (f2 m (hK c)).symm

/-- The reference's run changes no argument and leaves every counter at zero. -/
theorem frame_r : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

end Cert.Grad7

end
-- ==== Proof.InK.lean ====
/- The blocks the projections' gradient kernel writes, over real blocks. -/
module

public import proofs.«01_k».proof.Proof.Gen.Kernel8Ideal.Skeleton
public import proofs.«01_k».proof.Proof.FfnK

@[expose] public section

set_option maxRecDepth 16384

noncomputable section

namespace Cert.InP

open Idealize.ShloMosaic Cert.Reals
open Cert.Ffn (A2 row ri MV MT AD RI XH CS MW MN NB)

/-! ## Operations on rows made of heads of 64 columns -/

section
variable {a b : ℕ}
/-- Column `s` of the head that column `j` lies in. -/
def hc (j : Fin b) (s : Fin 64) : Fin b := if h : 64 * (j.val / 64) + s.val < b then ⟨64 * (j.val / 64) + s.val, h⟩ else j
/-- The sums over the heads, at every column of the head. -/
def HS (x : A2 a b) : A2 a b := fun j => ∑ s, x (ix2 (j 0) (hc (j 1) s))
def PR (x y : A2 a b) : A2 a b := fun j => x j * y j
/-- The inverse root of a head's mean square plus the small number. -/
def rh (z : ℝ) : ℝ := (Real.sqrt (z / 64 + eps))⁻¹
def HR (x : A2 a b) : A2 a b := fun j => rh (HS (PR x x) j)
/-- The heads normalised. -/
def HX (x : A2 a b) : A2 a b := fun j => x j * HR x j
/-- The gradient of the heads' norm. -/
def HB (x dy : A2 a b) (g : A2 1 b) : A2 a b := fun j => HR x j * (MW dy g j - HX x j * (HS (PR (MW dy g) (HX x)) j / 64))
end

/-- Whether two columns lie in one head. -/
def BD : A2 256 256 := fun j => if (j 0).val / 64 = (j 1).val / 64 then 1 else 0

theorem lit_64th : Ideal.ofBits .f32 1015021568#32 = ((1 / 64 : ℝ) : EReal) := by
  simp [Ideal.ofBits, Ideal.ieee, -EReal.coe_mul]; norm_num

theorem rh_pos {n : ℕ} (f : Fin n → ℝ) : 0 < (∑ x, f x * f x) / 64 + eps :=
  add_pos_of_nonneg_of_pos (div_nonneg (Finset.sum_nonneg fun x _ => mul_self_nonneg (f x)) (by norm_num)) eps_pos

theorem rsqrt_head {n : ℕ} (f : Fin n → ℝ) :
    Ideal.rsqrt ((((∑ x, f x * f x) / 64 + eps : ℝ)) : EReal) = ((rh (∑ x, f x * f x) : ℝ) : EReal) := by
  rw [Ideal.rsqrt_coe, if_neg (not_lt.mpr (rh_pos f).le), if_neg (rh_pos f).ne', rh]

/-- The sum over the columns of one head, as a product with `BD`. -/
theorem head_sum (f : Fin 256 → ℝ) (q : Fin 256) : ∑ k, f k * BD (ix2 k q) = ∑ s, f (hc q s) := by
  rw [← (finProdFinEquiv (m := 4) (n := 64)).sum_comp, Fintype.sum_prod_type, Finset.sum_eq_single (⟨q.val / 64, by omega⟩ : Fin 4)]
  · refine Finset.sum_congr rfl fun s _ => ?_
    have hq := q.isLt
    have hs := s.isLt
    have h1 : 64 * (q.val / 64) + s.val < 256 := by omega
    have : BD (ix2 (finProdFinEquiv ((⟨q.val / 64, by omega⟩ : Fin 4), s)) q) = 1 := by
      refine if_pos ?_
      show (s.val + 64 * (q.val / 64)) / 64 = q.val / 64
      omega
    rw [this, mul_one]
    refine congrArg f (Fin.ext ?_)
    rw [hc, dif_pos h1]
    exact Nat.add_comm _ _
  · intro i _ hi
    refine Finset.sum_eq_zero fun s _ => ?_
    have hs := s.isLt
    have : BD (ix2 (finProdFinEquiv (i, s)) q) = 0 := by
      refine if_neg ?_
      show ¬ (s.val + 64 * i.val) / 64 = q.val / 64
      intro h
      exact hi (Fin.ext (show i.val = q.val / 64 by omega))
    rw [this, mul_zero]
  · intro h
    exact absurd (Finset.mem_univ _) h

section
open Cert.Kernel8Ideal Cert.Kernel8Ideal.Gen

theorem segK (x : S256x256.Idx → ℝ) : (matmul (φ₁ := .bf16) (φ₂ := .bf16) dot_S256x256_S256x256_S256x256_1_0_0_1_n_n none (truncf .bf16 (up x : FVec Ideal S256x256 .f32) bitsLt_bf16_f32) (up BD : FVec Ideal S256x256 .bf16) (constant S256x256 .f32 0x00000000#32) : FVec Ideal S256x256 .f32)
    = (up (HS x) : S256x256.Idx → EReal) := by
  funext j
  pointwise
  simp only [up_apply, reals]
  exact congrArg _ (head_sum (fun k => x (ix2 (j 0) k)) (j 1))

theorem segL (x : S256x256.Idx → ℝ) : (matmul (φ₁ := .bf16) (φ₂ := .bf16) dot_S256x256_S256x256_S256x256_1_0_0_1_n_n none (truncf .bf16 (subf (up x : FVec Ideal S256x256 .f32) (extf .f32 (truncf .bf16 (up x : FVec Ideal S256x256 .f32) bitsLt_bf16_f32) bitsLt_bf16_f32)) bitsLt_bf16_f32) (up BD : FVec Ideal S256x256 .bf16) (constant S256x256 .f32 0x00000000#32) : FVec Ideal S256x256 .f32)
    = (up (fun _ => 0) : S256x256.Idx → EReal) := by
  funext j
  pointwise
  simp only [up_apply, reals, sub_self, zero_mul, Finset.sum_const_zero]

theorem segM (x : S256x256.Idx → ℝ) : (addf (up (HS x) : FVec Ideal S256x256 .f32) (up (fun _ => 0) : FVec Ideal S256x256 .f32) : FVec Ideal S256x256 .f32)
    = (up (HS x) : S256x256.Idx → EReal) := by
  funext j
  pointwise
  simp only [up_apply, reals, add_zero]

/-- The columns from `o` on. -/
def CO (o : ℕ) (ho : o + 256 ≤ 1024) (x : A2 256 1024) : A2 256 256 := fun j => x (ix2 (j 0) ⟨o + (j 1).val, by have : (j 1).val < 256 := (j 1).isLt; omega⟩)

theorem sl0 (x : S256x1024.Idx → ℝ) : (extractStridedSlice S256x256 ![0, 0] (up x : FVec Ideal S256x1024 .f32) slices_S256x1024_o0_0_S256x256 : FVec Ideal S256x256 .f32) = (up (CO 0 (by omega) x) : S256x256.Idx → EReal) := by
  funext j
  pointwise
  refine congrArg (fun i => ((x i : ℝ) : EReal)) (congrArg (ix2 (j 0)) (Fin.ext ?_))
  simp
theorem sl1 (x : S256x1024.Idx → ℝ) : (extractStridedSlice S256x256 ![0, 256] (up x : FVec Ideal S256x1024 .f32) slices_S256x1024_o0_256_S256x256 : FVec Ideal S256x256 .f32) = (up (CO 256 (by omega) x) : S256x256.Idx → EReal) := by
  funext j
  pointwise
  rfl
theorem sl2 (x : S256x1024.Idx → ℝ) : (extractStridedSlice S256x256 ![0, 512] (up x : FVec Ideal S256x1024 .f32) slices_S256x1024_o0_512_S256x256 : FVec Ideal S256x256 .f32) = (up (CO 512 (by omega) x) : S256x256.Idx → EReal) := by
  funext j
  pointwise
  rfl
theorem sl3 (x : S256x1024.Idx → ℝ) : (extractStridedSlice S256x256 ![0, 768] (up x : FVec Ideal S256x1024 .f32) slices_S256x1024_o0_768_S256x256 : FVec Ideal S256x256 .f32) = (up (CO 768 (by omega) x) : S256x256.Idx → EReal) := by
  funext j
  pointwise
  rfl

theorem hs_co (n : ℕ) (ho : n * 256 + 256 ≤ 1024) (x : A2 256 1024) (r : Fin 256) (k : Fin 1024) (q : Fin 256) (hq : k.val = n * 256 + q.val) :
    HS (CO (n * 256) ho x) (ix2 r q) = HS x (ix2 r k) := by
  refine Finset.sum_congr rfl fun s _ => congrArg (fun i => x (ix2 r i)) (Fin.ext ?_)
  show n * 256 + (hc q s).val = (hc k s).val
  have := s.isLt
  have := q.isLt
  have := k.isLt
  rw [hc, hc, dif_pos (by omega), dif_pos (by omega)]
  show n * 256 + (64 * (q.val / 64) + s.val) = 64 * (k.val / 64) + s.val
  omega

theorem segQ (x : S256x1024.Idx → ℝ) :
   (concatenate S256x1024 1 [⟨S256x256, (up (HS (CO 0 (by omega) x)) : FVec Ideal S256x256 .f32)⟩, ⟨S256x256, (up (HS (CO 256 (by omega) x)) : FVec Ideal S256x256 .f32)⟩, ⟨S256x256, (up (HS (CO 512 (by omega) x)) : FVec Ideal S256x256 .f32)⟩, ⟨S256x256, (up (HS (CO 768 (by omega) x)) : FVec Ideal S256x256 .f32)⟩] concatenates_S256x256_S256x256_S256x256_S256x256_S256x1024_d1 : FVec Ideal S256x1024 .f32)
   = (up (HS x) : S256x1024.Idx → EReal) := by
  funext j
  obtain ⟨r, k, rfl⟩ : ∃ r k, j = ix2 r k := ⟨_, _, eq_ix2 j⟩
  pointwise
  simp only [up_apply]
  by_cases h0 : k.val < 256
  · rw [dif_pos h0]
    exact congrArg _ (hs_co 0 (by omega) x r k _ (show k.val = 0 * 256 + k.val by omega))
  rw [dif_neg h0]
  by_cases h1 : k.val - 256 < 256
  · rw [dif_pos h1]
    exact congrArg _ (hs_co 1 (by omega) x r k _ (show k.val = 1 * 256 + (k.val - 256) by omega))
  rw [dif_neg h1]
  by_cases h2 : k.val - 256 - 256 < 256
  · rw [dif_pos h2]
    exact congrArg _ (hs_co 2 (by omega) x r k _ (show k.val = 2 * 256 + (k.val - 256 - 256) by omega))
  rw [dif_neg h2]
  exact congrArg _ (hs_co 3 (by omega) x r k _ (show k.val = 3 * 256 + (k.val - 256 - 256 - 256) by omega))

variable (x dy w dxn h s : S256x1024.Idx → ℝ) (g : S1x1024.Idx → ℝ) (y dz : S256x256.Idx → ℝ) (g2 : S1x256.Idx → ℝ)

theorem mulS (x y : S256x1024.Idx → ℝ) : (mulf (up x : FVec Ideal S256x1024 .f32) (up y : FVec Ideal S256x1024 .f32) : FVec Ideal S256x1024 .f32) = (up (PR x y) : S256x1024.Idx → EReal) := by
  funext j
  pointwise
  simp only [up_apply, reals]
  rfl
theorem mulT (x y : S256x256.Idx → ℝ) : (mulf (up x : FVec Ideal S256x256 .f32) (up y : FVec Ideal S256x256 .f32) : FVec Ideal S256x256 .f32) = (up (PR x y) : S256x256.Idx → EReal) := by
  funext j
  pointwise
  simp only [up_apply, reals]
  rfl
theorem pay5 : k0_pay5 (F := Ideal) (up BD) = up BD := by
  funext j
  pointwise [k0_pay5]
theorem pay6 : k0_pay6 (F := Ideal) (up x) = up x := by
  funext j
  pointwise [k0_pay6]
theorem pay7 : k0_pay7 (F := Ideal) (up BD) (up x) = up (HR x) := by
  rw [k0_pay7, pay6, pay5, mulS, sl0, sl1, sl2, sl3, segK, segK, segK, segK, segQ]
  funext j
  pointwise
  simp only [up_apply, lit_64th, reals, mul_one_div]
  exact rsqrt_head (fun s => x (ix2 (j 0) (hc (j 1) s)))
theorem pay8 : k0_pay8 (F := Ideal) (up BD) (up x) = up (HX x) := by
  rw [k0_pay8, pay7, pay6, mulS]
  rfl
theorem pay9 (acc : S1x1024.Idx → EReal) : k0_pay9 (F := Ideal) (up BD) (up x) (up dy) acc = fun j => acc j + up (CS dy (HX x)) j := by
  rw [k0_pay9, pay8]
  funext j
  pointwise
  simp only [up_apply, reals]
  rfl
theorem bcG (g : S1x1024.Idx → ℝ) (x : S256x1024.Idx → ℝ) : (mulf (up x : FVec Ideal S256x1024 .f32) (broadcastTo S256x1024 (up g : FVec Ideal S1x1024 .f32) broadcasts_S1x1024_S256x1024) : FVec Ideal S256x1024 .f32) = (up (MW x g) : S256x1024.Idx → EReal) := by
  funext j
  pointwise
  simp only [up_apply, reals]
  rfl
theorem bcT (g : S1x256.Idx → ℝ) (x : S256x256.Idx → ℝ) : (mulf (up x : FVec Ideal S256x256 .f32) (broadcastTo S256x256 (up g : FVec Ideal S1x256 .f32) broadcasts_S1x256_S256x256) : FVec Ideal S256x256 .f32) = (up (MW x g) : S256x256.Idx → EReal) := by
  funext j
  pointwise
  simp only [up_apply, reals]
  rfl
theorem pay10 : k0_pay10 (F := Ideal) (up BD) (up dy) (up g) (up (HR x)) (up (HX x)) = up (HB x dy g) := by
  rw [k0_pay10, bcG, mulS, sl0, sl1, sl2, sl3, segK, segK, segK, segK, segL, segL, segL, segL, segM, segM, segM, segM, segQ]
  funext j
  pointwise
  simp only [up_apply, lit_64th, reals, mul_one_div]
  rfl
theorem pay11 : k0_pay11 (F := Ideal) (up y) = up y := by
  funext j
  pointwise [k0_pay11]
theorem pay12 : k0_pay12 (F := Ideal) (up BD) (up y) = up (HR y) := by
  rw [k0_pay12, mulT, segK]
  funext j
  pointwise
  simp only [up_apply, lit_64th, reals, mul_one_div]
  exact rsqrt_head (fun s => y (ix2 (j 0) (hc (j 1) s)))
theorem pay13 : k0_pay13 (F := Ideal) (up BD) (up y) = up (HX y) := by
  rw [k0_pay13, pay12, mulT]
  rfl
theorem pay14 (acc : S1x256.Idx → EReal) : k0_pay14 (F := Ideal) (up BD) (up y) (up dz) acc = fun j => acc j + up (CS dz (HX y)) j := by
  rw [k0_pay14, pay13]
  funext j
  pointwise
  simp only [up_apply, reals]
  rfl
theorem pay15 : k0_pay15 (F := Ideal) (up x) = up x := by
  funext j
  pointwise [k0_pay15]
theorem pay16 : k0_pay16 (F := Ideal) (up BD) (up y) (up dz) (up g2) = up (HB y dz g2) := by
  rw [k0_pay16, pay12, pay13, bcT, mulT, segK, segL, segM]
  funext j
  pointwise
  simp only [up_apply, lit_64th, reals, mul_one_div]
  rfl
theorem pay17 : k0_pay17 (F := Ideal) (up y) = up y := by
  funext j
  pointwise [k0_pay17]
theorem pay18 (d : S256x4608.Idx → ℝ) (w : S1024x4608.Idx → ℝ) : k0_pay18 (F := Ideal) (up d) (up w) = up (MT d w) := by
  funext j
  pointwise [k0_pay18]
  simp only [up_apply, reals]
  rfl
/-- The first block's rows come from the one array, the later blocks' from the other. -/
def SEL (i : BitVec 32) (a b : A2 256 1024) : A2 256 1024 := if i = 0#32 then a else b
theorem pay19 (i : BitVec 32) : k0_pay19 (F := Ideal) i (up x) (up dy) = up (SEL i x dy) := by
  unfold SEL k0_pay19
  split_ifs with h
  · simp [Scalar.select, Scalar.cmpi, IntOp.cmpi, h]
  · have e : (i == 0#32) = false := by simp [h]
    simp [Scalar.select, Scalar.cmpi, IntOp.cmpi, e]
theorem pay20 (i : BitVec 32) : k0_pay20 (F := Ideal) i (up x) (up dy) = up (RI (SEL i x dy)) := by
  rw [k0_pay20, pay19]
  funext j
  pointwise
  simp only [up_apply, reals, rsqrt_mean]
  rfl
theorem pay21 (i : BitVec 32) : k0_pay21 (F := Ideal) i (up x) (up dy) = up (XH (SEL i x dy)) := by
  rw [k0_pay21, pay20, pay19]
  funext j
  pointwise
  simp only [up_apply, reals]
  rfl
theorem pay22 (i : BitVec 32) (d : S256x4608.Idx → ℝ) (w : S1024x4608.Idx → ℝ) (acc : S1x1024.Idx → EReal) :
    k0_pay22 (F := Ideal) i (up d) (up w) (up x) (up dy) acc = fun j => acc j + up (CS (MT d w) (XH (SEL i x dy))) j := by
  rw [k0_pay22, pay18, pay21]
  funext j
  pointwise
  simp only [up_apply, reals]
  rfl
theorem pay1 : k0_pay1 (F := Ideal) (up dxn) (up (RI h)) (up (XH h)) (up g) (up s) = up (NB (RI h) (XH h) s (MW dxn g) (MN (MW dxn g) (XH h))) := by
  funext j
  pointwise [k0_pay1]
  simp only [up_apply, reals]
  rfl
theorem pay2 (j) : k0_pay2 (F := Ideal) j = 0 := by pointwise [k0_pay2]
theorem pay3 (j) : k0_pay3 (F := Ideal) j = 0 := by pointwise [k0_pay3]
theorem pay4 (j) : k0_pay4 (F := Ideal) j = 0 := by pointwise [k0_pay4]
end

end Cert.InP
end
-- ==== Proof.InR.lean ====
/- The projections' gradient as the reference computes it, over real arrays. -/
module

public import proofs.«01_k».proof.Proof.Gen.Reference8Ideal.Run
public import proofs.«01_k».proof.Proof.InK
public import proofs.«01_k».proof.Proof.FfnR

@[expose] public section

set_option maxRecDepth 16384

noncomputable section

namespace Cert.InP

open Idealize.ShloMosaic Idealize.ShloMosaic.TcCoe Cert.Reals
open Cert.Ffn (A2 row ri MV MT AD RI XH HN CS MW RC NBR)

/-! ## Rows made of heads, as arrays of three axes -/

abbrev A3 (a b c : ℕ) : Type := (⟨3, ![a, b, c]⟩ : Shape).Idx → ℝ

section
variable {a b n : ℕ}
/-- Column `s` of head `p`. -/
def col (hb : b = n * 64) (p : Fin n) (s : Fin 64) : Fin b := ⟨64 * p.val + s.val, by have := p.isLt; have := s.isLt; omega⟩
/-- The array with its columns' heads as an axis. -/
def R3 (hb : b = n * 64) (x : A2 a b) : A3 a n 64 := fun j => x (ix2 (j 0) (col hb (j 1) (j 2)))
/-- The mean squares of the heads plus the small number, and their inverse roots. -/
def D3 (hb : b = n * 64) (x : A2 a b) : A3 a n 1 := fun j => (∑ s, x (ix2 (j 0) (col hb (j 1) s)) * x (ix2 (j 0) (col hb (j 1) s))) / 64 + eps
def V3 (hb : b = n * 64) (x : A2 a b) : A3 a n 1 := fun j => rh (∑ s, x (ix2 (j 0) (col hb (j 1) s)) * x (ix2 (j 0) (col hb (j 1) s)))
/-- The mean's gradient per head. -/
def HC (x d : A2 a b) : A2 a b := fun j => HS (PR x d) j * (-(1 / 2) * (HR x j / (HS (PR x x) j / 64 + eps))) / 64
/-- The gradient of the heads' norm as the reference adds it up. -/
def HBR (x d : A2 a b) : A2 a b := fun j => d j * HR x j + x j * HC x d j + HC x d j * x j

theorem hc_col (hb : b = n * 64) (p : Fin n) (s s' : Fin 64) : hc (col hb p s) s' = col hb p s' := by
  have e : (col hb p s).val = 64 * p.val + s.val := rfl
  have h1 := p.isLt
  have h2 := s.isLt
  have h3 := s'.isLt
  rw [hc, dif_pos (by rw [e]; omega)]
  refine Fin.ext ?_
  show 64 * ((col hb p s).val / 64) + s'.val = 64 * p.val + s'.val
  rw [e]
  omega
theorem HS_col (hb : b = n * 64) (x : A2 a b) (r : Fin a) (p : Fin n) (s : Fin 64) : HS x (ix2 r (col hb p s)) = ∑ s', x (ix2 r (col hb p s')) :=
  Finset.sum_congr rfl fun s' _ => congrArg (fun k => x (ix2 r k)) (hc_col hb p s s')

/-- Every column is a head's column. -/
theorem exists_col (hb : b = n * 64) (k : Fin b) : ∃ p s, k = col hb p s := by
  have := k.isLt
  exact ⟨⟨k.val / 64, by omega⟩, ⟨k.val % 64, by omega⟩, Fin.ext (show k.val = 64 * (k.val / 64) + k.val % 64 by omega)⟩

theorem sc23 (hb : b = n * 64) (x : A2 a b) (h : (⟨2, ![a, b]⟩ : Shape).ShapeCasts ⟨3, ![a, n, 64]⟩) :
    (shapeCast ⟨3, ![a, n, 64]⟩ (up x : FVec Ideal ⟨2, ![a, b]⟩ .f32) h : FVec Ideal ⟨3, ![a, n, 64]⟩ .f32) = (up (R3 hb x) : _ → EReal) := by
  funext j
  obtain ⟨r, p, s, rfl⟩ : ∃ r p s, j = ix3 r p s := ⟨_, _, _, eq_ix3 j⟩
  refine congrArg (fun i => ((x i : ℝ) : EReal)) (Shape.reshapeEquiv_eq_of_rowMajor _ (y := ix2 r (col hb p s)) ?_)
  rw [Shape.rowMajor_val_two, Shape.rowMajor_val_three]
  show r.val * b + (64 * p.val + s.val) = (r.val * n + p.val) * 64 + s.val
  subst hb
  ring
theorem sc32 (hb : b = n * 64) (x : A2 a b) (h : (⟨3, ![a, n, 64]⟩ : Shape).ShapeCasts ⟨2, ![a, b]⟩) :
    (shapeCast ⟨2, ![a, b]⟩ (up (R3 hb x) : FVec Ideal ⟨3, ![a, n, 64]⟩ .f32) h : FVec Ideal ⟨2, ![a, b]⟩ .f32) = (up x : _ → EReal) := by
  funext j
  obtain ⟨r, k, rfl⟩ : ∃ r k, j = ix2 r k := ⟨_, _, eq_ix2 j⟩
  obtain ⟨p, s, rfl⟩ := exists_col hb k
  refine congrArg (fun i => ((R3 hb x i : ℝ) : EReal)) (Shape.reshapeEquiv_eq_of_rowMajor _ (y := ix3 r p s) ?_)
  rw [Shape.rowMajor_val_two, Shape.rowMajor_val_three]
  show (r.val * n + p.val) * 64 + s.val = r.val * b + (64 * p.val + s.val)
  subst hb
  ring
/-- A row as an array of heads, and back. -/
theorem sg1 (hb : b = n * 64) (x : A2 1 b) (h : (⟨2, ![1, b]⟩ : Shape).ShapeCasts ⟨2, ![n, 64]⟩) :
    (shapeCast ⟨2, ![n, 64]⟩ (up x : FVec Ideal ⟨2, ![1, b]⟩ .f32) h : FVec Ideal ⟨2, ![n, 64]⟩ .f32) = (up (fun j => x (ix2 0 (col hb (j 0) (j 1)))) : _ → EReal) := by
  funext j
  obtain ⟨p, s, rfl⟩ : ∃ p s, j = ix2 p s := ⟨_, _, eq_ix2 j⟩
  refine congrArg (fun i => ((x i : ℝ) : EReal)) (Shape.reshapeEquiv_eq_of_rowMajor _ (y := ix2 0 (col hb p s)) ?_)
  rw [Shape.rowMajor_val_two, Shape.rowMajor_val_two]
  show 0 * b + (64 * p.val + s.val) = p.val * 64 + s.val
  ring
theorem sg2 (hb : b = n * 64) (x : A2 1 b) (h : (⟨2, ![n, 64]⟩ : Shape).ShapeCasts ⟨2, ![1, b]⟩) :
    (shapeCast ⟨2, ![1, b]⟩ (up (fun j => x (ix2 0 (col hb (j 0) (j 1)))) : FVec Ideal ⟨2, ![n, 64]⟩ .f32) h : FVec Ideal ⟨2, ![1, b]⟩ .f32) = (up x : _ → EReal) := by
  funext j
  obtain ⟨r, k, rfl⟩ : ∃ r k, j = ix2 r k := ⟨_, _, eq_ix2 j⟩
  obtain ⟨p, s, rfl⟩ := exists_col hb k
  obtain rfl : r = 0 := Subsingleton.elim _ _
  refine congrArg (fun i => ((x (ix2 0 (col hb (i 0) (i 1))) : ℝ) : EReal)) (Shape.reshapeEquiv_eq_of_rowMajor _ (y := ix2 p s) ?_)
  rw [Shape.rowMajor_val_two, Shape.rowMajor_val_two]
  show p.val * 64 + s.val = 0 * b + (64 * p.val + s.val)
  ring
end

theorem lit_64 : Ideal.ofBits .f32 1115684864#32 = ((64 : ℝ) : EReal) := by
  simp [Ideal.ofBits, Ideal.ieee, -EReal.coe_mul]; norm_num
theorem div_64 (a : ℝ) : Ideal.div (a : EReal) ((64 : ℝ) : EReal) = ((a / 64 : ℝ) : EReal) := by
  rw [Ideal.div_coe (by norm_num), ← EReal.coe_mul, mul_one_div]
theorem div_head {n : ℕ} (a : ℝ) (f : Fin n → ℝ) :
    Ideal.div (a : EReal) ((((∑ x, f x * f x) / 64 + eps : ℝ)) : EReal) = ((a / ((∑ x, f x * f x) / 64 + eps) : ℝ) : EReal) := by
  rw [Ideal.div_coe (rh_pos f).ne', ← EReal.coe_mul, mul_one_div]

section
open Cert.Reference8Ideal Cert.Reference8Ideal.Gen Cert.Reference8Ideal.Value

abbrev hb16 : 1024 = 16 * 64 := rfl
theorem p31_16 (x : A2 8448 1024) : (addf (Host.divf (broadcastInDim S8448x16x1 ![0, 1] bcast_S8448x16_S8448x16x1_0_1 (Host.reduceAdd (mulf (up (R3 hb16 x) : FVec Ideal S8448x16x64 .f32) (up (R3 hb16 x) : FVec Ideal S8448x16x64 .f32)) (constant S_ .f32 0x00000000#32) reducesTo_S8448x16x64_S8448x16_d2 h_S_)) (broadcastInDim S8448x16x1 ![] bcast_S_S8448x16x1 (constant S_ .f32 0x42800000#32))) (broadcastInDim S8448x16x1 ![] bcast_S_S8448x16x1 (constant S_ .f32 0x358637BD#32)) : FVec Ideal S8448x16x1 .f32)
    = (up (D3 hb16 x) : S8448x16x1.Idx → EReal) := by
  funext j
  obtain ⟨r, p, s, rfl⟩ : ∃ r p s, j = ix3 r p s := ⟨_, _, _, eq_ix3 j⟩
  pointwise
  simp only [up_apply, lit_64, reals, div_64]
  rfl
theorem p32_16 (x : A2 8448 1024) : (Host.rsqrt (up (D3 hb16 x) : FVec Ideal S8448x16x1 .f32) : FVec Ideal S8448x16x1 .f32) = (up (V3 hb16 x) : S8448x16x1.Idx → EReal) := by
  funext j
  pointwise
  exact rsqrt_head (fun s => x (ix2 (j 0) (col hb16 (j 1) s)))
theorem p37_16 (x y : A2 8448 1024) : (mulf (up (R3 hb16 y) : FVec Ideal S8448x16x64 .f32) (broadcastInDim S8448x16x64 ![0, 1, 2] bcast_S8448x16x1_S8448x16x64_0_1_2 (up (V3 hb16 x) : FVec Ideal S8448x16x1 .f32)) : FVec Ideal S8448x16x64 .f32)
    = (up (R3 hb16 (PR y (HR x))) : S8448x16x64.Idx → EReal) := by
  funext j
  obtain ⟨r, p, s, rfl⟩ : ∃ r p s, j = ix3 r p s := ⟨_, _, _, eq_ix3 j⟩
  pointwise
  simp only [up_apply, reals]
  refine congrArg (fun z : ℝ => (z : EReal)) (congrArg (fun z => y (ix2 r (col hb16 p s)) * rh z) ?_)
  exact (HS_col hb16 (PR x x) r p s).symm
theorem p38_16 (g : A2 1 1024) : (broadcastInDim S1x16x64 ![1, 2] bcast_S16x64_S1x16x64_1_2 (shapeCast _ (up g : FVec Ideal S1x1024 .f32) shapeCasts_S1x1024_S16x64) : FVec Ideal S1x16x64 .f32)
    = (up (R3 hb16 g) : S1x16x64.Idx → EReal) := by
  rw [sg1 hb16 g]
  funext j
  obtain ⟨r, p, s, rfl⟩ : ∃ r p s, j = ix3 r p s := ⟨_, _, _, eq_ix3 j⟩
  obtain rfl : r = 0 := Subsingleton.elim _ _
  pointwise
  rfl
theorem p91_16 (x : A2 8448 1024) (g : A2 1 1024) : (mulf (up (R3 hb16 x) : FVec Ideal S8448x16x64 .f32) (broadcastInDim S8448x16x64 ![0, 1, 2] bcast_S1x16x64_S8448x16x64_0_1_2 (up (R3 hb16 g) : FVec Ideal S1x16x64 .f32)) : FVec Ideal S8448x16x64 .f32)
    = (up (R3 hb16 (MW x g)) : S8448x16x64.Idx → EReal) := by
  funext j
  obtain ⟨r, p, s, rfl⟩ : ∃ r p s, j = ix3 r p s := ⟨_, _, _, eq_ix3 j⟩
  pointwise
  simp only [up_apply, reals]
  rfl
theorem p102_16 (x d : A2 8448 1024) : (broadcastInDim S8448x16x64 ![0, 1] bcast_S8448x16_S8448x16x64_0_1 (Host.reduceAdd (Host.divf (mulf (shapeCast _ (Host.reduceAdd (mulf (up (R3 hb16 x) : FVec Ideal S8448x16x64 .f32) (up (R3 hb16 d) : FVec Ideal S8448x16x64 .f32)) (constant S_ .f32 0x00000000#32) reducesTo_S8448x16x64_S8448x16_d2 h_S_) shapeCasts_S8448x16_S8448x16x1) (mulf (broadcastInDim S8448x16x1 ![] bcast_S_S8448x16x1 (constant S_ .f32 0xBF000000#32)) (Host.divf (up (V3 hb16 x) : FVec Ideal S8448x16x1 .f32) (up (D3 hb16 x) : FVec Ideal S8448x16x1 .f32)))) (broadcastInDim S8448x16x1 ![] bcast_S_S8448x16x1 (constant S_ .f32 0x42800000#32))) (constant S_ .f32 0x00000000#32) reducesTo_S8448x16x1_S8448x16_d2 h_S_) : FVec Ideal S8448x16x64 .f32)
    = (up (R3 hb16 (HC x d)) : S8448x16x64.Idx → EReal) := by
  funext j
  obtain ⟨r, p, s, rfl⟩ : ∃ r p s, j = ix3 r p s := ⟨_, _, _, eq_ix3 j⟩
  pointwise
  simp only [up_apply, V3, D3, lit_64, div_64, reals, div_head, Finset.univ_unique, Finset.sum_singleton]
  refine congrArg (fun z : ℝ => (z : EReal)) ?_
  show _ = HC x d (ix2 r (col hb16 p s))
  unfold HC HR
  rw [HS_col hb16 (PR x d), HS_col hb16 (PR x x)]
  rfl
theorem p109_16 (x d e : A2 8448 1024) : (shapeCast S8448x1024 (addf (addf (up (R3 hb16 e) : FVec Ideal S8448x16x64 .f32) (mulf (up (R3 hb16 x) : FVec Ideal S8448x16x64 .f32) (up (R3 hb16 d) : FVec Ideal S8448x16x64 .f32))) (mulf (up (R3 hb16 d) : FVec Ideal S8448x16x64 .f32) (up (R3 hb16 x) : FVec Ideal S8448x16x64 .f32))) shapeCasts_S8448x16x64_S8448x1024 : FVec Ideal S8448x1024 .f32)
    = (up (fun j => e j + x j * d j + d j * x j) : S8448x1024.Idx → EReal) := by
  rw [show (addf (addf (up (R3 hb16 e) : FVec Ideal S8448x16x64 .f32) (mulf (up (R3 hb16 x) : FVec Ideal S8448x16x64 .f32) (up (R3 hb16 d) : FVec Ideal S8448x16x64 .f32))) (mulf (up (R3 hb16 d) : FVec Ideal S8448x16x64 .f32) (up (R3 hb16 x) : FVec Ideal S8448x16x64 .f32)) : FVec Ideal S8448x16x64 .f32)
      = (up (R3 hb16 (fun j => e j + x j * d j + d j * x j)) : S8448x16x64.Idx → EReal) from by
    funext j
    pointwise
    simp only [up_apply, reals]
    rfl]
  exact sc32 hb16 _ _
theorem p107_16 (x d : A2 8448 1024) : (shapeCast S1x1024 (Host.reduceAdd (shapeCast S1x16x64 (Host.reduceAdd (mulf (up (R3 hb16 x) : FVec Ideal S8448x16x64 .f32) (up (R3 hb16 d) : FVec Ideal S8448x16x64 .f32)) (constant S_ .f32 0x00000000#32) reducesTo_S8448x16x64_S16x64_d0 h_S_) shapeCasts_S16x64_S1x16x64) (constant S_ .f32 0x00000000#32) reducesTo_S1x16x64_S16x64_d0 h_S_) shapeCasts_S16x64_S1x1024 : FVec Ideal S1x1024 .f32)
    = (up (CS d x) : S1x1024.Idx → EReal) := by
  rw [show (Host.reduceAdd (shapeCast S1x16x64 (Host.reduceAdd (mulf (up (R3 hb16 x) : FVec Ideal S8448x16x64 .f32) (up (R3 hb16 d) : FVec Ideal S8448x16x64 .f32)) (constant S_ .f32 0x00000000#32) reducesTo_S8448x16x64_S16x64_d0 h_S_) shapeCasts_S16x64_S1x16x64) (constant S_ .f32 0x00000000#32) reducesTo_S1x16x64_S16x64_d0 h_S_ : FVec Ideal S16x64 .f32)
      = (up (fun j => CS d x (ix2 0 (col hb16 (j 0) (j 1)))) : S16x64.Idx → EReal) from by
    funext j
    obtain ⟨p, s, rfl⟩ : ∃ p s, j = ix2 p s := ⟨_, _, eq_ix2 j⟩
    pointwise
    simp only [up_apply, reals, Finset.univ_unique, Finset.sum_singleton]
    exact congrArg _ (Finset.sum_congr rfl fun q _ => mul_comm _ _)]
  exact sg2 hb16 _ _

abbrev hb4 : 256 = 4 * 64 := rfl
theorem p31_4 (x : A2 8448 256) : (addf (Host.divf (broadcastInDim S8448x4x1 ![0, 1] bcast_S8448x4_S8448x4x1_0_1 (Host.reduceAdd (mulf (up (R3 hb4 x) : FVec Ideal S8448x4x64 .f32) (up (R3 hb4 x) : FVec Ideal S8448x4x64 .f32)) (constant S_ .f32 0x00000000#32) reducesTo_S8448x4x64_S8448x4_d2 h_S_)) (broadcastInDim S8448x4x1 ![] bcast_S_S8448x4x1 (constant S_ .f32 0x42800000#32))) (broadcastInDim S8448x4x1 ![] bcast_S_S8448x4x1 (constant S_ .f32 0x358637BD#32)) : FVec Ideal S8448x4x1 .f32)
    = (up (D3 hb4 x) : S8448x4x1.Idx → EReal) := by
  funext j
  obtain ⟨r, p, s, rfl⟩ : ∃ r p s, j = ix3 r p s := ⟨_, _, _, eq_ix3 j⟩
  pointwise
  simp only [up_apply, lit_64, reals, div_64]
  rfl
theorem p32_4 (x : A2 8448 256) : (Host.rsqrt (up (D3 hb4 x) : FVec Ideal S8448x4x1 .f32) : FVec Ideal S8448x4x1 .f32) = (up (V3 hb4 x) : S8448x4x1.Idx → EReal) := by
  funext j
  pointwise
  exact rsqrt_head (fun s => x (ix2 (j 0) (col hb4 (j 1) s)))
theorem p37_4 (x y : A2 8448 256) : (mulf (up (R3 hb4 y) : FVec Ideal S8448x4x64 .f32) (broadcastInDim S8448x4x64 ![0, 1, 2] bcast_S8448x4x1_S8448x4x64_0_1_2 (up (V3 hb4 x) : FVec Ideal S8448x4x1 .f32)) : FVec Ideal S8448x4x64 .f32)
    = (up (R3 hb4 (PR y (HR x))) : S8448x4x64.Idx → EReal) := by
  funext j
  obtain ⟨r, p, s, rfl⟩ : ∃ r p s, j = ix3 r p s := ⟨_, _, _, eq_ix3 j⟩
  pointwise
  simp only [up_apply, reals]
  refine congrArg (fun z : ℝ => (z : EReal)) (congrArg (fun z => y (ix2 r (col hb4 p s)) * rh z) ?_)
  exact (HS_col hb4 (PR x x) r p s).symm
theorem p38_4 (g : A2 1 256) : (broadcastInDim S1x4x64 ![1, 2] bcast_S4x64_S1x4x64_1_2 (shapeCast _ (up g : FVec Ideal S1x256 .f32) shapeCasts_S1x256_S4x64) : FVec Ideal S1x4x64 .f32)
    = (up (R3 hb4 g) : S1x4x64.Idx → EReal) := by
  rw [sg1 hb4 g]
  funext j
  obtain ⟨r, p, s, rfl⟩ : ∃ r p s, j = ix3 r p s := ⟨_, _, _, eq_ix3 j⟩
  obtain rfl : r = 0 := Subsingleton.elim _ _
  pointwise
  rfl
theorem p91_4 (x : A2 8448 256) (g : A2 1 256) : (mulf (up (R3 hb4 x) : FVec Ideal S8448x4x64 .f32) (broadcastInDim S8448x4x64 ![0, 1, 2] bcast_S1x4x64_S8448x4x64_0_1_2 (up (R3 hb4 g) : FVec Ideal S1x4x64 .f32)) : FVec Ideal S8448x4x64 .f32)
    = (up (R3 hb4 (MW x g)) : S8448x4x64.Idx → EReal) := by
  funext j
  obtain ⟨r, p, s, rfl⟩ : ∃ r p s, j = ix3 r p s := ⟨_, _, _, eq_ix3 j⟩
  pointwise
  simp only [up_apply, reals]
  rfl
theorem p102_4 (x d : A2 8448 256) : (broadcastInDim S8448x4x64 ![0, 1] bcast_S8448x4_S8448x4x64_0_1 (Host.reduceAdd (Host.divf (mulf (shapeCast _ (Host.reduceAdd (mulf (up (R3 hb4 x) : FVec Ideal S8448x4x64 .f32) (up (R3 hb4 d) : FVec Ideal S8448x4x64 .f32)) (constant S_ .f32 0x00000000#32) reducesTo_S8448x4x64_S8448x4_d2 h_S_) shapeCasts_S8448x4_S8448x4x1) (mulf (broadcastInDim S8448x4x1 ![] bcast_S_S8448x4x1 (constant S_ .f32 0xBF000000#32)) (Host.divf (up (V3 hb4 x) : FVec Ideal S8448x4x1 .f32) (up (D3 hb4 x) : FVec Ideal S8448x4x1 .f32)))) (broadcastInDim S8448x4x1 ![] bcast_S_S8448x4x1 (constant S_ .f32 0x42800000#32))) (constant S_ .f32 0x00000000#32) reducesTo_S8448x4x1_S8448x4_d2 h_S_) : FVec Ideal S8448x4x64 .f32)
    = (up (R3 hb4 (HC x d)) : S8448x4x64.Idx → EReal) := by
  funext j
  obtain ⟨r, p, s, rfl⟩ : ∃ r p s, j = ix3 r p s := ⟨_, _, _, eq_ix3 j⟩
  pointwise
  simp only [up_apply, V3, D3, lit_64, div_64, reals, div_head, Finset.univ_unique, Finset.sum_singleton]
  refine congrArg (fun z : ℝ => (z : EReal)) ?_
  show _ = HC x d (ix2 r (col hb4 p s))
  unfold HC HR
  rw [HS_col hb4 (PR x d), HS_col hb4 (PR x x)]
  rfl
theorem p109_4 (x d e : A2 8448 256) : (shapeCast S8448x256 (addf (addf (up (R3 hb4 e) : FVec Ideal S8448x4x64 .f32) (mulf (up (R3 hb4 x) : FVec Ideal S8448x4x64 .f32) (up (R3 hb4 d) : FVec Ideal S8448x4x64 .f32))) (mulf (up (R3 hb4 d) : FVec Ideal S8448x4x64 .f32) (up (R3 hb4 x) : FVec Ideal S8448x4x64 .f32))) shapeCasts_S8448x4x64_S8448x256 : FVec Ideal S8448x256 .f32)
    = (up (fun j => e j + x j * d j + d j * x j) : S8448x256.Idx → EReal) := by
  rw [show (addf (addf (up (R3 hb4 e) : FVec Ideal S8448x4x64 .f32) (mulf (up (R3 hb4 x) : FVec Ideal S8448x4x64 .f32) (up (R3 hb4 d) : FVec Ideal S8448x4x64 .f32))) (mulf (up (R3 hb4 d) : FVec Ideal S8448x4x64 .f32) (up (R3 hb4 x) : FVec Ideal S8448x4x64 .f32)) : FVec Ideal S8448x4x64 .f32)
      = (up (R3 hb4 (fun j => e j + x j * d j + d j * x j)) : S8448x4x64.Idx → EReal) from by
    funext j
    pointwise
    simp only [up_apply, reals]
    rfl]
  exact sc32 hb4 _ _
theorem p107_4 (x d : A2 8448 256) : (shapeCast S1x256 (Host.reduceAdd (shapeCast S1x4x64 (Host.reduceAdd (mulf (up (R3 hb4 x) : FVec Ideal S8448x4x64 .f32) (up (R3 hb4 d) : FVec Ideal S8448x4x64 .f32)) (constant S_ .f32 0x00000000#32) reducesTo_S8448x4x64_S4x64_d0 h_S_) shapeCasts_S4x64_S1x4x64) (constant S_ .f32 0x00000000#32) reducesTo_S1x4x64_S4x64_d0 h_S_) shapeCasts_S4x64_S1x256 : FVec Ideal S1x256 .f32)
    = (up (CS d x) : S1x256.Idx → EReal) := by
  rw [show (Host.reduceAdd (shapeCast S1x4x64 (Host.reduceAdd (mulf (up (R3 hb4 x) : FVec Ideal S8448x4x64 .f32) (up (R3 hb4 d) : FVec Ideal S8448x4x64 .f32)) (constant S_ .f32 0x00000000#32) reducesTo_S8448x4x64_S4x64_d0 h_S_) shapeCasts_S4x64_S1x4x64) (constant S_ .f32 0x00000000#32) reducesTo_S1x4x64_S4x64_d0 h_S_ : FVec Ideal S4x64 .f32)
      = (up (fun j => CS d x (ix2 0 (col hb4 (j 0) (j 1)))) : S4x64.Idx → EReal) from by
    funext j
    obtain ⟨p, s, rfl⟩ : ∃ p s, j = ix2 p s := ⟨_, _, eq_ix2 j⟩
    pointwise
    simp only [up_apply, reals, Finset.univ_unique, Finset.sum_singleton]
    exact congrArg _ (Finset.sum_congr rfl fun q _ => mul_comm _ _)]
  exact sg2 hb4 _ _

/-- One array of rows after another. -/
def HH (p : A2 256 1024) (x : A2 8192 1024) : A2 8448 1024 := fun j =>
  if h : (j 0).val < 256 then p (ix2 ⟨(j 0).val, h⟩ (j 1)) else x (ix2 ⟨(j 0).val - 256, by have : (j 0).val < 8448 := (j 0).isLt; omega⟩ (j 1))
/-- The columns of the queries and of the keys. -/
def QC {a : ℕ} (x : A2 a 4608) : A2 a 1024 := fun j => x (ix2 (j 0) ⟨(j 1).val, by have : (j 1).val < 1024 := (j 1).isLt; omega⟩)
def KC {a : ℕ} (x : A2 a 4608) : A2 a 256 := fun j => x (ix2 (j 0) ⟨1024 + (j 1).val, by have : (j 1).val < 256 := (j 1).isLt; omega⟩)
/-- Five arrays' columns, one after the other. -/
def CT {a : ℕ} (q : A2 a 1024) (k v : A2 a 256) (u : A2 a 1024) (g : A2 a 2048) : A2 a 4608 := fun j =>
  if h0 : (j 1).val < 1024 then q (ix2 (j 0) ⟨(j 1).val, h0⟩)
  else if h1 : (j 1).val - 1024 < 256 then k (ix2 (j 0) ⟨(j 1).val - 1024, h1⟩)
  else if h2 : (j 1).val - 1024 - 256 < 256 then v (ix2 (j 0) ⟨(j 1).val - 1024 - 256, h2⟩)
  else if h3 : (j 1).val - 1024 - 256 - 256 < 1024 then u (ix2 (j 0) ⟨(j 1).val - 1024 - 256 - 256, h3⟩)
  else g (ix2 (j 0) ⟨(j 1).val - 1024 - 256 - 256 - 1024, by have : (j 1).val < 4608 := (j 1).isLt; omega⟩)

theorem q0 (p : A2 256 1024) (x : A2 8192 1024) : (concatenate S8448x1024 0 [⟨S256x1024, (up p : FVec Ideal S256x1024 .f32)⟩, ⟨S8192x1024, (up x : FVec Ideal S8192x1024 .f32)⟩] concatenates_S256x1024_S8192x1024_S8448x1024_d0 : FVec Ideal S8448x1024 .f32)
    = (up (HH p x) : S8448x1024.Idx → EReal) := by
  funext j
  obtain ⟨r, k, rfl⟩ : ∃ r k, j = ix2 r k := ⟨_, _, eq_ix2 j⟩
  pointwise
  simp only [up_apply]
  exact coe_dite _ _ _
theorem q7 (h : S8448x1024.Idx → ℝ) : (addf (Host.divf (broadcastInDim S8448x1 ![0] bcast_S8448_S8448x1_0 (Host.reduceAdd (mulf (up h : FVec Ideal S8448x1024 .f32) (up h : FVec Ideal S8448x1024 .f32)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)) : FVec Ideal S8448x1 .f32)
    = (up (fun j => (∑ k, row h (j 0) k * row h (j 0) k) / 1024 + eps) : S8448x1.Idx → EReal) := by
  funext j
  obtain ⟨r, k, rfl⟩ : ∃ r k, j = ix2 r k := ⟨_, _, eq_ix2 j⟩
  pointwise
  simp only [up_apply, reals]
  rfl
theorem q8 (h : S8448x1024.Idx → ℝ) : (Host.rsqrt (up (fun j => (∑ k, row h (j 0) k * row h (j 0) k) / 1024 + eps) : FVec Ideal S8448x1 .f32) : FVec Ideal S8448x1 .f32)
    = (up (RI h) : S8448x1.Idx → EReal) := by
  funext j
  pointwise
  exact rsqrt_mean (row h (j 0))
theorem q13 (h y : S8448x1024.Idx → ℝ) : (mulf (up y : FVec Ideal S8448x1024 .f32) (broadcastInDim S8448x1024 ![0, 1] bcast_S8448x1_S8448x1024_0_1 (up (RI h) : FVec Ideal S8448x1 .f32)) : FVec Ideal S8448x1024 .f32)
    = (up (fun j => y j * ri (row h (j 0))) : S8448x1024.Idx → EReal) := by
  funext j
  pointwise
  simp only [up_apply, reals]
  rfl
theorem q14 (d : S8448x1024.Idx → ℝ) (gf : S1x1024.Idx → ℝ) : (mulf (up d : FVec Ideal S8448x1024 .f32) (broadcastInDim S8448x1024 ![0, 1] bcast_S1x1024_S8448x1024_0_1 (up gf : FVec Ideal S1x1024 .f32)) : FVec Ideal S8448x1024 .f32)
    = (up (MW d gf) : S8448x1024.Idx → EReal) := by
  funext j
  pointwise
  simp only [up_apply, reals]
  rfl
theorem q16 (w : S1024x4608.Idx → ℝ) : ((extf .f32 (up w : FVec Ideal S1024x4608 .bf16) bitsLt_bf16_f32) : FVec Ideal S1024x4608 .f32) = (up w : S1024x4608.Idx → EReal) := by
  funext j
  pointwise
theorem q17 (x : S8448x1024.Idx → ℝ) (w : S1024x4608.Idx → ℝ) : (Host.dotGeneral (φ₁ := .f32) (φ₂ := .f32) dot_S8448x1024_S1024x4608_S8448x4608_1_0_0_1_n_n none (up x : FVec Ideal S8448x1024 .f32) (up w : FVec Ideal S1024x4608 .f32) : FVec Ideal S8448x4608 .f32)
    = (up (MV x w) : S8448x4608.Idx → EReal) := by
  funext j
  pointwise
  simp only [up_apply, reals]
  rfl
theorem qQ (x : S8448x4608.Idx → ℝ) : (extractStridedSlice S8448x1024 ![0, 0] (up x : FVec Ideal S8448x4608 .f32) slices_S8448x4608_S8448x1024_0_0 : FVec Ideal S8448x1024 .f32)
    = (up (QC x) : S8448x1024.Idx → EReal) := by
  funext j
  pointwise
  rfl
theorem qK (x : S8448x4608.Idx → ℝ) : (extractStridedSlice S8448x256 ![0, 1024] (up x : FVec Ideal S8448x4608 .f32) slices_S8448x4608_S8448x256_0_1024 : FVec Ideal S8448x256 .f32)
    = (up (KC x) : S8448x256.Idx → EReal) := by
  funext j
  pointwise
  rfl
theorem qU (w : S8448x1024.Idx → ℝ) : ((extf .f32 (up w : FVec Ideal S8448x1024 .bf16) bitsLt_bf16_f32) : FVec Ideal S8448x1024 .f32) = (up w : S8448x1024.Idx → EReal) := by
  funext j
  pointwise
theorem qG (w : S8448x2048.Idx → ℝ) : ((extf .f32 (up w : FVec Ideal S8448x2048 .bf16) bitsLt_bf16_f32) : FVec Ideal S8448x2048 .f32) = (up w : S8448x2048.Idx → EReal) := by
  funext j
  pointwise
theorem q109 (q : S8448x1024.Idx → ℝ) (k v : S8448x256.Idx → ℝ) (u : S8448x1024.Idx → ℝ) (g : S8448x2048.Idx → ℝ) :
   (concatenate S8448x4608 1 [⟨S8448x1024, (up q : FVec Ideal S8448x1024 .f32)⟩, ⟨S8448x256, (up k : FVec Ideal S8448x256 .f32)⟩, ⟨S8448x256, (up v : FVec Ideal S8448x256 .f32)⟩, ⟨S8448x1024, (up u : FVec Ideal S8448x1024 .f32)⟩, ⟨S8448x2048, (up g : FVec Ideal S8448x2048 .f32)⟩] concatenates_S8448x1024_S8448x256_S8448x256_S8448x1024_S8448x2048_S8448x4608_d1 : FVec Ideal S8448x4608 .f32)
    = (up (CT q k v u g) : S8448x4608.Idx → EReal) := by
  funext j
  obtain ⟨r, c, rfl⟩ : ∃ r c, j = ix2 r c := ⟨_, _, eq_ix2 j⟩
  pointwise
  simp only [up_apply, coe_dite]
  rfl
theorem q110 (x : S8448x4608.Idx → ℝ) (w : S1024x4608.Idx → ℝ) : (Host.dotGeneral (φ₁ := .f32) (φ₂ := .f32) dot_S8448x4608_S1024x4608_S8448x1024_1_1_0_0_n_n none (up x : FVec Ideal S8448x4608 .f32) (up w : FVec Ideal S1024x4608 .f32) : FVec Ideal S8448x1024 .f32)
    = (up (MT x w) : S8448x1024.Idx → EReal) := by
  funext j
  pointwise
  simp only [up_apply, reals]
  rfl
theorem q125 (h d : S8448x1024.Idx → ℝ) : (broadcastInDim S8448x1024 ![0] bcast_S8448_S8448x1024_0 (Host.reduceAdd (Host.divf (mulf (shapeCast S8448x1 (Host.reduceAdd (mulf (up h : FVec Ideal S8448x1024 .f32) (up d : FVec Ideal S8448x1024 .f32)) (constant S_ .f32 0x00000000#32) reducesTo_S8448x1024_S8448_d1 h_S_) shapeCasts_S8448_S8448x1) (mulf (broadcastInDim S8448x1 ![] bcast_S_S8448x1 (constant S_ .f32 0xBF000000#32)) (Host.divf (up (RI h) : FVec Ideal S8448x1 .f32) (up (fun j => (∑ k, row h (j 0) k * row h (j 0) k) / 1024 + eps) : FVec Ideal S8448x1 .f32)))) (broadcastInDim S8448x1 ![] bcast_S_S8448x1 (constant S_ .f32 0x44800000#32))) (constant S_ .f32 0x00000000#32) reducesTo_S8448x1_S8448_d1 h_S_) : FVec Ideal S8448x1024 .f32)
    = (up (fun j => Cert.Ffn.CO h d (ix2 (j 0) 0)) : S8448x1024.Idx → EReal) := by
  funext j
  obtain ⟨r, k, rfl⟩ : ∃ r k, j = ix2 r k := ⟨_, _, eq_ix2 j⟩
  pointwise
  simp only [up_apply, RI, ri, reals, div_mean, Finset.univ_unique, Finset.sum_singleton]
  rfl
theorem q130 (s a h d : S8448x1024.Idx → ℝ) : (addf (up s : FVec Ideal S8448x1024 .f32) (addf (addf (up a : FVec Ideal S8448x1024 .f32) (mulf (up h : FVec Ideal S8448x1024 .f32) (up d : FVec Ideal S8448x1024 .f32))) (mulf (up d : FVec Ideal S8448x1024 .f32) (up h : FVec Ideal S8448x1024 .f32))) : FVec Ideal S8448x1024 .f32)
    = (up (fun j => s j + (a j + h j * d j + d j * h j)) : S8448x1024.Idx → EReal) := by
  funext j
  pointwise
  simp only [up_apply, reals]
theorem q113 (d x : S8448x1024.Idx → ℝ) : (shapeCast S1x1024 (Host.reduceAdd (mulf (up x : FVec Ideal S8448x1024 .f32) (up d : FVec Ideal S8448x1024 .f32)) (constant S_ .f32 0x00000000#32) reducesTo_S8448x1024_S1024_d0 h_S_) shapeCasts_S1024_S1x1024 : FVec Ideal S1x1024 .f32)
    = (up (CS d x) : S1x1024.Idx → EReal) := by
  funext j
  obtain ⟨r, k, rfl⟩ : ∃ r k, j = ix2 r k := ⟨_, _, eq_ix2 j⟩
  pointwise
  simp only [up_apply, reals]
  exact congrArg _ (Finset.sum_congr rfl fun q _ => mul_comm _ _)
theorem q131 (x : S8448x4608.Idx → ℝ) : (truncf .bf16 (up x : FVec Ideal S8448x4608 .f32) bitsLt_bf16_f32 : FVec Ideal S8448x4608 .bf16) = (up x : S8448x4608.Idx → EReal) := by
  funext j
  pointwise

/-! ## The reference's results -/

/-- The projections before the norm. -/
def PJ (p : A2 256 1024) (x : A2 8192 1024) (w : A2 1024 4608) (nm : A2 1 1024) : A2 8448 4608 := MV (HN (HH p x) nm) w

/-- The gradient of the projections. -/
def DPJ (dq : A2 8448 1024) (dk dv : A2 8448 256) (du : A2 8448 1024) (dg : A2 8448 2048) (x : A2 8192 1024) (p : A2 256 1024) (w : A2 1024 4608)
    (nm qt : A2 1 1024) (kt : A2 1 256) : A2 8448 4608 := CT (HBR (QC (PJ p x w nm)) (MW dq qt)) (HBR (KC (PJ p x w nm)) (MW dk kt)) dv du dg

/-- The arguments hold these real arrays. -/
structure RArgs (V0 : Valuation τ sig (Elt Ideal)) (dq : A2 8448 1024) (dk dv : A2 8448 256) (du : A2 8448 1024) (dg : A2 8448 2048)
    (x : A2 8192 1024) (p : A2 256 1024) (dh : A2 8448 1024) (w : A2 1024 4608) (nm qt : A2 1 1024) (kt : A2 1 256) : Prop where
  a0 : V0 (Proc.devRef .tc main_arg0) = (up dq : S8448x1024.Idx → EReal)
  a1 : V0 (Proc.devRef .tc main_arg1) = (up dk : S8448x256.Idx → EReal)
  a2 : V0 (Proc.devRef .tc main_arg2) = (up dv : S8448x256.Idx → EReal)
  a3 : V0 (Proc.devRef .tc main_arg3) = (up du : S8448x1024.Idx → EReal)
  a4 : V0 (Proc.devRef .tc main_arg4) = (up dg : S8448x2048.Idx → EReal)
  a5 : V0 (Proc.devRef .tc main_arg5) = (up x : S8192x1024.Idx → EReal)
  a6 : V0 (Proc.devRef .tc main_arg6) = (up p : S256x1024.Idx → EReal)
  a7 : V0 (Proc.devRef .tc main_arg7) = (up dh : S8448x1024.Idx → EReal)
  a8 : V0 (Proc.devRef .tc main_arg8) = (up w : S1024x4608.Idx → EReal)
  a9 : V0 (Proc.devRef .tc main_arg9) = (up nm : S1x1024.Idx → EReal)
  a10 : V0 (Proc.devRef .tc main_arg10) = (up qt : S1x1024.Idx → EReal)
  a11 : V0 (Proc.devRef .tc main_arg11) = (up kt : S1x256.Idx → EReal)

variable {V0 : Valuation τ sig (Elt Ideal)} {dq : A2 8448 1024} {dk dv : A2 8448 256} {du : A2 8448 1024} {dg : A2 8448 2048}
    {x : A2 8192 1024} {p : A2 256 1024} {dh : A2 8448 1024} {w : A2 1024 4608} {nm qt : A2 1 1024} {kt : A2 1 256}
    (h : RArgs V0 dq dk dv du dg x p dh w nm qt kt)
include h

theorem g0 : res_main_v0 V0 = (up (HH p x) : S8448x1024.Idx → EReal) := by
  rw [res_main_v0, h.a5, h.a6]
  exact q0 p x
theorem g7 : res_main_v7 V0 = (up (fun j => (∑ k, row (HH p x) (j 0) k * row (HH p x) (j 0) k) / 1024 + eps) : S8448x1.Idx → EReal) := by
  rw [res_main_v7, g0 h]
  exact q7 _
theorem g8 : res_main_v8 V0 = (up (RI (HH p x)) : S8448x1.Idx → EReal) := by
  rw [res_main_v8, g7 h]
  exact q8 _
theorem g13 : res_main_v13 V0 = (up (XH (HH p x)) : S8448x1024.Idx → EReal) := by
  rw [res_main_v13, g0 h, g8 h]
  exact q13 _ _
theorem g16 : res_main_v16 V0 = (up w : S1024x4608.Idx → EReal) := by
  rw [res_main_v16, h.a8]
  exact q16 _
theorem g17 : res_main_v17 V0 = (up (PJ p x w nm) : S8448x4608.Idx → EReal) := by
  rw [res_main_v17, g13 h, g16 h, h.a9, q14]
  exact q17 _ _
theorem g23 : res_main_v23 V0 = (up (R3 hb16 (QC (PJ p x w nm))) : S8448x16x64.Idx → EReal) := by
  rw [res_main_v23, g17 h, qQ]
  exact sc23 hb16 _ _
theorem g31 : res_main_v31 V0 = (up (D3 hb16 (QC (PJ p x w nm))) : S8448x16x1.Idx → EReal) := by
  rw [res_main_v31, g23 h]
  exact p31_16 _
theorem g32 : res_main_v32 V0 = (up (V3 hb16 (QC (PJ p x w nm))) : S8448x16x1.Idx → EReal) := by
  rw [res_main_v32, g31 h]
  exact p32_16 _
theorem g37 : res_main_v37 V0 = (up (R3 hb16 (HX (QC (PJ p x w nm)))) : S8448x16x64.Idx → EReal) := by
  rw [res_main_v37, g23 h, g32 h]
  exact p37_16 _ _
theorem g38 : res_main_v38 V0 = (up (R3 hb16 qt) : S1x16x64.Idx → EReal) := by
  rw [res_main_v38, h.a10]
  exact p38_16 _
theorem g42 : res_main_v42 V0 = (up (R3 hb4 (KC (PJ p x w nm))) : S8448x4x64.Idx → EReal) := by
  rw [res_main_v42, g17 h, qK]
  exact sc23 hb4 _ _
theorem g50 : res_main_v50 V0 = (up (D3 hb4 (KC (PJ p x w nm))) : S8448x4x1.Idx → EReal) := by
  rw [res_main_v50, g42 h]
  exact p31_4 _
theorem g51 : res_main_v51 V0 = (up (V3 hb4 (KC (PJ p x w nm))) : S8448x4x1.Idx → EReal) := by
  rw [res_main_v51, g50 h]
  exact p32_4 _
theorem g56 : res_main_v56 V0 = (up (R3 hb4 (HX (KC (PJ p x w nm)))) : S8448x4x64.Idx → EReal) := by
  rw [res_main_v56, g42 h, g51 h]
  exact p37_4 _ _
theorem g57 : res_main_v57 V0 = (up (R3 hb4 kt) : S1x4x64.Idx → EReal) := by
  rw [res_main_v57, h.a11]
  exact p38_4 _
theorem g63 : res_main_v63 V0 = (up (R3 hb4 dk) : S8448x4x64.Idx → EReal) := by
  rw [res_main_v63, h.a1]
  exact sc23 hb4 _ _
theorem g68 : res_main_v68 V0 = (up (R3 hb4 (MW dk kt)) : S8448x4x64.Idx → EReal) := by
  rw [res_main_v68, g63 h, g57 h]
  exact p91_4 _ _
theorem g79 : res_main_v79 V0 = (up (R3 hb4 (HC (KC (PJ p x w nm)) (MW dk kt))) : S8448x4x64.Idx → EReal) := by
  rw [res_main_v79, g42 h, g68 h, g51 h, g50 h]
  exact p102_4 _ _
theorem g86 : res_main_v86 V0 = (up (R3 hb16 dq) : S8448x16x64.Idx → EReal) := by
  rw [res_main_v86, h.a0]
  exact sc23 hb16 _ _
theorem g91 : res_main_v91 V0 = (up (R3 hb16 (MW dq qt)) : S8448x16x64.Idx → EReal) := by
  rw [res_main_v91, g86 h, g38 h]
  exact p91_16 _ _
theorem g102 : res_main_v102 V0 = (up (R3 hb16 (HC (QC (PJ p x w nm)) (MW dq qt))) : S8448x16x64.Idx → EReal) := by
  rw [res_main_v102, g23 h, g91 h, g32 h, g31 h]
  exact p102_16 _ _
theorem g109 : res_main_v109 V0 = (up (CT (HBR (QC (PJ p x w nm)) (MW dq qt)) (HBR (KC (PJ p x w nm)) (MW dk kt)) dv du dg) : S8448x4608.Idx → EReal) := by
  rw [res_main_v109, g91 h, g32 h, g23 h, g102 h, g68 h, g51 h, g42 h, g79 h, h.a2, h.a3, h.a4, p37_16, p37_4, p109_16, p109_4, qU, qG]
  exact q109 _ _ _ _ _
theorem g110 : res_main_v110 V0 = (up (MT (DPJ dq dk dv du dg x p w nm qt kt) w) : S8448x1024.Idx → EReal) := by
  rw [res_main_v110, g109 h, g16 h]
  exact q110 _ _
theorem g115 : res_main_v115 V0 = (up (MW (MT (DPJ dq dk dv du dg x p w nm qt kt) w) nm) : S8448x1024.Idx → EReal) := by
  rw [res_main_v115, g110 h, h.a9]
  exact q14 _ _
theorem g125 : res_main_v125 V0 = (up (fun j => Cert.Ffn.CO (HH p x) (MW (MT (DPJ dq dk dv du dg x p w nm qt kt) w) nm) (ix2 (j 0) 0)) : S8448x1024.Idx → EReal) := by
  rw [res_main_v125, g0 h, g115 h, g8 h, g7 h]
  exact q125 _ _
theorem t131 : (truncf .bf16 (res_main_v109 V0) bitsLt_bf16_f32 : FVec Ideal S8448x4608 .bf16) = (up (DPJ dq dk dv du dg x p w nm qt kt) : S8448x4608.Idx → EReal) := by
  rw [g109 h]
  exact q131 _
theorem t130 : (addf (V0 (Proc.devRef .tc main_arg7) : FVec Ideal S8448x1024 .f32) (addf (addf (mulf (res_main_v115 V0) (broadcastInDim S8448x1024 ![0, 1] bcast_S8448x1_S8448x1024_0_1 (res_main_v8 V0))) (mulf (res_main_v0 V0) (res_main_v125 V0))) (mulf (res_main_v125 V0) (res_main_v0 V0))) : FVec Ideal S8448x1024 .f32)
    = (up (NBR (HH p x) dh (MW (MT (DPJ dq dk dv du dg x p w nm qt kt) w) nm)) : S8448x1024.Idx → EReal) := by
  rw [h.a7, g115 h, g8 h, g0 h, g125 h, q13, q130]
  rfl
theorem t113 : (shapeCast S1x1024 (Host.reduceAdd (mulf (res_main_v13 V0) (res_main_v110 V0)) (constant S_ .f32 0x00000000#32) reducesTo_S8448x1024_S1024_d0 h_S_) shapeCasts_S1024_S1x1024 : FVec Ideal S1x1024 .f32)
    = (up (CS (MT (DPJ dq dk dv du dg x p w nm qt kt) w) (XH (HH p x))) : S1x1024.Idx → EReal) := by
  rw [g13 h, g110 h]
  exact q113 _ _
theorem t107 : (shapeCast S1x1024 (Host.reduceAdd (shapeCast S1x16x64 (Host.reduceAdd (mulf (res_main_v37 V0) (res_main_v86 V0)) (constant S_ .f32 0x00000000#32) reducesTo_S8448x16x64_S16x64_d0 h_S_) shapeCasts_S16x64_S1x16x64) (constant S_ .f32 0x00000000#32) reducesTo_S1x16x64_S16x64_d0 h_S_) shapeCasts_S16x64_S1x1024 : FVec Ideal S1x1024 .f32)
    = (up (CS dq (HX (QC (PJ p x w nm)))) : S1x1024.Idx → EReal) := by
  rw [g37 h, g86 h]
  exact p107_16 _ _
theorem t84 : (shapeCast S1x256 (Host.reduceAdd (shapeCast S1x4x64 (Host.reduceAdd (mulf (res_main_v56 V0) (res_main_v63 V0)) (constant S_ .f32 0x00000000#32) reducesTo_S8448x4x64_S4x64_d0 h_S_) shapeCasts_S4x64_S1x4x64) (constant S_ .f32 0x00000000#32) reducesTo_S1x4x64_S4x64_d0 h_S_) shapeCasts_S4x64_S1x256 : FVec Ideal S1x256 .f32)
    = (up (CS dk (HX (KC (PJ p x w nm)))) : S1x256.Idx → EReal) := by
  rw [g56 h, g63 h]
  exact p107_4 _ _

end

end Cert.InP

end
-- ==== Proof.InF.lean ====
/- The projections' gradient kernel's blocks as rows of real arrays. -/
module

public import proofs.«01_k».proof.Proof.Gen.Kernel8Ideal.Frame.Runs
public import proofs.«01_k».proof.Proof.InK
public import proofs.«01_k».proof.Proof.InR
public import Idealize.ShloMosaic.Lib.StableHlo.ReadAt

@[expose] public section

set_option maxRecDepth 16384

noncomputable section

namespace Cert.InP

open Cert.Kernel8Ideal Cert.Kernel8Ideal.Gen Idealize.ShloMosaic Idealize.ShloMosaic.TcCoe Idealize.SL.Sem Cert.Reals
open Idealize.ShloMosaic.Pipeline (Dat)
open Cert.Ffn (A2 row ri MV MT HN MW RI XH)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val - 1, 0] ∧ win0_8.index t = ![0, 0] ∧ win0_9.index t = ![t.val, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] ∧ win0_17.index t = ![0, 0] ∧ win0_18.index t = ![0, 0] ∧ win0_19.index t = ![0, 0] :=
  (by decide +kernel : ∀ t : Fin grid0.N, _)

/-- Row `r` of block `t`, as a row of the arrays. -/
def rw_ (t : Fin cfg0.N) (r : Fin 256) : Fin 8448 := ⟨t.val * 256 + r.val, by have := lt_of_lt_of_eq t.isLt N_0; omega⟩
/-- Row `r` of block `t`, as a row of the inputs: the first block's repeated once. -/
def rt_ (t : Fin cfg0.N) (r : Fin 256) : Fin 8192 := ⟨(t.val - 1) * 256 + r.val, by have := lt_of_lt_of_eq t.isLt N_0; omega⟩

variable (m : (ℓ : Loc nD τ sig) → Buf (Elt Ideal) ℓ)
variable {c : Dev nD} {dq : A2 8448 1024} {dk dv : A2 8448 256} {du : A2 8448 1024} {dg : A2 8448 2048}
  {x : A2 8192 1024} {p : A2 256 1024} {dh : A2 8448 1024} {w : A2 1024 4608} {nm qt : A2 1 1024} {kt : A2 1 256}

/-- The arguments are real arrays. -/
structure KArgs (m : (ℓ : Loc nD τ sig) → Buf (Elt Ideal) ℓ) (c : Dev nD) (dq : A2 8448 1024) (dk dv : A2 8448 256) (du : A2 8448 1024) (dg : A2 8448 2048)
    (x : A2 8192 1024) (p : A2 256 1024) (dh : A2 8448 1024) (w : A2 1024 4608) (nm qt : A2 1 1024) (kt : A2 1 256) : Prop where
  a0 : m ((c : Thread nD τ).loc main_arg0) = (up dq : S8448x1024.Idx → EReal)
  a1 : m ((c : Thread nD τ).loc main_arg1) = (up dk : S8448x256.Idx → EReal)
  a2 : m ((c : Thread nD τ).loc main_arg2) = (up dv : S8448x256.Idx → EReal)
  a3 : m ((c : Thread nD τ).loc main_arg3) = (up du : S8448x1024.Idx → EReal)
  a4 : m ((c : Thread nD τ).loc main_arg4) = (up dg : S8448x2048.Idx → EReal)
  a5 : m ((c : Thread nD τ).loc main_arg5) = (up x : S8192x1024.Idx → EReal)
  a6 : m ((c : Thread nD τ).loc main_arg6) = (up p : S256x1024.Idx → EReal)
  a7 : m ((c : Thread nD τ).loc main_arg7) = (up dh : S8448x1024.Idx → EReal)
  a8 : m ((c : Thread nD τ).loc main_arg8) = (up w : S1024x4608.Idx → EReal)
  a9 : m ((c : Thread nD τ).loc main_arg9) = (up nm : S1x1024.Idx → EReal)
  a10 : m ((c : Thread nD τ).loc main_arg10) = (up qt : S1x1024.Idx → EReal)
  a11 : m ((c : Thread nD τ).loc main_arg11) = (up kt : S1x256.Idx → EReal)

/-- The rows of a block. -/
def TL {b : ℕ} (x : A2 8448 b) (t : Fin cfg0.N) : A2 256 b := fun j => x (ix2 (rw_ t (j 0)) (j 1))
def TT (x : A2 8192 1024) (t : Fin cfg0.N) : A2 256 1024 := fun j => x (ix2 (rt_ t (j 0)) (j 1))

/-- The number of a column's head, as the host works it out. -/
theorem fdiv : ∀ a : Fin 256, Scalar.select
      (IntOp.andi
        (IntOp.cmpi CmpIPredicate.ne
          (if BitVec.ofNat 32 a.val = 0 then (0 : BitVec 32) else if (BitVec.ofNat 32 a.val).msb = true then -1 else 1)
          (if (64#32 : BitVec 32) = 0 then 0 else if BitVec.msb 64#32 = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64) := by
  decide +kernel
theorem same_head : ∀ a b : Fin 4, IntOp.cmpi CmpIPredicate.eq (BitVec.ofNat 32 a.val) (BitVec.ofNat 32 b.val) = if a.val = b.val then 1#1 else 0#1 := by
  decide +kernel
/-- Which columns lie in one head, from the columns' numbers. -/
theorem v22 : V m c main_v22 = (up BD : S256x256.Idx → EReal) := by
  funext j
  unfold V
  after_reads_at
  have h0 : (j 0).val < 256 := (j 0).isLt
  have h1 : (j 1).val < 256 := (j 1).isLt
  refine (congrArg₂ (fun a b => FloatOps.uitofp (F := Ideal) FTy.bf16 (IntOp.cmpi CmpIPredicate.eq a b)) (fdiv (j 0)) (fdiv (j 1))).trans ?_
  rw [same_head ⟨(j 0).val / 64, by omega⟩ ⟨(j 1).val / 64, by omega⟩]
  show FloatOps.uitofp (F := Ideal) FTy.bf16 (if (j 0).val / 64 = (j 1).val / 64 then 1#1 else 0#1) = (((if (j 0).val / 64 = (j 1).val / 64 then 1 else 0 : ℝ)) : EReal)
  split_ifs <;> simp [FloatOps.uitofp]

variable (h : KArgs m c dq dk dv du dg x p dh w nm qt kt) (t : Fin cfg0.N)
include h

theorem b0 : iblk m c 0 t = (up (TL dq t) : S256x1024.Idx → EReal) := by
  funext x
  unfold TL
  rw [up_apply, ← up_apply dq, ← h.a0]
  blk_ext [iblk, V, idx t]
  rfl
theorem b1 : iblk m c 1 t = (up (TL dk t) : S256x256.Idx → EReal) := by
  funext x
  unfold TL
  rw [up_apply, ← up_apply dk, ← h.a1]
  blk_ext [iblk, V, idx t]
  rfl
theorem b2 : iblk m c 2 t = (up (TL dv t) : S256x256.Idx → EReal) := by
  funext x
  unfold TL
  rw [up_apply, ← up_apply dv, ← h.a2]
  blk_ext [iblk, V, idx t]
  rfl
theorem b3 : iblk m c 3 t = (up (TL du t) : S256x1024.Idx → EReal) := by
  funext x
  unfold TL
  rw [up_apply, ← up_apply du, ← h.a3]
  blk_ext [iblk, V, idx t]
  rfl
theorem b4 : iblk m c 4 t = (up (TL dg t) : S256x2048.Idx → EReal) := by
  funext x
  unfold TL
  rw [up_apply, ← up_apply dg, ← h.a4]
  blk_ext [iblk, V, idx t]
  rfl
theorem v23 : V m c main_v23 = (up (QC (PJ p x w nm)) : S8448x1024.Idx → EReal) := by
  funext j
  unfold V
  after_reads_at
  have e5 : StableHlo.upto [hostOps0, hostOps0_1, hostOps0_2].flatten (fun b => m (c, b)) 0 (Proc.devRef .tc main_arg5) = (up x : S8192x1024.Idx → EReal) := h.a5
  have e6 : StableHlo.upto [hostOps0, hostOps0_1, hostOps0_2].flatten (fun b => m (c, b)) 0 (Proc.devRef .tc main_arg6) = (up p : S256x1024.Idx → EReal) := h.a6
  have e8 : m (c, Proc.devRef .tc main_arg8) = (up w : S1024x4608.Idx → EReal) := h.a8
  have e9 : m (c, Proc.devRef .tc main_arg9) = (up nm : S1x1024.Idx → EReal) := h.a9
  rw [e8, e9]
  simp only [e5, e6, up_apply, coe_dite, reals]
  have e : Ideal.rsqrt (((∑ k, row (HH p x) (j 0) k * row (HH p x) (j 0) k) / 1024 + eps : ℝ) : EReal) = ((ri (row (HH p x) (j 0)) : ℝ) : EReal) := rsqrt_mean _
  refine (Finset.sum_congr rfl fun k _ => congrArg (fun z => ((HH p x (ix2 (j 0) k) : ℝ) : EReal) * z * ((nm (ix2 0 k) : ℝ) : EReal) * ((w (ix2 k _) : ℝ) : EReal)) e).trans ?_
  simp only [reals]
  rfl
theorem b5 : iblk m c 5 t = (up (TL (QC (PJ p x w nm)) t) : S256x1024.Idx → EReal) := by
  funext y
  have e := v23 m h
  show _ = (up (QC (PJ p x w nm)) : S8448x1024.Idx → EReal) (ix2 (rw_ t (y 0)) (y 1))
  rw [← e]
  blk_ext [iblk, idx t]
  rfl
theorem v24 : V m c main_v24 = (up (KC (PJ p x w nm)) : S8448x256.Idx → EReal) := by
  funext j
  unfold V
  after_reads_at
  have e5 : StableHlo.upto [hostOps0, hostOps0_1, hostOps0_2].flatten (fun b => m (c, b)) 0 (Proc.devRef .tc main_arg5) = (up x : S8192x1024.Idx → EReal) := h.a5
  have e6 : StableHlo.upto [hostOps0, hostOps0_1, hostOps0_2].flatten (fun b => m (c, b)) 0 (Proc.devRef .tc main_arg6) = (up p : S256x1024.Idx → EReal) := h.a6
  have e8 : m (c, Proc.devRef .tc main_arg8) = (up w : S1024x4608.Idx → EReal) := h.a8
  have e9 : m (c, Proc.devRef .tc main_arg9) = (up nm : S1x1024.Idx → EReal) := h.a9
  rw [e8, e9]
  simp only [e5, e6, up_apply, coe_dite, reals]
  have e : Ideal.rsqrt (((∑ k, row (HH p x) (j 0) k * row (HH p x) (j 0) k) / 1024 + eps : ℝ) : EReal) = ((ri (row (HH p x) (j 0)) : ℝ) : EReal) := rsqrt_mean _
  refine (Finset.sum_congr rfl fun k _ => congrArg (fun z => ((HH p x (ix2 (j 0) k) : ℝ) : EReal) * z * ((nm (ix2 0 k) : ℝ) : EReal) * ((w (ix2 k _) : ℝ) : EReal)) e).trans ?_
  simp only [reals]
  rfl
theorem b6 : iblk m c 6 t = (up (TL (KC (PJ p x w nm)) t) : S256x256.Idx → EReal) := by
  funext y
  have e := v24 m h
  show _ = (up (KC (PJ p x w nm)) : S8448x256.Idx → EReal) (ix2 (rw_ t (y 0)) (y 1))
  rw [← e]
  blk_ext [iblk, idx t]
  rfl
theorem b7 : iblk m c 7 t = (up (TT x t) : S256x1024.Idx → EReal) := by
  funext y
  unfold TT
  rw [up_apply, ← up_apply x, ← h.a5]
  blk_ext [iblk, V, idx t]
  rfl
theorem b8 : iblk m c 8 t = (up p : S256x1024.Idx → EReal) := by
  funext x
  rw [← h.a6]
  blk_ext [iblk, V, idx t]
theorem b9 : iblk m c 9 t = (up (TL dh t) : S256x1024.Idx → EReal) := by
  funext x
  unfold TL
  rw [up_apply, ← up_apply dh, ← h.a7]
  blk_ext [iblk, V, idx t]
  rfl
theorem b10 : iblk m c 10 t = (up w : S1024x4608.Idx → EReal) := by
  funext x
  rw [← h.a8]
  blk_ext [iblk, V, idx t]
theorem b11 : iblk m c 11 t = (up nm : S1x1024.Idx → EReal) := by
  funext x
  rw [← h.a9]
  blk_ext [iblk, V, idx t]
theorem b12 : iblk m c 12 t = (up qt : S1x1024.Idx → EReal) := by
  funext x
  rw [← h.a10]
  blk_ext [iblk, V, idx t]
theorem b13 : iblk m c 13 t = (up kt : S1x256.Idx → EReal) := by
  funext x
  rw [← h.a11]
  blk_ext [iblk, V, idx t]
omit h in
theorem b14 : iblk m c 14 t = (up BD : S256x256.Idx → EReal) := by
  funext y
  rw [← v22 m (c := c)]
  blk_ext [iblk, idx t]

end Cert.InP
end
-- ==== Proof.InE.lean ====
/- The projections' gradient kernel's tiles are the rows of the reference's arrays. -/
module

public import proofs.«01_k».proof.Proof.InF

@[expose] public section

set_option maxRecDepth 16384

noncomputable section

namespace Cert.InP

open Cert.Kernel8Ideal Cert.Kernel8Ideal.Gen Idealize.ShloMosaic Idealize.ShloMosaic.TcCoe Cert.Reals
open Cert.Ffn (A2 row ri MV MT HN MW RI XH MN NB NBR CS)

/-! ## The gradient of the heads' norm -/

theorem hc_val {b : ℕ} (q : Fin b) (s : Fin 64) : (hc q s).val / 64 = q.val / 64 := by
  unfold hc
  have := s.isLt
  split
  · show (64 * (q.val / 64) + s.val) / 64 = q.val / 64
    omega
  · rfl
theorem hc_hc {b : ℕ} (n : ℕ) (hb : b = n * 64) (q : Fin b) (s u : Fin 64) : hc (hc q s) u = hc q u := by
  have e := hc_val q s
  have hq := q.isLt
  have hu := u.isLt
  have h1 : 64 * (q.val / 64) + u.val < b := by omega
  have h2 : 64 * ((hc q s).val / 64) + u.val < b := by rw [e]; exact h1
  have e1 : hc q u = ⟨64 * (q.val / 64) + u.val, h1⟩ := dif_pos h1
  have e2 : hc (hc q s) u = ⟨64 * ((hc q s).val / 64) + u.val, h2⟩ := dif_pos h2
  rw [e1, e2]
  refine Fin.ext ?_
  show 64 * ((hc q s).val / 64) + u.val = 64 * (q.val / 64) + u.val
  rw [e]
theorem HS_hc {a b : ℕ} (n : ℕ) (hb : b = n * 64) (z : A2 a b) (r : Fin a) (q : Fin b) (s : Fin 64) : HS z (ix2 r (hc q s)) = HS z (ix2 r q) :=
  Finset.sum_congr rfl fun u _ => congrArg (fun k => z (ix2 r k)) (hc_hc n hb q s u)
theorem rh_sq {n : ℕ} (f : Fin n → ℝ) : rh (∑ x, f x * f x) * rh (∑ x, f x * f x) * ((∑ x, f x * f x) / 64 + eps) = 1 := by
  have hp := rh_pos f
  rw [rh, ← mul_inv, Real.mul_self_sqrt hp.le, inv_mul_cancel₀ hp.ne']
theorem HB_eq {a b : ℕ} (n : ℕ) (hb : b = n * 64) (x dy : A2 a b) (g : A2 1 b) : HB x dy g = HBR x (MW dy g) := by
  funext j
  obtain ⟨r, q, rfl⟩ : ∃ r q, j = ix2 r q := ⟨_, _, eq_ix2 j⟩
  set d := MW dy g
  have hs : HS (PR d (HX x)) (ix2 r q) = HS (PR x d) (ix2 r q) * HR x (ix2 r q) := by
    show ∑ s, d (ix2 r (hc q s)) * (x (ix2 r (hc q s)) * rh (HS (PR x x) (ix2 r (hc q s)))) = (∑ s, x (ix2 r (hc q s)) * d (ix2 r (hc q s))) * rh (HS (PR x x) (ix2 r q))
    rw [Finset.sum_mul]
    refine Finset.sum_congr rfl fun s _ => ?_
    rw [HS_hc n hb]
    ring
  have hp : 0 < HS (PR x x) (ix2 r q) / 64 + eps := rh_pos fun s => x (ix2 r (hc q s))
  have hq : HR x (ix2 r q) * HR x (ix2 r q) * (HS (PR x x) (ix2 r q) / 64 + eps) = 1 := rh_sq fun s => x (ix2 r (hc q s))
  have hr : HR x (ix2 r q) / (HS (PR x x) (ix2 r q) / 64 + eps) = HR x (ix2 r q) * HR x (ix2 r q) * HR x (ix2 r q) := by
    rw [div_eq_iff (ne_of_gt hp)]
    linear_combination (-(HR x (ix2 r q))) * hq
  show HR x (ix2 r q) * (d (ix2 r q) - x (ix2 r q) * HR x (ix2 r q) * (HS (PR d (HX x)) (ix2 r q) / 64))
    = d (ix2 r q) * HR x (ix2 r q)
      + x (ix2 r q) * (HS (PR x d) (ix2 r q) * (-(1 / 2) * (HR x (ix2 r q) / (HS (PR x x) (ix2 r q) / 64 + eps))) / 64)
      + HS (PR x d) (ix2 r q) * (-(1 / 2) * (HR x (ix2 r q) / (HS (PR x x) (ix2 r q) / 64 + eps))) / 64 * x (ix2 r q)
  rw [hs, hr]
  ring

/-! ## Tiles -/

variable (dq : A2 8448 1024) (dk dv : A2 8448 256) (du : A2 8448 1024) (dg : A2 8448 2048)
  (x : A2 8192 1024) (p : A2 256 1024) (dh h d : A2 8448 1024) (w : A2 1024 4608) (nm qt : A2 1 1024) (kt : A2 1 256) (t : Fin cfg0.N)
variable (y : A2 8448 4608)

theorem first : ∀ t : Fin cfg0.N, (BitVec.ofNat 32 (grid0.coords t 0).val) = 0#32 ↔ t.val = 0 :=
  (by decide +kernel : ∀ t : Fin grid0.N, _)
theorem tsel : SEL (BitVec.ofNat 32 (grid0.coords t 0).val) p (TT x t) = TL (HH p x) t := by
  funext j
  have hj : (j 0).val < 256 := (j 0).isLt
  unfold SEL
  by_cases ht : t.val = 0
  · rw [if_pos ((first t).2 ht)]
    have hc : t.val * 256 + (j 0).val < 256 := by omega
    refine Eq.trans ?_ (dif_pos hc).symm
    refine congrArg p ((eq_ix2 j).trans (congrArg (ix2 · (j 1)) (Fin.ext ?_)))
    show (j 0).val = t.val * 256 + (j 0).val
    omega
  · rw [if_neg (fun hh => ht ((first t).1 hh))]
    have hc : ¬ t.val * 256 + (j 0).val < 256 := by omega
    refine Eq.trans ?_ (dif_neg hc).symm
    refine congrArg x (congrArg (ix2 · (j 1)) (Fin.ext ?_))
    show (t.val - 1) * 256 + (j 0).val = t.val * 256 + (j 0).val - 256
    omega
theorem thq (z d : A2 8448 1024) (g : A2 1 1024) : HB (TL z t) (TL d t) g = TL (HBR z (MW d g)) t := by
  rw [← HB_eq 16 rfl]
  rfl
theorem thk (z d : A2 8448 256) (g : A2 1 256) : HB (TL z t) (TL d t) g = TL (HBR z (MW d g)) t := by
  rw [← HB_eq 4 rfl]
  rfl
theorem tct (z : A2 8448 1024) (k : A2 8448 256) : CT (TL z t) (TL k t) (TL dv t) (TL du t) (TL dg t) = TL (CT z k dv du dg) t := rfl
theorem tdn : MT (TL y t) w = TL (MT y w) t := rfl
theorem tmw : MW (TL d t) nm = TL (MW d nm) t := rfl
theorem tnb : NB (RI (TL h t)) (XH (TL h t)) (TL dh t) (TL d t) (MN (TL d t) (XH (TL h t))) = TL (NBR h dh d) t := by
  funext j
  set r := rw_ t (j 0)
  have hs : ∑ k, d (ix2 r k) * (h (ix2 r k) * ri (row h r)) = (∑ k, h (ix2 r k) * d (ix2 r k)) * ri (row h r) := by
    rw [Finset.sum_mul]; exact Finset.sum_congr rfl fun k _ => by ring
  have hp := mean_pos (row h r)
  have hr : ri (row h r) / ((∑ k, row h r k * row h r k) / 1024 + eps) = ri (row h r) * ri (row h r) * ri (row h r) := by
    rw [div_eq_iff (ne_of_gt hp)]
    have := rs_sq (row h r)
    unfold ri
    linear_combination (-(rs (∑ k, row h r k * row h r k))) * this
  show dh (ix2 r (j 1)) + ri (row h r) * (d (ix2 r (j 1)) - h (ix2 r (j 1)) * ri (row h r) * ((∑ k, d (ix2 r k) * (h (ix2 r k) * ri (row h r))) / 1024))
    = dh (ix2 r (j 1)) + (d (ix2 r (j 1)) * ri (row h r)
      + h (ix2 r (j 1)) * ((∑ k, h (ix2 r k) * d (ix2 r k)) * (-(1 / 2) * (ri (row h r) / ((∑ k, row h r k * row h r k) / 1024 + eps))) / 1024)
      + (∑ k, h (ix2 r k) * d (ix2 r k)) * (-(1 / 2) * (ri (row h r) / ((∑ k, row h r k * row h r k) / 1024 + eps))) / 1024 * h (ix2 r (j 1)))
  rw [hs, hr]; ring

end Cert.InP
end
-- ==== Proof.InO.lean ====
/- The projections' gradient kernel's results are the reference's arrays. -/
module

public import proofs.«01_k».proof.Proof.Gen.Kernel8Ideal.Value
public import proofs.«01_k».proof.Proof.InE

@[expose] public section

set_option maxRecDepth 16384

noncomputable section

namespace Cert.InP

open Cert.Kernel8Ideal Cert.Kernel8Ideal.Gen Idealize.ShloMosaic Idealize.ShloMosaic.TcCoe Idealize.SL.Sem Cert.Reals
open Idealize.ShloMosaic.Pipeline (Dat)
open Cert.Ffn (A2 row ri MV MT HN MW RI XH MN NB NBR CS)

variable (m : (ℓ : Loc nD τ sig) → Buf (Elt Ideal) ℓ)
variable {c : Dev nD} {dq : A2 8448 1024} {dk dv : A2 8448 256} {du : A2 8448 1024} {dg : A2 8448 2048}
  {x : A2 8192 1024} {p : A2 256 1024} {dh : A2 8448 1024} {w : A2 1024 4608} {nm qt : A2 1 1024} {kt : A2 1 256}
variable (h : KArgs m c dq dk dv du dg x p dh w nm qt kt) (t : Fin cfg0.N)

/-! ## Five arrays' columns -/

section
variable {a : ℕ} (q : A2 a 1024) (k v : A2 a 256) (u : A2 a 1024) (g : A2 a 2048) (r : Fin a) (i : Fin 4608)
theorem ct0 (l : Fin 1024) (e : i.val = l.val) : CT q k v u g (ix2 r i) = q (ix2 r l) := by
  have hl := l.isLt
  exact (dif_pos (show i.val < 1024 by omega)).trans (congrArg q (congrArg (ix2 r) (Fin.ext e)))
theorem ct1 (l : Fin 256) (e : i.val = 1024 + l.val) : CT q k v u g (ix2 r i) = k (ix2 r l) := by
  have hl := l.isLt
  exact (dif_neg (show ¬ i.val < 1024 by omega)).trans ((dif_pos (show i.val - 1024 < 256 by omega)).trans
    (congrArg k (congrArg (ix2 r) (Fin.ext (show i.val - 1024 = l.val by omega)))))
theorem ct2 (l : Fin 256) (e : i.val = 1280 + l.val) : CT q k v u g (ix2 r i) = v (ix2 r l) := by
  have hl := l.isLt
  exact (dif_neg (show ¬ i.val < 1024 by omega)).trans ((dif_neg (show ¬ i.val - 1024 < 256 by omega)).trans
    ((dif_pos (show i.val - 1024 - 256 < 256 by omega)).trans (congrArg v (congrArg (ix2 r) (Fin.ext (show i.val - 1024 - 256 = l.val by omega))))))
theorem ct3 (l : Fin 1024) (e : i.val = 1536 + l.val) : CT q k v u g (ix2 r i) = u (ix2 r l) := by
  have hl := l.isLt
  exact (dif_neg (show ¬ i.val < 1024 by omega)).trans ((dif_neg (show ¬ i.val - 1024 < 256 by omega)).trans
    ((dif_neg (show ¬ i.val - 1024 - 256 < 256 by omega)).trans ((dif_pos (show i.val - 1024 - 256 - 256 < 1024 by omega)).trans
      (congrArg u (congrArg (ix2 r) (Fin.ext (show i.val - 1024 - 256 - 256 = l.val by omega)))))))
theorem ct4 (l : Fin 2048) (e : i.val = 2560 + l.val) : CT q k v u g (ix2 r i) = g (ix2 r l) := by
  exact (dif_neg (show ¬ i.val < 1024 by omega)).trans ((dif_neg (show ¬ i.val - 1024 < 256 by omega)).trans
    ((dif_neg (show ¬ i.val - 1024 - 256 < 256 by omega)).trans ((dif_neg (show ¬ i.val - 1024 - 256 - 256 < 1024 by omega)).trans
      (congrArg g (congrArg (ix2 r) (Fin.ext (show i.val - 1024 - 256 - 256 - 1024 = l.val by omega)))))))
end

section
variable (q : A2 256 1024) (k v : A2 256 256) (u : A2 256 1024) (g : A2 256 2048)
/-- Five stores side by side. -/
theorem cn5 (r : Fin 256) (i : Fin 4608) : View.canon (Val := Elt Ideal) (e := .bf16) (s := S256x4608)
    [⟨Rect.unit ![0, 2560] ![256, 2048] inb_S256x4608_S256x2048_0_2560, (up g : S256x2048.Idx → EReal)⟩,
      ⟨Rect.unit ![0, 1536] ![256, 1024] inb_S256x4608_S256x1024_0_1536, (up u : S256x1024.Idx → EReal)⟩,
      ⟨Rect.unit ![0, 1280] ![256, 256] inb_S256x4608_S256x256_0_1280, (up v : S256x256.Idx → EReal)⟩,
      ⟨Rect.unit ![0, 1024] ![256, 256] inb_S256x4608_S256x256_0_1024, (up k : S256x256.Idx → EReal)⟩,
      ⟨Rect.unit ![0, 0] ![256, 1024] inb_S256x4608_S256x1024_0_0, (up q : S256x1024.Idx → EReal)⟩] (ix2 r i)
    = (up (CT q k v u g) : S256x4608.Idx → EReal) (ix2 r i) := by
  generalize hy : (ix2 r i : S256x4608.Idx) = w
  canon_tiles x h using View.cover_of_tiledBy _ ![256, 256] (by sl_kernel_rfl) _
  case piece0 =>
    subst hy
    obtain rfl : r = (x 0 : Fin 256) := Fin.ext h0
    rw [up_apply, up_apply, ct4 q k v u g (x 0) i (x 1) h1]
    exact congrArg (fun i => (g i : EReal)) (eq_ix2 x)
  case piece1 =>
    subst hy
    obtain rfl : r = (x 0 : Fin 256) := Fin.ext h0
    rw [up_apply, up_apply, ct3 q k v u g (x 0) i (x 1) h1]
    exact congrArg (fun i => (u i : EReal)) (eq_ix2 x)
  case piece2 =>
    subst hy
    obtain rfl : r = (x 0 : Fin 256) := Fin.ext h0
    rw [up_apply, up_apply, ct2 q k v u g (x 0) i (x 1) h1]
    exact congrArg (fun i => (v i : EReal)) (eq_ix2 x)
  case piece3 =>
    subst hy
    obtain rfl : r = (x 0 : Fin 256) := Fin.ext h0
    rw [up_apply, up_apply, ct1 q k v u g (x 0) i (x 1) h1]
    exact congrArg (fun i => (k i : EReal)) (eq_ix2 x)
  case piece4 =>
    subst hy
    obtain rfl : r = (x 0 : Fin 256) := Fin.ext h0
    rw [up_apply, up_apply, ct0 q k v u g (x 0) i (x 1) h1]
    exact congrArg (fun i => (q i : EReal)) (eq_ix2 x)
/-- Reading all of them back. -/
theorem rd5 {κ : Kind} {sp : Space} (z : View sig κ sp S256x4608 .bf16) : z.readCov (Val := Elt Ideal)
    [⟨Rect.unit ![0, 2560] ![256, 2048] inb_S256x4608_S256x2048_0_2560, (up g : S256x2048.Idx → EReal)⟩,
      ⟨Rect.unit ![0, 1536] ![256, 1024] inb_S256x4608_S256x1024_0_1536, (up u : S256x1024.Idx → EReal)⟩,
      ⟨Rect.unit ![0, 1280] ![256, 256] inb_S256x4608_S256x256_0_1280, (up v : S256x256.Idx → EReal)⟩,
      ⟨Rect.unit ![0, 1024] ![256, 256] inb_S256x4608_S256x256_0_1024, (up k : S256x256.Idx → EReal)⟩,
      ⟨Rect.unit ![0, 0] ![256, 1024] inb_S256x4608_S256x1024_0_0, (up q : S256x1024.Idx → EReal)⟩]
    (Rect.unit ![0, 0] ![256, 4608] inb_S256x4608_S256x4608_0_0).toLoadRect = (up (CT q k v u g) : S256x4608.Idx → EReal) := by
  rw [View.readCov_eq_canon']
  funext j
  obtain ⟨r, i, rfl⟩ : ∃ r i, j = ix2 r i := ⟨_, _, eq_ix2 j⟩
  have e : (Rect.unit ![0, 0] ![256, 4608] inb_S256x4608_S256x4608_0_0).toLoadRect.idx (ix2 r i) = (ix2 r i : S256x4608.Idx) := by
    blk_ext <;> simp
  rw [e]
  exact cn5 q k v u g r i
end

theorem tdp : CT (HB (TL (QC (PJ p x w nm)) t) (TL dq t) qt) (HB (TL (KC (PJ p x w nm)) t) (TL dk t) kt) (TL dv t) (TL du t) (TL dg t)
    = TL (DPJ dq dk dv du dg x p w nm qt kt) t := by
  rw [thq, thk]
  rfl

theorem rw_run (s : Fin 33) (k : Fin 256) (hl : s.val * 256 + k.val < 8448) {p} : rw_ ⟨33 * (t.val / 33) + s.val, p⟩ k = ⟨s.val * 256 + k.val, hl⟩ :=
  Fin.ext (by
    have : t.val < 33 := lt_of_lt_of_eq t.isLt N_0
    show (33 * (t.val / 33) + s.val) * 256 + k.val = s.val * 256 + k.val
    omega)

include h
theorem o15 (r : Fin 256) (k : Fin 4608) : (outsAt0 m c t.val t.isLt).1 (ix2 r k) = (up (TL (DPJ dq dk dv du dg x p w nm qt kt) t) : S256x4608.Idx → EReal) (ix2 r k) := by
  rw [← tdp]
  by_cases ht : t.val % 33 = 0
  · rw [outsAt0_A m c t ht]
    frame_out
    simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17]
    exact cn5 _ _ _ _ _ r k
  · rw [outsAt0_B m c t ht]
    frame_out
    simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17]
    exact cn5 _ _ _ _ _ r k
theorem o16 (r : Fin 256) (k : Fin 1024) : (outsAt0 m c t.val t.isLt).2.1 (ix2 r k) = (up (TL (NBR (HH p x) dh (MW (MT (DPJ dq dk dv du dg x p w nm qt kt) w) nm)) t) : S256x1024.Idx → EReal) (ix2 r k) := by
  by_cases ht : t.val % 33 = 0
  · rw [outsAt0_A m c t ht]
    frame_out
    simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, rd5, tdp, pay18, pay20, pay21, pay1, tdn, tmw, tsel, tnb]
  · rw [outsAt0_B m c t ht]
    frame_out
    simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, rd5, tdp, pay18, pay20, pay21, pay1, tdn, tmw, tsel, tnb]
theorem a17 (ht : t.val % 33 = 0) (j : S1x1024.Idx) : (outsAt0 m c t.val t.isLt).2.2.1 j = 0 + (((CS (TL (MT (DPJ dq dk dv du dg x p w nm qt kt) w) t) (XH (TL (HH p x) t))) j : ℝ) : EReal) := by
  rw [outsAt0_A m c t ht]
  frame_out
  simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, rd5, tdp, pay22, tdn, tsel]
  exact congrArg (· + _) (pay2 j)
theorem s17 (ht : ¬t.val % 33 = 0) (j : S1x1024.Idx) : (outsAt0 m c t.val t.isLt).2.2.1 j
    = (outsAt0 m c (t.val - 1) (lt_of_le_of_lt (Nat.sub_le _ _) t.isLt)).2.2.1 j + (((CS (TL (MT (DPJ dq dk dv du dg x p w nm qt kt) w) t) (XH (TL (HH p x) t))) j : ℝ) : EReal) := by
  rw [outsAt0_B m c t ht]
  frame_out
  simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, rd5, tdp, pay22, tdn, tsel]
  rfl
theorem f17 : (dats m 0 c).arrAt 17 (cfgs 0).N = (up (CS (MT (DPJ dq dk dv du dg x p w nm qt kt) w) (XH (HH p x))) : S1x1024.Idx → EReal) := by
  refine (dats m 0 c).arrAt_eq_of_covers 17 _ (by decide +kernel) fun t hf y => ?_
  blk_simp
  rw [after0_17, Pipeline.eq_sum_fin_of_reset_step_apply_of_flush (fun n h => (outsAt0 m c n h).2.2.1) 33 (fun _ => 0)
    (fun t j => (((CS (TL (MT (DPJ dq dk dv du dg x p w nm qt kt) w) t) (XH (TL (HH p x) t))) j : ℝ) : EReal)) (fun t ht j => a17 m h t ht j) (fun t ht j => s17 m h t ht j) t ((flush0_17 t).mp hf) _, zero_add]
  have e : (win0_17.blk t).view.emb y = y := by
    blk_ext [idx t] <;> rfl
  rw [e]
  refine (coe_sum _).trans (congrArg _ (Fin.sum_mul_add_congr fun s k hl => ?_))
  rw [← rw_run t s k hl]
  rfl
theorem a18 (ht : t.val % 33 = 0) (j : S1x1024.Idx) : (outsAt0 m c t.val t.isLt).2.2.2.1 j = 0 + (((CS (TL dq t) (HX (TL (QC (PJ p x w nm)) t))) j : ℝ) : EReal) := by
  rw [outsAt0_A m c t ht]
  frame_out
  simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, pay9]
  exact congrArg (· + _) (pay3 j)
theorem s18 (ht : ¬t.val % 33 = 0) (j : S1x1024.Idx) : (outsAt0 m c t.val t.isLt).2.2.2.1 j
    = (outsAt0 m c (t.val - 1) (lt_of_le_of_lt (Nat.sub_le _ _) t.isLt)).2.2.2.1 j + (((CS (TL dq t) (HX (TL (QC (PJ p x w nm)) t))) j : ℝ) : EReal) := by
  rw [outsAt0_B m c t ht]
  frame_out
  simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, pay9]
  rfl
theorem f18 : (dats m 0 c).arrAt 18 (cfgs 0).N = (up (CS dq (HX (QC (PJ p x w nm)))) : S1x1024.Idx → EReal) := by
  refine (dats m 0 c).arrAt_eq_of_covers 18 _ (by decide +kernel) fun t hf y => ?_
  blk_simp
  rw [after0_18, Pipeline.eq_sum_fin_of_reset_step_apply_of_flush (fun n h => (outsAt0 m c n h).2.2.2.1) 33 (fun _ => 0)
    (fun t j => (((CS (TL dq t) (HX (TL (QC (PJ p x w nm)) t))) j : ℝ) : EReal)) (fun t ht j => a18 m h t ht j) (fun t ht j => s18 m h t ht j) t ((flush0_18 t).mp hf) _, zero_add]
  have e : (win0_18.blk t).view.emb y = y := by
    blk_ext [idx t] <;> rfl
  rw [e]
  refine (coe_sum _).trans (congrArg _ (Fin.sum_mul_add_congr fun s k hl => ?_))
  rw [← rw_run t s k hl]
  rfl
theorem a19 (ht : t.val % 33 = 0) (j : S1x256.Idx) : (outsAt0 m c t.val t.isLt).2.2.2.2 j = 0 + (((CS (TL dk t) (HX (TL (KC (PJ p x w nm)) t))) j : ℝ) : EReal) := by
  rw [outsAt0_A m c t ht]
  frame_out
  simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, pay14]
  exact congrArg (· + _) (pay4 j)
theorem s19 (ht : ¬t.val % 33 = 0) (j : S1x256.Idx) : (outsAt0 m c t.val t.isLt).2.2.2.2 j
    = (outsAt0 m c (t.val - 1) (lt_of_le_of_lt (Nat.sub_le _ _) t.isLt)).2.2.2.2 j + (((CS (TL dk t) (HX (TL (KC (PJ p x w nm)) t))) j : ℝ) : EReal) := by
  rw [outsAt0_B m c t ht]
  frame_out
  simp only [b0 m h t, b1 m h t, b2 m h t, b3 m h t, b4 m h t, b5 m h t, b6 m h t, b7 m h t, b8 m h t, b9 m h t, b10 m h t, b11 m h t, b12 m h t, b13 m h t, b14 m t, pay5, pay6, pay7, pay8, pay10, pay11, pay12, pay13, pay15, pay16, pay17, pay14]
  rfl
theorem f19 : (dats m 0 c).arrAt 19 (cfgs 0).N = (up (CS dk (HX (KC (PJ p x w nm)))) : S1x256.Idx → EReal) := by
  refine (dats m 0 c).arrAt_eq_of_covers 19 _ (by decide +kernel) fun t hf y => ?_
  blk_simp
  rw [after0_19, Pipeline.eq_sum_fin_of_reset_step_apply_of_flush (fun n h => (outsAt0 m c n h).2.2.2.2) 33 (fun _ => 0)
    (fun t j => (((CS (TL dk t) (HX (TL (KC (PJ p x w nm)) t))) j : ℝ) : EReal)) (fun t ht j => a19 m h t ht j) (fun t ht j => s19 m h t ht j) t ((flush0_19 t).mp hf) _, zero_add]
  have e : (win0_19.blk t).view.emb y = y := by
    blk_ext [idx t] <;> rfl
  rw [e]
  refine (coe_sum _).trans (congrArg _ (Fin.sum_mul_add_congr fun s k hl => ?_))
  rw [← rw_run t s k hl]
  rfl
theorem f15 : (dats m 0 c).arrAt 15 (cfgs 0).N = (up (DPJ dq dk dv du dg x p w nm qt kt) : S8448x4608.Idx → EReal) := by
  refine (dats m 0 c).arrAt_eq_of_covers 15 _ (by decide +kernel) fun t hf y => ?_
  blk_simp
  rw [after0_15]
  obtain ⟨r, k, rfl⟩ : ∃ r k, y = ix2 r k := ⟨_, _, eq_ix2 y⟩
  refine (o15 m h t r k).trans ?_
  have e : (win0_15.blk t).view.emb (ix2 r k) = ix2 (rw_ t r) k := by
    blk_ext [idx t] <;> rfl
  rw [e]
  rfl
theorem f16 : (dats m 0 c).arrAt 16 (cfgs 0).N = (up (NBR (HH p x) dh (MW (MT (DPJ dq dk dv du dg x p w nm qt kt) w) nm)) : S8448x1024.Idx → EReal) := by
  refine (dats m 0 c).arrAt_eq_of_covers 16 _ (by decide +kernel) fun t hf y => ?_
  blk_simp
  rw [after0_16]
  obtain ⟨r, k, rfl⟩ : ∃ r k, y = ix2 r k := ⟨_, _, eq_ix2 y⟩
  refine (o16 m h t r k).trans ?_
  have e : (win0_16.blk t).view.emb (ix2 r k) = ix2 (rw_ t r) k := by
    blk_ext [idx t] <;> rfl
  rw [e]
  rfl

end Cert.InP
end
-- ==== Proof.Pre8.lean ====
module
public import proofs.«01_k».proof.Proof.Pre
public import proofs.«01_k».proof.Pre_finite8
public import proofs.«01_k».proof.Proof.Gen.Pre_finite8

/-! The third precondition says that every argument is a real array. -/

@[expose] public section
noncomputable section
namespace Cert.Reals
open Idealize.ShloMosaic

variable {s : Shape} (x : FVec Ideal s .f32) {hb : Cert.Pre_finite8.S_.BroadcastsInDim s (![] : Fin 0 → Fin s.rank)}

theorem real_of_all8 {axes : List (Fin s.rank)} {hr : s.ReducesTo axes Cert.Pre_finite8.S_} {hu} (j)
    (h : Host.reduce IntOp.andi (cmpf .olt (Host.absf x) (broadcastInDim s ![] hb (constant (F := Ideal) Cert.Pre_finite8.S_ .f32 0x7F800000#32)))
      (constantI Cert.Pre_finite8.S_ 1 1#1) hr hu j = 1#1) : ∃ b : s.Idx → ℝ, x = up b :=
  exists_up x fun i => real_of_lt (x i) (Host.reduce_andi_all _ _ hr hu j h i)

open Cert.Pre_finite8 in
theorem finite_args8 [Facts] (a0 : FVec Ideal S8448x1024 .f32) (a1 : FVec Ideal S8448x256 .f32) (a2 : FVec Ideal S8448x256 .f32) (a3 : FVec Ideal S8448x1024 .bf16) (a4 : FVec Ideal S8448x2048 .bf16) (a5 : FVec Ideal S8192x1024 .f32) (a6 : FVec Ideal S256x1024 .f32) (a7 : FVec Ideal S8448x1024 .f32) (a8 : FVec Ideal S1024x4608 .bf16) (a9 : FVec Ideal S1x1024 .f32) (a10 : FVec Ideal S1x1024 .f32) (a11 : FVec Ideal S1x256 .f32)
    (h : fn (F := Ideal) a0 a1 a2 a3 a4 a5 a6 a7 a8 a9 a10 a11 = fun _ => 1#1) :
    (∃ b, a0 = up b) ∧ (∃ b, a1 = up b) ∧ (∃ b, a2 = up b) ∧ (∃ b, a3 = up b) ∧ (∃ b, a4 = up b) ∧ (∃ b, a5 = up b) ∧ (∃ b, a6 = up b) ∧ (∃ b, a7 = up b) ∧ (∃ b, a8 = up b) ∧ (∃ b, a9 = up b) ∧ (∃ b, a10 = up b) ∧ (∃ b, a11 = up b) := by
  have h := congrFun h ix0
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨h, h0⟩ := IntOp.andi_eq_one.1 h
  exact ⟨real_of_all8 _ _ h0, real_of_all8 _ _ h1, real_of_all8 _ _ h2, real_of_all8 _ _ h3, real_of_all8 _ _ h4, real_of_all8 _ _ h5, real_of_all8 _ _ h6, real_of_all8 _ _ h7, real_of_all8 _ _ h8, real_of_all8 _ _ h9, real_of_all8 _ _ h10, real_of_all8 _ _ h11⟩
end Cert.Reals
end
end
-- ==== Proof.InMain.lean ====
module
public import proofs.«01_k».proof.Defs
public import proofs.«01_k».proof.Proof.Gen.Kernel8.Frame
public import proofs.«01_k».proof.Proof.Gen.Reference8Ideal.Run
public import proofs.«01_k».proof.Proof.InO
public import proofs.«01_k».proof.Proof.Pre8

/-! The claims about the projections' gradient kernel. -/

@[expose] public section
set_option maxRecDepth 16384
noncomputable section
namespace Cert.InP
open Idealize.ShloMosaic Idealize.ShloMosaic.TcCoe Idealize.SL.Sem Cert.Reals

theorem args (m : (ℓ : Loc Cert.Kernel8Ideal.nD Cert.Kernel8Ideal.τ Cert.Kernel8Ideal.sig) → Buf (Elt Ideal) ℓ)
    (hp : Cert.Pre_Kernel8Ideal_finite8 (hPre_finite8 := Cert.Pre_finite8.Gen.facts) m) (c : Dev Cert.Kernel8Ideal.nD) :
    ∃ dq dk dv du dg x p dh w nm qt kt, KArgs m c dq dk dv du dg x p dh w nm qt kt := by
  obtain ⟨⟨b0, h0⟩, ⟨b1, h1⟩, ⟨b2, h2⟩, ⟨b3, h3⟩, ⟨b4, h4⟩, ⟨b5, h5⟩, ⟨b6, h6⟩, ⟨b7, h7⟩, ⟨b8, h8⟩, ⟨b9, h9⟩, ⟨b10, h10⟩, ⟨b11, h11⟩⟩ := finite_args8 (h := hp c)
  exact ⟨b0, b1, b2, b3, b4, b5, b6, b7, b8, b9, b10, b11, ⟨h0, h1, h2, h3, h4, h5, h6, h7, h8, h9, h10, h11⟩⟩

set_option maxHeartbeats 1000000 in
theorem algebraic : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m g m' g' hp e
  choose dq dk dv du dg x p dh w nm qt kt hK using args m hp
  have hA : ∀ c, RArgs (StableHlo.launchContents m' c) (dq c) (dk c) (dv c) (du c) (dg c) (x c) (p c) (dh c) (w c) (nm c) (qt c) (kt c) := fun c =>
    ⟨(e c).1.trans (hK c).a0, (e c).2.1.trans (hK c).a1, (e c).2.2.1.trans (hK c).a2, (e c).2.2.2.1.trans (hK c).a3, (e c).2.2.2.2.1.trans (hK c).a4, (e c).2.2.2.2.2.1.trans (hK c).a5, (e c).2.2.2.2.2.2.1.trans (hK c).a6, (e c).2.2.2.2.2.2.2.1.trans (hK c).a7, (e c).2.2.2.2.2.2.2.2.1.trans (hK c).a8, (e c).2.2.2.2.2.2.2.2.2.1.trans (hK c).a9, (e c).2.2.2.2.2.2.2.2.2.2.1.trans (hK c).a10, (e c).2.2.2.2.2.2.2.2.2.2.2.trans (hK c).a11⟩
  refine ⟨_, _, _, _, _, Cert.Kernel8Ideal.Value.run_blocks m g, ?_⟩
  refine (θ_run Cert.Reference8Ideal.defs _ _).mono (fun r h c => ?_) (Cert.Reference8Ideal.Value.run m' g')
  obtain ⟨e0, e1, e2, e3, e4, k⟩ := h c
  refine ⟨e0.trans ?_, e1.trans ?_, e2.trans ?_, e3.trans ?_, e4.trans ?_, k⟩
  · exact (t131 (hA c)).trans (f15 m (hK c)).symm
  · exact (t130 (hA c)).trans (f16 m (hK c)).symm
  · exact (t113 (hA c)).trans (f17 m (hK c)).symm
  · exact (t107 (hA c)).trans (f18 m (hK c)).symm
  · exact (t84 (hA c)).trans (f19 m (hK c)).symm

/-- The reference's run changes no argument and leaves every counter at zero. -/
theorem frame_r : Cert.quiescent_Reference8Ideal (hReference8Ideal := Cert.Reference8Ideal.Gen.facts) := fun m ρ _ =>
  (θ_run Cert.Reference8Ideal.defs _ _).mono (fun r h => ⟨fun c => (h c).2.2.2.2.2, sem_eq_zero_of_no_sems (by decide) r.2⟩)
    (Cert.Reference8Ideal.Value.run m ρ)

end Cert.InP
end
end
-- ==== Proof.Rows.lean ====
/- Norms, heads and products of rows over the extended reals, where no input need be finite. -/
module

public import proofs.«01_k».proof.Proof.InR

@[expose] public section

set_option maxRecDepth 16384

noncomputable section

namespace Cert.Rows

open Idealize.ShloMosaic Idealize.ShloMosaic.TcCoe Cert.Reals
open Cert.InP (hc col hc_col exists_col)

abbrev E2 (a b : ℕ) : Type := (⟨2, ![a, b]⟩ : Shape).Idx → EReal
abbrev E3 (a b c : ℕ) : Type := (⟨3, ![a, b, c]⟩ : Shape).Idx → EReal

section
variable {a b k n : ℕ}
/-- The inverse root of a row's mean square plus the small number, of 1024 columns. -/
def rn (x : E2 a b) (r : Fin a) : EReal :=
  Ideal.rsqrt (Ideal.div (∑ k, x (ix2 r k) * x (ix2 r k)) (Ideal.ofBits .f32 1149239296#32) + Ideal.ofBits .f32 897988541#32)
/-- The rows normalised. -/
def NE (x : E2 a b) : E2 a b := fun j => x j * rn x (j 0)
/-- The rows times a gain. -/
def GE (x : E2 a b) (g : E2 1 b) : E2 a b := fun j => x j * g (ix2 0 (j 1))
def ME (x : E2 a k) (w : E2 k b) : E2 a b := fun j => ∑ i, x (ix2 (j 0) i) * w (ix2 i (j 1))
def PE (x y : E2 a b) : E2 a b := fun j => x j * y j
/-- The `n` columns from `o` on. -/
def WE (o n : ℕ) (ho : o + n ≤ b) (x : E2 a b) : E2 a n := fun j => x (ix2 (j 0) ⟨o + (j 1).val, by have : (j 1).val < n := (j 1).isLt; omega⟩)
/-- The sums over the heads, at every column of the head. -/
def HE (x : E2 a b) : E2 a b := fun j => ∑ s, x (ix2 (j 0) (hc (j 1) s))
/-- The inverse root of a sum over 64 columns' mean plus the small number. -/
def re (z : EReal) : EReal := Ideal.rsqrt (z * Ideal.ofBits .f32 1015021568#32 + Ideal.ofBits .f32 897988541#32)
/-- The heads normalised. -/
def XE (x : E2 a b) : E2 a b := fun j => x j * re (HE (PE x x) j)

theorem HE_col (hb : b = n * 64) (x : E2 a b) (r : Fin a) (p : Fin n) (s : Fin 64) : HE x (ix2 r (col hb p s)) = ∑ s', x (ix2 r (col hb p s')) :=
  Finset.sum_congr rfl fun s' _ => congrArg (fun k => x (ix2 r k)) (hc_col hb p s s')
end

/-- Whether two columns lie in one head. -/
def BE : E2 256 256 := fun j => if (j 0).val / 64 = (j 1).val / 64 then 1 else 0

/-- The sum over the columns of one head, as a product with `BE`. -/
theorem head_sum (f : Fin 256 → EReal) (q : Fin 256) : ∑ k, f k * BE (ix2 k q) = ∑ s, f (hc q s) := by
  rw [← (finProdFinEquiv (m := 4) (n := 64)).sum_comp, Fintype.sum_prod_type, Finset.sum_eq_single (⟨q.val / 64, by omega⟩ : Fin 4)]
  · refine Finset.sum_congr rfl fun s _ => ?_
    have hq := q.isLt
    have hs := s.isLt
    have h1 : 64 * (q.val / 64) + s.val < 256 := by omega
    have : BE (ix2 (finProdFinEquiv ((⟨q.val / 64, by omega⟩ : Fin 4), s)) q) = 1 := by
      refine if_pos ?_
      show (s.val + 64 * (q.val / 64)) / 64 = q.val / 64
      omega
    rw [this, mul_one]
    refine congrArg f (Fin.ext ?_)
    rw [hc, dif_pos h1]
    exact Nat.add_comm _ _
  · intro i _ hi
    refine Finset.sum_eq_zero fun s _ => ?_
    have hs := s.isLt
    have : BE (ix2 (finProdFinEquiv (i, s)) q) = 0 := by
      refine if_neg ?_
      show ¬ (s.val + 64 * i.val) / 64 = q.val / 64
      intro h
      exact hi (Fin.ext (show i.val = q.val / 64 by omega))
    rw [this, mul_zero]
  · intro h
    exact absurd (Finset.mem_univ _) h

theorem he_we (n : ℕ) (ho : n * 256 + 256 ≤ 1024) (x : E2 256 1024) (r : Fin 256) (k : Fin 1024) (q : Fin 256) (hq : k.val = n * 256 + q.val) :
    HE (WE (n * 256) 256 ho x) (ix2 r q) = HE x (ix2 r k) := by
  refine Finset.sum_congr rfl fun s _ => congrArg (fun i => x (ix2 r i)) (Fin.ext ?_)
  show n * 256 + (hc q s).val = (hc k s).val
  have := s.isLt
  have := q.isLt
  have := k.isLt
  rw [hc, hc, dif_pos (by omega), dif_pos (by omega)]
  show n * 256 + (64 * (q.val / 64) + s.val) = 64 * (k.val / 64) + s.val
  omega

/-- Division by 64 is the product with its inverse. -/
theorem div_64 (z : EReal) : Ideal.div z (Ideal.ofBits .f32 1115684864#32) = z * Ideal.ofBits .f32 1015021568#32 := by
  rw [InP.lit_64, InP.lit_64th, Ideal.div_coe (by norm_num)]

/-- The first block's rows come from the one array, the later blocks' from the other. -/
def SELE (i : BitVec 32) (a b : E2 256 1024) : E2 256 1024 := if i = 0#32 then a else b
/-- The first array's rows followed by the second's. -/
def HHE (p : E2 256 1024) (x : E2 8192 1024) : E2 8448 1024 := fun j =>
  if h : (j 0).val < 256 then p (ix2 ⟨(j 0).val, h⟩ (j 1)) else x (ix2 ⟨(j 0).val - 256, by have : (j 0).val < 8448 := (j 0).isLt; omega⟩ (j 1))

section
variable {a b n : ℕ}
/-- The array with its columns' heads as an axis. -/
def R3E (hb : b = n * 64) (x : E2 a b) : E3 a n 64 := fun j => x (ix2 (j 0) (col hb (j 1) (j 2)))

theorem sc23 (hb : b = n * 64) (x : E2 a b) (h : (⟨2, ![a, b]⟩ : Shape).ShapeCasts ⟨3, ![a, n, 64]⟩) :
    (shapeCast ⟨3, ![a, n, 64]⟩ (x : FVec Ideal ⟨2, ![a, b]⟩ .f32) h : FVec Ideal ⟨3, ![a, n, 64]⟩ .f32) = (R3E hb x : _ → EReal) := by
  funext j
  obtain ⟨r, p, s, rfl⟩ : ∃ r p s, j = ix3 r p s := ⟨_, _, _, eq_ix3 j⟩
  refine congrArg x (Shape.reshapeEquiv_eq_of_rowMajor _ (y := ix2 r (col hb p s)) ?_)
  rw [Shape.rowMajor_val_two, Shape.rowMajor_val_three]
  show r.val * b + (64 * p.val + s.val) = (r.val * n + p.val) * 64 + s.val
  subst hb
  ring
theorem sc32 (hb : b = n * 64) (x : E2 a b) (h : (⟨3, ![a, n, 64]⟩ : Shape).ShapeCasts ⟨2, ![a, b]⟩) :
    (shapeCast ⟨2, ![a, b]⟩ (R3E hb x : FVec Ideal ⟨3, ![a, n, 64]⟩ .f32) h : FVec Ideal ⟨2, ![a, b]⟩ .f32) = (x : _ → EReal) := by
  funext j
  obtain ⟨r, k, rfl⟩ : ∃ r k, j = ix2 r k := ⟨_, _, eq_ix2 j⟩
  obtain ⟨p, s, rfl⟩ := exists_col hb k
  refine congrArg (R3E hb x) (Shape.reshapeEquiv_eq_of_rowMajor _ (y := ix3 r p s) ?_)
  rw [Shape.rowMajor_val_two, Shape.rowMajor_val_three]
  show (r.val * n + p.val) * 64 + s.val = r.val * b + (64 * p.val + s.val)
  subst hb
  ring
/-- A row as an array of heads. -/
theorem sg1 (hb : b = n * 64) (x : E2 1 b) (h : (⟨2, ![1, b]⟩ : Shape).ShapeCasts ⟨2, ![n, 64]⟩) :
    (shapeCast ⟨2, ![n, 64]⟩ (x : FVec Ideal ⟨2, ![1, b]⟩ .f32) h : FVec Ideal ⟨2, ![n, 64]⟩ .f32) = ((fun j => x (ix2 0 (col hb (j 0) (j 1)))) : _ → EReal) := by
  funext j
  obtain ⟨p, s, rfl⟩ : ∃ p s, j = ix2 p s := ⟨_, _, eq_ix2 j⟩
  refine congrArg x (Shape.reshapeEquiv_eq_of_rowMajor _ (y := ix2 0 (col hb p s)) ?_)
  rw [Shape.rowMajor_val_two, Shape.rowMajor_val_two]
  show 0 * b + (64 * p.val + s.val) = p.val * 64 + s.val
  ring
end

end Cert.Rows

end
-- ==== Proof.PrK.lean ====
/- The blocks the input projections' kernel writes. -/
module

public import proofs.«01_k».proof.Proof.Gen.Kernel9Ideal.Skeleton
public import proofs.«01_k».proof.Proof.Rows

@[expose] public section

set_option maxRecDepth 16384

noncomputable section

namespace Cert.Proj

open Idealize.ShloMosaic Cert.Rows Cert.Kernel9Ideal Cert.Kernel9Ideal.Gen

variable (i : grid0.Coords) (p x : S256x1024.Idx → EReal) (g : S1x1024.Idx → EReal) (w : S1024x1024.Idx → EReal)

theorem sel : (Scalar.select (Scalar.cmpi .eq (BitVec.ofNat 32 (i 0).val) 0#32) (p : Vec Ideal S256x1024 .f32) (x : Vec Ideal S256x1024 .f32) : Vec Ideal S256x1024 .f32)
    = (SELE (BitVec.ofNat 32 (i 0).val) p x : S256x1024.Idx → EReal) := by
  unfold SELE
  split_ifs with h
  · simp [Scalar.select, Scalar.cmpi, IntOp.cmpi, h]
  · have e : (BitVec.ofNat 32 (i 0).val == 0#32) = false := by simp [h]
    simp [Scalar.select, Scalar.cmpi, IntOp.cmpi, e]
theorem pay3 : k0_pay3 (F := Ideal) i p x g = GE (NE (SELE (BitVec.ofNat 32 (i 0).val) p x)) g := by
  unfold k0_pay3
  dsimp only
  rw [sel]
  funext j
  pointwise
  rfl
theorem pay4 (b : S256x256.Idx → EReal) : k0_pay4 (F := Ideal) b = b := by
  funext j
  pointwise [k0_pay4]
theorem pay5 : k0_pay5 (F := Ideal) i p x g w = ME (GE (NE (SELE (BitVec.ofNat 32 (i 0).val) p x)) g) w := by
  rw [k0_pay5, pay3]
  funext j
  pointwise
  rfl
theorem pay6 : k0_pay6 (F := Ideal) i p x g w = PE (ME (GE (NE (SELE (BitVec.ofNat 32 (i 0).val) p x)) g) w) (ME (GE (NE (SELE (BitVec.ofNat 32 (i 0).val) p x)) g) w) := by
  rw [k0_pay6, pay5]
  funext j
  pointwise
  rfl

theorem seg (x : S256x256.Idx → EReal) : (matmul (φ₁ := .bf16) (φ₂ := .bf16) dot_S256x256_S256x256_S256x256_1_0_0_1_n_n none (truncf .bf16 (x : FVec Ideal S256x256 .f32) bitsLt_bf16_f32) (BE : FVec Ideal S256x256 .bf16) (constant S256x256 .f32 0x00000000#32) : FVec Ideal S256x256 .f32)
    = (HE x : S256x256.Idx → EReal) := by
  funext j
  pointwise
  exact head_sum (fun k => x (ix2 (j 0) k)) (j 1)
theorem sl0 (x : S256x1024.Idx → EReal) : (extractStridedSlice S256x256 ![0, 0] (x : FVec Ideal S256x1024 .f32) slices_S256x1024_o0_0_S256x256 : FVec Ideal S256x256 .f32) = (WE 0 256 (by omega) x : S256x256.Idx → EReal) := by
  funext j
  pointwise
  refine congrArg x (congrArg (ix2 (j 0)) (Fin.ext ?_))
  simp
theorem sl1 (x : S256x1024.Idx → EReal) : (extractStridedSlice S256x256 ![0, 256] (x : FVec Ideal S256x1024 .f32) slices_S256x1024_o0_256_S256x256 : FVec Ideal S256x256 .f32) = (WE 256 256 (by omega) x : S256x256.Idx → EReal) := by
  funext j
  pointwise
  rfl
theorem sl2 (x : S256x1024.Idx → EReal) : (extractStridedSlice S256x256 ![0, 512] (x : FVec Ideal S256x1024 .f32) slices_S256x1024_o0_512_S256x256 : FVec Ideal S256x256 .f32) = (WE 512 256 (by omega) x : S256x256.Idx → EReal) := by
  funext j
  pointwise
  rfl
theorem sl3 (x : S256x1024.Idx → EReal) : (extractStridedSlice S256x256 ![0, 768] (x : FVec Ideal S256x1024 .f32) slices_S256x1024_o0_768_S256x256 : FVec Ideal S256x256 .f32) = (WE 768 256 (by omega) x : S256x256.Idx → EReal) := by
  funext j
  pointwise
  rfl
theorem segQ (x : S256x1024.Idx → EReal) :
   (concatenate S256x1024 1 [⟨S256x256, (HE (WE 0 256 (by omega) x) : FVec Ideal S256x256 .f32)⟩, ⟨S256x256, (HE (WE 256 256 (by omega) x) : FVec Ideal S256x256 .f32)⟩, ⟨S256x256, (HE (WE 512 256 (by omega) x) : FVec Ideal S256x256 .f32)⟩, ⟨S256x256, (HE (WE 768 256 (by omega) x) : FVec Ideal S256x256 .f32)⟩] concatenates_S256x256_S256x256_S256x256_S256x256_S256x1024_d1 : FVec Ideal S256x1024 .f32)
   = (HE x : S256x1024.Idx → EReal) := by
  funext j
  obtain ⟨r, k, rfl⟩ : ∃ r k, j = ix2 r k := ⟨_, _, eq_ix2 j⟩
  pointwise
  by_cases h0 : k.val < 256
  · rw [dif_pos h0]
    exact he_we 0 (by omega) x r k _ (show k.val = 0 * 256 + k.val by omega)
  rw [dif_neg h0]
  by_cases h1 : k.val - 256 < 256
  · rw [dif_pos h1]
    exact he_we 1 (by omega) x r k _ (show k.val = 1 * 256 + (k.val - 256) by omega)
  rw [dif_neg h1]
  by_cases h2 : k.val - 256 - 256 < 256
  · rw [dif_pos h2]
    exact he_we 2 (by omega) x r k _ (show k.val = 2 * 256 + (k.val - 256 - 256) by omega)
  rw [dif_neg h2]
  exact he_we 3 (by omega) x r k _ (show k.val = 3 * 256 + (k.val - 256 - 256 - 256) by have := k.isLt; omega)

theorem pay7 : k0_pay7 (F := Ideal) i p x g BE w = HE (WE 0 256 (by omega) (k0_pay6 (F := Ideal) i p x g w)) := by
  rw [k0_pay7, pay4, sl0, seg]
theorem pay8 : k0_pay8 (F := Ideal) i p x g BE w = HE (WE 256 256 (by omega) (k0_pay6 (F := Ideal) i p x g w)) := by
  rw [k0_pay8, pay4, sl1, seg]
theorem pay9 : k0_pay9 (F := Ideal) i p x g BE w = HE (WE 512 256 (by omega) (k0_pay6 (F := Ideal) i p x g w)) := by
  rw [k0_pay9, pay4, sl2, seg]
theorem pay10 : k0_pay10 (F := Ideal) i p x g w = WE 768 256 (by omega) (k0_pay6 (F := Ideal) i p x g w) := by
  rw [k0_pay10, sl3]
theorem pay11 (z : S256x1024.Idx → EReal) : k0_pay11 (F := Ideal) BE z (HE (WE 0 256 (by omega) (PE z z))) (HE (WE 256 256 (by omega) (PE z z))) (HE (WE 512 256 (by omega) (PE z z))) (WE 768 256 (by omega) (PE z z)) g
    = GE (XE z) g := by
  unfold k0_pay11
  dsimp only
  rw [seg, segQ]
  funext j
  pointwise
  rfl
/-- The queries' heads normalised. -/
theorem qn (q : S1x1024.Idx → EReal) : k0_pay11 (F := Ideal) BE (k0_pay5 (F := Ideal) i p x g w) (k0_pay7 (F := Ideal) i p x g BE w) (k0_pay8 (F := Ideal) i p x g BE w) (k0_pay9 (F := Ideal) i p x g BE w) (k0_pay10 (F := Ideal) i p x g w) q
    = GE (XE (ME (GE (NE (SELE (BitVec.ofNat 32 (i 0).val) p x)) g) w)) q := by
  rw [pay7, pay8, pay9, pay10, pay6, pay5, pay11]
theorem pay12 (y : S256x1024.Idx → EReal) (w : S1024x256.Idx → EReal) : k0_pay12 (F := Ideal) y w = ME y w := by
  funext j
  pointwise [k0_pay12]
  rfl
theorem pay13 (y : S256x1024.Idx → EReal) (w : S1024x256.Idx → EReal) (g : S1x256.Idx → EReal) : k0_pay13 (F := Ideal) y BE w g = GE (XE (ME y w)) g := by
  unfold k0_pay13
  dsimp only
  rw [pay12]
  have e : (mulf (F := Ideal) (ME y w : FVec Ideal S256x256 .f32) (ME y w : FVec Ideal S256x256 .f32) : FVec Ideal S256x256 .f32) = (PE (ME y w) (ME y w) : S256x256.Idx → EReal) := rfl
  rw [e, seg]
  funext j
  pointwise
  rfl
theorem pay14 (y : S256x1024.Idx → EReal) (w : S1024x256.Idx → EReal) : k0_pay14 (F := Ideal) y w = ME y w := by
  funext j
  pointwise [k0_pay14]
  rfl
theorem pay1 (y : S256x1024.Idx → EReal) : k0_pay1 (F := Ideal) y w = ME y w := by
  funext j
  pointwise [k0_pay1]
  rfl
theorem pay2 (y : S256x1024.Idx → EReal) (w : S1024x2048.Idx → EReal) : k0_pay2 (F := Ideal) y w = ME y w := by
  funext j
  pointwise [k0_pay2]
  rfl

end Cert.Proj

end
-- ==== Proof.PrF.lean ====
/- The input projections' kernel's blocks and the arrays it leaves. -/
module

public import proofs.«01_k».proof.Proof.Gen.Kernel9Ideal.Value
public import proofs.«01_k».proof.Proof.PrK
public import Idealize.ShloMosaic.Lib.StableHlo.ReadAt

@[expose] public section

set_option maxRecDepth 16384

noncomputable section

namespace Cert.Proj

open Cert.Kernel9Ideal Cert.Kernel9Ideal.Gen Idealize.ShloMosaic Idealize.ShloMosaic.TcCoe Idealize.SL.Sem Cert.Rows
open Idealize.ShloMosaic.Pipeline (Dat)

theorem idx : ∀ t : Fin cfg0.N, win0_0.index t = ![t.val - 1, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)
theorem first : ∀ t : Fin cfg0.N, (BitVec.ofNat 32 (grid0.coords t 0).val) = 0#32 ↔ t.val = 0 := (by decide +kernel : ∀ t : Fin grid0.N, _)

/-- Row `r` of block `t`, as a row of the arrays. -/
def rw_ (t : Fin cfg0.N) (r : Fin 256) : Fin 8448 := ⟨t.val * 256 + r.val, by have := lt_of_lt_of_eq t.isLt N_0; omega⟩
/-- Row `r` of block `t`, as a row of the inputs: the first block's repeated once. -/
def rt_ (t : Fin cfg0.N) (r : Fin 256) : Fin 8192 := ⟨(t.val - 1) * 256 + r.val, by have := lt_of_lt_of_eq t.isLt N_0; omega⟩

variable (m : (ℓ : Loc nD τ sig) → Buf (Elt Ideal) ℓ)
variable {c : Dev nD} {x : E2 8192 1024} {p : E2 256 1024} {w : E2 1024 4608} {nm qt : E2 1 1024} {kt : E2 1 256}

/-- The arguments. -/
structure KArgs (m : (ℓ : Loc nD τ sig) → Buf (Elt Ideal) ℓ) (c : Dev nD) (x : E2 8192 1024) (p : E2 256 1024) (w : E2 1024 4608)
    (nm qt : E2 1 1024) (kt : E2 1 256) : Prop where
  a0 : m ((c : Thread nD τ).loc main_arg0) = x
  a1 : m ((c : Thread nD τ).loc main_arg1) = p
  a2 : m ((c : Thread nD τ).loc main_arg2) = w
  a3 : m ((c : Thread nD τ).loc main_arg3) = nm
  a4 : m ((c : Thread nD τ).loc main_arg4) = qt
  a5 : m ((c : Thread nD τ).loc main_arg5) = kt

def TL {b : ℕ} (x : E2 8448 b) (t : Fin cfg0.N) : E2 256 b := fun j => x (ix2 (rw_ t (j 0)) (j 1))
def TT (x : E2 8192 1024) (t : Fin cfg0.N) : E2 256 1024 := fun j => x (ix2 (rt_ t (j 0)) (j 1))

theorem tsel (p : E2 256 1024) (x : E2 8192 1024) (t : Fin cfg0.N) : SELE (BitVec.ofNat 32 (grid0.coords t 0).val) p (TT x t) = TL (HHE p x) t := by
  funext j
  have hj : (j 0).val < 256 := (j 0).isLt
  unfold SELE
  by_cases ht : t.val = 0
  · rw [if_pos ((first t).2 ht)]
    have hc : t.val * 256 + (j 0).val < 256 := by omega
    refine Eq.trans ?_ (dif_pos hc).symm
    refine congrArg p ((eq_ix2 j).trans (congrArg (ix2 · (j 1)) (Fin.ext ?_)))
    show (j 0).val = t.val * 256 + (j 0).val
    omega
  · rw [if_neg (fun hh => ht ((first t).1 hh))]
    have hc : ¬ t.val * 256 + (j 0).val < 256 := by omega
    refine Eq.trans ?_ (dif_neg hc).symm
    refine congrArg x (congrArg (ix2 · (j 1)) (Fin.ext ?_))
    show (t.val - 1) * 256 + (j 0).val = t.val * 256 + (j 0).val - 256
    omega

/-- The number of a column's head, as the host works it out. -/
theorem fdiv : ∀ a : Fin 256, Scalar.select
      (IntOp.andi
        (IntOp.cmpi CmpIPredicate.ne
          (if BitVec.ofNat 32 a.val = 0 then (0 : BitVec 32) else if (BitVec.ofNat 32 a.val).msb = true then -1 else 1)
          (if (64#32 : BitVec 32) = 0 then 0 else if BitVec.msb 64#32 = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64) := by
  decide +kernel
theorem same_head : ∀ a b : Fin 4, IntOp.cmpi CmpIPredicate.eq (BitVec.ofNat 32 a.val) (BitVec.ofNat 32 b.val) = if a.val = b.val then 1#1 else 0#1 := by
  decide +kernel
/-- Which columns lie in one head, from the columns' numbers. -/
theorem vbd : V m c main_v7 = (BE : S256x256.Idx → EReal) := by
  funext j
  unfold V
  after_reads_at
  have h0 : (j 0).val < 256 := (j 0).isLt
  have h1 : (j 1).val < 256 := (j 1).isLt
  refine (congrArg₂ (fun a b => FloatOps.uitofp (F := Ideal) FTy.bf16 (IntOp.cmpi CmpIPredicate.eq a b)) (fdiv (j 0)) (fdiv (j 1))).trans ?_
  rw [same_head ⟨(j 0).val / 64, by omega⟩ ⟨(j 1).val / 64, by omega⟩]
  show FloatOps.uitofp (F := Ideal) FTy.bf16 (if (j 0).val / 64 = (j 1).val / 64 then 1#1 else 0#1) = if (j 0).val / 64 = (j 1).val / 64 then 1 else 0
  split_ifs <;> simp [FloatOps.uitofp]

theorem lq (w : S1024x4608.Idx → EReal) : View.ld (Val := Elt Ideal) (e' := .bf16) (w : S1024x4608.Idx → EReal) r0_3 = (WE 0 1024 (by omega) w : _ → EReal) := by
  funext x
  refine congrArg w ?_
  blk_ext <;> simp
theorem lk (w : S1024x4608.Idx → EReal) : View.ld (Val := Elt Ideal) (e' := .bf16) (w : S1024x4608.Idx → EReal) r0_4 = (WE 1024 256 (by omega) w : _ → EReal) := by
  funext x
  refine congrArg w ?_
  blk_ext <;> simp
theorem lv (w : S1024x4608.Idx → EReal) : View.ld (Val := Elt Ideal) (e' := .bf16) (w : S1024x4608.Idx → EReal) r0_6 = (WE 1280 256 (by omega) w : _ → EReal) := by
  funext x
  refine congrArg w ?_
  blk_ext <;> simp
theorem lu (w : S1024x4608.Idx → EReal) : View.ld (Val := Elt Ideal) (e' := .bf16) (w : S1024x4608.Idx → EReal) r0_7 = (WE 1536 1024 (by omega) w : _ → EReal) := by
  funext x
  refine congrArg w ?_
  blk_ext <;> simp
theorem lg (w : S1024x4608.Idx → EReal) : View.ld (Val := Elt Ideal) (e' := .bf16) (w : S1024x4608.Idx → EReal) r0_8 = (WE 2560 2048 (by omega) w : _ → EReal) := by
  funext x
  refine congrArg w ?_
  blk_ext <;> simp

/-- The norm of the rows. -/
def N0 (p : E2 256 1024) (x : E2 8192 1024) (nm : E2 1 1024) : E2 8448 1024 := GE (NE (HHE p x)) nm
theorem t0 (p : E2 256 1024) (x : E2 8192 1024) (nm : E2 1 1024) (t : Fin cfg0.N) : GE (NE (SELE (BitVec.ofNat 32 (grid0.coords t 0).val) p (TT x t))) nm = TL (N0 p x nm) t := by
  rw [tsel]
  rfl

variable (h : KArgs m c x p w nm qt kt) (t : Fin cfg0.N)
include h

theorem b0 : iblk m c 0 t = (TT x t : S256x1024.Idx → EReal) := by
  funext y
  unfold TT
  rw [← h.a0]
  blk_ext [iblk, V, idx t]
  rfl
theorem b1 : iblk m c 1 t = (p : S256x1024.Idx → EReal) := by
  funext y
  rw [← h.a1]
  blk_ext [iblk, V, idx t]
theorem b2 : iblk m c 2 t = (w : S1024x4608.Idx → EReal) := by
  funext y
  rw [← h.a2]
  blk_ext [iblk, V, idx t]
theorem b3 : iblk m c 3 t = (nm : S1x1024.Idx → EReal) := by
  funext y
  rw [← h.a3]
  blk_ext [iblk, V, idx t]
theorem b4 : iblk m c 4 t = (qt : S1x1024.Idx → EReal) := by
  funext y
  rw [← h.a4]
  blk_ext [iblk, V, idx t]
theorem b5 : iblk m c 5 t = (kt : S1x256.Idx → EReal) := by
  funext y
  rw [← h.a5]
  blk_ext [iblk, V, idx t]
omit h in
theorem b6 : iblk m c 6 t = (BE : S256x256.Idx → EReal) := by
  funext y
  rw [← vbd m (c := c)]
  blk_ext [iblk, idx t]

theorem f7 : (dats m 0 c).arrAt 7 (cfgs 0).N = (N0 p x nm : S8448x1024.Idx → EReal) := by
  refine (dats m 0 c).arrAt_eq_of_covers 7 _ (by decide +kernel) fun t hf y => ?_
  blk_simp
  rw [after0_7, b0 m h t, b1 m h t, b2 m h t, b3 m h t, b4 m h t, b5 m h t, b6 m t]
  obtain ⟨r, k, rfl⟩ : ∃ r k, y = ix2 r k := ⟨_, _, eq_ix2 y⟩
  have o : out0_7 (F := Ideal) (grid0.coords t) (TT x t) p w nm qt kt BE = (TL (N0 p x nm) t : S256x1024.Idx → EReal) := by
    unfold out0_7
    frame_out
    simp only [pay3, t0]
  rw [o]
  have e : (win0_7.blk t).view.emb (ix2 r k) = ix2 (rw_ t r) k := by
    blk_ext [idx t] <;> rfl
  rw [e]
  rfl
theorem f8 : (dats m 0 c).arrAt 8 (cfgs 0).N = (ME (N0 p x nm) (WE 0 1024 (by omega) w) : S8448x1024.Idx → EReal) := by
  refine (dats m 0 c).arrAt_eq_of_covers 8 _ (by decide +kernel) fun t hf y => ?_
  blk_simp
  rw [after0_8, b0 m h t, b1 m h t, b2 m h t, b3 m h t, b4 m h t, b5 m h t, b6 m t]
  obtain ⟨r, k, rfl⟩ : ∃ r k, y = ix2 r k := ⟨_, _, eq_ix2 y⟩
  have o : out0_8 (F := Ideal) (grid0.coords t) (TT x t) p w nm qt kt BE = (TL (ME (N0 p x nm) (WE 0 1024 (by omega) w)) t : S256x1024.Idx → EReal) := by
    unfold out0_8
    frame_out
    simp only [lq, pay5, t0]
    rfl
  rw [o]
  have e : (win0_8.blk t).view.emb (ix2 r k) = ix2 (rw_ t r) k := by
    blk_ext [idx t] <;> rfl
  rw [e]
  rfl
theorem f9 : (dats m 0 c).arrAt 9 (cfgs 0).N = (ME (N0 p x nm) (WE 1024 256 (by omega) w) : S8448x256.Idx → EReal) := by
  refine (dats m 0 c).arrAt_eq_of_covers 9 _ (by decide +kernel) fun t hf y => ?_
  blk_simp
  rw [after0_9, b0 m h t, b1 m h t, b2 m h t, b3 m h t, b4 m h t, b5 m h t, b6 m t]
  obtain ⟨r, k, rfl⟩ : ∃ r k, y = ix2 r k := ⟨_, _, eq_ix2 y⟩
  have o : out0_9 (F := Ideal) (grid0.coords t) (TT x t) p w nm qt kt BE = (TL (ME (N0 p x nm) (WE 1024 256 (by omega) w)) t : S256x256.Idx → EReal) := by
    unfold out0_9 k0_pay15
    frame_out
    simp only [lk, pay3, pay12, t0]
    rfl
  rw [o]
  have e : (win0_9.blk t).view.emb (ix2 r k) = ix2 (rw_ t r) k := by
    blk_ext [idx t] <;> rfl
  rw [e]
  rfl
theorem f10 : (dats m 0 c).arrAt 10 (cfgs 0).N = (GE (XE (ME (N0 p x nm) (WE 0 1024 (by omega) w))) qt : S8448x1024.Idx → EReal) := by
  refine (dats m 0 c).arrAt_eq_of_covers 10 _ (by decide +kernel) fun t hf y => ?_
  blk_simp
  rw [after0_10, b0 m h t, b1 m h t, b2 m h t, b3 m h t, b4 m h t, b5 m h t, b6 m t]
  obtain ⟨r, k, rfl⟩ : ∃ r k, y = ix2 r k := ⟨_, _, eq_ix2 y⟩
  have o : out0_10 (F := Ideal) (grid0.coords t) (TT x t) p w nm qt kt BE = (TL (GE (XE (ME (N0 p x nm) (WE 0 1024 (by omega) w))) qt) t : S256x1024.Idx → EReal) := by
    unfold out0_10 k0_pay16
    frame_out
    simp only [lq, pay4, qn, t0]
    rfl
  rw [o]
  have e : (win0_10.blk t).view.emb (ix2 r k) = ix2 (rw_ t r) k := by
    blk_ext [idx t] <;> rfl
  rw [e]
  rfl
theorem f11 : (dats m 0 c).arrAt 11 (cfgs 0).N = (GE (XE (ME (N0 p x nm) (WE 1024 256 (by omega) w))) kt : S8448x256.Idx → EReal) := by
  refine (dats m 0 c).arrAt_eq_of_covers 11 _ (by decide +kernel) fun t hf y => ?_
  blk_simp
  rw [after0_11, b0 m h t, b1 m h t, b2 m h t, b3 m h t, b4 m h t, b5 m h t, b6 m t]
  obtain ⟨r, k, rfl⟩ : ∃ r k, y = ix2 r k := ⟨_, _, eq_ix2 y⟩
  have o : out0_11 (F := Ideal) (grid0.coords t) (TT x t) p w nm qt kt BE = (TL (GE (XE (ME (N0 p x nm) (WE 1024 256 (by omega) w))) kt) t : S256x256.Idx → EReal) := by
    unfold out0_11 k0_pay15 k0_pay16
    frame_out
    simp only [lk, pay4, pay3, pay13, t0]
    rfl
  rw [o]
  have e : (win0_11.blk t).view.emb (ix2 r k) = ix2 (rw_ t r) k := by
    blk_ext [idx t] <;> rfl
  rw [e]
  rfl
theorem f12 : (dats m 0 c).arrAt 12 (cfgs 0).N = (ME (N0 p x nm) (WE 1280 256 (by omega) w) : S8448x256.Idx → EReal) := by
  refine (dats m 0 c).arrAt_eq_of_covers 12 _ (by decide +kernel) fun t hf y => ?_
  blk_simp
  rw [after0_12, b0 m h t, b1 m h t, b2 m h t, b3 m h t, b4 m h t, b5 m h t, b6 m t]
  obtain ⟨r, k, rfl⟩ : ∃ r k, y = ix2 r k := ⟨_, _, eq_ix2 y⟩
  have o : out0_12 (F := Ideal) (grid0.coords t) (TT x t) p w nm qt kt BE = (TL (ME (N0 p x nm) (WE 1280 256 (by omega) w)) t : S256x256.Idx → EReal) := by
    unfold out0_12 k0_pay15
    frame_out
    simp only [lv, pay3, pay14, t0]
    rfl
  rw [o]
  have e : (win0_12.blk t).view.emb (ix2 r k) = ix2 (rw_ t r) k := by
    blk_ext [idx t] <;> rfl
  rw [e]
  rfl
theorem f13 : (dats m 0 c).arrAt 13 (cfgs 0).N = (ME (N0 p x nm) (WE 1536 1024 (by omega) w) : S8448x1024.Idx → EReal) := by
  refine (dats m 0 c).arrAt_eq_of_covers 13 _ (by decide +kernel) fun t hf y => ?_
  blk_simp
  rw [after0_13, b0 m h t, b1 m h t, b2 m h t, b3 m h t, b4 m h t, b5 m h t, b6 m t]
  obtain ⟨r, k, rfl⟩ : ∃ r k, y = ix2 r k := ⟨_, _, eq_ix2 y⟩
  have o : out0_13 (F := Ideal) (grid0.coords t) (TT x t) p w nm qt kt BE = (TL (ME (N0 p x nm) (WE 1536 1024 (by omega) w)) t : S256x1024.Idx → EReal) := by
    unfold out0_13 k0_pay15
    frame_out
    simp only [lu, pay3, pay1, t0]
    rfl
  rw [o]
  have e : (win0_13.blk t).view.emb (ix2 r k) = ix2 (rw_ t r) k := by
    blk_ext [idx t] <;> rfl
  rw [e]
  rfl
theorem f14 : (dats m 0 c).arrAt 14 (cfgs 0).N = (ME (N0 p x nm) (WE 2560 2048 (by omega) w) : S8448x2048.Idx → EReal) := by
  refine (dats m 0 c).arrAt_eq_of_covers 14 _ (by decide +kernel) fun t hf y => ?_
  blk_simp
  rw [after0_14, b0 m h t, b1 m h t, b2 m h t, b3 m h t, b4 m h t, b5 m h t, b6 m t]
  obtain ⟨r, k, rfl⟩ : ∃ r k, y = ix2 r k := ⟨_, _, eq_ix2 y⟩
  have o : out0_14 (F := Ideal) (grid0.coords t) (TT x t) p w nm qt kt BE = (TL (ME (N0 p x nm) (WE 2560 2048 (by omega) w)) t : S256x2048.Idx → EReal) := by
    unfold out0_14 k0_pay15
    frame_out
    simp only [lg, pay3, pay2, t0]
    rfl
  rw [o]
  have e : (win0_14.blk t).view.emb (ix2 r k) = ix2 (rw_ t r) k := by
    blk_ext [idx t] <;> rfl
  rw [e]
  rfl

end Cert.Proj

end
-- ==== Proof.PrR.lean ====
/- The input projections as the reference computes them. -/
module

public import proofs.«01_k».proof.Proof.Gen.Reference9Ideal.Run
public import proofs.«01_k».proof.Proof.Rows

@[expose] public section

set_option maxRecDepth 16384

noncomputable section

namespace Cert.Proj

open Idealize.ShloMosaic Idealize.ShloMosaic.TcCoe Cert.Rows Cert.Reference9Ideal Cert.Reference9Ideal.Gen Cert.Reference9Ideal.Value
open Cert.InP (hc col hc_col exists_col)

theorem r0 (p : S256x1024.Idx → EReal) (x : S8192x1024.Idx → EReal) : (concatenate S8448x1024 0 [⟨S256x1024, (p : FVec Ideal S256x1024 .f32)⟩, ⟨S8192x1024, (x : FVec Ideal S8192x1024 .f32)⟩] concatenates_S256x1024_S8192x1024_S8448x1024_d0 : FVec Ideal S8448x1024 .f32)
    = (HHE p x : S8448x1024.Idx → EReal) := by
  funext j
  obtain ⟨r, k, rfl⟩ : ∃ r k, j = ix2 r k := ⟨_, _, eq_ix2 j⟩
  pointwise
  rfl
theorem r1 (h : S8448x1024.Idx → EReal) (g : S1x1024.Idx → EReal) : (mulf (mulf (h : FVec Ideal S8448x1024 .f32) (broadcastInDim S8448x1024 ![0, 1] bcast_S8448x1_S8448x1024_0_1 (Host.rsqrt (addf (Host.divf (broadcastInDim S8448x1 ![0] bcast_S8448_S8448x1_0 (Host.reduceAdd (mulf (h : FVec Ideal S8448x1024 .f32) (h : FVec Ideal S8448x1024 .f32)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (g : FVec Ideal S1x1024 .f32)) : FVec Ideal S8448x1024 .f32)
    = (GE (NE h) g : S8448x1024.Idx → EReal) := by
  funext j
  obtain ⟨r, k, rfl⟩ : ∃ r k, j = ix2 r k := ⟨_, _, eq_ix2 j⟩
  pointwise
  rfl
theorem r2 (y : S8448x1024.Idx → EReal) (w : S1024x4608.Idx → EReal) : (Host.dotGeneral (φ₁ := .f32) (φ₂ := .f32) dot_S8448x1024_S1024x4608_S8448x4608_1_0_0_1_n_n none (y : FVec Ideal S8448x1024 .f32) (extf .f32 (w : FVec Ideal S1024x4608 .bf16) bitsLt_bf16_f32) : FVec Ideal S8448x4608 .f32)
    = (ME y w : S8448x4608.Idx → EReal) := by
  funext j
  pointwise
  rfl
theorem sq (x : S8448x4608.Idx → EReal) : (extractStridedSlice S8448x1024 ![0, 0] (x : FVec Ideal S8448x4608 .f32) slices_S8448x4608_S8448x1024_0_0 : FVec Ideal S8448x1024 .f32) = (WE 0 1024 (by omega) x : S8448x1024.Idx → EReal) := by
  funext j
  obtain ⟨r, k, rfl⟩ : ∃ r k, j = ix2 r k := ⟨_, _, eq_ix2 j⟩
  pointwise
  refine congrArg x (congrArg (ix2 r) (Fin.ext ?_))
  simp
theorem sk (x : S8448x4608.Idx → EReal) : (extractStridedSlice S8448x256 ![0, 1024] (x : FVec Ideal S8448x4608 .f32) slices_S8448x4608_S8448x256_0_1024 : FVec Ideal S8448x256 .f32) = (WE 1024 256 (by omega) x : S8448x256.Idx → EReal) := by
  funext j
  obtain ⟨r, k, rfl⟩ : ∃ r k, j = ix2 r k := ⟨_, _, eq_ix2 j⟩
  pointwise
  rfl
theorem sv (x : S8448x4608.Idx → EReal) : (extractStridedSlice S8448x256 ![0, 1280] (x : FVec Ideal S8448x4608 .f32) slices_S8448x4608_S8448x256_0_1280 : FVec Ideal S8448x256 .f32) = (WE 1280 256 (by omega) x : S8448x256.Idx → EReal) := by
  funext j
  obtain ⟨r, k, rfl⟩ : ∃ r k, j = ix2 r k := ⟨_, _, eq_ix2 j⟩
  pointwise
  rfl
theorem su (x : S8448x4608.Idx → EReal) : (extractStridedSlice S8448x1024 ![0, 1536] (x : FVec Ideal S8448x4608 .f32) slices_S8448x4608_S8448x1024_0_1536 : FVec Ideal S8448x1024 .f32) = (WE 1536 1024 (by omega) x : S8448x1024.Idx → EReal) := by
  funext j
  obtain ⟨r, k, rfl⟩ : ∃ r k, j = ix2 r k := ⟨_, _, eq_ix2 j⟩
  pointwise
  rfl
theorem sg (x : S8448x4608.Idx → EReal) : (extractStridedSlice S8448x2048 ![0, 2560] (x : FVec Ideal S8448x4608 .f32) slices_S8448x4608_S8448x2048_0_2560 : FVec Ideal S8448x2048 .f32) = (WE 2560 2048 (by omega) x : S8448x2048.Idx → EReal) := by
  funext j
  obtain ⟨r, k, rfl⟩ : ∃ r k, j = ix2 r k := ⟨_, _, eq_ix2 j⟩
  pointwise
  rfl
abbrev hb16 : 1024 = 16 * 64 := rfl
/-- The 16 heads normalised and times their gains. -/
theorem h16 (z : S8448x1024.Idx → EReal) (g : S1x1024.Idx → EReal) : (shapeCast S8448x1024 (mulf (mulf (shapeCast S8448x16x64 (z : FVec Ideal S8448x1024 .f32) shapeCasts_S8448x1024_S8448x16x64) (broadcastInDim S8448x16x64 ![0, 1, 2] bcast_S8448x16x1_S8448x16x64_0_1_2 (Host.rsqrt (addf (Host.divf (broadcastInDim S8448x16x1 ![0, 1] bcast_S8448x16_S8448x16x1_0_1 (Host.reduceAdd (mulf (shapeCast S8448x16x64 (z : FVec Ideal S8448x1024 .f32) shapeCasts_S8448x1024_S8448x16x64) (shapeCast S8448x16x64 (z : FVec Ideal S8448x1024 .f32) shapeCasts_S8448x1024_S8448x16x64)) (constant S_ .f32 0x00000000#32) reducesTo_S8448x16x64_S8448x16_d2 h_S_)) (broadcastInDim S8448x16x1 ![] bcast_S_S8448x16x1 (constant S_ .f32 0x42800000#32))) (broadcastInDim S8448x16x1 ![] bcast_S_S8448x16x1 (constant S_ .f32 0x358637BD#32)))))) (broadcastInDim S8448x16x64 ![0, 1, 2] bcast_S1x16x64_S8448x16x64_0_1_2 (broadcastInDim S1x16x64 ![1, 2] bcast_S16x64_S1x16x64_1_2 (shapeCast S16x64 (g : FVec Ideal S1x1024 .f32) shapeCasts_S1x1024_S16x64)))) shapeCasts_S8448x16x64_S8448x1024 : FVec Ideal S8448x1024 .f32)
    = (GE (XE z) g : S8448x1024.Idx → EReal) := by
  rw [sc23 hb16 z, sg1 hb16 g]
  refine Eq.trans (congrArg (fun v : FVec Ideal S8448x16x64 .f32 => shapeCast S8448x1024 v shapeCasts_S8448x16x64_S8448x1024) (?_ : _ = (R3E hb16 (GE (XE z) g) : S8448x16x64.Idx → EReal))) (sc32 hb16 _ _)
  funext j
  obtain ⟨r, p, s, rfl⟩ : ∃ r p s, j = ix3 r p s := ⟨_, _, _, eq_ix3 j⟩
  pointwise
  rw [div_64]
  refine congrArg (fun v => z (ix2 r (col hb16 p s)) * re v * g (ix2 0 (col hb16 p s))) ?_
  exact (HE_col hb16 (PE z z) r p s).symm
abbrev hb4 : 256 = 4 * 64 := rfl
/-- The 4 heads normalised and times their gains. -/
theorem h4 (z : S8448x256.Idx → EReal) (g : S1x256.Idx → EReal) : (shapeCast S8448x256 (mulf (mulf (shapeCast S8448x4x64 (z : FVec Ideal S8448x256 .f32) shapeCasts_S8448x256_S8448x4x64) (broadcastInDim S8448x4x64 ![0, 1, 2] bcast_S8448x4x1_S8448x4x64_0_1_2 (Host.rsqrt (addf (Host.divf (broadcastInDim S8448x4x1 ![0, 1] bcast_S8448x4_S8448x4x1_0_1 (Host.reduceAdd (mulf (shapeCast S8448x4x64 (z : FVec Ideal S8448x256 .f32) shapeCasts_S8448x256_S8448x4x64) (shapeCast S8448x4x64 (z : FVec Ideal S8448x256 .f32) shapeCasts_S8448x256_S8448x4x64)) (constant S_ .f32 0x00000000#32) reducesTo_S8448x4x64_S8448x4_d2 h_S_)) (broadcastInDim S8448x4x1 ![] bcast_S_S8448x4x1 (constant S_ .f32 0x42800000#32))) (broadcastInDim S8448x4x1 ![] bcast_S_S8448x4x1 (constant S_ .f32 0x358637BD#32)))))) (broadcastInDim S8448x4x64 ![0, 1, 2] bcast_S1x4x64_S8448x4x64_0_1_2 (broadcastInDim S1x4x64 ![1, 2] bcast_S4x64_S1x4x64_1_2 (shapeCast S4x64 (g : FVec Ideal S1x256 .f32) shapeCasts_S1x256_S4x64)))) shapeCasts_S8448x4x64_S8448x256 : FVec Ideal S8448x256 .f32)
    = (GE (XE z) g : S8448x256.Idx → EReal) := by
  rw [sc23 hb4 z, sg1 hb4 g]
  refine Eq.trans (congrArg (fun v : FVec Ideal S8448x4x64 .f32 => shapeCast S8448x256 v shapeCasts_S8448x4x64_S8448x256) (?_ : _ = (R3E hb4 (GE (XE z) g) : S8448x4x64.Idx → EReal))) (sc32 hb4 _ _)
  funext j
  obtain ⟨r, p, s, rfl⟩ : ∃ r p s, j = ix3 r p s := ⟨_, _, _, eq_ix3 j⟩
  pointwise
  rw [div_64]
  refine congrArg (fun v => z (ix2 r (col hb4 p s)) * re v * g (ix2 0 (col hb4 p s))) ?_
  exact (HE_col hb4 (PE z z) r p s).symm

end Cert.Proj

end
-- ==== Proof.PrMain.lean ====
/- The input projections' kernel computes the reference's arrays. -/
module

public import proofs.«01_k».proof.Defs
public import proofs.«01_k».proof.Proof.Gen.Kernel9.Frame
public import proofs.«01_k».proof.Proof.PrF
public import proofs.«01_k».proof.Proof.PrR
public import Idealize.ShloMosaic.PureOps.IdealRules

@[expose] public section

set_option maxRecDepth 16384

noncomputable section

namespace Cert.Proj

open Idealize.ShloMosaic Idealize.ShloMosaic.TcCoe Idealize.SL.Sem Cert.Rows

section
open Cert.Reference9Ideal Cert.Reference9Ideal.Gen Cert.Reference9Ideal.Value
variable (m : (ℓ : Loc nD τ sig) → Buf (Elt Ideal) ℓ) {c : Dev nD} {x : E2 8192 1024} {p : E2 256 1024} {w : E2 1024 4608} {nm qt : E2 1 1024} {kt : E2 1 256}
  (e0 : m ((c.tc : Thread nD τ).loc main_arg0) = x) (e1 : m ((c.tc : Thread nD τ).loc main_arg1) = p) (e2 : m ((c.tc : Thread nD τ).loc main_arg2) = w)
  (e3 : m ((c.tc : Thread nD τ).loc main_arg3) = nm)
include e0 e1 e2 e3
theorem rq (hq : m ((c.tc : Thread nD τ).loc main_arg4) = qt) : res_main_v55 m c = (GE (XE (ME (N0 p x nm) (WE 0 1024 (by omega) w))) qt : S8448x1024.Idx → EReal) := by
  unfold res_main_v55
  rw [e0, e1, e2, e3, hq, r0 p x, r1 _ nm, r2 _ w, sq]
  exact h16 _ qt
theorem rk (hk : m ((c.tc : Thread nD τ).loc main_arg5) = kt) : res_main_v56 m c = (GE (XE (ME (N0 p x nm) (WE 1024 256 (by omega) w))) kt : S8448x256.Idx → EReal) := by
  unfold res_main_v56
  rw [e0, e1, e2, e3, hk, r0 p x, r1 _ nm, r2 _ w, sk]
  exact h4 _ kt
end

set_option maxHeartbeats 4000000 in
theorem algebraic : Cert.algebraic_Kernel9Ideal_Reference9Ideal (hKernel9Ideal := Cert.Kernel9Ideal.Gen.facts)
    (hReference9Ideal := Cert.Reference9Ideal.Gen.facts) := by
  intro m g m' g' _ e
  have hK : ∀ c, KArgs m c _ _ _ _ _ _ := fun c => ⟨rfl, rfl, rfl, rfl, rfl, rfl⟩
  refine ⟨_, _, _, _, _, _, _, _, Cert.Kernel9Ideal.Value.run_blocks m g, ?_⟩
  refine (θ_run Cert.Reference9Ideal.defs _ _).mono (fun r h c => ?_) (Cert.Reference9Ideal.Value.run m' g')
  obtain ⟨o0, o1, o2, o3, o4, o5, o6, o7, k⟩ := h c
  obtain ⟨a0, a1, a2, a3, a4, a5⟩ := e c
  refine ⟨o0.trans ?_, o1.trans ?_, o2.trans ?_, o3.trans ?_, o4.trans ?_, o5.trans ?_, o6.trans ?_, o7.trans ?_, k⟩
  · rw [a0, a1, a3, r0, r1]
    exact (f7 m (hK c)).symm
  · rw [a0, a1, a2, a3, r0, r1, r2, sq]
    exact (f8 m (hK c)).symm
  · rw [a0, a1, a2, a3, r0, r1, r2, sk]
    exact (f9 m (hK c)).symm
  · exact (rq m' a0 a1 a2 a3 a4).trans (f10 m (hK c)).symm
  · exact (rk m' a0 a1 a2 a3 a5).trans (f11 m (hK c)).symm
  · rw [a0, a1, a2, a3, r0, r1, r2, sv]
    exact (f12 m (hK c)).symm
  · rw [a0, a1, a2, a3, r0, r1, r2, su]
    exact (f13 m (hK c)).symm
  · rw [a0, a1, a2, a3, r0, r1, r2, sg]
    exact (f14 m (hK c)).symm

/-- The reference's run changes no argument and leaves every counter at zero. -/
theorem frame_r : Cert.quiescent_Reference9Ideal (hReference9Ideal := Cert.Reference9Ideal.Gen.facts) := fun m ρ _ =>
  (θ_run Cert.Reference9Ideal.defs _ _).mono (fun r h => ⟨fun c => (h c).2.2.2.2.2.2.2.2, sem_eq_zero_of_no_sems (by decide) r.2⟩)
    (Cert.Reference9Ideal.Value.run m ρ)

end Cert.Proj

end
-- ==== Proof.MgK.lean ====
/- The blocks the merge's forward kernel writes. -/
module

public import proofs.«01_k».proof.Proof.Gen.Kernel10Ideal.Skeleton
public import proofs.«01_k».proof.Proof.Rows
public import Idealize.ShloMosaic.PureOps.IdealRules

@[expose] public section

set_option maxRecDepth 16384

noncomputable section

namespace Cert.Merge

open Idealize.ShloMosaic Cert.Rows Cert.Reals Cert.Kernel10Ideal Cert.Kernel10Ideal.Gen

/-! ## The gates -/

/-- The logistic function. -/
def sge (z : EReal) : EReal := Ideal.div 1 (1 + Ideal.exp (-z))
theorem half_sum : ((1 / 2 : ℝ) : EReal) + ((1 / 2 : ℝ) : EReal) = 1 := by
  rw [← EReal.coe_add]; norm_num
theorem sge_eq (z : EReal) : Ideal.ofBits .f32 1056964608#32 * Ideal.tanh (Ideal.ofBits .f32 1056964608#32 * z) + Ideal.ofBits .f32 1056964608#32 = sge z := by
  rw [lit_half]
  induction z with
  | bot =>
    rw [EReal.coe_mul_bot_of_pos (by norm_num), Ideal.tanh_bot, sge, EReal.neg_bot, Ideal.exp_top]
    have e : (1 : EReal) + ⊤ = ⊤ := EReal.add_top_of_ne_bot (EReal.coe_ne_bot 1)
    rw [e, Ideal.div, if_neg (by simp), EReal.inv_top, mul_zero, mul_neg, mul_one, ← EReal.coe_neg, ← EReal.coe_add]
    norm_num
  | top =>
    rw [EReal.coe_mul_top_of_pos (by norm_num), Ideal.tanh_top, sge, EReal.neg_top, Ideal.exp_bot, mul_one, half_sum, add_zero]
    have e : Ideal.div (1 : EReal) ((1 : ℝ) : EReal) = 1 := by
      rw [Ideal.div_coe (by norm_num)]; norm_num
    exact e.symm
  | coe r =>
    rw [coe_mul, Ideal.tanh_coe, coe_mul, coe_add, sg_eq_tanh]
    exact (coe_logistic r).symm

/-- The third power's factor. -/
theorem cubic : Named.named (F := Ideal) κ "cubic" (φ := .f32) 0x3D372713#32 = ((8943 / 200000 : ℝ) : EReal) :=
  IdealRules.named_const.ideal_named_scalar _ _ _ _ rfl

section
variable {a b : ℕ}
/-- The smooth rectifier. -/
def LE (y : E2 a b) : E2 a b := fun j => Ideal.ofBits .f32 1056964608#32 * y j * (1 + Ideal.tanh (Ideal.ofBits .f32 0x3F4C422A#32 * (y j + ((8943 / 200000 : ℝ) : EReal) * y j * y j * y j)))
def AE (x y : E2 a b) : E2 a b := fun j => x j + y j
/-- The first half of the columns times the logistic function of the second half. -/
def SE (x : E2 a 2048) : E2 a 1024 := fun j => WE 0 1024 (by omega) x j * sge (WE 1024 1024 (by omega) x j)
/-- The two branches' norms, each under its gate. -/
def BM (x s : E2 a 1024) (g : E2 a 2048) (gx gs : E2 1 1024) : E2 a 1024 := fun j =>
  sge (WE 0 1024 (by omega) g j) * GE (NE x) gx j + sge (WE 1024 1024 (by omega) g j) * GE (NE s) gs j
end

variable (y x : S256x1024.Idx → EReal) (w : S1024x2048.Idx → EReal) (g : S256x2048.Idx → EReal) (gx gs : S1x1024.Idx → EReal)

theorem pay2 : k0_pay2 (F := Ideal) y = LE y := by
  funext j
  pointwise [k0_pay2]
  rw [cubic]
  rfl
theorem pay3 : k0_pay3 (F := Ideal) y w = ME (LE y) w := by
  rw [k0_pay3, pay2]
  funext j
  pointwise
  rfl
theorem pay4 : k0_pay4 (F := Ideal) y w = ME (LE y) w := by
  rw [k0_pay4, pay3]
  rfl
theorem pay5 : k0_pay5 (F := Ideal) y w = WE 0 1024 (by omega) (ME (LE y) w) := by
  rw [k0_pay5, pay3]
  funext j
  pointwise
  refine congrArg (ME (LE y) w) (congrArg (ix2 (j 0)) (Fin.ext ?_))
  simp
theorem pay6 : k0_pay6 (F := Ideal) y w = fun j => sge (WE 1024 1024 (by omega) (ME (LE y) w) j) := by
  rw [k0_pay6, pay3]
  funext j
  pointwise
  exact sge_eq _
theorem pay7 (u v : S256x1024.Idx → EReal) : k0_pay7 (F := Ideal) x g gx gs u v = BM x (PE u v) g gx gs := by
  funext j
  pointwise [k0_pay7]
  rw [sge_eq, sge_eq]
  have e : (⟨0 + (j 1).val, by have : (j 1).val < 1024 := (j 1).isLt; omega⟩ : Fin 2048) = ⟨(j 1).val, by have : (j 1).val < 1024 := (j 1).isLt; omega⟩ := Fin.ext (Nat.zero_add _)
  unfold BM WE
  rw [e]
  rfl
/-- The two branches merged. -/
theorem mg : k0_pay7 (F := Ideal) x g gx gs (k0_pay5 (F := Ideal) y w) (k0_pay6 (F := Ideal) y w) = BM x (SE (ME (LE y) w)) g gx gs := by
  rw [pay5, pay6, pay7]
  rfl
theorem sel (i : BitVec 32) (p x : S256x1024.Idx → EReal) : (Scalar.select (Scalar.cmpi .eq i 0#32) (p : Vec Ideal S256x1024 .f32) (x : Vec Ideal S256x1024 .f32) : Vec Ideal S256x1024 .f32)
    = (SELE i p x : S256x1024.Idx → EReal) := by
  unfold SELE
  split_ifs with h
  · simp [Scalar.select, Scalar.cmpi, IntOp.cmpi, h]
  · have e : (i == 0#32) = false := by simp [h]
    simp [Scalar.select, Scalar.cmpi, IntOp.cmpi, e]
theorem pay1 (i : BitVec 32) (b p x : S256x1024.Idx → EReal) (w : S1024x1024.Idx → EReal) : k0_pay1 (F := Ideal) i b p x w = AE (SELE i p x) (ME b w) := by
  unfold k0_pay1
  dsimp only
  rw [sel]
  funext j
  pointwise
  rfl

end Cert.Merge

end
-- ==== Proof.MgF.lean ====
/- The merge's forward kernel's blocks and the arrays it leaves. -/
module

public import proofs.«01_k».proof.Proof.Gen.Kernel10Ideal.Value
public import proofs.«01_k».proof.Proof.MgK
public import Idealize.ShloMosaic.Lib.StableHlo.ReadAt

@[expose] public section

set_option maxRecDepth 16384

noncomputable section

namespace Cert.Merge

open Cert.Kernel10Ideal Cert.Kernel10Ideal.Gen Idealize.ShloMosaic Idealize.ShloMosaic.TcCoe Idealize.SL.Sem Cert.Rows
open Idealize.ShloMosaic.Pipeline (Dat)

theorem idx : ∀ t : Fin cfg0.N, win0_0.index t = ![t.val, 0] ∧ win0_1.index t = ![t.val, 0] ∧ win0_2.index t = ![t.val, 0]
    ∧ win0_3.index t = ![t.val - 1, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)
theorem first : ∀ t : Fin cfg0.N, (BitVec.ofNat 32 (grid0.coords t 0).val) = 0#32 ↔ t.val = 0 := (by decide +kernel : ∀ t : Fin grid0.N, _)

/-- Row `r` of block `t`, as a row of the arrays. -/
def rw_ (t : Fin cfg0.N) (r : Fin 256) : Fin 8448 := ⟨t.val * 256 + r.val, by have := lt_of_lt_of_eq t.isLt N_0; omega⟩
/-- Row `r` of block `t`, as a row of the inputs: the first block's repeated once. -/
def rt_ (t : Fin cfg0.N) (r : Fin 256) : Fin 8192 := ⟨(t.val - 1) * 256 + r.val, by have := lt_of_lt_of_eq t.isLt N_0; omega⟩

variable (m : (ℓ : Loc nD τ sig) → Buf (Elt Ideal) ℓ)
variable {c : Dev nD} {y a : E2 8448 1024} {g : E2 8448 2048} {x : E2 8192 1024} {p : E2 256 1024} {wg : E2 1024 2048} {wo : E2 1024 1024} {gx gs : E2 1 1024}

/-- The arguments. -/
structure KArgs (m : (ℓ : Loc nD τ sig) → Buf (Elt Ideal) ℓ) (c : Dev nD) (y a : E2 8448 1024) (g : E2 8448 2048) (x : E2 8192 1024) (p : E2 256 1024)
    (wg : E2 1024 2048) (wo : E2 1024 1024) (gx gs : E2 1 1024) : Prop where
  a0 : m ((c : Thread nD τ).loc main_arg0) = y
  a1 : m ((c : Thread nD τ).loc main_arg1) = a
  a2 : m ((c : Thread nD τ).loc main_arg2) = g
  a3 : m ((c : Thread nD τ).loc main_arg3) = x
  a4 : m ((c : Thread nD τ).loc main_arg4) = p
  a5 : m ((c : Thread nD τ).loc main_arg5) = wg
  a6 : m ((c : Thread nD τ).loc main_arg6) = wo
  a7 : m ((c : Thread nD τ).loc main_arg7) = gx
  a8 : m ((c : Thread nD τ).loc main_arg8) = gs

def TL {b : ℕ} (x : E2 8448 b) (t : Fin cfg0.N) : E2 256 b := fun j => x (ix2 (rw_ t (j 0)) (j 1))
def TT (x : E2 8192 1024) (t : Fin cfg0.N) : E2 256 1024 := fun j => x (ix2 (rt_ t (j 0)) (j 1))

theorem tsel (p : E2 256 1024) (x : E2 8192 1024) (t : Fin cfg0.N) : SELE (BitVec.ofNat 32 (grid0.coords t 0).val) p (TT x t) = TL (HHE p x) t := by
  funext j
  have hj : (j 0).val < 256 := (j 0).isLt
  unfold SELE
  by_cases ht : t.val = 0
  · rw [if_pos ((first t).2 ht)]
    have hc : t.val * 256 + (j 0).val < 256 := by omega
    refine Eq.trans ?_ (dif_pos hc).symm
    refine congrArg p ((eq_ix2 j).trans (congrArg (ix2 · (j 1)) (Fin.ext ?_)))
    show (j 0).val = t.val * 256 + (j 0).val
    omega
  · rw [if_neg (fun hh => ht ((first t).1 hh))]
    have hc : ¬ t.val * 256 + (j 0).val < 256 := by omega
    refine Eq.trans ?_ (dif_neg hc).symm
    refine congrArg x (congrArg (ix2 · (j 1)) (Fin.ext ?_))
    show (t.val - 1) * 256 + (j 0).val = t.val * 256 + (j 0).val - 256
    omega

/-- The merged branches. -/
def M0 (y a : E2 8448 1024) (g : E2 8448 2048) (wg : E2 1024 2048) (gx gs : E2 1 1024) : E2 8448 1024 := BM a (SE (ME (LE y) wg)) g gx gs
theorem t0 (y a : E2 8448 1024) (g : E2 8448 2048) (wg : E2 1024 2048) (gx gs : E2 1 1024) (t : Fin cfg0.N) :
    BM (TL a t) (SE (ME (LE (TL y t)) wg)) (TL g t) gx gs = TL (M0 y a g wg gx gs) t := rfl

variable (h : KArgs m c y a g x p wg wo gx gs) (t : Fin cfg0.N)
include h

theorem b0 : iblk m c 0 t = (TL y t : S256x1024.Idx → EReal) := by
  funext i
  unfold TL
  rw [← h.a0]
  blk_ext [iblk, V, idx t]
  rfl
theorem b1 : iblk m c 1 t = (TL a t : S256x1024.Idx → EReal) := by
  funext i
  unfold TL
  rw [← h.a1]
  blk_ext [iblk, V, idx t]
  rfl
theorem b2 : iblk m c 2 t = (TL g t : S256x2048.Idx → EReal) := by
  funext i
  unfold TL
  rw [← h.a2]
  blk_ext [iblk, V, idx t]
  rfl
theorem b3 : iblk m c 3 t = (TT x t : S256x1024.Idx → EReal) := by
  funext i
  unfold TT
  rw [← h.a3]
  blk_ext [iblk, V, idx t]
  rfl
theorem b4 : iblk m c 4 t = (p : S256x1024.Idx → EReal) := by
  funext i
  rw [← h.a4]
  blk_ext [iblk, V, idx t]
theorem b5 : iblk m c 5 t = (wg : S1024x2048.Idx → EReal) := by
  funext i
  rw [← h.a5]
  blk_ext [iblk, V, idx t]
theorem b6 : iblk m c 6 t = (wo : S1024x1024.Idx → EReal) := by
  funext i
  rw [← h.a6]
  blk_ext [iblk, V, idx t]
theorem b7 : iblk m c 7 t = (gx : S1x1024.Idx → EReal) := by
  funext i
  rw [← h.a7]
  blk_ext [iblk, V, idx t]
theorem b8 : iblk m c 8 t = (gs : S1x1024.Idx → EReal) := by
  funext i
  rw [← h.a8]
  blk_ext [iblk, V, idx t]
theorem f9 : (dats m 0 c).arrAt 9 (cfgs 0).N = (LE y : S8448x1024.Idx → EReal) := by
  refine (dats m 0 c).arrAt_eq_of_covers 9 _ (by decide +kernel) fun t hf i => ?_
  blk_simp
  rw [after0_9, b0 m h t, b1 m h t, b2 m h t, b3 m h t, b4 m h t, b5 m h t, b6 m h t, b7 m h t, b8 m h t]
  obtain ⟨r, k, rfl⟩ : ∃ r k, i = ix2 r k := ⟨_, _, eq_ix2 i⟩
  have o : out0_9 (F := Ideal) (grid0.coords t) (TL y t) (TL a t) (TL g t) (TT x t) p wg wo gx gs = (TL (LE y) t : S256x1024.Idx → EReal) := by
    unfold out0_9
    frame_out
    simp only [pay2]
    rfl
  rw [o]
  have e : (win0_9.blk t).view.emb (ix2 r k) = ix2 (rw_ t r) k := by
    blk_ext [idx t] <;> rfl
  rw [e]
  rfl
theorem f10 : (dats m 0 c).arrAt 10 (cfgs 0).N = (ME (LE y) wg : S8448x2048.Idx → EReal) := by
  refine (dats m 0 c).arrAt_eq_of_covers 10 _ (by decide +kernel) fun t hf i => ?_
  blk_simp
  rw [after0_10, b0 m h t, b1 m h t, b2 m h t, b3 m h t, b4 m h t, b5 m h t, b6 m h t, b7 m h t, b8 m h t]
  obtain ⟨r, k, rfl⟩ : ∃ r k, i = ix2 r k := ⟨_, _, eq_ix2 i⟩
  have o : out0_10 (F := Ideal) (grid0.coords t) (TL y t) (TL a t) (TL g t) (TT x t) p wg wo gx gs = (TL (ME (LE y) wg) t : S256x2048.Idx → EReal) := by
    unfold out0_10
    frame_out
    simp only [pay4]
    rfl
  rw [o]
  have e : (win0_10.blk t).view.emb (ix2 r k) = ix2 (rw_ t r) k := by
    blk_ext [idx t] <;> rfl
  rw [e]
  rfl
theorem f11 : (dats m 0 c).arrAt 11 (cfgs 0).N = (M0 y a g wg gx gs : S8448x1024.Idx → EReal) := by
  refine (dats m 0 c).arrAt_eq_of_covers 11 _ (by decide +kernel) fun t hf i => ?_
  blk_simp
  rw [after0_11, b0 m h t, b1 m h t, b2 m h t, b3 m h t, b4 m h t, b5 m h t, b6 m h t, b7 m h t, b8 m h t]
  obtain ⟨r, k, rfl⟩ : ∃ r k, i = ix2 r k := ⟨_, _, eq_ix2 i⟩
  have o : out0_11 (F := Ideal) (grid0.coords t) (TL y t) (TL a t) (TL g t) (TT x t) p wg wo gx gs = (TL (M0 y a g wg gx gs) t : S256x1024.Idx → EReal) := by
    unfold out0_11 k0_pay8
    frame_out
    simp only [mg, t0]
  rw [o]
  have e : (win0_11.blk t).view.emb (ix2 r k) = ix2 (rw_ t r) k := by
    blk_ext [idx t] <;> rfl
  rw [e]
  rfl
theorem f12 : (dats m 0 c).arrAt 12 (cfgs 0).N = (AE (HHE p x) (ME (M0 y a g wg gx gs) wo) : S8448x1024.Idx → EReal) := by
  refine (dats m 0 c).arrAt_eq_of_covers 12 _ (by decide +kernel) fun t hf i => ?_
  blk_simp
  rw [after0_12, b0 m h t, b1 m h t, b2 m h t, b3 m h t, b4 m h t, b5 m h t, b6 m h t, b7 m h t, b8 m h t]
  obtain ⟨r, k, rfl⟩ : ∃ r k, i = ix2 r k := ⟨_, _, eq_ix2 i⟩
  have o : out0_12 (F := Ideal) (grid0.coords t) (TL y t) (TL a t) (TL g t) (TT x t) p wg wo gx gs = (TL (AE (HHE p x) (ME (M0 y a g wg gx gs) wo)) t : S256x1024.Idx → EReal) := by
    unfold out0_12 k0_pay8
    frame_out
    simp only [mg, t0, pay1, tsel]
    rfl
  rw [o]
  have e : (win0_12.blk t).view.emb (ix2 r k) = ix2 (rw_ t r) k := by
    blk_ext [idx t] <;> rfl
  rw [e]
  rfl

end Cert.Merge

end
-- ==== Proof.MgR.lean ====
/- The merge's forward pass as the reference computes it. -/
module

public import proofs.«01_k».proof.Proof.Gen.Reference10Ideal.Run
public import proofs.«01_k».proof.Proof.MgK

@[expose] public section

set_option maxRecDepth 16384

noncomputable section

namespace Cert.Merge

open Idealize.ShloMosaic Idealize.ShloMosaic.TcCoe Cert.Rows Cert.Reals Cert.Reference10Ideal Cert.Reference10Ideal.Gen Cert.Reference10Ideal.Value

theorem third (y : EReal) : Ideal.div (y * y * y * Ideal.ofBits .f32 0x472EAB00#32) (Ideal.ofBits .f32 0x49742400#32) = ((8943 / 200000 : ℝ) : EReal) * y * y * y := by
  have e : ((8943 / 200000 : ℝ) : EReal) = ((44715 : ℝ) : EReal) * ((1 / 1000000 : ℝ) : EReal) := by
    rw [← EReal.coe_mul]; norm_num
  rw [lit_44715, lit_million, Ideal.div_coe (by norm_num), e]
  generalize ((44715 : ℝ) : EReal) = u
  generalize ((1 / 1000000 : ℝ) : EReal) = v
  ac_rfl
theorem r0 (p : S256x1024.Idx → EReal) (x : S8192x1024.Idx → EReal) : (concatenate S8448x1024 0 [⟨S256x1024, (p : FVec Ideal S256x1024 .f32)⟩, ⟨S8192x1024, (x : FVec Ideal S8192x1024 .f32)⟩] concatenates_S256x1024_S8192x1024_S8448x1024_d0 : FVec Ideal S8448x1024 .f32)
    = (HHE p x : S8448x1024.Idx → EReal) := by
  funext j
  obtain ⟨r, k, rfl⟩ : ∃ r k, j = ix2 r k := ⟨_, _, eq_ix2 j⟩
  pointwise
  rfl
theorem r1 (h : S8448x1024.Idx → EReal) (g : S1x1024.Idx → EReal) : (mulf (mulf (h : FVec Ideal S8448x1024 .f32) (broadcastInDim S8448x1024 ![0, 1] bcast_S8448x1_S8448x1024_0_1 (Host.rsqrt (addf (Host.divf (broadcastInDim S8448x1 ![0] bcast_S8448_S8448x1_0 (Host.reduceAdd (mulf (h : FVec Ideal S8448x1024 .f32) (h : FVec Ideal S8448x1024 .f32)) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (g : FVec Ideal S1x1024 .f32)) : FVec Ideal S8448x1024 .f32)
    = (GE (NE h) g : S8448x1024.Idx → EReal) := by
  funext j
  obtain ⟨r, k, rfl⟩ : ∃ r k, j = ix2 r k := ⟨_, _, eq_ix2 j⟩
  pointwise
  rfl
theorem r2 (y : S8448x1024.Idx → EReal) (w : S1024x2048.Idx → EReal) : (Host.dotGeneral (φ₁ := .f32) (φ₂ := .f32) dot_S8448x1024_S1024x2048_S8448x2048_1_0_0_1_n_n none (y : FVec Ideal S8448x1024 .f32) (extf .f32 (w : FVec Ideal S1024x2048 .bf16) bitsLt_bf16_f32) : FVec Ideal S8448x2048 .f32)
    = (ME y w : S8448x2048.Idx → EReal) := by
  funext j
  pointwise
  rfl
theorem r3 (y : S8448x1024.Idx → EReal) (w : S1024x1024.Idx → EReal) : (Host.dotGeneral (φ₁ := .f32) (φ₂ := .f32) dot_S8448x1024_S1024x1024_S8448x1024_1_0_0_1_n_n none (y : FVec Ideal S8448x1024 .f32) (extf .f32 (w : FVec Ideal S1024x1024 .bf16) bitsLt_bf16_f32) : FVec Ideal S8448x1024 .f32)
    = (ME y w : S8448x1024.Idx → EReal) := by
  funext j
  pointwise
  rfl
theorem r4 (y : S8448x1024.Idx → EReal) : (mulf (mulf (broadcastInDim S8448x1024 ![] bcast_S_S8448x1024 (constant S_ .f32 0x3F000000#32)) (y : FVec Ideal S8448x1024 .f32)) (addf (broadcastInDim S8448x1024 ![] bcast_S_S8448x1024 (constant S_ .f32 0x3F800000#32)) (Host.tanh (mulf (broadcastInDim S8448x1024 ![] bcast_S_S8448x1024 (constant S_ .f32 0x3F4C422A#32)) (addf (y : FVec Ideal S8448x1024 .f32) (Host.divf (mulf (mulf (mulf (y : FVec Ideal S8448x1024 .f32) (y : FVec Ideal S8448x1024 .f32)) (y : FVec Ideal S8448x1024 .f32)) (broadcastInDim S8448x1024 ![] bcast_S_S8448x1024 (constant S_ .f32 0x472EAB00#32))) (broadcastInDim S8448x1024 ![] bcast_S_S8448x1024 (constant S_ .f32 0x49742400#32))))))) : FVec Ideal S8448x1024 .f32)
    = (LE y : S8448x1024.Idx → EReal) := by
  funext j
  obtain ⟨r, k, rfl⟩ : ∃ r k, j = ix2 r k := ⟨_, _, eq_ix2 j⟩
  pointwise
  rw [third]
  rfl
theorem s0 (x : S8448x2048.Idx → EReal) : (extractStridedSlice S8448x1024 ![0, 0] (x : FVec Ideal S8448x2048 .f32) slices_S8448x2048_S8448x1024_0_0 : FVec Ideal S8448x1024 .f32) = (WE 0 1024 (by omega) x : S8448x1024.Idx → EReal) := by
  funext j
  obtain ⟨r, k, rfl⟩ : ∃ r k, j = ix2 r k := ⟨_, _, eq_ix2 j⟩
  pointwise
  refine congrArg x (congrArg (ix2 r) (Fin.ext ?_))
  simp
theorem s1 (x : S8448x2048.Idx → EReal) : (extractStridedSlice S8448x1024 ![0, 1024] (x : FVec Ideal S8448x2048 .f32) slices_S8448x2048_S8448x1024_0_1024 : FVec Ideal S8448x1024 .f32) = (WE 1024 1024 (by omega) x : S8448x1024.Idx → EReal) := by
  funext j
  obtain ⟨r, k, rfl⟩ : ∃ r k, j = ix2 r k := ⟨_, _, eq_ix2 j⟩
  pointwise
  rfl
def SG (x : S8448x1024.Idx → EReal) : S8448x1024.Idx → EReal := fun j => sge (x j)
theorem r5 (x : S8448x1024.Idx → EReal) : (Host.divf (broadcastInDim S8448x1024 ![] bcast_S_S8448x1024 (constant S_ .f32 0x3F800000#32)) (addf (broadcastInDim S8448x1024 ![] bcast_S_S8448x1024 (constant S_ .f32 0x3F800000#32)) (Host.exp (Host.negf (x : FVec Ideal S8448x1024 .f32)))) : FVec Ideal S8448x1024 .f32)
    = (SG x : S8448x1024.Idx → EReal) := by
  funext j
  obtain ⟨r, k, rfl⟩ : ∃ r k, j = ix2 r k := ⟨_, _, eq_ix2 j⟩
  pointwise
  rfl
theorem r6 (x : S8448x2048.Idx → EReal) : (mulf (WE 0 1024 (by omega) x : FVec Ideal S8448x1024 .f32) (SG (WE 1024 1024 (by omega) x) : FVec Ideal S8448x1024 .f32) : FVec Ideal S8448x1024 .f32)
    = (SE x : S8448x1024.Idx → EReal) := rfl
theorem r7 (x s : S8448x1024.Idx → EReal) (g : S8448x2048.Idx → EReal) (gx gs : S1x1024.Idx → EReal) : (addf (mulf (SG (WE 0 1024 (by omega) g) : FVec Ideal S8448x1024 .f32) (GE (NE x) gx : FVec Ideal S8448x1024 .f32)) (mulf (SG (WE 1024 1024 (by omega) g) : FVec Ideal S8448x1024 .f32) (GE (NE s) gs : FVec Ideal S8448x1024 .f32)) : FVec Ideal S8448x1024 .f32)
    = (BM x s g gx gs : S8448x1024.Idx → EReal) := rfl

end Cert.Merge

end
-- ==== Proof.MgMain.lean ====
/- The merge's forward kernel computes the reference's arrays. -/
module

public import proofs.«01_k».proof.Defs
public import proofs.«01_k».proof.Proof.Gen.Kernel10.Frame
public import proofs.«01_k».proof.Proof.MgF
public import proofs.«01_k».proof.Proof.MgR
public import Idealize.ShloMosaic.PureOps.IdealRules

@[expose] public section

set_option maxRecDepth 16384

noncomputable section

namespace Cert.Merge

open Idealize.ShloMosaic Idealize.ShloMosaic.TcCoe Idealize.SL.Sem Cert.Rows

section
open Cert.Reference10Ideal Cert.Reference10Ideal.Gen Cert.Reference10Ideal.Value
variable (m : (ℓ : Loc nD τ sig) → Buf (Elt Ideal) ℓ) {c : Dev nD} {y a : E2 8448 1024} {g : E2 8448 2048} {x : E2 8192 1024} {p : E2 256 1024} {wg : E2 1024 2048} {wo : E2 1024 1024} {gx gs : E2 1 1024}
  (e0 : m ((c.tc : Thread nD τ).loc main_arg0) = y) (e1 : m ((c.tc : Thread nD τ).loc main_arg1) = a) (e2 : m ((c.tc : Thread nD τ).loc main_arg2) = g)
  (e5 : m ((c.tc : Thread nD τ).loc main_arg5) = wg) (e7 : m ((c.tc : Thread nD τ).loc main_arg7) = gx) (e8 : m ((c.tc : Thread nD τ).loc main_arg8) = gs)
include e0 e1 e2 e5 e7 e8
theorem rm : res_main_v73 m c = (M0 y a g wg gx gs : S8448x1024.Idx → EReal) := by
  unfold res_main_v73
  rw [e0, e1, e2, e5, e7, e8, r4 y, r2 _ wg, s0 g, s1 g, s0 (ME (LE y) wg), s1 (ME (LE y) wg), r5 (WE 0 1024 (by omega) g), r5 (WE 1024 1024 (by omega) g), r5 (WE 1024 1024 (by omega) (ME (LE y) wg)), r6, r1 _ gs, r1 _ gx]
  exact r7 _ _ _ _ _
theorem rh (e3 : m ((c.tc : Thread nD τ).loc main_arg3) = x) (e4 : m ((c.tc : Thread nD τ).loc main_arg4) = p) (e6 : m ((c.tc : Thread nD τ).loc main_arg6) = wo) :
    res_main_v70 m c = (AE (HHE p x) (ME (M0 y a g wg gx gs) wo) : S8448x1024.Idx → EReal) := by
  unfold res_main_v70
  rw [e0, e1, e2, e3, e4, e5, e6, e7, e8, r0 p x, r4 y, r2 _ wg, s0 g, s1 g, s0 (ME (LE y) wg), s1 (ME (LE y) wg), r5 (WE 0 1024 (by omega) g), r5 (WE 1024 1024 (by omega) g), r5 (WE 1024 1024 (by omega) (ME (LE y) wg)), r6, r1 _ gs, r1 _ gx, r7, r3 _ wo]
  rfl
end

set_option maxHeartbeats 4000000 in
theorem algebraic : Cert.algebraic_Kernel10Ideal_Reference10Ideal (hKernel10Ideal := Cert.Kernel10Ideal.Gen.facts)
    (hReference10Ideal := Cert.Reference10Ideal.Gen.facts) := by
  intro m g m' g' _ e
  have hK : ∀ c, KArgs m c _ _ _ _ _ _ _ _ _ := fun c => ⟨rfl, rfl, rfl, rfl, rfl, rfl, rfl, rfl, rfl⟩
  refine ⟨_, _, _, _, Cert.Kernel10Ideal.Value.run_blocks m g, ?_⟩
  refine (θ_run Cert.Reference10Ideal.defs _ _).mono (fun r h c => ?_) (Cert.Reference10Ideal.Value.run m' g')
  obtain ⟨o0, o1, o2, o3, k⟩ := h c
  obtain ⟨a0, a1, a2, a3, a4, a5, a6, a7, a8⟩ := e c
  refine ⟨o0.trans ?_, o1.trans ?_, o2.trans ?_, o3.trans ?_, k⟩
  · rw [a0, r4]
    exact (f9 m (hK c)).symm
  · rw [a0, a5, r4, r2]
    exact (f10 m (hK c)).symm
  · exact (rm m' a0 a1 a2 a5 a7 a8).trans (f11 m (hK c)).symm
  · exact (rh m' a0 a1 a2 a5 a7 a8 a3 a4 a6).trans (f12 m (hK c)).symm

/-- The reference's run changes no argument and leaves every counter at zero. -/
theorem frame_r : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run m ρ)

end Cert.Merge

end
-- ==== Proof.lean ====
module

public import proofs.«01_k».proof.Proof.Ad11
public import proofs.«01_k».proof.Proof.Ad12
public import proofs.«01_k».proof.Proof.Ad13
public import proofs.«01_k».proof.Proof.Ad14
public import proofs.«01_k».proof.Proof.Ad15
public import proofs.«01_k».proof.Proof.Ad16
public import proofs.«01_k».proof.Proof.Sm21
public import proofs.«01_k».proof.Proof.Sm20
public import proofs.«01_k».proof.Proof.Sm19
public import proofs.«01_k».proof.Proof.Sm18
public import proofs.«01_k».proof.Proof.Sm17
public import proofs.«01_k».proof.Proof.Gen.KernelIdeal.Value
public import proofs.«01_k».proof.Proof.Gen.ReferenceIdeal.Run
public import proofs.«01_k».proof.Proof.MidMain
public import proofs.«01_k».proof.Proof.FfnMain
public import proofs.«01_k».proof.Proof.Gen.Kernel2.Frame
public import proofs.«01_k».proof.Proof.Grad3
public import proofs.«01_k».proof.Proof.Grad4
public import proofs.«01_k».proof.Proof.Grad5
public import proofs.«01_k».proof.Proof.Grad6
public import proofs.«01_k».proof.Proof.Grad7
public import proofs.«01_k».proof.Proof.InMain
public import proofs.«01_k».proof.Proof.PrMain
public import proofs.«01_k».proof.Proof.MgMain
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The reference's run changes no argument and leaves every counter at zero. -/
theorem frame_r : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts, Cert.Pre_finite.Gen.facts, Cert.Pre_finite2.Gen.facts, Cert.Pre_finite8.Gen.facts,
  Cert.On_upper_half_Kernel17Ideal.Gen.facts, Cert.On_upper_half_Kernel18Ideal.Gen.facts, Cert.On_left_half_Kernel19Ideal.Gen.facts, Cert.On_upper_half_Kernel20Ideal.Gen.facts, Cert.On_left_half_Kernel21Ideal.Gen.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  fun m ρ _ => Cert.Kernel2.Gen.frame m ρ,
  fun m ρ _ => Cert.Kernel2Ideal.Gen.frame m ρ,
  fun m ρ _ => Cert.Kernel2Ideal.Gen.frame m ρ,
  Cert.Ffn.frame_r,
  fun m ρ _ => Cert.Ffn.frame_r m ρ trivial,
  fun m ρ _ => Cert.Kernel3.Gen.frame m ρ,
  fun m ρ _ => Cert.Kernel3Ideal.Gen.frame m ρ,
  Cert.Grad3.frame_r,
  fun m ρ _ => Cert.Kernel4.Gen.frame m ρ,
  fun m ρ _ => Cert.Kernel4Ideal.Gen.frame m ρ,
  Cert.Grad4.frame_r,
  fun m ρ _ => Cert.Kernel5.Gen.frame m ρ,
  fun m ρ _ => Cert.Kernel5Ideal.Gen.frame m ρ,
  Cert.Grad5.frame_r,
  fun m ρ _ => Cert.Kernel6.Gen.frame m ρ,
  fun m ρ _ => Cert.Kernel6Ideal.Gen.frame m ρ,
  Cert.Grad6.frame_r,
  fun m ρ _ => Cert.Kernel7.Gen.frame m ρ,
  fun m ρ _ => Cert.Kernel7Ideal.Gen.frame m ρ,
  Cert.Grad7.frame_r,
  fun m ρ _ => Cert.Kernel8.Gen.frame m ρ,
  fun m ρ _ => Cert.Kernel8Ideal.Gen.frame m ρ,
  fun m ρ _ => Cert.Kernel8Ideal.Gen.frame m ρ,
  Cert.InP.frame_r,
  fun m ρ _ => Cert.InP.frame_r m ρ trivial,
  fun m ρ _ => Cert.Kernel9.Gen.frame m ρ,
  fun m ρ _ => Cert.Kernel9Ideal.Gen.frame m ρ,
  Cert.Proj.frame_r,
  fun m ρ _ => Cert.Kernel10.Gen.frame m ρ,
  fun m ρ _ => Cert.Kernel10Ideal.Gen.frame m ρ,
  Cert.Merge.frame_r,
  fun m ρ _ => Cert.Kernel11.Gen.frame m ρ,
  fun m ρ _ => Cert.Kernel11Ideal.Gen.frame m ρ,
  Cert.Adam11.frame_r,
  fun m ρ _ => Cert.Kernel12.Gen.frame m ρ,
  fun m ρ _ => Cert.Kernel12Ideal.Gen.frame m ρ,
  Cert.Adam12.frame_r,
  fun m ρ _ => Cert.Kernel13.Gen.frame m ρ,
  fun m ρ _ => Cert.Kernel13Ideal.Gen.frame m ρ,
  Cert.Adam13.frame_r,
  fun m ρ _ => Cert.Kernel14.Gen.frame m ρ,
  fun m ρ _ => Cert.Kernel14Ideal.Gen.frame m ρ,
  Cert.Adam14.frame_r,
  fun m ρ _ => Cert.Kernel15.Gen.frame m ρ,
  fun m ρ _ => Cert.Kernel15Ideal.Gen.frame m ρ,
  Cert.Adam15.frame_r,
  fun m ρ _ => Cert.Kernel16.Gen.frame m ρ,
  fun m ρ _ => Cert.Kernel16Ideal.Gen.frame m ρ,
  Cert.Adam16.frame_r,
  fun m ρ _ => Cert.Kernel17.Gen.frame m ρ,
  fun m ρ _ => Cert.Kernel17Ideal.Gen.frame m ρ,
  Cert.Sm17.frame_r,
  fun m ρ _ => Cert.Kernel18.Gen.frame m ρ,
  fun m ρ _ => Cert.Kernel18Ideal.Gen.frame m ρ,
  Cert.Sm18.frame_r,
  fun m ρ _ => Cert.Kernel19.Gen.frame m ρ,
  fun m ρ _ => Cert.Kernel19Ideal.Gen.frame m ρ,
  Cert.Sm19.frame_r,
  fun m ρ _ => Cert.Kernel20.Gen.frame m ρ,
  fun m ρ _ => Cert.Kernel20Ideal.Gen.frame m ρ,
  Cert.Sm20.frame_r,
  fun m ρ _ => Cert.Kernel21.Gen.frame m ρ,
  fun m ρ _ => Cert.Kernel21Ideal.Gen.frame m ρ,
  Cert.Sm21.frame_r,
  ⟨IdealRules.named_const.statement _ _ _ _ _ rfl, IdealRules.named_const.statement _ _ _ _ _ rfl⟩,
  Cert.Mid.algebraic,
  trivial,
  Cert.Ffn.algebraic,
  trivial,
  Cert.Grad3.algebraic,
  trivial,
  Cert.Grad4.algebraic,
  trivial,
  Cert.Grad5.algebraic,
  trivial,
  Cert.Grad6.algebraic,
  trivial,
  Cert.Grad7.algebraic,
  trivial,
  Cert.InP.algebraic,
  trivial,
  Cert.Proj.algebraic,
  IdealRules.named_const.statement _ _ _ _ _ rfl,
  Cert.Merge.algebraic,
  trivial,
  Cert.Adam11.algebraic,
  trivial,
  Cert.Adam12.algebraic,
  trivial,
  Cert.Adam13.algebraic,
  trivial,
  Cert.Adam14.algebraic,
  trivial,
  Cert.Adam15.algebraic,
  trivial,
  Cert.Adam16.algebraic,
  trivial,
  Cert.Sm17.algebraic,
  trivial,
  Cert.Sm18.algebraic,
  trivial,
  Cert.Sm19.algebraic,
  trivial,
  Cert.Sm20.algebraic,
  trivial,
  Cert.Sm21.algebraic⟩

end Cert.Proof

end
